-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v200)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v200) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_v42) = v3 c
          ∧ r.2.mem ((c.tc : Thread Cert.Reference5Ideal.nD Cert.Reference5Ideal.τ).loc Cert.Reference5Ideal.main_v45) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v48) = v0 c
          ∧ r.2.mem ((c.tc : Thread Cert.Reference10Ideal.nD Cert.Reference10Ideal.τ).loc Cert.Reference10Ideal.main_v50) = v1 c
          ∧ r.2.mem ((c.tc : Thread Cert.Reference10Ideal.nD Cert.Reference10Ideal.τ).loc Cert.Reference10Ideal.main_v51) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v31) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v77) = v0 c
          ∧ r.2.mem ((c.tc : Thread Cert.Reference12Ideal.nD Cert.Reference12Ideal.τ).loc Cert.Reference12Ideal.main_v79) = v1 c
          ∧ r.2.mem ((c.tc : Thread Cert.Reference12Ideal.nD Cert.Reference12Ideal.τ).loc Cert.Reference12Ideal.main_v80) = v2 c
          ∧ r.2.mem ((c.tc : Thread Cert.Reference12Ideal.nD Cert.Reference12Ideal.τ).loc Cert.Reference12Ideal.main_v81) = v3 c
          ∧ r.2.mem ((c.tc : Thread Cert.Reference12Ideal.nD Cert.Reference12Ideal.τ).loc Cert.Reference12Ideal.main_v82) = v4 c
          ∧ r.2.mem ((c.tc : Thread Cert.Reference12Ideal.nD Cert.Reference12Ideal.τ).loc Cert.Reference12Ideal.main_v83) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S8192x8192 : Shape := ⟨2, ![8192, 8192]⟩
abbrev S8192x512 : Shape := ⟨2, ![8192, 512]⟩
abbrev S_ : Shape := ⟨0, ![]⟩

class Facts : Prop where
  bitsLt_bf16_f32 : FTy.bits .bf16 < FTy.bits .f32
  bcast_S_S8192x8192 : S_.BroadcastsInDim S8192x8192 (![] : Fin 0 → Fin S8192x8192.rank)
  bcast_S_S8192x512 : S_.BroadcastsInDim S8192x512 (![] : Fin 0 → Fin S8192x512.rank)

variable [Facts]

def fn {F : FTy → Type} [FloatOps F] (main_arg0 : FVec F S8192x8192 .bf16) (main_arg1 : FVec F S8192x512 .bf16) (main_arg2 : FVec F S8192x8192 .bf16) : IVec S8192x8192 1 × IVec S8192x512 1 :=
  let main_v0 : FVec F S8192x8192 .f32 := (extf .f32 · bitsLt_bf16_f32) main_arg0
  let main_v1 : FVec F S8192x8192 .f32 := Host.absf main_v0
  let main_cst : FVec F S_ .f32 := constant S_ .f32 0x7F800000#32
  let main_v2 : FVec F S8192x8192 .f32 := broadcastInDim S8192x8192 ![] bcast_S_S8192x8192 main_cst
  let main_v3 : IVec S8192x8192 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  (main_v3, main_v7)
-- ==== Pre_finite5.lean ====
abbrev S8192x1024 : Shape := ⟨2, ![8192, 1024]⟩
abbrev S1x1024 : Shape := ⟨2, ![1, 1024]⟩
abbrev S4x8192x704 : Shape := ⟨3, ![4, 8192, 704]⟩
abbrev S4x704x1024 : Shape := ⟨3, ![4, 704, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S4x8192x704 : S_.BroadcastsInDim S4x8192x704 (![] : Fin 0 → Fin S4x8192x704.rank)
  bcast_S_S4x704x1024 : S_.BroadcastsInDim S4x704x1024 (![] : Fin 0 → Fin S4x704x1024.rank)

variable [Facts]

def fn {F : FTy → Type} [FloatOps F] (main_arg0 : FVec F S8192x1024 .f32) (main_arg1 : FVec F S8192x1024 .f32) (main_arg2 : FVec F S1x1024 .f32) (main_arg3 : FVec F S4x8192x704 .bf16) (main_arg4 : FVec F S4x8192x704 .bf16) (main_arg5 : FVec F S4x704x1024 .bf16) : IVec S8192x1024 1 × IVec S4x8192x704 1 × IVec S4x704x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S4x8192x704 .f32 := (extf .f32 · bitsLt_bf16_f32) main_arg4
  let main_v4 : FVec F S4x8192x704 .f32 := Host.absf main_v3
  let main_cst_0 : FVec F S_ .f32 := constant S_ .f32 0x7F800000#32
  let main_v5 : FVec F S4x8192x704 .f32 := broadcastInDim S4x8192x704 ![] bcast_S_S4x8192x704 main_cst_0
  let main_v6 : IVec S4x8192x704 1 := cmpf .olt main_v4 main_v5
  let main_v7 : FVec F S4x704x1024 .f32 := (extf .f32 · bitsLt_bf16_f32) main_arg5
  let main_v8 : FVec F S4x704x1024 .f32 := Host.absf main_v7
  let main_cst_1 : FVec F S_ .f32 := constant S_ .f32 0x7F800000#32
  let main_v9 : FVec F S4x704x1024 .f32 := broadcastInDim S4x704x1024 ![] bcast_S_S4x704x1024 main_cst_1
  let main_v10 : IVec S4x704x1024 1 := cmpf .olt main_v8 main_v9
  (main_v2, main_v6, main_v10)
-- ==== Kernel.lean ====
abbrev S8192x8192 : Shape := ⟨2, ![8192, 8192]⟩
abbrev S8192x512 : Shape := ⟨2, ![8192, 512]⟩
abbrev S8192x2048 : Shape := ⟨2, ![8192, 2048]⟩
abbrev S8192x4x4x128 : Shape := ⟨4, ![8192, 4, 4, 128]⟩
abbrev S8192x4x1x128 : Shape := ⟨4, ![8192, 4, 1, 128]⟩
abbrev S8192x4x128 : Shape := ⟨3, ![8192, 4, 128]⟩
abbrev S_ : Shape := ⟨0, ![]⟩
abbrev S63 : Shape := ⟨1, ![63]⟩
abbrev S1 : Shape := ⟨1, ![1]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x4x64 : Shape := ⟨3, ![8192, 4, 64]⟩
abbrev S8192x1x64 : Shape := ⟨3, ![8192, 1, 64]⟩
abbrev S4 : Shape := ⟨1, ![4]⟩
abbrev S4x1x1 : Shape := ⟨3, ![4, 1, 1]⟩
abbrev S1x8192 : Shape := ⟨2, ![1, 8192]⟩
abbrev S1x8192x8192 : Shape := ⟨3, ![1, 8192, 8192]⟩
abbrev S4x8192x8192 : Shape := ⟨3, ![4, 8192, 8192]⟩
abbrev S4x128x8192 : Shape := ⟨3, ![4, 128, 8192]⟩
abbrev S16 : Shape := ⟨1, ![16]⟩
abbrev S16x1 : Shape := ⟨2, ![16, 1]⟩
abbrev S16x8192 : Shape := ⟨2, ![16, 8192]⟩
abbrev S1x16x8192 : Shape := ⟨3, ![1, 16, 8192]⟩
abbrev S4x16x8192 : Shape := ⟨3, ![4, 16, 8192]⟩
abbrev S4x16x8192x1 : Shape := ⟨4, ![4, 16, 8192, 1]⟩
abbrev S4x8192x128 : Shape := ⟨3, ![4, 8192, 128]⟩
abbrev S4x1x8192x128 : Shape := ⟨4, ![4, 1, 8192, 128]⟩
abbrev S4x16x8192x128 : Shape := ⟨4, ![4, 16, 8192, 128]⟩
abbrev S4x128x16x128 : Shape := ⟨4, ![4, 128, 16, 128]⟩
abbrev S16x4x128x128 : Shape := ⟨4, ![16, 4, 128, 128]⟩
abbrev S512 : Shape := ⟨1, ![512]⟩
abbrev S4x1 : Shape := ⟨2, ![4, 1]⟩
abbrev S1x512 : Shape := ⟨2, ![1, 512]⟩
abbrev S4x512 : Shape := ⟨2, ![4, 512]⟩
abbrev S512x1 : Shape := ⟨2, ![512, 1]⟩
abbrev S512x512 : Shape := ⟨2, ![512, 512]⟩
abbrev S1x512x512 : Shape := ⟨3, ![1, 512, 512]⟩
abbrev S4x512x512 : Shape := ⟨3, ![4, 512, 512]⟩
abbrev S4x512x1 : Shape := ⟨3, ![4, 512, 1]⟩
abbrev S4x512x128 : Shape := ⟨3, ![4, 512, 128]⟩
abbrev S4x1x128 : Shape := ⟨3, ![4, 1, 128]⟩
abbrev S8192x128 : Shape := ⟨2, ![8192, 128]⟩
abbrev S512x128 : Shape := ⟨2, ![512, 128]⟩
abbrev S1x512x128 : Shape := ⟨3, ![1, 512, 128]⟩
abbrev S1x1x128 : Shape := ⟨3, ![1, 1, 128]⟩
abbrev S1x1x128x128 : Shape := ⟨4, ![1, 1, 128, 128]⟩
abbrev S128x128 : Shape := ⟨2, ![128, 128]⟩
abbrev S1x128 : Shape := ⟨2, ![1, 128]⟩

abbrev nBuf : Space → Nat
  | .hbm => 304
  | .vmem => 23
  | .smem => 0
  | _ => 0

abbrev hbmTy0_0 (i : Nat) : BufTy := match i % 128 with
  | 0 => ⟨S8192x8192, .bf16⟩
  | 1 => ⟨S8192x512, .bf16⟩
  | 2 => ⟨S8192x8192, .bf16⟩
  | 3 => ⟨S8192x2048, .bf16⟩
  | 4 => ⟨S8192x2048, .f32⟩
  | 5 => ⟨S8192x4x4x128, .f32⟩
  | 6 => ⟨S8192x4x1x128, .f32⟩
  | 7 => ⟨S8192x4x128, .f32⟩
  | 8 => ⟨S8192x4x1x128, .f32⟩
  | 9 => ⟨S8192x4x128, .f32⟩
  | 10 => ⟨S8192x4x1x128, .f32⟩
  | 11 => ⟨S8192x4x128, .f32⟩
  | 12 => ⟨S8192x4x1x128, .f32⟩
  | 13 => ⟨S8192x4x128, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S63, .f32⟩
  | 22 => ⟨S_, .f32⟩
  | 23 => ⟨S63, .f32⟩
  | 24 => ⟨S63, .f32⟩
  | 25 => ⟨S1, .f32⟩
  | 26 => ⟨S_, .f32⟩
  | 27 => ⟨S63, .f32⟩
  | 28 => ⟨S63, .f32⟩
  | 29 => ⟨S63, .f32⟩
  | 30 => ⟨S63, .f32⟩
  | 31 => ⟨S1, .f32⟩
  | 32 => ⟨S63, .f32⟩
  | 33 => ⟨S63, .f32⟩
  | 34 => ⟨S63, .f32⟩
  | 35 => ⟨S1, .f32⟩
  | 36 => ⟨S64, .f32⟩
  | 37 => ⟨S64, .f32⟩
  | 38 => ⟨S_, .f32⟩
  | 39 => ⟨S64, .f32⟩
  | 40 => ⟨S64, .f32⟩
  | 41 => ⟨S8192, .f32⟩
  | 42 => ⟨S8192x1, .f32⟩
  | 43 => ⟨S1x64, .f32⟩
  | 44 => ⟨S8192x64, .f32⟩
  | 45 => ⟨S8192x64, .f32⟩
  | 46 => ⟨S8192x64, .f32⟩
  | 47 => ⟨S8192x64, .f32⟩
  | 48 => ⟨S8192x64, .f32⟩
  | 49 => ⟨S8192x4x64, .f32⟩
  | 50 => ⟨S8192x4x64, .f32⟩
  | 51 => ⟨S8192x1x64, .f32⟩
  | 52 => ⟨S8192x1x64, .f32⟩
  | 53 => ⟨S8192x4x64, .f32⟩
  | 54 => ⟨S8192x4x64, .f32⟩
  | 55 => ⟨S8192x4x64, .f32⟩
  | 56 => ⟨S8192x4x64, .f32⟩
  | 57 => ⟨S8192x4x64, .f32⟩
  | 58 => ⟨S8192x4x64, .f32⟩
  | 59 => ⟨S8192x4x64, .f32⟩
  | 60 => ⟨S8192x4x64, .f32⟩
  | 61 => ⟨S8192x4x64, .f32⟩
  | 62 => ⟨S8192x4x64, .f32⟩
  | 63 => ⟨S8192x4x128, .f32⟩
  | 64 => ⟨S8192x4x64, .f32⟩
  | 65 => ⟨S8192x4x64, .f32⟩
  | 66 => ⟨S8192x1x64, .f32⟩
  | 67 => ⟨S8192x1x64, .f32⟩
  | 68 => ⟨S8192x4x64, .f32⟩
  | 69 => ⟨S8192x4x64, .f32⟩
  | 70 => ⟨S8192x4x64, .f32⟩
  | 71 => ⟨S8192x4x64, .f32⟩
  | 72 => ⟨S8192x4x64, .f32⟩
  | 73 => ⟨S8192x4x64, .f32⟩
  | 74 => ⟨S8192x4x64, .f32⟩
  | 75 => ⟨S8192x4x64, .f32⟩
  | 76 => ⟨S8192x4x64, .f32⟩
  | 77 => ⟨S8192x4x64, .f32⟩
  | 78 => ⟨S8192x4x128, .f32⟩
  | 79 => ⟨S8192, .f32⟩
  | 80 => ⟨S8192, .i32⟩
  | 81 => ⟨S_, .i32⟩
  | 82 => ⟨S_, .i32⟩
  | 83 => ⟨S8192, .i32⟩
  | 84 => ⟨S8192, .i32⟩
  | 85 => ⟨S8192, .i32⟩
  | 86 => ⟨S_, .i32⟩
  | 87 => ⟨S8192, .i32⟩
  | 88 => ⟨S8192, .i1⟩
  | 89 => ⟨S8192, .i32⟩
  | 90 => ⟨S8192, .i32⟩
  | 91 => ⟨S_, .i32⟩
  | 92 => ⟨S8192, .i32⟩
  | 93 => ⟨S8192, .i1⟩
  | 94 => ⟨S8192, .i1⟩
  | 95 => ⟨S_, .i32⟩
  | 96 => ⟨S8192, .i32⟩
  | 97 => ⟨S8192, .i32⟩
  | 98 => ⟨S8192, .i32⟩
  | 99 => ⟨S4, .f32⟩
  | 100 => ⟨S_, .f32⟩
  | 101 => ⟨S4, .f32⟩
  | 102 => ⟨S4, .f32⟩
  | 103 => ⟨S_, .f32⟩
  | 104 => ⟨S4, .f32⟩
  | 105 => ⟨S4, .f32⟩
  | 106 => ⟨S4, .f32⟩
  | 107 => ⟨S4, .f32⟩
  | 108 => ⟨S4, .f32⟩
  | 109 => ⟨S4x1x1, .f32⟩
  | 110 => ⟨S8192x1, .f32⟩
  | 111 => ⟨S1x8192, .f32⟩
  | 112 => ⟨S8192x8192, .f32⟩
  | 113 => ⟨S8192x8192, .f32⟩
  | 114 => ⟨S8192x8192, .f32⟩
  | 115 => ⟨S8192x8192, .f32⟩
  | 116 => ⟨S1x8192x8192, .f32⟩
  | 117 => ⟨S4x8192x8192, .f32⟩
  | 118 => ⟨S4x8192x8192, .f32⟩
  | 119 => ⟨S4x8192x8192, .f32⟩
  | 120 => ⟨S4x8192x8192, .f32⟩
  | 121 => ⟨S1x8192, .i32⟩
  | 122 => ⟨S8192x1, .i32⟩
  | 123 => ⟨S8192x8192, .i32⟩
  | 124 => ⟨S8192x8192, .i32⟩
  | 125 => ⟨S8192x8192, .i1⟩
  | 126 => ⟨S_, .f32⟩
  | 127 => ⟨S_, .f32⟩
  | _ => ⟨S8192x8192, .bf16⟩

abbrev hbmTy0_1 (i : Nat) : BufTy := match i % 128 with
  | 0 => ⟨S4x8192x8192, .i1⟩
  | 1 => ⟨S4x8192x8192, .f32⟩
  | 2 => ⟨S4x8192x8192, .f32⟩
  | 3 => ⟨S_, .f32⟩
  | 4 => ⟨S8192x4x128, .f32⟩
  | 5 => ⟨S8192x4x128, .f32⟩
  | 6 => ⟨S4x8192x8192, .f32⟩
  | 7 => ⟨S4x8192x8192, .f32⟩
  | 8 => ⟨S4x128x8192, .f32⟩
  | 9 => ⟨S8192x4x128, .f32⟩
  | 10 => ⟨S8192x512, .f32⟩
  | 11 => ⟨S16, .f32⟩
  | 12 => ⟨S_, .f32⟩
  | 13 => ⟨S16, .f32⟩
  | 14 => ⟨S16, .f32⟩
  | 15 => ⟨S8192, .f32⟩
  | 16 => ⟨S4, .f32⟩
  | 17 => ⟨S_, .f32⟩
  | 18 => ⟨S4, .f32⟩
  | 19 => ⟨S4, .f32⟩
  | 20 => ⟨S_, .f32⟩
  | 21 => ⟨S4, .f32⟩
  | 22 => ⟨S4, .f32⟩
  | 23 => ⟨S4, .f32⟩
  | 24 => ⟨S4, .f32⟩
  | 25 => ⟨S4, .f32⟩
  | 26 => ⟨S4x1x1, .f32⟩
  | 27 => ⟨S16x1, .f32⟩
  | 28 => ⟨S_, .f32⟩
  | 29 => ⟨S16x1, .f32⟩
  | 30 => ⟨S16x1, .f32⟩
  | 31 => ⟨S1x8192, .f32⟩
  | 32 => ⟨S16x8192, .f32⟩
  | 33 => ⟨S16x8192, .f32⟩
  | 34 => ⟨S16x8192, .f32⟩
  | 35 => ⟨S1x16x8192, .f32⟩
  | 36 => ⟨S4x16x8192, .f32⟩
  | 37 => ⟨S4x16x8192, .f32⟩
  | 38 => ⟨S4x16x8192, .f32⟩
  | 39 => ⟨S4x16x8192, .f32⟩
  | 40 => ⟨S1x8192, .f32⟩
  | 41 => ⟨S16x1, .f32⟩
  | 42 => ⟨S16x8192, .f32⟩
  | 43 => ⟨S16x8192, .f32⟩
  | 44 => ⟨S16x8192, .i1⟩
  | 45 => ⟨S_, .f32⟩
  | 46 => ⟨S_, .f32⟩
  | 47 => ⟨S4x16x8192, .i1⟩
  | 48 => ⟨S4x16x8192, .f32⟩
  | 49 => ⟨S4x16x8192, .f32⟩
  | 50 => ⟨S4x16x8192x1, .f32⟩
  | 51 => ⟨S4x8192x128, .f32⟩
  | 52 => ⟨S4x1x8192x128, .f32⟩
  | 53 => ⟨S4x16x8192x128, .f32⟩
  | 54 => ⟨S4x16x8192x128, .f32⟩
  | 55 => ⟨S4x16x8192x128, .f32⟩
  | 56 => ⟨S4x128x16x128, .f32⟩
  | 57 => ⟨S16x4x128x128, .f32⟩
  | 58 => ⟨S4, .f32⟩
  | 59 => ⟨S_, .f32⟩
  | 60 => ⟨S4, .f32⟩
  | 61 => ⟨S4, .f32⟩
  | 62 => ⟨S_, .f32⟩
  | 63 => ⟨S4, .f32⟩
  | 64 => ⟨S4, .f32⟩
  | 65 => ⟨S4, .f32⟩
  | 66 => ⟨S4, .f32⟩
  | 67 => ⟨S4, .f32⟩
  | 68 => ⟨S512, .f32⟩
  | 69 => ⟨S4x1, .f32⟩
  | 70 => ⟨S_, .f32⟩
  | 71 => ⟨S512, .f32⟩
  | 72 => ⟨S512, .f32⟩
  | 73 => ⟨S1x512, .f32⟩
  | 74 => ⟨S4x512, .f32⟩
  | 75 => ⟨S4x512, .f32⟩
  | 76 => ⟨S4x512, .f32⟩
  | 77 => ⟨S4x512, .f32⟩
  | 78 => ⟨S4x1, .f32⟩
  | 79 => ⟨S_, .f32⟩
  | 80 => ⟨S512, .f32⟩
  | 81 => ⟨S512, .f32⟩
  | 82 => ⟨S1x512, .f32⟩
  | 83 => ⟨S4x512, .f32⟩
  | 84 => ⟨S4x512, .f32⟩
  | 85 => ⟨S4x512, .f32⟩
  | 86 => ⟨S4x512, .f32⟩
  | 87 => ⟨S_, .f32⟩
  | 88 => ⟨S4, .f32⟩
  | 89 => ⟨S4, .f32⟩
  | 90 => ⟨S4, .f32⟩
  | 91 => ⟨S512, .i32⟩
  | 92 => ⟨S_, .i32⟩
  | 93 => ⟨S_, .i32⟩
  | 94 => ⟨S512, .i32⟩
  | 95 => ⟨S512, .i32⟩
  | 96 => ⟨S512, .i32⟩
  | 97 => ⟨S_, .i32⟩
  | 98 => ⟨S512, .i32⟩
  | 99 => ⟨S512, .i1⟩
  | 100 => ⟨S512, .i32⟩
  | 101 => ⟨S512, .i32⟩
  | 102 => ⟨S_, .i32⟩
  | 103 => ⟨S512, .i32⟩
  | 104 => ⟨S512, .i1⟩
  | 105 => ⟨S512, .i1⟩
  | 106 => ⟨S_, .i32⟩
  | 107 => ⟨S512, .i32⟩
  | 108 => ⟨S512, .i32⟩
  | 109 => ⟨S512, .i32⟩
  | 110 => ⟨S4x1x1, .f32⟩
  | 111 => ⟨S512x1, .f32⟩
  | 112 => ⟨S1x512, .f32⟩
  | 113 => ⟨S512x512, .f32⟩
  | 114 => ⟨S512x512, .f32⟩
  | 115 => ⟨S512x512, .f32⟩
  | 116 => ⟨S512x512, .f32⟩
  | 117 => ⟨S1x512x512, .f32⟩
  | 118 => ⟨S4x512x512, .f32⟩
  | 119 => ⟨S4x512x512, .f32⟩
  | 120 => ⟨S4x512x512, .f32⟩
  | 121 => ⟨S4x512x512, .f32⟩
  | 122 => ⟨S1x512, .i32⟩
  | 123 => ⟨S512x1, .i32⟩
  | 124 => ⟨S512x512, .i32⟩
  | 125 => ⟨S512x512, .i32⟩
  | 126 => ⟨S512x512, .i1⟩
  | 127 => ⟨S512x512, .f32⟩
  | _ => ⟨S8192x8192, .bf16⟩

abbrev hbmTy0_2 (i : Nat) : BufTy := match i % 128 with
  | 0 => ⟨S1x512x512, .f32⟩
  | 1 => ⟨S4x512x512, .f32⟩
  | 2 => ⟨S4x512x512, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S63, .f32⟩
  | 11 => ⟨S_, .f32⟩
  | 12 => ⟨S63, .f32⟩
  | 13 => ⟨S63, .f32⟩
  | 14 => ⟨S1, .f32⟩
  | 15 => ⟨S_, .f32⟩
  | 16 => ⟨S63, .f32⟩
  | 17 => ⟨S63, .f32⟩
  | 18 => ⟨S63, .f32⟩
  | 19 => ⟨S63, .f32⟩
  | 20 => ⟨S1, .f32⟩
  | 21 => ⟨S63, .f32⟩
  | 22 => ⟨S63, .f32⟩
  | 23 => ⟨S63, .f32⟩
  | 24 => ⟨S1, .f32⟩
  | 25 => ⟨S64, .f32⟩
  | 26 => ⟨S64, .f32⟩
  | 27 => ⟨S_, .f32⟩
  | 28 => ⟨S64, .f32⟩
  | 29 => ⟨S64, .f32⟩
  | 30 => ⟨S8192, .f32⟩
  | 31 => ⟨S8192x1, .f32⟩
  | 32 => ⟨S1x64, .f32⟩
  | 33 => ⟨S8192x64, .f32⟩
  | 34 => ⟨S8192x64, .f32⟩
  | 35 => ⟨S8192x64, .f32⟩
  | 36 => ⟨S8192x64, .f32⟩
  | 37 => ⟨S8192x64, .f32⟩
  | 38 => ⟨S4x512x1, .f32⟩
  | 39 => ⟨S4x512x128, .f32⟩
  | 40 => ⟨S4x512x1, .f32⟩
  | 41 => ⟨S4x512x128, .f32⟩
  | 42 => ⟨S4x1x1, .f32⟩
  | 43 => ⟨S4x1x128, .f32⟩
  | 44 => ⟨S8192x128, .f32⟩
  | 45 => ⟨S8192x64, .f32⟩
  | 46 => ⟨S8192x128, .f32⟩
  | 47 => ⟨S8192x8192, .bf16⟩
  | _ => ⟨S8192x8192, .bf16⟩

abbrev hbmTy (i : Nat) : BufTy := match i / 128 with
  | 0 => hbmTy0_0 i
  | 1 => hbmTy0_1 i
  | 2 => hbmTy0_2 i
  | _ => ⟨S8192x8192, .bf16⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x512x512, .f32⟩
  | .local _ .vmem, ⟨7, _⟩ => ⟨S1x512x512, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x1x128, .f32⟩
  | .local _ .vmem, ⟨13, _⟩ => ⟨S1x1x128, .f32⟩
  | .local _ .vmem, ⟨14, _⟩ => ⟨S512x128, .f32⟩
  | .local _ .vmem, ⟨15, _⟩ => ⟨S512x128, .f32⟩
  | .local _ .vmem, ⟨16, _⟩ => ⟨S1x1x128x128, .f32⟩
  | .local _ .vmem, ⟨17, _⟩ => ⟨S1x1x128x128, .f32⟩
  | .local _ .vmem, ⟨18, _⟩ => ⟨S512x128, .bf16⟩
  | .local _ .vmem, ⟨19, _⟩ => ⟨S512x128, .bf16⟩
  | .local _ .vmem, ⟨20, _⟩ => ⟨S512x512, .bf16⟩
  | .local _ .vmem, ⟨21, _⟩ => ⟨S512x512, .bf16⟩
  | .local _ .vmem, ⟨22, _⟩ => ⟨S128x128, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_cst : Ref sig .tc := ⟨.hbm, 19, rfl⟩
abbrev main_call0_v3 : Ref sig .tc := ⟨.hbm, 20, rfl⟩
abbrev main_call0_v4 : Ref sig .tc := ⟨.hbm, 21, rfl⟩
abbrev main_call0_cst_0 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_c : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_0 : Ref sig .tc := ⟨.hbm, 95, rfl⟩
abbrev main_call1_v12 : Ref sig .tc := ⟨.hbm, 96, rfl⟩
abbrev main_call1_v13 : Ref sig .tc := ⟨.hbm, 97, rfl⟩
abbrev main_v55 : Ref sig .tc := ⟨.hbm, 98, rfl⟩
abbrev main_v56 : Ref sig .tc := ⟨.hbm, 99, rfl⟩
abbrev main_cst_2 : Ref sig .tc := ⟨.hbm, 100, rfl⟩
abbrev main_v57 : Ref sig .tc := ⟨.hbm, 101, rfl⟩
abbrev main_v58 : Ref sig .tc := ⟨.hbm, 102, rfl⟩
abbrev main_cst_3 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_4 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_v81 : Ref sig .tc := ⟨.hbm, 130, rfl⟩
abbrev main_cst_5 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_6 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_7 : Ref sig .tc := ⟨.hbm, 145, rfl⟩
abbrev main_v94 : Ref sig .tc := ⟨.hbm, 146, rfl⟩
abbrev main_v95 : Ref sig .tc := ⟨.hbm, 147, rfl⟩
abbrev main_cst_8 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_9 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_10 : Ref sig .tc := ⟨.hbm, 173, rfl⟩
abbrev main_call3_v0 : Ref sig .tc := ⟨.hbm, 174, rfl⟩
abbrev main_call3_v1 : Ref sig .tc := ⟨.hbm, 175, rfl⟩
abbrev main_call3_v2 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_cst_11 : Ref sig .tc := ⟨.hbm, 187, rfl⟩
abbrev main_v129 : Ref sig .tc := ⟨.hbm, 188, rfl⟩
abbrev main_v130 : Ref sig .tc := ⟨.hbm, 189, rfl⟩
abbrev main_cst_12 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_cst_13 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_cst_14 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_15 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_c_16 : Ref sig .tc := ⟨.hbm, 220, rfl⟩
abbrev main_call4_v0 : Ref sig .tc := ⟨.hbm, 221, rfl⟩
abbrev main_call4_v1 : Ref sig .tc := ⟨.hbm, 222, rfl⟩
abbrev main_call4_v2 : Ref sig .tc := ⟨.hbm, 223, rfl⟩
abbrev main_call4_v3 : Ref sig .tc := ⟨.hbm, 224, rfl⟩
abbrev main_call4_v4 : Ref sig .tc := ⟨.hbm, 225, rfl⟩
abbrev main_call4_v5 : Ref sig .tc := ⟨.hbm, 226, rfl⟩
abbrev main_call4_v6 : Ref sig .tc := ⟨.hbm, 227, rfl⟩
abbrev main_call4_v7 : Ref sig .tc := ⟨.hbm, 228, rfl⟩
abbrev main_call4_v8 : Ref sig .tc := ⟨.hbm, 229, rfl⟩
abbrev main_call4_c : Ref sig .tc := ⟨.hbm, 230, rfl⟩
abbrev main_call4_v9 : Ref sig .tc := ⟨.hbm, 231, rfl⟩
abbrev main_call4_v10 : Ref sig .tc := ⟨.hbm, 232, rfl⟩
abbrev main_call4_v11 : Ref sig .tc := ⟨.hbm, 233, rfl⟩
abbrev main_call4_c_0 : Ref sig .tc := ⟨.hbm, 234, rfl⟩
abbrev main_call4_v12 : Ref sig .tc := ⟨.hbm, 235, rfl⟩
abbrev main_call4_v13 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_cst_17 : Ref sig .tc := ⟨.hbm, 259, rfl⟩
abbrev main_cst_18 : Ref sig .tc := ⟨.hbm, 260, rfl⟩
abbrev main_call5_v0 : Ref sig .tc := ⟨.hbm, 261, rfl⟩
abbrev main_call5_v1 : Ref sig .tc := ⟨.hbm, 262, rfl⟩
abbrev main_call5_v2 : Ref sig .tc := ⟨.hbm, 263, rfl⟩
abbrev main_call5_cst : Ref sig .tc := ⟨.hbm, 264, rfl⟩
abbrev main_call5_v3 : Ref sig .tc := ⟨.hbm, 265, rfl⟩
abbrev main_call5_v4 : Ref sig .tc := ⟨.hbm, 266, rfl⟩
abbrev main_call5_cst_0 : Ref sig .tc := ⟨.hbm, 267, rfl⟩
abbrev main_call5_v5 : Ref sig .tc := ⟨.hbm, 268, rfl⟩
abbrev main_call5_v6 : Ref sig .tc := ⟨.hbm, 269, rfl⟩
abbrev main_call5_v7 : Ref sig .tc := ⟨.hbm, 270, rfl⟩
abbrev main_call5_cst_1 : Ref sig .tc := ⟨.hbm, 271, rfl⟩
abbrev main_call5_v8 : Ref sig .tc := ⟨.hbm, 272, rfl⟩
abbrev main_call5_v9 : Ref sig .tc := ⟨.hbm, 273, rfl⟩
abbrev main_call5_v10 : Ref sig .tc := ⟨.hbm, 274, rfl⟩
abbrev main_call5_v11 : Ref sig .tc := ⟨.hbm, 275, rfl⟩
abbrev main_call5_v12 : Ref sig .tc := ⟨.hbm, 276, rfl⟩
abbrev main_call5_v13 : Ref sig .tc := ⟨.hbm, 277, rfl⟩
abbrev main_call5_v14 : Ref sig .tc := ⟨.hbm, 278, rfl⟩
abbrev main_call5_v15 : Ref sig .tc := ⟨.hbm, 279, rfl⟩
abbrev main_call5_v16 : Ref sig .tc := ⟨.hbm, 280, rfl⟩
abbrev main_v179 : Ref sig .tc := ⟨.hbm, 281, rfl⟩
abbrev main_v180 : Ref sig .tc := ⟨.hbm, 282, rfl⟩
abbrev main_cst_19 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c12_i32 : BitVec 32 := 12#32
  let v1 : BitVec 32 := Scalar.addi c12_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_8 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c12_i32 : BitVec 32 := 12#32
  let v1 : BitVec 32 := Scalar.addi c12_i32 arg0
  let c0_i32 : BitVec 32 := 0#32
  ![v0.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x8192 : Shape := ⟨2, ![8192, 8192]⟩
abbrev S8192x512 : Shape := ⟨2, ![8192, 512]⟩
abbrev S8192x2048 : Shape := ⟨2, ![8192, 2048]⟩
abbrev S8192x4x4x128 : Shape := ⟨4, ![8192, 4, 4, 128]⟩
abbrev S8192x4x1x128 : Shape := ⟨4, ![8192, 4, 1, 128]⟩
abbrev S8192x4x128 : Shape := ⟨3, ![8192, 4, 128]⟩
abbrev S_ : Shape := ⟨0, ![]⟩
abbrev S63 : Shape := ⟨1, ![63]⟩
abbrev S1 : Shape := ⟨1, ![1]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x4x64 : Shape := ⟨3, ![8192, 4, 64]⟩
abbrev S8192x1x64 : Shape := ⟨3, ![8192, 1, 64]⟩
abbrev S4 : Shape := ⟨1, ![4]⟩
abbrev S4x1x1 : Shape := ⟨3, ![4, 1, 1]⟩
abbrev S1x8192 : Shape := ⟨2, ![1, 8192]⟩
abbrev S1x8192x8192 : Shape := ⟨3, ![1, 8192, 8192]⟩
abbrev S4x8192x8192 : Shape := ⟨3, ![4, 8192, 8192]⟩
abbrev S4x128x8192 : Shape := ⟨3, ![4, 128, 8192]⟩
abbrev S8192x4 : Shape := ⟨2, ![8192, 4]⟩
abbrev S8192x4x1 : Shape := ⟨3, ![8192, 4, 1]⟩
abbrev S4x8192x128 : Shape := ⟨3, ![4, 8192, 128]⟩
abbrev S8192x6144 : Shape := ⟨2, ![8192, 6144]⟩

abbrev nBuf : Space → Nat
  | .hbm => 254
  | .vmem => 0
  | .smem => 0
  | _ => 0

abbrev hbmTy0_0 (i : Nat) : BufTy := match i % 128 with
  | 0 => ⟨S8192x8192, .bf16⟩
  | 1 => ⟨S8192x512, .bf16⟩
  | 2 => ⟨S8192x8192, .bf16⟩
  | 3 => ⟨S8192x2048, .bf16⟩
  | 4 => ⟨S8192x2048, .f32⟩
  | 5 => ⟨S8192x4x4x128, .f32⟩
  | 6 => ⟨S8192x4x1x128, .f32⟩
  | 7 => ⟨S8192x4x128, .f32⟩
  | 8 => ⟨S8192x4x1x128, .f32⟩
  | 9 => ⟨S8192x4x128, .f32⟩
  | 10 => ⟨S8192x4x1x128, .f32⟩
  | 11 => ⟨S8192x4x128, .f32⟩
  | 12 => ⟨S8192x4x1x128, .f32⟩
  | 13 => ⟨S8192x4x128, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S63, .f32⟩
  | 22 => ⟨S_, .f32⟩
  | 23 => ⟨S63, .f32⟩
  | 24 => ⟨S63, .f32⟩
  | 25 => ⟨S1, .f32⟩
  | 26 => ⟨S_, .f32⟩
  | 27 => ⟨S63, .f32⟩
  | 28 => ⟨S63, .f32⟩
  | 29 => ⟨S63, .f32⟩
  | 30 => ⟨S63, .f32⟩
  | 31 => ⟨S1, .f32⟩
  | 32 => ⟨S63, .f32⟩
  | 33 => ⟨S63, .f32⟩
  | 34 => ⟨S63, .f32⟩
  | 35 => ⟨S1, .f32⟩
  | 36 => ⟨S64, .f32⟩
  | 37 => ⟨S64, .f32⟩
  | 38 => ⟨S_, .f32⟩
  | 39 => ⟨S64, .f32⟩
  | 40 => ⟨S64, .f32⟩
  | 41 => ⟨S8192, .f32⟩
  | 42 => ⟨S8192x1, .f32⟩
  | 43 => ⟨S1x64, .f32⟩
  | 44 => ⟨S8192x64, .f32⟩
  | 45 => ⟨S8192x64, .f32⟩
  | 46 => ⟨S8192x64, .f32⟩
  | 47 => ⟨S8192x64, .f32⟩
  | 48 => ⟨S8192x64, .f32⟩
  | 49 => ⟨S8192x4x64, .f32⟩
  | 50 => ⟨S8192x4x64, .f32⟩
  | 51 => ⟨S8192x1x64, .f32⟩
  | 52 => ⟨S8192x1x64, .f32⟩
  | 53 => ⟨S8192x4x64, .f32⟩
  | 54 => ⟨S8192x4x64, .f32⟩
  | 55 => ⟨S8192x4x64, .f32⟩
  | 56 => ⟨S8192x4x64, .f32⟩
  | 57 => ⟨S8192x4x64, .f32⟩
  | 58 => ⟨S8192x4x64, .f32⟩
  | 59 => ⟨S8192x4x64, .f32⟩
  | 60 => ⟨S8192x4x64, .f32⟩
  | 61 => ⟨S8192x4x64, .f32⟩
  | 62 => ⟨S8192x4x64, .f32⟩
  | 63 => ⟨S8192x4x128, .f32⟩
  | 64 => ⟨S8192x4x64, .f32⟩
  | 65 => ⟨S8192x4x64, .f32⟩
  | 66 => ⟨S8192x1x64, .f32⟩
  | 67 => ⟨S8192x1x64, .f32⟩
  | 68 => ⟨S8192x4x64, .f32⟩
  | 69 => ⟨S8192x4x64, .f32⟩
  | 70 => ⟨S8192x4x64, .f32⟩
  | 71 => ⟨S8192x4x64, .f32⟩
  | 72 => ⟨S8192x4x64, .f32⟩
  | 73 => ⟨S8192x4x64, .f32⟩
  | 74 => ⟨S8192x4x64, .f32⟩
  | 75 => ⟨S8192x4x64, .f32⟩
  | 76 => ⟨S8192x4x64, .f32⟩
  | 77 => ⟨S8192x4x64, .f32⟩
  | 78 => ⟨S8192x4x128, .f32⟩
  | 79 => ⟨S8192, .f32⟩
  | 80 => ⟨S8192, .i32⟩
  | 81 => ⟨S_, .i32⟩
  | 82 => ⟨S_, .i32⟩
  | 83 => ⟨S8192, .i32⟩
  | 84 => ⟨S8192, .i32⟩
  | 85 => ⟨S8192, .i32⟩
  | 86 => ⟨S_, .i32⟩
  | 87 => ⟨S8192, .i32⟩
  | 88 => ⟨S8192, .i1⟩
  | 89 => ⟨S8192, .i32⟩
  | 90 => ⟨S8192, .i32⟩
  | 91 => ⟨S_, .i32⟩
  | 92 => ⟨S8192, .i32⟩
  | 93 => ⟨S8192, .i1⟩
  | 94 => ⟨S8192, .i1⟩
  | 95 => ⟨S_, .i32⟩
  | 96 => ⟨S8192, .i32⟩
  | 97 => ⟨S8192, .i32⟩
  | 98 => ⟨S8192, .i32⟩
  | 99 => ⟨S4, .f32⟩
  | 100 => ⟨S_, .f32⟩
  | 101 => ⟨S4, .f32⟩
  | 102 => ⟨S4, .f32⟩
  | 103 => ⟨S_, .f32⟩
  | 104 => ⟨S4, .f32⟩
  | 105 => ⟨S4, .f32⟩
  | 106 => ⟨S4, .f32⟩
  | 107 => ⟨S4, .f32⟩
  | 108 => ⟨S4, .f32⟩
  | 109 => ⟨S4x1x1, .f32⟩
  | 110 => ⟨S8192x1, .f32⟩
  | 111 => ⟨S1x8192, .f32⟩
  | 112 => ⟨S8192x8192, .f32⟩
  | 113 => ⟨S8192x8192, .f32⟩
  | 114 => ⟨S8192x8192, .f32⟩
  | 115 => ⟨S8192x8192, .f32⟩
  | 116 => ⟨S1x8192x8192, .f32⟩
  | 117 => ⟨S4x8192x8192, .f32⟩
  | 118 => ⟨S4x8192x8192, .f32⟩
  | 119 => ⟨S4x8192x8192, .f32⟩
  | 120 => ⟨S4x8192x8192, .f32⟩
  | 121 => ⟨S1x8192, .i32⟩
  | 122 => ⟨S8192x1, .i32⟩
  | 123 => ⟨S8192x8192, .i32⟩
  | 124 => ⟨S8192x8192, .i32⟩
  | 125 => ⟨S8192x8192, .i1⟩
  | 126 => ⟨S_, .f32⟩
  | 127 => ⟨S_, .f32⟩
  | _ => ⟨S8192x8192, .bf16⟩

abbrev hbmTy0_1 (i : Nat) : BufTy := match i % 128 with
  | 0 => ⟨S4x8192x8192, .i1⟩
  | 1 => ⟨S4x8192x8192, .f32⟩
  | 2 => ⟨S4x8192x8192, .f32⟩
  | 3 => ⟨S_, .f32⟩
  | 4 => ⟨S8192x4x128, .f32⟩
  | 5 => ⟨S8192x4x128, .f32⟩
  | 6 => ⟨S4x8192x8192, .f32⟩
  | 7 => ⟨S4x8192x8192, .f32⟩
  | 8 => ⟨S4x128x8192, .f32⟩
  | 9 => ⟨S8192x4x128, .f32⟩
  | 10 => ⟨S8192x4x128, .f32⟩
  | 11 => ⟨S_, .f32⟩
  | 12 => ⟨S8192x4, .f32⟩
  | 13 => ⟨S8192x4x1, .f32⟩
  | 14 => ⟨S_, .f32⟩
  | 15 => ⟨S8192x4x1, .f32⟩
  | 16 => ⟨S8192x4x1, .f32⟩
  | 17 => ⟨S_, .f32⟩
  | 18 => ⟨S8192x4x1, .f32⟩
  | 19 => ⟨S8192x4x1, .f32⟩
  | 20 => ⟨S8192x4x1, .f32⟩
  | 21 => ⟨S8192x4x1, .f32⟩
  | 22 => ⟨S_, .f32⟩
  | 23 => ⟨S8192x4x1, .f32⟩
  | 24 => ⟨S8192x4x1, .f32⟩
  | 25 => ⟨S8192x4x128, .f32⟩
  | 26 => ⟨S8192x4x128, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S8192x4x128, .f32⟩
  | 47 => ⟨S8192x512, .f32⟩
  | 48 => ⟨S8192x512, .f32⟩
  | 49 => ⟨S8192x512, .f32⟩
  | 50 => ⟨S8192x512, .f32⟩
  | 51 => ⟨S8192x4x128, .f32⟩
  | 52 => ⟨S8192x4x128, .f32⟩
  | 53 => ⟨S_, .f32⟩
  | 54 => ⟨S8192x4, .f32⟩
  | 55 => ⟨S8192x4x1, .f32⟩
  | 56 => ⟨S8192x4x128, .f32⟩
  | 57 => ⟨S8192x4x128, .f32⟩
  | 58 => ⟨S8192x4x1, .f32⟩
  | 59 => ⟨S_, .f32⟩
  | 60 => ⟨S8192x4x1, .f32⟩
  | 61 => ⟨S8192x4x1, .f32⟩
  | 62 => ⟨S_, .f32⟩
  | 63 => ⟨S8192x4, .f32⟩
  | 64 => ⟨S8192x4x128, .f32⟩
  | 65 => ⟨S8192x4x128, .f32⟩
  | 66 => ⟨S8192x4x128, .f32⟩
  | 67 => ⟨S8192x4x128, .f32⟩
  | 68 => ⟨S8192x4x128, .f32⟩
  | 69 => ⟨S4x128x8192, .f32⟩
  | 70 => ⟨S4x8192x8192, .f32⟩
  | 71 => ⟨S4x128x8192, .f32⟩
  | 72 => ⟨S8192x4x128, .f32⟩
  | 73 => ⟨S4x8192x8192, .f32⟩
  | 74 => ⟨S4x8192x128, .f32⟩
  | 75 => ⟨S8192x4x128, .f32⟩
  | 76 => ⟨S4x8192x128, .f32⟩
  | 77 => ⟨S8192x4x128, .f32⟩
  | 78 => ⟨S_, .f32⟩
  | 79 => ⟨S8192x4x128, .f32⟩
  | 80 => ⟨S8192x4x128, .f32⟩
  | 81 => ⟨S8192x4x64, .f32⟩
  | 82 => ⟨S8192x4x64, .f32⟩
  | 83 => ⟨S8192x4x64, .f32⟩
  | 84 => ⟨S8192x4x64, .f32⟩
  | 85 => ⟨S8192x4x64, .f32⟩
  | 86 => ⟨S8192x4x64, .f32⟩
  | 87 => ⟨S8192x4x64, .f32⟩
  | 88 => ⟨S8192x4x64, .f32⟩
  | 89 => ⟨S8192x4x64, .f32⟩
  | 90 => ⟨S8192x4x64, .f32⟩
  | 91 => ⟨S8192x4x64, .f32⟩
  | 92 => ⟨S8192x4x64, .f32⟩
  | 93 => ⟨S8192x4x64, .f32⟩
  | 94 => ⟨S_, .f32⟩
  | 95 => ⟨S8192x4x128, .f32⟩
  | 96 => ⟨S_, .f32⟩
  | 97 => ⟨S8192x4x128, .f32⟩
  | 98 => ⟨S8192x4x128, .f32⟩
  | 99 => ⟨S8192x4x64, .f32⟩
  | 100 => ⟨S8192x4x64, .f32⟩
  | 101 => ⟨S8192x4x64, .f32⟩
  | 102 => ⟨S8192x4x64, .f32⟩
  | 103 => ⟨S8192x4x64, .f32⟩
  | 104 => ⟨S8192x4x64, .f32⟩
  | 105 => ⟨S8192x4x64, .f32⟩
  | 106 => ⟨S8192x4x64, .f32⟩
  | 107 => ⟨S8192x4x64, .f32⟩
  | 108 => ⟨S8192x4x64, .f32⟩
  | 109 => ⟨S8192x4x64, .f32⟩
  | 110 => ⟨S8192x4x64, .f32⟩
  | 111 => ⟨S8192x4x64, .f32⟩
  | 112 => ⟨S_, .f32⟩
  | 113 => ⟨S8192x4x128, .f32⟩
  | 114 => ⟨S_, .f32⟩
  | 115 => ⟨S8192x4x128, .f32⟩
  | 116 => ⟨S8192x4x128, .f32⟩
  | 117 => ⟨S8192x4x1x128, .f32⟩
  | 118 => ⟨S8192x4x1x128, .f32⟩
  | 119 => ⟨S8192x4x1x128, .f32⟩
  | 120 => ⟨S8192x4x1x128, .f32⟩
  | 121 => ⟨S8192x4x4x128, .f32⟩
  | 122 => ⟨S8192x2048, .f32⟩
  | 123 => ⟨S8192x6144, .bf16⟩
  | 124 => ⟨S8192x2048, .bf16⟩
  | 125 => ⟨S8192x8192, .bf16⟩
  | _ => ⟨S8192x8192, .bf16⟩

abbrev hbmTy (i : Nat) : BufTy := match i / 128 with
  | 0 => hbmTy0_0 i
  | 1 => hbmTy0_1 i
  | _ => ⟨S8192x8192, .bf16⟩

abbrev bufTy : (tb : Table) → Fin (tcTables nBuf tb) → BufTy
  | .hbm, ⟨i, _⟩ => hbmTy i
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_cst : Ref sig .tc := ⟨.hbm, 19, rfl⟩
abbrev main_call0_v3 : Ref sig .tc := ⟨.hbm, 20, rfl⟩
abbrev main_call0_v4 : Ref sig .tc := ⟨.hbm, 21, rfl⟩
abbrev main_call0_cst_0 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_c : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_0 : Ref sig .tc := ⟨.hbm, 95, rfl⟩
abbrev main_call1_v12 : Ref sig .tc := ⟨.hbm, 96, rfl⟩
abbrev main_call1_v13 : Ref sig .tc := ⟨.hbm, 97, rfl⟩
abbrev main_v55 : Ref sig .tc := ⟨.hbm, 98, rfl⟩
abbrev main_v56 : Ref sig .tc := ⟨.hbm, 99, rfl⟩
abbrev main_cst_2 : Ref sig .tc := ⟨.hbm, 100, rfl⟩
abbrev main_v57 : Ref sig .tc := ⟨.hbm, 101, rfl⟩
abbrev main_v58 : Ref sig .tc := ⟨.hbm, 102, rfl⟩
abbrev main_cst_3 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_4 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_v81 : Ref sig .tc := ⟨.hbm, 130, rfl⟩
abbrev main_cst_5 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_6 : Ref sig .tc := ⟨.hbm, 139, rfl⟩
abbrev main_v89 : Ref sig .tc := ⟨.hbm, 140, rfl⟩
abbrev main_v90 : Ref sig .tc := ⟨.hbm, 141, rfl⟩
abbrev main_cst_7 : Ref sig .tc := ⟨.hbm, 142, rfl⟩
abbrev main_v91 : Ref sig .tc := ⟨.hbm, 143, rfl⟩
abbrev main_v92 : Ref sig .tc := ⟨.hbm, 144, rfl⟩
abbrev main_cst_8 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst_9 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_call3_v0 : Ref sig .tc := ⟨.hbm, 156, rfl⟩
abbrev main_call3_v1 : Ref sig .tc := ⟨.hbm, 157, rfl⟩
abbrev main_call3_cst : Ref sig .tc := ⟨.hbm, 158, rfl⟩
abbrev main_call3_v2 : Ref sig .tc := ⟨.hbm, 159, rfl⟩
abbrev main_call3_v3 : Ref sig .tc := ⟨.hbm, 160, rfl⟩
abbrev main_call3_cst_0 : Ref sig .tc := ⟨.hbm, 161, rfl⟩
abbrev main_call3_v4 : Ref sig .tc := ⟨.hbm, 162, rfl⟩
abbrev main_v102_2 : Ref sig .tc := ⟨.hbm, 163, rfl⟩
abbrev main_call3_cst_1 : Ref sig .tc := ⟨.hbm, 164, rfl⟩
abbrev main_call3_v6 : Ref sig .tc := ⟨.hbm, 165, rfl⟩
abbrev main_call3_v7 : Ref sig .tc := ⟨.hbm, 166, rfl⟩
abbrev main_v102_1 : Ref sig .tc := ⟨.hbm, 167, rfl⟩
abbrev main_v102_0 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_call4_v0 : Ref sig .tc := ⟨.hbm, 175, rfl⟩
abbrev main_call4_v1 : Ref sig .tc := ⟨.hbm, 176, rfl⟩
abbrev main_call4_v2 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_cst_10 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_cst_11 : Ref sig .tc := ⟨.hbm, 187, rfl⟩
abbrev main_v117 : Ref sig .tc := ⟨.hbm, 188, rfl⟩
abbrev main_v118 : Ref sig .tc := ⟨.hbm, 189, rfl⟩
abbrev main_cst_12 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_13 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_cst_14 : Ref sig .tc := ⟨.hbm, 222, rfl⟩
abbrev main_v149 : Ref sig .tc := ⟨.hbm, 223, rfl⟩
abbrev main_cst_15 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_cst_16 : Ref sig .tc := ⟨.hbm, 240, rfl⟩
abbrev main_v165 : Ref sig .tc := ⟨.hbm, 241, rfl⟩
abbrev main_cst_17 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩

abbrev nD : Nat := 1
abbrev τ : Topo := Topo.v7x

variable {F : FTy → Type} [FloatOps F]
-- ==== Kernel2.lean ====
abbrev S4x8192x704 : Shape := ⟨3, ![4, 8192, 704]⟩
abbrev S8192x1024 : Shape := ⟨2, ![8192, 1024]⟩
abbrev S4x704x1024 : Shape := ⟨3, ![4, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference2Ideal.lean ====
abbrev S4x8192x704 : Shape := ⟨3, ![4, 8192, 704]⟩
abbrev S8192x1024 : Shape := ⟨2, ![8192, 1024]⟩
abbrev S_ : Shape := ⟨0, ![]⟩
abbrev S2816x1024 : Shape := ⟨2, ![2816, 1024]⟩
abbrev S8192x4x704 : Shape := ⟨3, ![8192, 4, 704]⟩
abbrev S8192x2816 : Shape := ⟨2, ![8192, 2816]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S4x8192x704, .f32⟩
  | .hbm, ⟨5, _⟩ => ⟨S8192x4x704, .f32⟩
  | .hbm, ⟨6, _⟩ => ⟨S8192x2816, .f32⟩
  | .hbm, ⟨7, _⟩ => ⟨S8192x1024, .f32⟩
  | .hbm, ⟨8, _⟩ => ⟨S8192x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S4x8192x704 : Shape := ⟨3, ![4, 8192, 704]⟩
abbrev S4x704x1024 : Shape := ⟨3, ![4, 704, 1024]⟩
abbrev S8192x1024 : Shape := ⟨2, ![8192, 1024]⟩
abbrev S1x1024 : Shape := ⟨2, ![1, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩
abbrev S1024 : Shape := ⟨1, ![1024]⟩
abbrev S1024x1 : Shape := ⟨2, ![1024, 1]⟩

abbrev nBuf : Space → Nat
  | .hbm => 9
  | .vmem => 17
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S4x704x1024, .bf16⟩
  | .hbm, ⟨3, _⟩ => ⟨S4x704x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_18 : BitVec 32 := 0#32
  let v24 : BitVec 1 := Scalar.cmpi .ne v23 c0_i32_18
  v24

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let arg1 : BitVec 32 := BitVec.ofNat 32 (i 1).val
  let c0_i32_12 : BitVec 32 := 0#32
  let v12 : BitVec 1 := Scalar.cmpi .eq arg1 c0_i32_12
  let v13 : BitVec 1 := Scalar.andi v11 v12
  let v14 : BitVec 32 := Scalar.extui v13
  let c0_i32_13 : BitVec 32 := 0#32
  let v15 : BitVec 1 := Scalar.cmpi .ne v14 c0_i32_13
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference3Ideal.lean ====
abbrev S4x8192x704 : Shape := ⟨3, ![4, 8192, 704]⟩
abbrev S4x704x1024 : Shape := ⟨3, ![4, 704, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S1024x2816 : Shape := ⟨2, ![1024, 2816]⟩
abbrev S8192x2816 : Shape := ⟨2, ![8192, 2816]⟩
abbrev S8192x4x704 : Shape := ⟨3, ![8192, 4, 704]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S4x704x1024, .bf16⟩
  | .hbm, ⟨3, _⟩ => ⟨S4x704x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S4x704x1024, .f32⟩
  | .hbm, ⟨27, _⟩ => ⟨S2816x1024, .f32⟩
  | .hbm, ⟨28, _⟩ => ⟨S1024x2816, .f32⟩
  | .hbm, ⟨29, _⟩ => ⟨S8192x2816, .f32⟩
  | .hbm, ⟨30, _⟩ => ⟨S4x704x1024, .f32⟩
  | .hbm, ⟨31, _⟩ => ⟨S2816x1024, .f32⟩
  | .hbm, ⟨32, _⟩ => ⟨S1024x2816, .f32⟩
  | .hbm, ⟨33, _⟩ => ⟨S8192x2816, .f32⟩
  | .hbm, ⟨34, _⟩ => ⟨S4x8192x704, .f32⟩
  | .hbm, ⟨35, _⟩ => ⟨S8192x4x704, .f32⟩
  | .hbm, ⟨36, _⟩ => ⟨S8192x2816, .f32⟩
  | .hbm, ⟨37, _⟩ => ⟨S4x8192x704, .f32⟩
  | .hbm, ⟨38, _⟩ => ⟨S8192x4x704, .f32⟩
  | .hbm, ⟨39, _⟩ => ⟨S8192x2816, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S4x704x1024 : Shape := ⟨3, ![4, 704, 1024]⟩
abbrev S4x8192x704 : Shape := ⟨3, ![4, 8192, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x704x1024, .bf16⟩
  | .hbm, ⟨3, _⟩ => ⟨S4x704x1024, .bf16⟩
  | .hbm, ⟨4, _⟩ => ⟨S4x704x1024, .bf16⟩
  | .hbm, ⟨5, _⟩ => ⟨S8192x1024, .f32⟩
  | .hbm, ⟨6, _⟩ => ⟨S4x8192x704, .bf16⟩
  | .hbm, ⟨7, _⟩ => ⟨S4x8192x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_26 : BitVec 32 := 0#32
  let v40 : BitVec 1 := Scalar.cmpi .ne v39 c0_i32_26
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8192x1024 : Shape := ⟨2, ![8192, 1024]⟩
abbrev S1x1024 : Shape := ⟨2, ![1, 1024]⟩
abbrev S4x704x1024 : Shape := ⟨3, ![4, 704, 1024]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S1024x2816 : Shape := ⟨2, ![1024, 2816]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x704x1024, .bf16⟩
  | .hbm, ⟨3, _⟩ => ⟨S4x704x1024, .bf16⟩
  | .hbm, ⟨4, _⟩ => ⟨S4x704x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S4x704x1024, .f32⟩
  | .hbm, ⟨21, _⟩ => ⟨S2816x1024, .f32⟩
  | .hbm, ⟨22, _⟩ => ⟨S1024x2816, .f32⟩
  | .hbm, ⟨23, _⟩ => ⟨S8192x2816, .f32⟩
  | .hbm, ⟨24, _⟩ => ⟨S4x704x1024, .f32⟩
  | .hbm, ⟨25, _⟩ => ⟨S2816x1024, .f32⟩
  | .hbm, ⟨26, _⟩ => ⟨S1024x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S4x704x1024, .f32⟩
  | .hbm, ⟨39, _⟩ => ⟨S2816x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x4x704, .f32⟩
  | .hbm, ⟨46, _⟩ => ⟨S4x8192x704, .f32⟩
  | .hbm, ⟨47, _⟩ => ⟨S4x8192x704, .bf16⟩
  | .hbm, ⟨48, _⟩ => ⟨S8192x4x704, .f32⟩
  | .hbm, ⟨49, _⟩ => ⟨S4x8192x704, .f32⟩
  | .hbm, ⟨50, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S4x8192x704 : Shape := ⟨3, ![4, 8192, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S1024 : Shape := ⟨1, ![1024]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 11
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x8192x704, .bf16⟩
  | .hbm, ⟨4, _⟩ => ⟨S4x8192x704, .bf16⟩
  | .hbm, ⟨5, _⟩ => ⟨S4x704x1024, .bf16⟩
  | .hbm, ⟨6, _⟩ => ⟨S4x8192x704, .bf16⟩
  | .hbm, ⟨7, _⟩ => ⟨S4x8192x704, .bf16⟩
  | .hbm, ⟨8, _⟩ => ⟨S4x8192x704, .bf16⟩
  | .hbm, ⟨9, _⟩ => ⟨S8192x1024, .bf16⟩
  | .hbm, ⟨10, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference5Ideal.lean ====
abbrev S8192x1024 : Shape := ⟨2, ![8192, 1024]⟩
abbrev S1x1024 : Shape := ⟨2, ![1, 1024]⟩
abbrev S4x8192x704 : Shape := ⟨3, ![4, 8192, 704]⟩
abbrev S4x704x1024 : Shape := ⟨3, ![4, 704, 1024]⟩
abbrev S8192x4x704 : Shape := ⟨3, ![8192, 4, 704]⟩
abbrev S8192x2816 : Shape := ⟨2, ![8192, 2816]⟩
abbrev S_ : Shape := ⟨0, ![]⟩
abbrev S2816x1024 : Shape := ⟨2, ![2816, 1024]⟩
abbrev S8192 : Shape := ⟨1, ![8192]⟩
abbrev S8192x1 : Shape := ⟨2, ![8192, 1]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x8192x704, .bf16⟩
  | .hbm, ⟨4, _⟩ => ⟨S4x8192x704, .bf16⟩
  | .hbm, ⟨5, _⟩ => ⟨S4x704x1024, .bf16⟩
  | .hbm, ⟨6, _⟩ => ⟨S4x8192x704, .f32⟩
  | .hbm, ⟨7, _⟩ => ⟨S8192x4x704, .f32⟩
  | .hbm, ⟨8, _⟩ => ⟨S8192x2816, .f32⟩
  | .hbm, ⟨9, _⟩ => ⟨S4x8192x704, .f32⟩
  | .hbm, ⟨10, _⟩ => ⟨S8192x4x704, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S4x704x1024, .f32⟩
  | .hbm, ⟨27, _⟩ => ⟨S2816x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x4x704, .f32⟩
  | .hbm, ⟨43, _⟩ => ⟨S4x8192x704, .f32⟩
  | .hbm, ⟨44, _⟩ => ⟨S4x8192x704, .bf16⟩
  | .hbm, ⟨45, _⟩ => ⟨S8192x4x704, .f32⟩
  | .hbm, ⟨46, _⟩ => ⟨S4x8192x704, .f32⟩
  | .hbm, ⟨47, _⟩ => ⟨S4x8192x704, .bf16⟩
  | .hbm, ⟨48, _⟩ => ⟨S8192x2816, .f32⟩
  | .hbm, ⟨49, _⟩ => ⟨S8192x2816, .f32⟩
  | .hbm, ⟨50, _⟩ => ⟨S_, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x4x704, .f32⟩
  | .hbm, ⟨59, _⟩ => ⟨S4x8192x704, .f32⟩
  | .hbm, ⟨60, _⟩ => ⟨S4x8192x704, .bf16⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v6_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v6_1 : Ref sig .tc := ⟨.hbm, 23, rfl⟩
abbrev main_v6_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_1 : Ref sig .tc := ⟨.hbm, 62, rfl⟩
abbrev main_v31 : Ref sig .tc := ⟨.hbm, 63, rfl⟩
abbrev main_v32 : Ref sig .tc := ⟨.hbm, 64, rfl⟩
abbrev main_cst_2 : Ref sig .tc := ⟨.hbm, 65, rfl⟩
abbrev main_v33 : Ref sig .tc := ⟨.hbm, 66, rfl⟩
abbrev main_v34 : Ref sig .tc := ⟨.hbm, 67, rfl⟩
abbrev main_cst_3 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_4 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x8192 : Shape := ⟨2, ![1024, 8192]⟩
abbrev S8192x8192 : Shape := ⟨2, ![8192, 8192]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x8192, .bf16⟩
  | .hbm, ⟨3, _⟩ => ⟨S8192x8192, .bf16⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S8192x1024 : Shape := ⟨2, ![8192, 1024]⟩
abbrev S1x1024 : Shape := ⟨2, ![1, 1024]⟩
abbrev S1024x8192 : Shape := ⟨2, ![1024, 8192]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x8192, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x8192, .f32⟩
  | .hbm, ⟨19, _⟩ => ⟨S8192x8192, .f32⟩
  | .hbm, ⟨20, _⟩ => ⟨S8192x8192, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S8192x1024 : Shape := ⟨2, ![8192, 1024]⟩
abbrev S8192x8192 : Shape := ⟨2, ![8192, 8192]⟩
abbrev S1024x5120 : Shape := ⟨2, ![1024, 5120]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S1024x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference7Ideal.lean ====
abbrev S8192x1024 : Shape := ⟨2, ![8192, 1024]⟩
abbrev S8192x8192 : Shape := ⟨2, ![8192, 8192]⟩
abbrev S_ : Shape := ⟨0, ![]⟩
abbrev S1024x5120 : Shape := ⟨2, ![1024, 5120]⟩
abbrev S8192x5120 : Shape := ⟨2, ![8192, 5120]⟩
abbrev S5120x1024 : Shape := ⟨2, ![5120, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S_, .f32⟩
  | .hbm, ⟨3, _⟩ => ⟨S1024x5120, .f32⟩
  | .hbm, ⟨4, _⟩ => ⟨S8192x1024, .f32⟩
  | .hbm, ⟨5, _⟩ => ⟨S8192x5120, .f32⟩
  | .hbm, ⟨6, _⟩ => ⟨S8192x5120, .bf16⟩
  | .hbm, ⟨7, _⟩ => ⟨S8192x5120, .f32⟩
  | .hbm, ⟨8, _⟩ => ⟨S5120x1024, .f32⟩
  | .hbm, ⟨9, _⟩ => ⟨S1024x5120, .f32⟩
  | .hbm, ⟨10, _⟩ => ⟨S1024x5120, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x1024 : Shape := ⟨2, ![8192, 1024]⟩
abbrev S8192x8192 : Shape := ⟨2, ![8192, 8192]⟩
abbrev S4x3x256x1024 : Shape := ⟨4, ![4, 3, 256, 1024]⟩
abbrev S2048x1024 : Shape := ⟨2, ![2048, 1024]⟩
abbrev S4x1x256x1024 : Shape := ⟨4, ![4, 1, 256, 1024]⟩
abbrev S1024x1024 : Shape := ⟨2, ![1024, 1024]⟩
abbrev S256x1024 : Shape := ⟨2, ![256, 1024]⟩
abbrev S1x1x256x1024 : Shape := ⟨4, ![1, 1, 256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S4x3x256x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x1x256x1024, .bf16⟩
  | .local _ .vmem, ⟨5, _⟩ => ⟨S4x1x256x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S8192x1024 : Shape := ⟨2, ![8192, 1024]⟩
abbrev S8192x8192 : Shape := ⟨2, ![8192, 8192]⟩
abbrev S_ : Shape := ⟨0, ![]⟩
abbrev S1024x3072 : Shape := ⟨2, ![1024, 3072]⟩
abbrev S8192x3072 : Shape := ⟨2, ![8192, 3072]⟩
abbrev S3072x1024 : Shape := ⟨2, ![3072, 1024]⟩
abbrev S4x256x3x1024 : Shape := ⟨4, ![4, 256, 3, 1024]⟩
abbrev S4x3x256x1024 : Shape := ⟨4, ![4, 3, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .bf16⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S4x256x3x1024, .f32⟩
  | .hbm, ⟨11, _⟩ => ⟨S4x3x256x1024, .f32⟩
  | .hbm, ⟨12, _⟩ => ⟨S4x3x256x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel9.lean ====
abbrev S8192x1024 : Shape := ⟨2, ![8192, 1024]⟩
abbrev S4x1x256x1024 : Shape := ⟨4, ![4, 1, 256, 1024]⟩
abbrev S2048x1024 : Shape := ⟨2, ![2048, 1024]⟩
abbrev S1024x1024 : Shape := ⟨2, ![1024, 1024]⟩
abbrev S256x1024 : Shape := ⟨2, ![256, 1024]⟩
abbrev S1x1x256x1024 : Shape := ⟨4, ![1, 1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x1x256x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x1x256x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference9Ideal.lean ====
abbrev S8192x1024 : Shape := ⟨2, ![8192, 1024]⟩
abbrev S_ : Shape := ⟨0, ![]⟩
abbrev S1024x1024 : Shape := ⟨2, ![1024, 1024]⟩
abbrev S4x1x256x1024 : Shape := ⟨4, ![4, 1, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S4x1x256x1024, .f32⟩
  | .hbm, ⟨10, _⟩ => ⟨S4x1x256x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8192x1024 : Shape := ⟨2, ![8192, 1024]⟩
abbrev S8192x8192 : Shape := ⟨2, ![8192, 8192]⟩
abbrev S8192x512 : Shape := ⟨2, ![8192, 512]⟩
abbrev S3x512x1024 : Shape := ⟨3, ![3, 512, 1024]⟩
abbrev S1024x1024 : Shape := ⟨2, ![1024, 1024]⟩
abbrev S8192x3072 : Shape := ⟨2, ![8192, 3072]⟩
abbrev S512x1024 : Shape := ⟨2, ![512, 1024]⟩
abbrev S512x3072 : Shape := ⟨2, ![512, 3072]⟩
abbrev S512x512 : Shape := ⟨2, ![512, 512]⟩
abbrev S1x512x1024 : Shape := ⟨3, ![1, 512, 1024]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x8192, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S3x512x1024, .bf16⟩
  | .hbm, ⟨6, _⟩ => ⟨S1024x1024, .bf16⟩
  | .hbm, ⟨7, _⟩ => ⟨S8192x1024, .f32⟩
  | .hbm, ⟨8, _⟩ => ⟨S8192x3072, .bf16⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S3x512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x3072, .bf16⟩
  | .local _ .vmem, ⟨15, _⟩ => ⟨S512x3072, .bf16⟩
  | .local _ .vmem, ⟨16, _⟩ => ⟨S512x1024, .bf16⟩
  | .local _ .vmem, ⟨17, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S8192x1024 : Shape := ⟨2, ![8192, 1024]⟩
abbrev S8192x8192 : Shape := ⟨2, ![8192, 8192]⟩
abbrev S8192x512 : Shape := ⟨2, ![8192, 512]⟩
abbrev S3x512x1024 : Shape := ⟨3, ![3, 512, 1024]⟩
abbrev S1024x1024 : Shape := ⟨2, ![1024, 1024]⟩
abbrev S1x512x1024 : Shape := ⟨3, ![1, 512, 1024]⟩
abbrev S512x1024 : Shape := ⟨2, ![512, 1024]⟩
abbrev S_ : Shape := ⟨0, ![]⟩
abbrev S8192x3072 : Shape := ⟨2, ![8192, 3072]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S3x512x1024, .bf16⟩
  | .hbm, ⟨6, _⟩ => ⟨S1024x1024, .bf16⟩
  | .hbm, ⟨7, _⟩ => ⟨S8192x512, .f32⟩
  | .hbm, ⟨8, _⟩ => ⟨S1x512x1024, .bf16⟩
  | .hbm, ⟨9, _⟩ => ⟨S512x1024, .bf16⟩
  | .hbm, ⟨10, _⟩ => ⟨S512x1024, .f32⟩
  | .hbm, ⟨11, _⟩ => ⟨S8192x1024, .f32⟩
  | .hbm, ⟨12, _⟩ => ⟨S8192x512, .f32⟩
  | .hbm, ⟨13, _⟩ => ⟨S1x512x1024, .bf16⟩
  | .hbm, ⟨14, _⟩ => ⟨S512x1024, .bf16⟩
  | .hbm, ⟨15, _⟩ => ⟨S512x1024, .f32⟩
  | .hbm, ⟨16, _⟩ => ⟨S8192x1024, .f32⟩
  | .hbm, ⟨17, _⟩ => ⟨S8192x512, .f32⟩
  | .hbm, ⟨18, _⟩ => ⟨S1x512x1024, .bf16⟩
  | .hbm, ⟨19, _⟩ => ⟨S512x1024, .bf16⟩
  | .hbm, ⟨20, _⟩ => ⟨S512x1024, .f32⟩
  | .hbm, ⟨21, _⟩ => ⟨S8192x1024, .f32⟩
  | .hbm, ⟨22, _⟩ => ⟨S8192x1024, .bf16⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1024x1024, .f32⟩
  | .hbm, ⟨61, _⟩ => ⟨S8192x1024, .f32⟩
  | .hbm, ⟨62, _⟩ => ⟨S8192x1024, .f32⟩
  | .hbm, ⟨63, _⟩ => ⟨S8192x3072, .f32⟩
  | .hbm, ⟨64, _⟩ => ⟨S8192x3072, .bf16⟩
  | .hbm, ⟨65, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel11.lean ====
abbrev S8192x512 : Shape := ⟨2, ![8192, 512]⟩
abbrev S8192x3072 : Shape := ⟨2, ![8192, 3072]⟩
abbrev S4x3x512x256 : Shape := ⟨4, ![4, 3, 512, 256]⟩
abbrev S2048x512 : Shape := ⟨2, ![2048, 512]⟩
abbrev S2048x1024 : Shape := ⟨2, ![2048, 1024]⟩
abbrev S4x1x512x256 : Shape := ⟨4, ![4, 1, 512, 256]⟩
abbrev S512x1024 : Shape := ⟨2, ![512, 1024]⟩
abbrev S512x256 : Shape := ⟨2, ![512, 256]⟩
abbrev S1x1x512x256 : Shape := ⟨4, ![1, 1, 512, 256]⟩

abbrev nBuf : Space → Nat
  | .hbm => 5
  | .vmem => 11
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x3072, .bf16⟩
  | .hbm, ⟨4, _⟩ => ⟨S4x3x512x256, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | .local _ .vmem, ⟨7, _⟩ => ⟨S2048x1024, .bf16⟩
  | .local _ .vmem, ⟨8, _⟩ => ⟨S4x1x512x256, .bf16⟩
  | .local _ .vmem, ⟨9, _⟩ => ⟨S4x1x512x256, .bf16⟩
  | .local _ .vmem, ⟨10, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 4], ![false, false]⟩

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference11Ideal.lean ====
abbrev S8192x512 : Shape := ⟨2, ![8192, 512]⟩
abbrev S8192x3072 : Shape := ⟨2, ![8192, 3072]⟩
abbrev S_ : Shape := ⟨0, ![]⟩
abbrev S512x1024 : Shape := ⟨2, ![512, 1024]⟩
abbrev S8192x1024 : Shape := ⟨2, ![8192, 1024]⟩
abbrev S1024x512 : Shape := ⟨2, ![1024, 512]⟩
abbrev S512x4x256 : Shape := ⟨3, ![512, 4, 256]⟩
abbrev S4x512x256 : Shape := ⟨3, ![4, 512, 256]⟩
abbrev S4x1x512x256 : Shape := ⟨4, ![4, 1, 512, 256]⟩
abbrev S4x3x512x256 : Shape := ⟨4, ![4, 3, 512, 256]⟩

abbrev nBuf : Space → Nat
  | .hbm => 39
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x3072, .bf16⟩
  | .hbm, ⟨4, _⟩ => ⟨S_, .f32⟩
  | .hbm, ⟨5, _⟩ => ⟨S512x1024, .f32⟩
  | .hbm, ⟨6, _⟩ => ⟨S8192x512, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S1024x512, .f32⟩
  | .hbm, ⟨11, _⟩ => ⟨S512x1024, .f32⟩
  | .hbm, ⟨12, _⟩ => ⟨S512x4x256, .f32⟩
  | .hbm, ⟨13, _⟩ => ⟨S4x512x256, .f32⟩
  | .hbm, ⟨14, _⟩ => ⟨S_, .f32⟩
  | .hbm, ⟨15, _⟩ => ⟨S512x1024, .f32⟩
  | .hbm, ⟨16, _⟩ => ⟨S8192x512, .f32⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S1024x512, .f32⟩
  | .hbm, ⟨21, _⟩ => ⟨S512x1024, .f32⟩
  | .hbm, ⟨22, _⟩ => ⟨S512x4x256, .f32⟩
  | .hbm, ⟨23, _⟩ => ⟨S4x512x256, .f32⟩
  | .hbm, ⟨24, _⟩ => ⟨S_, .f32⟩
  | .hbm, ⟨25, _⟩ => ⟨S512x1024, .f32⟩
  | .hbm, ⟨26, _⟩ => ⟨S8192x512, .f32⟩
  | .hbm, ⟨27, _⟩ => ⟨S8192x1024, .f32⟩
  | .hbm, ⟨28, _⟩ => ⟨S8192x1024, .bf16⟩
  | .hbm, ⟨29, _⟩ => ⟨S8192x1024, .f32⟩
  | .hbm, ⟨30, _⟩ => ⟨S1024x512, .f32⟩
  | .hbm, ⟨31, _⟩ => ⟨S512x1024, .f32⟩
  | .hbm, ⟨32, _⟩ => ⟨S512x4x256, .f32⟩
  | .hbm, ⟨33, _⟩ => ⟨S4x512x256, .f32⟩
  | .hbm, ⟨34, _⟩ => ⟨S4x1x512x256, .f32⟩
  | .hbm, ⟨35, _⟩ => ⟨S4x1x512x256, .f32⟩
  | .hbm, ⟨36, _⟩ => ⟨S4x1x512x256, .f32⟩
  | .hbm, ⟨37, _⟩ => ⟨S4x3x512x256, .f32⟩
  | .hbm, ⟨38, _⟩ => ⟨S4x3x512x256, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel12.lean ====
abbrev S8192x1024 : Shape := ⟨2, ![8192, 1024]⟩
abbrev S8192x8192 : Shape := ⟨2, ![8192, 8192]⟩
abbrev S8192x3072 : Shape := ⟨2, ![8192, 3072]⟩
abbrev S3x512x1024 : Shape := ⟨3, ![3, 512, 1024]⟩
abbrev S1024x1024 : Shape := ⟨2, ![1024, 1024]⟩
abbrev S8192x512 : Shape := ⟨2, ![8192, 512]⟩
abbrev S512x1024 : Shape := ⟨2, ![512, 1024]⟩
abbrev S512x3072 : Shape := ⟨2, ![512, 3072]⟩
abbrev S512x512 : Shape := ⟨2, ![512, 512]⟩
abbrev S1x512x1024 : Shape := ⟨3, ![1, 512, 1024]⟩

abbrev nBuf : Space → Nat
  | .hbm => 12
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x8192, .bf16⟩
  | .hbm, ⟨2, _⟩ => ⟨S8192x3072, .bf16⟩
  | .hbm, ⟨3, _⟩ => ⟨S3x512x1024, .bf16⟩
  | .hbm, ⟨4, _⟩ => ⟨S1024x1024, .bf16⟩
  | .hbm, ⟨5, _⟩ => ⟨S8192x3072, .bf16⟩
  | .hbm, ⟨6, _⟩ => ⟨S8192x8192, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x1024, .bf16⟩
  | .hbm, ⟨11, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S512x3072, .bf16⟩
  | .local _ .vmem, ⟨5, _⟩ => ⟨S512x3072, .bf16⟩
  | .local _ .vmem, ⟨6, _⟩ => ⟨S3x512x1024, .bf16⟩
  | .local _ .vmem, ⟨7, _⟩ => ⟨S1024x1024, .bf16⟩
  | .local _ .vmem, ⟨8, _⟩ => ⟨S512x3072, .bf16⟩
  | .local _ .vmem, ⟨9, _⟩ => ⟨S512x3072, .bf16⟩
  | .local _ .vmem, ⟨10, _⟩ => ⟨S512x3072, .bf16⟩
  | .local _ .vmem, ⟨11, _⟩ => ⟨S512x3072, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference12Ideal.lean ====
abbrev S8192x1024 : Shape := ⟨2, ![8192, 1024]⟩
abbrev S8192x8192 : Shape := ⟨2, ![8192, 8192]⟩
abbrev S8192x3072 : Shape := ⟨2, ![8192, 3072]⟩
abbrev S3x512x1024 : Shape := ⟨3, ![3, 512, 1024]⟩
abbrev S1024x1024 : Shape := ⟨2, ![1024, 1024]⟩
abbrev S_ : Shape := ⟨0, ![]⟩
abbrev S8192x512 : Shape := ⟨2, ![8192, 512]⟩
abbrev S1x512x1024 : Shape := ⟨3, ![1, 512, 1024]⟩
abbrev S512x1024 : Shape := ⟨2, ![512, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .bf16⟩
  | .hbm, ⟨2, _⟩ => ⟨S8192x3072, .bf16⟩
  | .hbm, ⟨3, _⟩ => ⟨S3x512x1024, .bf16⟩
  | .hbm, ⟨4, _⟩ => ⟨S1024x1024, .bf16⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S8192x1024, .bf16⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1024x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x512, .f32⟩
  | .hbm, ⟨75, _⟩ => ⟨S1x512x1024, .bf16⟩
  | .hbm, ⟨76, _⟩ => ⟨S512x1024, .bf16⟩
  | .hbm, ⟨77, _⟩ => ⟨S512x1024, .f32⟩
  | .hbm, ⟨78, _⟩ => ⟨S8192x1024, .f32⟩
  | .hbm, ⟨79, _⟩ => ⟨S8192x512, .f32⟩
  | .hbm, ⟨80, _⟩ => ⟨S_, .f32⟩
  | .hbm, ⟨81, _⟩ => ⟨S8192x512, .f32⟩
  | .hbm, ⟨82, _⟩ => ⟨S1x512x1024, .bf16⟩
  | .hbm, ⟨83, _⟩ => ⟨S512x1024, .bf16⟩
  | .hbm, ⟨84, _⟩ => ⟨S512x1024, .f32⟩
  | .hbm, ⟨85, _⟩ => ⟨S8192x1024, .f32⟩
  | .hbm, ⟨86, _⟩ => ⟨S8192x512, .f32⟩
  | .hbm, ⟨87, _⟩ => ⟨S_, .f32⟩
  | .hbm, ⟨88, _⟩ => ⟨S8192x512, .f32⟩
  | .hbm, ⟨89, _⟩ => ⟨S1x512x1024, .bf16⟩
  | .hbm, ⟨90, _⟩ => ⟨S512x1024, .bf16⟩
  | .hbm, ⟨91, _⟩ => ⟨S512x1024, .f32⟩
  | .hbm, ⟨92, _⟩ => ⟨S8192x1024, .f32⟩
  | .hbm, ⟨93, _⟩ => ⟨S8192x512, .f32⟩
  | .hbm, ⟨94, _⟩ => ⟨S8192x3072, .f32⟩
  | .hbm, ⟨95, _⟩ => ⟨S8192x3072, .bf16⟩
  | .hbm, ⟨96, _⟩ => ⟨S8192x3072, .f32⟩
  | .hbm, ⟨97, _⟩ => ⟨S8192x3072, .bf16⟩
  | .hbm, ⟨98, _⟩ => ⟨S8192x512, .bf16⟩
  | .hbm, ⟨99, _⟩ => ⟨S8192x512, .bf16⟩
  | .hbm, ⟨100, _⟩ => ⟨S8192x512, .bf16⟩
  | .hbm, ⟨101, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩

abbrev nD : Nat := 1
abbrev τ : Topo := Topo.v7x

variable {F : FTy → Type} [FloatOps F]
-- ==== Proof.Ret.HostA.lean ====
/-
  The tables and the arrays the kernel's host lines prepare, as terms: the forward output and the rotated keys are the
  reference's own lines, and the rotary tables are its cosines and sines side by side.
-/
module

public import proofs.«01_k».proof.Proof.Gen.KernelIdeal.Frame
public import proofs.«01_k».proof.Proof.Gen.ReferenceIdeal.Read
public import Idealize.ShloMosaic.Lib.StableHlo.RunRead

@[expose] public section

set_option maxRecDepth 16384

noncomputable section

open Idealize.ShloMosaic Idealize.ShloMosaic.TcCoe Idealize.SL.Sem

namespace Ret.Host

open Cert.KernelIdeal Cert.KernelIdeal.Gen
open Cert.ReferenceIdeal.Read

variable (m : (ℓ : Loc nD τ sig) → Buf (Elt Ideal) ℓ) (c : Dev nD)

theorem v88_term : (V m c main_v88 : FVec Ideal S8192x512 .f32)
    = shapeCast S8192x512 (val_main_v87 (F := Ideal) (m ((c : Thread nD τ).loc main_arg0))) shapeCasts_S8192x4x128_S8192x512 := by
  after_reads_simp
  rfl

theorem v197_term : (V m c main_v197 : FVec Ideal S8192x128 .f32)
    = concatenate S8192x128 1 [⟨S8192x64, val_main_v21 (F := Ideal)⟩, ⟨S8192x64, val_main_v21 (F := Ideal)⟩]
        concatenates_S8192x64_S8192x64_S8192x128_d1 := by
  after_reads_simp
  rfl

theorem v199_term : (V m c main_v199 : FVec Ideal S8192x128 .f32)
    = concatenate S8192x128 1 [⟨S8192x64, Host.negf (F := Ideal) (φ := .f32) (val_main_v22 (F := Ideal))⟩, ⟨S8192x64, val_main_v22 (F := Ideal)⟩]
        concatenates_S8192x64_S8192x64_S8192x128_d1 := by
  after_reads_simp
  rfl

/-- The weights of the states: the discount from a position to the block's start, for the positions before it. -/
def weights : FVec Ideal S4x16x8192 .f32 :=
  select
    (broadcastInDim S4x16x8192 ![1, 2] bcast_S16x8192_S4x16x8192_1_2
      (cmpf .olt
        (broadcastInDim S16x8192 ![0, 1] bcast_S1x8192_S16x8192_0_1
          (broadcastInDim S1x8192 ![1] bcast_S8192_S1x8192_1 (sitofp (F := Ideal) .f32 (iotaInDim S8192 32 0))))
        (broadcastInDim S16x8192 ![0, 1] bcast_S16x1_S16x8192_0_1
          (broadcastInDim S16x1 ![0] bcast_S16_S16x1_0
            (mulf (sitofp .f32 (iotaInDim S16 32 0)) (broadcastInDim S16 ![] bcast_S_S16 (constant S_ .f32 0x44000000#32)))))))
    (Host.exp
      (mulf
        (broadcastInDim S4x16x8192 ![0, 1, 2] bcast_S4x1x1_S4x16x8192_0_1_2
          (broadcastInDim S4x1x1 ![0] bcast_S4_S4x1x1_0 (val_main_v63 (F := Ideal))))
        (broadcastInDim S4x16x8192 ![0, 1, 2] bcast_S1x16x8192_S4x16x8192_0_1_2
          (broadcastInDim S1x16x8192 ![1, 2] bcast_S16x8192_S1x16x8192_1_2
            (subf
              (broadcastInDim S16x8192 ![0, 1] bcast_S16x1_S16x8192_0_1
                (subf
                  (broadcastInDim S16x1 ![0] bcast_S16_S16x1_0
                    (mulf (sitofp .f32 (iotaInDim S16 32 0)) (broadcastInDim S16 ![] bcast_S_S16 (constant S_ .f32 0x44000000#32))))
                  (broadcastInDim S16x1 ![] bcast_S_S16x1 (constant S_ .f32 0x3F800000#32))))
              (broadcastInDim S16x8192 ![0, 1] bcast_S1x8192_S16x8192_0_1
                (broadcastInDim S1x8192 ![1] bcast_S8192_S1x8192_1 (sitofp .f32 (iotaInDim S8192 32 0)))))))))
    (broadcastInDim S4x16x8192 ![] bcast_S_S4x16x8192 (constant S_ .f32 0x00000000#32))

theorem v127_term : (V m c main_v127 : FVec Ideal S16x4x128x128 .f32)
    = transpose S16x4x128x128 [2, 0, 3, 1]
        (Host.dotGeneral (F := Ideal) (φ₁ := .f32) (φ₂ := .f32) dot_S8192x4x128_S4x16x8192x128_S4x128x16x128_0_2_2_13_1_0 none (val_main_v8 (F := Ideal) (m ((c : Thread nD τ).loc main_arg0)))
          (mulf
            (broadcastInDim S4x16x8192x128 ![0, 1, 2, 3] bcast_S4x16x8192x1_S4x16x8192x128_0_1_2_3
              (broadcastInDim S4x16x8192x1 ![0, 1, 2] bcast_S4x16x8192_S4x16x8192x1_0_1_2 weights))
            (broadcastInDim S4x16x8192x128 ![0, 1, 2, 3] bcast_S4x1x8192x128_S4x16x8192x128_0_1_2_3
              (broadcastInDim S4x1x8192x128 ![0, 2, 3] bcast_S4x8192x128_S4x1x8192x128_0_2_3
                (transpose S4x8192x128 [1, 0, 2] (val_main_v52 (F := Ideal) (m ((c : Thread nD τ).loc main_arg0)))
                  transposes_S8192x4x128_S4x8192x128_1_0_2)))))
        transposes_S4x128x16x128_S16x4x128x128_2_0_3_1 := by
  after_reads_simp
  rfl

theorem v200_term : (V m c main_v200 : FVec Ideal S8192x8192 .bf16) = m ((c : Thread nD τ).loc main_arg2) := by
  after_reads_simp
  rfl

end Ret.Host
-- ==== Proof.Ret.Real.lean ====
/-
  The retention gradient over the reals, one head at a time: the products with the whole decay matrix are the sum of a
  product inside a block of 512 positions and a product with a running state.
-/
module

public import Mathlib.Analysis.SpecialFunctions.Exp
public import Mathlib.Analysis.SpecialFunctions.Pow.Real
public import Mathlib.Analysis.SpecialFunctions.Trigonometric.DerivHyp
public import Mathlib.Tactic.Ring
public import Mathlib.Tactic.Linarith
public import Mathlib.Tactic.FieldSimp
public import Mathlib.Tactic.Positivity
public import Mathlib.Tactic.LinearCombination

@[expose] public section

noncomputable section

open scoped BigOperators

namespace Ret

/-- Position `k` of block `i`. -/
def pos (i : Fin 16) (k : Fin 512) : Fin 8192 := ⟨512 * i.val + k.val, by omega⟩
theorem pos_val (i : Fin 16) (k : Fin 512) : (pos i k).val = 512 * i.val + k.val := rfl

/-- The block of a position. -/
def blk (n : Fin 8192) : Fin 16 := ⟨n.val / 512, by omega⟩
/-- The offset of a position inside its block. -/
def off (n : Fin 8192) : Fin 512 := ⟨n.val % 512, by omega⟩

theorem pos_blk_off (n : Fin 8192) : pos (blk n) (off n) = n := by
  apply Fin.ext; simp only [pos, blk, off]; omega

/-- A sum over all positions that keeps one block only is the sum over that block. -/
theorem sum_block (i : Fin 16) (F : Fin 8192 → ℝ) :
    (∑ n : Fin 8192, if n.val / 512 = i.val then F n else 0) = ∑ k : Fin 512, F (pos i k) := by
  rw [← Finset.sum_filter]
  symm
  refine Finset.sum_nbij' (pos i) off ?_ ?_ ?_ ?_ ?_
  · intro k _; simp only [Finset.mem_filter, Finset.mem_univ, true_and, pos]; omega
  · intro n _; exact Finset.mem_univ _
  · intro k _; apply Fin.ext; simp only [pos, off]; omega
  · intro n hn
    simp only [Finset.mem_filter, Finset.mem_univ, true_and] at hn
    apply Fin.ext; simp only [pos, off]; omega
  · intro k _; rfl

/-- The decay between two positions: the distance discounts, and a later group of 64 is not seen. -/
def D (l : ℝ) (n m : Fin 8192) : ℝ :=
  if m.val / 64 ≤ n.val / 64 then Real.exp (l * |((n.val : ℝ) - (m.val : ℝ))|) else 0

/-- The decay inside one block. -/
def M (l : ℝ) (n m : Fin 512) : ℝ :=
  Real.exp (l * |((n.val : ℝ) - (m.val : ℝ))|) * (if m.val / 64 ≤ n.val / 64 then 1 else 0)

/-- The weight with which position `m` enters the state before block `i`. -/
def w (l : ℝ) (i : Fin 16) (m : Fin 8192) : ℝ :=
  if m.val < 512 * i.val then Real.exp (l * ((i.val : ℝ) * 512 - 1 - (m.val : ℝ))) else 0

/-- The weight with which position `n` enters the backward state after block `i`. -/
def wb (l : ℝ) (i : Fin 16) (n : Fin 8192) : ℝ :=
  if 512 * (i.val + 1) ≤ n.val then Real.exp (l * ((n.val : ℝ) - 512 * ((i.val : ℝ) + 1) + 1)) else 0

theorem D_row (l : ℝ) (i : Fin 16) (k : Fin 512) (m : Fin 8192) :
    D l (pos i k) m = (if m.val / 512 = i.val then D l (pos i k) m else 0)
      + w l i m * Real.exp (l * ((k.val : ℝ) + 1)) := by
  by_cases h : m.val / 512 = i.val
  · rw [if_pos h, w, if_neg (by omega)]; ring
  · rw [if_neg h, w]
    by_cases h2 : m.val < 512 * i.val
    · rw [if_pos h2, D, if_pos (by simp only [pos_val]; omega), ← Real.exp_add, zero_add]
      have h3 : (m.val : ℝ) ≤ ((pos i k).val : ℝ) := Nat.cast_le.2 (by rw [pos_val]; omega)
      rw [abs_of_nonneg (by linarith)]
      congr 1
      simp only [pos_val]; push_cast; ring
    · rw [if_neg h2, D, if_neg (by simp only [pos_val]; omega)]; ring

theorem D_col (l : ℝ) (i : Fin 16) (k : Fin 512) (n : Fin 8192) :
    D l n (pos i k) = (if n.val / 512 = i.val then D l n (pos i k) else 0)
      + wb l i n * Real.exp (l * (511 - (k.val : ℝ))) := by
  by_cases h : n.val / 512 = i.val
  · rw [if_pos h, wb, if_neg (by omega)]; ring
  · rw [if_neg h, wb]
    by_cases h2 : 512 * (i.val + 1) ≤ n.val
    · rw [if_pos h2, D, if_pos (by simp only [pos_val]; omega), ← Real.exp_add, zero_add]
      have h3 : ((pos i k).val : ℝ) ≤ (n.val : ℝ) := Nat.cast_le.2 (by rw [pos_val]; omega)
      rw [abs_of_nonneg (by linarith)]
      congr 1
      simp only [pos_val]; push_cast; ring
    · rw [if_neg h2, D, if_neg (by simp only [pos_val]; omega)]; ring

theorem D_same (l : ℝ) (i : Fin 16) (k k' : Fin 512) : D l (pos i k) (pos i k') = M l k k' := by
  have h : ((pos i k').val / 64 ≤ (pos i k).val / 64) ↔ (k'.val / 64 ≤ k.val / 64) := by
    simp only [pos_val]; omega
  have e : (((pos i k).val : ℝ) - ((pos i k').val : ℝ)) = (k.val : ℝ) - (k'.val : ℝ) := by
    simp only [pos_val]; push_cast; ring
  rw [D, M, e]
  by_cases h2 : k'.val / 64 ≤ k.val / 64
  · rw [if_pos (h.2 h2), if_pos h2, mul_one]
  · rw [if_neg (fun h3 => h2 (h.1 h3)), if_neg h2, mul_zero]

variable (l : ℝ) (Q K V G : Fin 8192 → Fin 128 → ℝ)

/-- The state before block `i`. -/
def st (i : Fin 16) (a b : Fin 128) : ℝ := ∑ m : Fin 8192, (w l i m * K m a) * V m b
/-- The backward state after block `i`. -/
def ds (i : Fin 16) (a b : Fin 128) : ℝ := ∑ n : Fin 8192, (Q n a * wb l i n) * G n b

/-- The gradient of the (scaled, rotated) queries, by the whole decay matrix. -/
def dq (n : Fin 8192) (a : Fin 128) : ℝ := ∑ m : Fin 8192, ((∑ b : Fin 128, G n b * V m b) * D l n m) * K m a
/-- The gradient of the (rotated) keys. -/
def dk (m : Fin 8192) (a : Fin 128) : ℝ := ∑ n : Fin 8192, ((∑ b : Fin 128, G n b * V m b) * D l n m) * Q n a
/-- The gradient of the values. -/
def dv (m : Fin 8192) (b : Fin 128) : ℝ := ∑ n : Fin 8192, ((∑ a : Fin 128, Q n a * K m a) * D l n m) * G n b

/-- A sum weighted by a decay that splits into a block part and a state part. -/
theorem split_sum (i : Fin 16) (c d e A B : Fin 8192 → ℝ)
    (h : ∀ m, c m = (if m.val / 512 = i.val then d m else 0) + e m) :
    ∑ m, (A m * c m) * B m = (∑ k : Fin 512, (A (pos i k) * d (pos i k)) * B (pos i k)) + ∑ m, (A m * e m) * B m := by
  rw [← sum_block i (fun m => (A m * d m) * B m), ← Finset.sum_add_distrib]
  refine Finset.sum_congr rfl fun m _ => ?_
  rw [h m]
  split <;> ring

theorem dq_block (i : Fin 16) (k : Fin 512) (a : Fin 128) :
    dq l K V G (pos i k) a
      = (∑ k' : Fin 512, ((∑ b : Fin 128, G (pos i k) b * V (pos i k') b) * M l k k') * K (pos i k') a)
        + (∑ b : Fin 128, G (pos i k) b * st l K V i a b) * Real.exp (l * ((k.val : ℝ) + 1)) := by
  rw [dq, split_sum i (D l (pos i k)) (D l (pos i k)) (fun m => w l i m * Real.exp (l * ((k.val : ℝ) + 1)))
    (fun m => ∑ b : Fin 128, G (pos i k) b * V m b) (fun m => K m a) (D_row l i k)]
  refine congrArg₂ (· + ·) ?_ ?_
  · exact Finset.sum_congr rfl fun k' _ => by rw [D_same]
  · simp only [st, Finset.mul_sum, Finset.sum_mul]
    rw [Finset.sum_comm]
    exact Finset.sum_congr rfl fun b _ => Finset.sum_congr rfl fun m _ => by ring

theorem dk_block (i : Fin 16) (k : Fin 512) (a : Fin 128) :
    dk l Q V G (pos i k) a
      = (∑ k' : Fin 512, ((∑ b : Fin 128, G (pos i k') b * V (pos i k) b) * M l k' k) * Q (pos i k') a)
        + (∑ b : Fin 128, V (pos i k) b * ds l Q G i a b) * Real.exp (l * (511 - (k.val : ℝ))) := by
  rw [dk, split_sum i (fun n => D l n (pos i k)) (fun n => D l n (pos i k))
    (fun n => wb l i n * Real.exp (l * (511 - (k.val : ℝ))))
    (fun n => ∑ b : Fin 128, G n b * V (pos i k) b) (fun n => Q n a) (D_col l i k)]
  refine congrArg₂ (· + ·) ?_ ?_
  · exact Finset.sum_congr rfl fun k' _ => by rw [D_same]
  · simp only [ds, Finset.mul_sum, Finset.sum_mul]
    rw [Finset.sum_comm]
    exact Finset.sum_congr rfl fun b _ => Finset.sum_congr rfl fun m _ => by ring

theorem dv_block (i : Fin 16) (k : Fin 512) (b : Fin 128) :
    dv l Q K G (pos i k) b
      = (∑ k' : Fin 512, ((∑ a : Fin 128, Q (pos i k') a * K (pos i k) a) * M l k' k) * G (pos i k') b)
        + (∑ a : Fin 128, (K (pos i k) a * Real.exp (l * (511 - (k.val : ℝ)))) * ds l Q G i a b) := by
  rw [dv, split_sum i (fun n => D l n (pos i k)) (fun n => D l n (pos i k))
    (fun n => wb l i n * Real.exp (l * (511 - (k.val : ℝ))))
    (fun n => ∑ a : Fin 128, Q n a * K (pos i k) a) (fun n => G n b) (D_col l i k)]
  refine congrArg₂ (· + ·) ?_ ?_
  · exact Finset.sum_congr rfl fun k' _ => by rw [D_same]
  · simp only [ds, Finset.mul_sum, Finset.sum_mul]
    rw [Finset.sum_comm]
    exact Finset.sum_congr rfl fun b _ => Finset.sum_congr rfl fun m _ => by ring

/-- After the last block nothing follows. -/
theorem ds_last (i : Fin 16) (hi : i.val = 15) (a b : Fin 128) : ds l Q G i a b = 0 := by
  refine Finset.sum_eq_zero fun n _ => ?_
  rw [wb, if_neg (by omega)]; ring

/-- One step of the backward state: block `i` is added to what follows it. -/
theorem ds_step (i j : Fin 16) (hj : j.val + 1 = i.val) (a b : Fin 128) :
    ds l Q G j a b = ds l Q G i a b * Real.exp (l * 512)
      + ∑ k : Fin 512, (Q (pos i k) a * Real.exp (l * ((k.val : ℝ) + 1))) * G (pos i k) b := by
  have e : ∀ k : Fin 512, (Q (pos i k) a * Real.exp (l * ((k.val : ℝ) + 1))) * G (pos i k) b
      = (fun n : Fin 8192 => (Q n a * wb l j n) * G n b) (pos i k) := by
    intro k
    have : wb l j (pos i k) = Real.exp (l * ((k.val : ℝ) + 1)) := by
      rw [wb, if_pos (by simp only [pos_val]; omega)]
      congr 1
      have h : (i.val : ℝ) = (j.val : ℝ) + 1 := by exact_mod_cast hj.symm
      simp only [pos_val]; push_cast; rw [h]; ring
    show _ = (Q (pos i k) a * wb l j (pos i k)) * G (pos i k) b
    rw [this]
  rw [Finset.sum_congr rfl fun k _ => e k, ← sum_block i (fun n : Fin 8192 => (Q n a * wb l j n) * G n b), ds, ds, Finset.sum_mul, ← Finset.sum_add_distrib]
  refine Finset.sum_congr rfl fun n _ => ?_
  by_cases h : n.val / 512 = i.val
  · rw [if_pos h]
    rw [show wb l i n = 0 from by rw [wb, if_neg (by omega)]]; ring
  · rw [if_neg h]
    by_cases h2 : 512 * (i.val + 1) ≤ n.val
    · have : wb l j n = wb l i n * Real.exp (l * 512) := by
        rw [wb, wb, if_pos h2, if_pos (by omega), ← Real.exp_add]
        congr 1
        have h : (i.val : ℝ) = (j.val : ℝ) + 1 := by exact_mod_cast hj.symm
        rw [h]; ring
      rw [this]; ring
    · rw [show wb l i n = 0 from by rw [wb, if_neg h2], show wb l j n = 0 from by rw [wb, if_neg (by omega)]]; ring

/-- The gradient of a row's normalization, written through the normalized row, is the quotient rule's. -/
theorem norm_grad (o y S r x : ℝ) (hx : 0 < x) (hr : r = (Real.sqrt x)⁻¹) (T : ℝ) (hT : T = S * r) :
    r * (y - (o * r) * (T * (1 / 128))) = y * r + 2 * (o * ((S * (-(1/2) * (r / x))) * (1 / 128))) := by
  have h2 : r * r = 1 / x := by
    rw [hr, ← mul_inv, Real.mul_self_sqrt hx.le, one_div]
  subst hT
  have : r / x = r * (r * r) := by rw [h2]; ring
  rw [this]; ring

/-- The logistic function by the hyperbolic tangent. -/
theorem sigmoid_tanh (x : ℝ) : 1 / 2 * Real.tanh (1 / 2 * x) + 1 / 2 = 1 / (1 + Real.exp (-x)) := by
  rw [Real.tanh_eq_sinh_div_cosh, Real.sinh_eq, Real.cosh_eq]
  have h1 : Real.exp (-x) = Real.exp (-(1/2*x)) * Real.exp (-(1/2*x)) := by rw [← Real.exp_add]; congr 1; ring
  have h2 : Real.exp (1/2*x) * Real.exp (-(1/2*x)) = 1 := by rw [← Real.exp_add]; simp
  have p1 := Real.exp_pos (1/2*x)
  have p2 := Real.exp_pos (-(1/2*x))
  rw [h1]
  generalize Real.exp (1/2*x) = u at *
  generalize Real.exp (-(1/2*x)) = v at *
  have h4 : u + v ≠ 0 := by positivity
  have h5 : 1 + v * v ≠ 0 := by positivity
  have h6 : (u - v) / 2 / ((u + v) / 2) = (u - v) / (u + v) := by field_simp
  rw [h6, ← sub_eq_zero]
  field_simp
  linear_combination (2 * v) * h2

end Ret
-- ==== Proof.Ret.Lift.lean ====
/-
  Real numbers inside the extended reals: the operations on finite elements, the literals the programs print, and the
  integer words of a position and of its group of 64.
-/
module

public import Idealize.ShloMosaic.Lib.ValueIdx
public import Idealize.ShloMosaic.PureOps.Ideal.Laws
public import Idealize.ShloMosaic.Lib.IdealHost
public import Idealize.ShloMosaic.Lib.Routing.Words
public import Idealize.ShloMosaic.Lib.KernelVsHost
public import proofs.«01_k».proof.Proof.Ret.Real

@[expose] public section

noncomputable section

open scoped BigOperators
open Idealize.ShloMosaic

namespace Ret

/-- An extended real that is a real number. -/
def Re (x : EReal) : Prop := ∃ r : ℝ, x = (r : EReal)

theorem Re.coe (r : ℝ) : Re (r : EReal) := ⟨r, rfl⟩
theorem Re.eq {x : EReal} (h : Re x) : x = ((x.toReal : ℝ) : EReal) := by
  obtain ⟨r, rfl⟩ := h; rw [EReal.toReal_coe]

theorem Re.add {x y : EReal} (hx : Re x) (hy : Re y) : Re (x + y) := by
  obtain ⟨a, rfl⟩ := hx; obtain ⟨b, rfl⟩ := hy; exact ⟨a + b, (EReal.coe_add a b).symm⟩
theorem Re.sub {x y : EReal} (hx : Re x) (hy : Re y) : Re (x - y) := by
  obtain ⟨a, rfl⟩ := hx; obtain ⟨b, rfl⟩ := hy; exact ⟨a - b, (EReal.coe_sub a b).symm⟩
theorem Re.mul {x y : EReal} (hx : Re x) (hy : Re y) : Re (x * y) := by
  obtain ⟨a, rfl⟩ := hx; obtain ⟨b, rfl⟩ := hy; exact ⟨a * b, (EReal.coe_mul a b).symm⟩
theorem Re.neg {x : EReal} (hx : Re x) : Re (-x) := by
  obtain ⟨a, rfl⟩ := hx; exact ⟨-a, (EReal.coe_neg a).symm⟩

/-- A finite sum of real numbers, taken in the extended reals. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## Literals -/

theorem lit_half : Ideal.ofBits .f32 0x3F000000#32 = ((1 / 2 : ℝ) : EReal) := by
  simp [Ideal.ofBits, Ideal.ieee, -EReal.coe_mul]; norm_num
theorem lit_mhalf : Ideal.ofBits .f32 0xBF000000#32 = ((-(1 / 2) : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee]
theorem lit_128 : Ideal.ofBits .f32 0x43000000#32 = ((128 : ℝ) : EReal) := by
  simp [Ideal.ofBits, Ideal.ieee, -EReal.coe_mul]; norm_num
theorem lit_63 : Ideal.ofBits .f32 0x427C0000#32 = ((63 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num
theorem lit_511 : Ideal.ofBits .f32 0x43FF8000#32 = ((511 : ℝ) : EReal) := by
  simp [Ideal.ofBits, Ideal.ieee, -EReal.coe_mul]; norm_num
theorem lit_10000 : Ideal.ofBits .f32 0x461C4000#32 = ((10000 : ℝ) : EReal) := by
  simp [Ideal.ofBits, Ideal.ieee, -EReal.coe_mul]; norm_num
theorem lit_m5 : Ideal.ofBits .f32 0xC0A00000#32 = ((-5 : ℝ) : EReal) := by
  simp [Ideal.ofBits, Ideal.ieee, -EReal.coe_mul]; norm_num
theorem lit_ln2 : Ideal.ofBits .f32 0x3F317218#32 = ((11629080 / 2 ^ 24 : ℝ) : EReal) := by
  simp [Ideal.ofBits, Ideal.ieee, -EReal.coe_mul]; norm_num
/-- The scale of the queries, the float nearest to the root of 1/128. -/
def sc : ℝ := 11863283 / 2 ^ 27
theorem lit_sc : Ideal.ofBits .f32 0x3DB504F3#32 = (sc : EReal) := by
  simp [Ideal.ofBits, Ideal.ieee, sc, -EReal.coe_mul]; norm_num
/-- The constant under the root of the normalization, the float nearest to a millionth. -/
def ep : ℝ := 8796093 / 2 ^ 43
theorem ep_pos : 0 < ep := by unfold ep; norm_num
theorem lit_ep : Ideal.ofBits .f32 0x358637BD#32 = (ep : EReal) := by
  simp [Ideal.ofBits, Ideal.ieee, ep, -EReal.coe_mul]; norm_num

/-! ## Division -/

theorem div_128 (a : ℝ) : Ideal.div (a : EReal) ((128 : ℝ) : EReal) = ((a * (1 / 128) : ℝ) : EReal) := by
  rw [Ideal.div_coe (by norm_num), EReal.coe_mul]
theorem div_ne {b : ℝ} (a : ℝ) (hb : b ≠ 0) : Ideal.div (a : EReal) (b : EReal) = ((a / b : ℝ) : EReal) := by
  rw [Ideal.div_coe hb, ← EReal.coe_mul]; congr 1; ring

/-! ## Words -/

/-- The word of a position's group of 64, as a rounded-down division of words computes it. -/
def group (x : BitVec 32) : BitVec 32 :=
  Scalar.select
    (IntOp.andi (IntOp.cmpi .ne (if x = 0 then (0 : BitVec 32) else if x.msb then -1 else 1)
        (if (64#32 : BitVec 32) = 0 then (0 : BitVec 32) else if (64#32 : BitVec 32).msb then -1 else 1))
      (IntOp.cmpi .ne (IntOp.remsi .host x 64#32) 0#32))
    (IntOp.divsi .host x 64#32 - 1#32) (IntOp.divsi .host x 64#32)

theorem group_eq (n : ℕ) (hn : n < 8192) : group (BitVec.ofNat 32 n) = BitVec.ofNat 32 (n / 64) := by
  unfold group
  rw [show (64#32 : BitVec 32) = BitVec.ofNat 32 64 from rfl, Routing.divsi_word .host (by omega) (by omega) (by omega),
    Routing.remsi_word .host (by omega) (by omega) (by omega)]
  rcases Nat.eq_zero_or_pos n with rfl | h
  · rfl
  · have h0 : ¬ (BitVec.ofNat 32 n = 0) := by
      intro h1
      have := congrArg BitVec.toNat h1
      simp only [BitVec.toNat_ofNat, BitVec.ofNat_eq_ofNat] at this
      omega
    have h1 : (BitVec.ofNat 32 n).msb = false := by
      rw [BitVec.msb_eq_decide, decide_eq_false_iff_not]
      simp only [BitVec.toNat_ofNat]
      omega
    rw [if_neg h0, h1]
    have : IntOp.cmpi .ne (if false = true then (-1 : BitVec 32) else 1)
        (if BitVec.ofNat 32 64 = 0 then 0 else if (BitVec.ofNat 32 64).msb then -1 else 1) = 0#1 := by decide
    rw [this]
    have h2 : ∀ b : BitVec 1, IntOp.andi 0#1 b = 0#1 := by decide
    rw [h2]
    rfl

theorem le_word (a b : ℕ) (ha : a < 8192) (hb : b < 8192) :
    IntOp.cmpi .sle (BitVec.ofNat 32 a) (BitVec.ofNat 32 b) = if a ≤ b then 1#1 else 0#1 := by
  have h : ∀ n : ℕ, n < 8192 → (BitVec.ofNat 32 n).toInt = (n : Int) := by
    intro n hn
    rw [BitVec.toInt_eq_toNat_of_lt] <;> simp only [BitVec.toNat_ofNat] <;> omega
  simp only [IntOp.cmpi, BitVec.sle, h a ha, h b hb]
  by_cases hab : a ≤ b
  · rw [if_pos hab]; simp [hab]
  · rw [if_neg hab]; simp [hab]

/-- A position as a float. -/
theorem float_word (n : ℕ) (hn : n < 8192) : FloatOps.sitofp (F := Ideal) .f32 (BitVec.ofNat 32 n) = ((n : ℝ) : EReal) := by
  have h : (BitVec.ofNat 32 n).toInt = (n : Int) := by
    rw [BitVec.toInt_eq_toNat_of_lt] <;> simp only [BitVec.toNat_ofNat] <;> omega
  show (((BitVec.ofNat 32 n).toInt : ℝ) : EReal) = _
  rw [h]; norm_num

end Ret
-- ==== Proof.Ret.Ops.lean ====
/-
  The operations of the kernel's body read at an index: its six products, its row sums, its rotation by 64 lanes and its
  reshapes and broadcasts.
-/
module

public import proofs.«01_k».proof.Proof.Gen.KernelIdeal.Skeleton
public import proofs.«01_k».proof.Proof.Ret.Lift
public import Idealize.ShloMosaic.Lib.Pointwise
public import Idealize.ShloMosaic.Lib.Pointwise.IndexBridge

@[expose] public section

set_option maxRecDepth 16384

noncomputable section

open scoped BigOperators
open Idealize.ShloMosaic hiding ix0 ix1 ix2 ix3 ix4
open Idealize.ShloMosaic.ValueIdx (ix1 ix2 ix3 ix4)

namespace Ret.Ops

open Cert.KernelIdeal Cert.KernelIdeal.Gen

theorem mm_qk {φ ψ : FTy} (x : FVec Ideal S512x128 φ) (y : FVec Ideal S512x128 ψ) (n m : Fin 512) :
    matmul dot_S512x128_S512x128_S512x512_1_1_0_0_n_n none x y (constant (F := Ideal) S512x512 .f32 0x00000000#32) (ix2 n m)
      = ∑ a : Fin 128, x (ix2 n a) * y (ix2 m a) := by
  simp only [← ix2_eq_valueIdx]; pointwise

theorem mm_pk {φ ψ : FTy} (x : FVec Ideal S512x512 φ) (y : FVec Ideal S512x128 ψ) (n : Fin 512) (a : Fin 128) :
    matmul dot_S512x512_S512x128_S512x128_1_0_0_1_n_n none x y (constant (F := Ideal) S512x128 .f32 0x00000000#32) (ix2 n a)
      = ∑ m : Fin 512, x (ix2 n m) * y (ix2 m a) := by
  simp only [← ix2_eq_valueIdx]; pointwise

theorem mm_tk {φ ψ : FTy} (x : FVec Ideal S512x512 φ) (y : FVec Ideal S512x128 ψ) (m : Fin 512) (a : Fin 128) :
    matmul dot_S512x512_S512x128_S512x128_0_0_1_1_n_n none x y (constant (F := Ideal) S512x128 .f32 0x00000000#32) (ix2 m a)
      = ∑ n : Fin 512, x (ix2 n m) * y (ix2 n a) := by
  simp only [← ix2_eq_valueIdx]; pointwise

theorem mm_xs {φ ψ : FTy} (x : FVec Ideal S512x128 φ) (y : FVec Ideal S128x128 ψ) (n : Fin 512) (a : Fin 128) :
    matmul dot_S512x128_S128x128_S512x128_1_1_0_0_n_n none x y (constant (F := Ideal) S512x128 .f32 0x00000000#32) (ix2 n a)
      = ∑ b : Fin 128, x (ix2 n b) * y (ix2 a b) := by
  simp only [← ix2_eq_valueIdx]; pointwise

theorem mm_ks {φ ψ : FTy} (x : FVec Ideal S512x128 φ) (y : FVec Ideal S128x128 ψ) (n : Fin 512) (b : Fin 128) :
    matmul dot_S512x128_S128x128_S512x128_1_0_0_1_n_n none x y (constant (F := Ideal) S512x128 .f32 0x00000000#32) (ix2 n b)
      = ∑ a : Fin 128, x (ix2 n a) * y (ix2 a b) := by
  simp only [← ix2_eq_valueIdx]; pointwise

theorem mm_st {φ ψ : FTy} (x : FVec Ideal S512x128 φ) (y : FVec Ideal S512x128 ψ) (a b : Fin 128) :
    matmul dot_S512x128_S512x128_S128x128_0_0_1_1_n_n none x y (constant (F := Ideal) S128x128 .f32 0x00000000#32) (ix2 a b)
      = ∑ n : Fin 512, x (ix2 n a) * y (ix2 n b) := by
  simp only [← ix2_eq_valueIdx]; pointwise

theorem row_sum (x : FVec Ideal S512x128 .f32) (n : Fin 512) (z : Fin 1) :
    shapeCast S512x1 (multiReduction .add [1] S512 x 0x00000000#32 reduces_S512x128_S512 (.inl rfl) rfl) shapeCasts_S512_S512x1 (ix2 n z)
      = ∑ a : Fin 128, x (ix2 n a) := by
  simp only [← ix2_eq_valueIdx]; pointwise

theorem bc_col (x : FVec Ideal S512x1 .f32) (n : Fin 512) (a : Fin 128) :
    broadcastTo S512x128 x broadcasts_S512x1_S512x128 (ix2 n a) = x (ix2 n (0 : Fin 1)) := by
  simp only [← ix2_eq_valueIdx]; pointwise

theorem bc_row (x : FVec Ideal S1x128 .f32) (a b : Fin 128) :
    broadcastTo S128x128 x broadcasts_S1x128_S128x128 (ix2 a b) = x (ix2 (0 : Fin 1) b) := by
  simp only [← ix2_eq_valueIdx]; pointwise

theorem cast_m (x : FVec Ideal S1x512x512 .f32) (n m : Fin 512) :
    shapeCast S512x512 x shapeCasts_S1x512x512_S512x512 (ix2 n m) = x (ix3 (0 : Fin 1) n m) := by
  simp only [← ix2_eq_valueIdx, ← ix3_eq_valueIdx]; pointwise

theorem cast_w (x : FVec Ideal S1x512x128 .f32) (n : Fin 512) (a : Fin 128) :
    shapeCast S512x128 x shapeCasts_S1x512x128_S512x128 (ix2 n a) = x (ix3 (0 : Fin 1) n a) := by
  simp only [← ix2_eq_valueIdx, ← ix3_eq_valueIdx]; pointwise

theorem cast_s (x : FVec Ideal S1x1x128x128 .f32) (a b : Fin 128) :
    shapeCast S128x128 x shapeCasts_S1x1x128x128_S128x128 (ix2 a b) = x (ix4 (0 : Fin 1) (0 : Fin 1) a b) := by
  simp only [← ix2_eq_valueIdx, ← ix4_eq_valueIdx]; pointwise

theorem cast_g (x : FVec Ideal S1x1x128 .f32) (z : Fin 1) (b : Fin 128) :
    shapeCast S1x128 x shapeCasts_S1x1x128_S1x128 (ix2 z b) = x (ix3 (0 : Fin 1) (0 : Fin 1) b) := by
  simp only [← ix2_eq_valueIdx, ← ix3_eq_valueIdx]; pointwise

/-- The column 64 lanes away. -/
def across (a : Fin 128) : Fin 128 := ⟨(a.val + 64) % 128, Nat.mod_lt _ (by decide)⟩

theorem rotate (x : FVec Ideal S512x128 .f32) (n : Fin 512) (a : Fin 128) :
    dynamicRotate 1 64#32 none x rotates_S512x128_d1 (ix2 n a) = x (ix2 n (across a)) := by
  simp only [← ix2_eq_valueIdx]; pointwise
  exact congrArg x (congrArg (Idealize.ShloMosaic.ix2 n) (Fin.ext (by show (a.val + 128 - 64) % 128 = (a.val + 64) % 128; omega)))

end Ret.Ops
-- ==== Proof.Ret.Fwd.lean ====
/-
  The forward lines of the reference read over the real numbers: the rotated queries and keys, the decay, and the output
  of the retention before its normalization.
-/
module

public import proofs.«01_k».proof.Proof.Gen.ReferenceIdeal.Read
public import proofs.«01_k».proof.Proof.Ret.Lift

@[expose] public section

noncomputable section

open scoped BigOperators
open Idealize.ShloMosaic Idealize.ShloMosaic.ValueIdx

namespace Ret.Ref

open Cert.ReferenceIdeal Cert.ReferenceIdeal.Gen Cert.ReferenceIdeal.Read

/-- The contents of the projection, 8192 rows of 8192 columns. -/
abbrev Big := (⟨S8192x8192, .bf16⟩ : BufTy).Contents (Elt Ideal)
/-- The contents of the cotangent. -/
abbrev Cot := (⟨S8192x512, .bf16⟩ : BufTy).Contents (Elt Ideal)

/-- Column `a` of slot `s` (queries, keys, values, gate) of head `h`. -/
def col (h : Fin 4) (s : Fin 4) (a : Fin 128) : Fin 8192 := ⟨6144 + 512 * h.val + 128 * s.val + a.val, by omega⟩
/-- Column `a` of head `h` of the cotangent. -/
def hcol (h : Fin 4) (a : Fin 128) : Fin 512 := ⟨128 * h.val + a.val, by omega⟩

/-- An entry of one head's slot, as a real number. -/
def X (x0 : Big) (h s : Fin 4) (n : Fin 8192) (a : Fin 128) : ℝ := (x0 (ix2 n (col h s a)) : EReal).toReal
/-- An entry of the cotangent, as a real number. -/
def Y (x1 : Cot) (h : Fin 4) (n : Fin 8192) (a : Fin 128) : ℝ := (x1 (ix2 n (hcol h a)) : EReal).toReal
/-- The cosine table. -/
def Cs (n : Fin 8192) (a : Fin 64) : ℝ := (val_main_v21 (F := Ideal) (ix2 n a) : EReal).toReal
/-- The sine table. -/
def Sn (n : Fin 8192) (a : Fin 64) : ℝ := (val_main_v22 (F := Ideal) (ix2 n a) : EReal).toReal
/-- The logarithm of a head's discount. -/
def La (h : Fin 4) : ℝ := (val_main_v63 (F := Ideal) (ix1 h) : EReal).toReal

/-- The lower half of a column index. -/
def lo (a : Fin 64) : Fin 128 := ⟨a.val, by omega⟩
/-- The upper half of a column index. -/
def hi (a : Fin 64) : Fin 128 := ⟨64 + a.val, by omega⟩

/-- A row rotated by its position's angles. -/
def rot (n : Fin 8192) (u : Fin 128 → ℝ) (a : Fin 128) : ℝ :=
  if h : a.val < 64 then u (lo ⟨a.val, h⟩) * Cs n ⟨a.val, h⟩ - u (hi ⟨a.val, h⟩) * Sn n ⟨a.val, h⟩
  else u (lo ⟨a.val - 64, by omega⟩) * Sn n ⟨a.val - 64, by omega⟩ + u (hi ⟨a.val - 64, by omega⟩) * Cs n ⟨a.val - 64, by omega⟩

/-- The scaled rotated queries. -/
def Q (x0 : Big) (h : Fin 4) (n : Fin 8192) (a : Fin 128) : ℝ := rot n (X x0 h 0 n) a * sc
/-- The rotated keys. -/
def K (x0 : Big) (h : Fin 4) (n : Fin 8192) (a : Fin 128) : ℝ := rot n (X x0 h 1 n) a
/-- The values. -/
def V (x0 : Big) (h : Fin 4) (n : Fin 8192) (a : Fin 128) : ℝ := X x0 h 2 n a

/-- The decayed products of queries and keys. -/
def Pm (x0 : Big) (h : Fin 4) (n m : Fin 8192) : ℝ := (∑ a, Q x0 h n a * K x0 h m a) * D (La h) n m
/-- The retention's output. -/
def O (x0 : Big) (h : Fin 4) (n : Fin 8192) (b : Fin 128) : ℝ := ∑ m, V x0 h m b * Pm x0 h n m

/-! ## The tables are real numbers -/

theorem iota63_eq (i : S63.Idx) : val_main_call0_v4 (F := Ideal) i = (((i 0).val : ℝ) : EReal) :=
  float_word (i 0).val (by have : (i 0).val < 63 := (i 0).isLt; omega)

theorem linspace_re (i : S64.Idx) : Re (val_main_v11 (F := Ideal) i) := by
  have hc0 : ∀ j, Re (val_main_call0_v0 (F := Ideal) j) := fun j => ⟨0, by
    rw [val_main_call0_v0_apply, val_main_cst_apply, Ideal.ofBits_def, lit_zero]⟩
  have hc1 : ∀ j, Re (val_main_call0_v1 (F := Ideal) j) := fun j => ⟨1, by
    rw [val_main_call0_v1_apply, val_main_cst_0_apply, Ideal.ofBits_def, lit_one]⟩
  have h6 : ∀ j, Re (val_main_call0_v6 (F := Ideal) j) := fun j => by
    rw [val_main_call0_v6_apply, val_main_call0_v5_apply, val_main_call0_cst_0_apply, Ideal.ofBits_def, lit_63, iota63_eq,
      Ideal.hostDivf_def, div_ne _ (by norm_num)]
    exact ⟨_, rfl⟩
  have h8 : ∀ j, Re (val_main_call0_v8 (F := Ideal) j) := fun j => ⟨1, by
    rw [val_main_call0_v8_apply, val_main_call0_cst_1_apply, Ideal.ofBits_def, lit_one]⟩
  have h7 : ∀ j, Re (val_main_call0_v7 (F := Ideal) j) := fun j => by
    unfold val_main_call0_v7 shapeCast; exact hc0 _
  have h12 : ∀ j, Re (val_main_call0_v12 (F := Ideal) j) := fun j => by
    unfold val_main_call0_v12 shapeCast; exact hc1 _
  have h15 : ∀ j, Re (val_main_call0_v15 (F := Ideal) j) := fun j => by
    rw [val_main_call0_v15_apply, val_main_call0_v11_apply, val_main_call0_v14_apply, val_main_call0_v10_apply,
      val_main_call0_v13_apply, val_main_call0_v9_apply]
    exact Re.add (Re.mul (h7 _) (Re.sub (h8 _) (h6 _))) (Re.mul (h12 _) (h6 _))
  by_cases h : (i 0).val < 63
  · have e : val_main_v11 (F := Ideal) i = val_main_call0_v15 (F := Ideal) (ix1 (⟨(i 0).val, h⟩ : Fin 63)) :=
      concatenate_pair_apply_left (t := S64) (s₁ := S63) (s₂ := S1) 0 _ _ _ i rfl (ix1 (⟨(i 0).val, h⟩ : Fin 63)) (fun b => match b with | ⟨0, _⟩ => rfl)
    rw [e]; exact h15 _
  · have hi : (i 0).val < 64 := (i 0).isLt
    have e : val_main_v11 (F := Ideal) i = val_main_call0_v16 (F := Ideal) (ix1 (⟨0, Nat.one_pos⟩ : Fin 1)) :=
      concatenate_pair_apply_right (t := S64) (s₁ := S63) (s₂ := S1) 0 _ _ _ i rfl rfl (ix1 (⟨0, Nat.one_pos⟩ : Fin 1))
        (fun b hb => match b with | ⟨0, _⟩ => absurd rfl hb) (by show 0 + 63 = (i 0).val; omega)
    rw [e, val_main_call0_v16_apply]; exact hc1 _

theorem ang_re (i : S8192x64.Idx) : Re (val_main_v20 (F := Ideal) i) := by
  rw [val_main_v20_apply, val_main_v18_apply, val_main_v16_apply, val_main_v19_apply, val_main_v17_apply, val_main_v14_apply,
    val_main_v13_apply, val_main_cst_1_apply, val_main_v12_apply, Ideal.ofBits_def, lit_10000]
  refine Re.mul ?_ ?_
  · exact ⟨_, float_word (i 0).val (i 0).isLt⟩
  · obtain ⟨r, hr⟩ := linspace_re (idx_main_v17 (idx_main_v19 i))
    rw [hr, Ideal.hostNegf_def, Ideal.negf_def, ← EReal.coe_neg]
    exact ⟨_, Ideal.pow_coe_coe _ _⟩

theorem cs_eq (n : Fin 8192) (a : Fin 64) : val_main_v21 (F := Ideal) (ix2 n a) = (Cs n a : EReal) := by
  refine Re.eq ?_
  obtain ⟨r, hr⟩ := ang_re (ix2 n a)
  rw [val_main_v21_apply, hr]; exact ⟨_, Ideal.cos_coe _⟩
theorem sn_eq (n : Fin 8192) (a : Fin 64) : val_main_v22 (F := Ideal) (ix2 n a) = (Sn n a : EReal) := by
  refine Re.eq ?_
  obtain ⟨r, hr⟩ := ang_re (ix2 n a)
  rw [val_main_v22_apply, hr]; exact ⟨_, Ideal.sin_coe _⟩

theorem la_eq (h : Fin 4) : val_main_v63 (F := Ideal) (ix1 h) = (La h : EReal) := by
  refine Re.eq ?_
  rw [val_main_v63_apply, val_main_v62_apply, val_main_v61_apply, val_main_v60_apply, val_main_v59_apply, val_main_v58_apply,
    val_main_v57_apply, val_main_cst_3_apply, val_main_cst_2_apply]
  have e : val_main_v56 (F := Ideal) (ix1 h) = ((h.val : ℝ) : EReal) := float_word h.val (by omega)
  rw [e]
  simp only [Ideal.ofBits_def, lit_ln2, lit_m5, Ideal.subf_def, Ideal.mulf_def]
  rw [← EReal.coe_sub, ← EReal.coe_mul, Ideal.hostUnary_exp_def, Ideal.exp_coe, Ideal.hostNegf_def, Ideal.negf_def,
    ← EReal.coe_neg, Ideal.hostUnary_log1p_def, Ideal.log1p, ← EReal.coe_one, ← EReal.coe_add, Ideal.log_coe, if_neg]
  · exact ⟨_, rfl⟩
  · rw [not_le]
    have : Real.exp (11629080 / 2 ^ 24 * (-5 - (h.val : ℝ))) < 1 := by
      rw [Real.exp_lt_one_iff]
      have : (0 : ℝ) ≤ (h.val : ℝ) := Nat.cast_nonneg _
      nlinarith
    linarith

/-! ## The projection's columns -/

theorem ext1 {a : ℕ} {i : (⟨1, ![a]⟩ : Shape).Idx} {p : Fin a} (h0 : (i 0).val = p.val) : i = ix1 p :=
  funext fun d => Fin.ext (match d with | ⟨0, _⟩ => h0)
theorem ext2 {a b : ℕ} {i : (⟨2, ![a, b]⟩ : Shape).Idx} {p : Fin a} {q : Fin b} (h0 : (i 0).val = p.val)
    (h1 : (i 1).val = q.val) : i = ix2 p q := funext fun d => Fin.ext (match d with | ⟨0, _⟩ => h0 | ⟨1, _⟩ => h1)
theorem ext3 {a b c : ℕ} {i : (⟨3, ![a, b, c]⟩ : Shape).Idx} {p : Fin a} {q : Fin b} {r : Fin c} (h0 : (i 0).val = p.val)
    (h1 : (i 1).val = q.val) (h2 : (i 2).val = r.val) : i = ix3 p q r :=
  funext fun d => Fin.ext (match d with | ⟨0, _⟩ => h0 | ⟨1, _⟩ => h1 | ⟨2, _⟩ => h2)

theorem c2_0 {a b : ℕ} (i : Fin a) (j : Fin b) : ix2 i j 0 = i := rfl
theorem c2_1 {a b : ℕ} (i : Fin a) (j : Fin b) : ix2 i j 1 = j := rfl
theorem c3_0 {a b c : ℕ} (i : Fin a) (j : Fin b) (k : Fin c) : ix3 i j k 0 = i := rfl
theorem c3_1 {a b c : ℕ} (i : Fin a) (j : Fin b) (k : Fin c) : ix3 i j k 1 = j := rfl
theorem c3_2 {a b c : ℕ} (i : Fin a) (j : Fin b) (k : Fin c) : ix3 i j k 2 = k := rfl

variable {x0 : Big} (hx : ∀ i, Re (x0 i))

include hx

theorem v4_eq (n : Fin 8192) (h : Fin 4) (a : Fin 128) : val_main_v4 (F := Ideal) x0 (ix3 n h a) = (X x0 h 0 n a : EReal) := by
  rw [val_main_v4_apply, val_main_v3_apply, val_main_v2_apply, val_main_v1_apply, val_main_v0_apply]
  refine Eq.trans (congrArg x0 (ext2 (p := n) (q := col h 0 a) ?_ ?_)) (hx (ix2 n (col h 0 a))).eq
  · dsimp; simp only [c3_0, c3_1, c3_2]; omega
  · dsimp; simp only [c3_0, c3_1, c3_2, col]; omega

theorem v6_eq (n : Fin 8192) (h : Fin 4) (a : Fin 128) : val_main_v6 (F := Ideal) x0 (ix3 n h a) = (X x0 h 1 n a : EReal) := by
  rw [val_main_v6_apply, val_main_v5_apply, val_main_v2_apply, val_main_v1_apply, val_main_v0_apply]
  refine Eq.trans (congrArg x0 (ext2 (p := n) (q := col h 1 a) ?_ ?_)) (hx (ix2 n (col h 1 a))).eq
  · dsimp; simp only [c3_0, c3_1, c3_2]; omega
  · dsimp; simp only [c3_0, c3_1, c3_2, col]; omega

theorem v8_eq (n : Fin 8192) (h : Fin 4) (a : Fin 128) : val_main_v8 (F := Ideal) x0 (ix3 n h a) = (V x0 h n a : EReal) := by
  rw [val_main_v8_apply, val_main_v7_apply, val_main_v2_apply, val_main_v1_apply, val_main_v0_apply]
  refine Eq.trans (congrArg x0 (ext2 (p := n) (q := col h 2 a) ?_ ?_)) (hx (ix2 n (col h 2 a))).eq
  · dsimp; simp only [c3_0, c3_1, c3_2]; omega
  · dsimp; simp only [c3_0, c3_1, c3_2, col]; omega

theorem v10_eq (n : Fin 8192) (h : Fin 4) (a : Fin 128) : val_main_v10 (F := Ideal) x0 (ix3 n h a) = (X x0 h 3 n a : EReal) := by
  rw [val_main_v10_apply, val_main_v9_apply, val_main_v2_apply, val_main_v1_apply, val_main_v0_apply]
  refine Eq.trans (congrArg x0 (ext2 (p := n) (q := col h 3 a) ?_ ?_)) (hx (ix2 n (col h 3 a))).eq
  · dsimp; simp only [c3_0, c3_1, c3_2]; omega
  · dsimp; simp only [c3_0, c3_1, c3_2, col]; omega

/-! ## Rotation -/

theorem v31_eq (n : Fin 8192) (h : Fin 4) (a : Fin 64) :
    val_main_v31 (F := Ideal) x0 (ix3 n h a) = ((X x0 h 0 n (lo a) * Cs n a - X x0 h 0 n (hi a) * Sn n a : ℝ) : EReal) := by
  rw [val_main_v31_apply, val_main_v28_apply, val_main_v30_apply, val_main_v23_apply, val_main_v24_apply, val_main_v27_apply,
    val_main_v29_apply, val_main_v25_apply, val_main_v26_apply]
  rw [show idx_main_v23 (ix3 n h a) = ix3 n h (lo a) from ext3 rfl rfl rfl,
    show idx_main_v24 (ix3 n h a) = ix3 n h (hi a) from ext3 rfl rfl rfl,
    show idx_main_v25 (idx_main_v27 (ix3 n h a)) = ix2 n a from ext2 rfl rfl,
    show idx_main_v26 (idx_main_v29 (ix3 n h a)) = ix2 n a from ext2 rfl rfl, v4_eq hx, v4_eq hx, cs_eq, sn_eq]
  simp only [Ideal.subf_def, Ideal.mulf_def, EReal.coe_sub, EReal.coe_mul]

theorem v36_eq (n : Fin 8192) (h : Fin 4) (a : Fin 64) :
    val_main_v36 (F := Ideal) x0 (ix3 n h a) = ((X x0 h 0 n (lo a) * Sn n a + X x0 h 0 n (hi a) * Cs n a : ℝ) : EReal) := by
  rw [val_main_v36_apply, val_main_v33_apply, val_main_v35_apply, val_main_v23_apply, val_main_v24_apply, val_main_v32_apply,
    val_main_v34_apply, val_main_v25_apply, val_main_v26_apply]
  rw [show idx_main_v23 (ix3 n h a) = ix3 n h (lo a) from ext3 rfl rfl rfl,
    show idx_main_v24 (ix3 n h a) = ix3 n h (hi a) from ext3 rfl rfl rfl,
    show idx_main_v26 (idx_main_v32 (ix3 n h a)) = ix2 n a from ext2 rfl rfl,
    show idx_main_v25 (idx_main_v34 (ix3 n h a)) = ix2 n a from ext2 rfl rfl, v4_eq hx, v4_eq hx, cs_eq, sn_eq]
  simp only [Ideal.addf_def, Ideal.mulf_def, EReal.coe_add, EReal.coe_mul]

theorem v46_eq (n : Fin 8192) (h : Fin 4) (a : Fin 64) :
    val_main_v46 (F := Ideal) x0 (ix3 n h a) = ((X x0 h 1 n (lo a) * Cs n a - X x0 h 1 n (hi a) * Sn n a : ℝ) : EReal) := by
  rw [val_main_v46_apply, val_main_v43_apply, val_main_v45_apply, val_main_v38_apply, val_main_v39_apply, val_main_v42_apply,
    val_main_v44_apply, val_main_v40_apply, val_main_v41_apply]
  rw [show idx_main_v38 (ix3 n h a) = ix3 n h (lo a) from ext3 rfl rfl rfl,
    show idx_main_v39 (ix3 n h a) = ix3 n h (hi a) from ext3 rfl rfl rfl,
    show idx_main_v40 (idx_main_v42 (ix3 n h a)) = ix2 n a from ext2 rfl rfl,
    show idx_main_v41 (idx_main_v44 (ix3 n h a)) = ix2 n a from ext2 rfl rfl, v6_eq hx, v6_eq hx, cs_eq, sn_eq]
  simp only [Ideal.subf_def, Ideal.mulf_def, EReal.coe_sub, EReal.coe_mul]

theorem v51_eq (n : Fin 8192) (h : Fin 4) (a : Fin 64) :
    val_main_v51 (F := Ideal) x0 (ix3 n h a) = ((X x0 h 1 n (lo a) * Sn n a + X x0 h 1 n (hi a) * Cs n a : ℝ) : EReal) := by
  rw [val_main_v51_apply, val_main_v48_apply, val_main_v50_apply, val_main_v38_apply, val_main_v39_apply, val_main_v47_apply,
    val_main_v49_apply, val_main_v40_apply, val_main_v41_apply]
  rw [show idx_main_v38 (ix3 n h a) = ix3 n h (lo a) from ext3 rfl rfl rfl,
    show idx_main_v39 (ix3 n h a) = ix3 n h (hi a) from ext3 rfl rfl rfl,
    show idx_main_v41 (idx_main_v47 (ix3 n h a)) = ix2 n a from ext2 rfl rfl,
    show idx_main_v40 (idx_main_v49 (ix3 n h a)) = ix2 n a from ext2 rfl rfl, v6_eq hx, v6_eq hx, cs_eq, sn_eq]
  simp only [Ideal.addf_def, Ideal.mulf_def, EReal.coe_add, EReal.coe_mul]

omit hx in
/-- Two halves of 64 columns joined, read at a column. -/
theorem join_eq (x y : S8192x4x64.Idx → EReal) (w : Shape.Concatenates [S8192x4x64, S8192x4x64] S8192x4x128 2)
    (n : Fin 8192) (h : Fin 4) (a : Fin 128) :
    concatenate S8192x4x128 2 [⟨S8192x4x64, x⟩, ⟨S8192x4x64, y⟩] w (ix3 n h a)
      = if h1 : a.val < 64 then x (ix3 n h ⟨a.val, h1⟩) else y (ix3 n h ⟨a.val - 64, by omega⟩) := by
  by_cases h1 : a.val < 64
  · rw [dif_pos h1]
    exact concatenate_pair_apply_left (t := S8192x4x128) (s₁ := S8192x4x64) (s₂ := S8192x4x64) 2 _ _ _ (ix3 n h a) rfl
      (ix3 n h (⟨a.val, h1⟩ : Fin 64)) (fun b => match b with | ⟨0, _⟩ => rfl | ⟨1, _⟩ => rfl | ⟨2, _⟩ => rfl)
  · rw [dif_neg h1]
    exact concatenate_pair_apply_right (t := S8192x4x128) (s₁ := S8192x4x64) (s₂ := S8192x4x64) 2 _ _ _ (ix3 n h a) rfl rfl
      (ix3 n h (⟨a.val - 64, by omega⟩ : Fin 64))
      (fun b hb => match b with | ⟨0, _⟩ => rfl | ⟨1, _⟩ => rfl | ⟨2, _⟩ => absurd rfl hb)
      (by show a.val - 64 + 64 = a.val; omega)

theorem v37_eq (n : Fin 8192) (h : Fin 4) (a : Fin 128) :
    val_main_v37 (F := Ideal) x0 (ix3 n h a) = (rot n (X x0 h 0 n) a : EReal) := by
  unfold val_main_v37
  rw [join_eq]
  unfold rot
  by_cases h1 : a.val < 64
  · rw [dif_pos h1, dif_pos h1, v31_eq hx]
  · rw [dif_neg h1, dif_neg h1, v36_eq hx]

theorem k_eq (n : Fin 8192) (h : Fin 4) (a : Fin 128) :
    val_main_v52 (F := Ideal) x0 (ix3 n h a) = (K x0 h n a : EReal) := by
  unfold val_main_v52
  rw [join_eq]
  unfold K rot
  by_cases h1 : a.val < 64
  · rw [dif_pos h1, dif_pos h1, v46_eq hx]
  · rw [dif_neg h1, dif_neg h1, v51_eq hx]

theorem q_eq (n : Fin 8192) (h : Fin 4) (a : Fin 128) :
    val_main_v83 (F := Ideal) x0 (ix3 n h a) = (Q x0 h n a : EReal) := by
  rw [val_main_v83_apply, v37_eq hx, val_main_v82_apply, val_main_cst_5_apply, Ideal.ofBits_def, lit_sc, Ideal.mulf_def,
    ← EReal.coe_mul]
  rfl

/-! ## The decay and the retention -/

omit hx in
theorem v55_eq (n : Fin 8192) : val_main_v55 (F := Ideal) (ix1 n) = BitVec.ofNat 32 (n.val / 64) :=
  group_eq n.val n.isLt

omit hx in
theorem v75_eq (h : Fin 4) (n m : Fin 8192) :
    val_main_v75 (F := Ideal) (ix3 h n m) = ((Real.exp (La h * |((n.val : ℝ) - (m.val : ℝ))|) : ℝ) : EReal) := by
  rw [val_main_v75_apply, val_main_v74_apply, val_main_v72_apply, val_main_v73_apply, val_main_v71_apply, val_main_v70_apply,
    val_main_v69_apply, val_main_v67_apply, val_main_v68_apply, val_main_v65_apply, val_main_v66_apply, val_main_v64_apply]
  have e0 : val_main_v63 (F := Ideal) (idx_main_v64 (idx_main_v72 (ix3 h n m))) = (La h : EReal) := la_eq h
  have e1 : val_main_v53 (F := Ideal) (idx_main_v65 (idx_main_v67 (idx_main_v71 (idx_main_v73 (ix3 h n m))))) = ((n.val : ℝ) : EReal) :=
    float_word n.val n.isLt
  have e2 : val_main_v53 (F := Ideal) (idx_main_v66 (idx_main_v68 (idx_main_v71 (idx_main_v73 (ix3 h n m))))) = ((m.val : ℝ) : EReal) :=
    float_word m.val m.isLt
  rw [e0, e1, e2, Ideal.subf_def, ← EReal.coe_sub, Ideal.hostAbsf_def, Ideal.absf_def, ← EReal.coe_neg, abs_eq_max_neg,
    Ideal.mulf_def, Ideal.hostUnary_exp_def]
  rw [← EReal.coe_strictMono.monotone.map_max, ← EReal.coe_mul, Ideal.exp_coe]

omit hx in
theorem d_eq (h : Fin 4) (n m : Fin 8192) : val_main_v81 (F := Ideal) (ix3 h n m) = (D (La h) n m : EReal) := by
  rw [val_main_v81_apply, v75_eq, val_main_call2_v1_apply, val_main_v80_apply, val_main_v78_apply, val_main_v79_apply,
    val_main_v76_apply, val_main_v77_apply, val_main_call2_v2_apply, val_main_call2_v0_apply, val_main_cst_4_apply,
    Ideal.ofBits_def, lit_zero]
  have e1 : val_main_v55 (F := Ideal) (idx_main_v76 (idx_main_v78 (idx_main_call2_v1 (ix3 h n m)))) = BitVec.ofNat 32 (m.val / 64) := v55_eq m
  have e2 : val_main_v55 (F := Ideal) (idx_main_v77 (idx_main_v79 (idx_main_call2_v1 (ix3 h n m)))) = BitVec.ofNat 32 (n.val / 64) := v55_eq n
  rw [e1, e2, le_word _ _ (by omega) (by omega), D]
  by_cases hc : m.val / 64 ≤ n.val / 64
  · rw [if_pos hc, if_pos hc]; rfl
  · rw [if_neg hc, if_neg hc]; rfl

theorem p_eq (h : Fin 4) (n m : Fin 8192) : val_main_v85 (F := Ideal) x0 (ix3 h n m) = (Pm x0 h n m : EReal) := by
  rw [val_main_v85_apply, val_main_v84_apply, d_eq, Ideal.mulf_def]
  have e : ∀ a : Fin 128, val_main_v83 (F := Ideal) x0 (lidx_main_v84 (ix3 h n m) a) * val_main_v52 (F := Ideal) x0 (ridx_main_v84 (ix3 h n m) a)
      = ((Q x0 h n a * K x0 h m a : ℝ) : EReal) := fun a => by
    rw [show lidx_main_v84 (ix3 h n m) a = ix3 n h a from ext3 rfl rfl rfl,
      show ridx_main_v84 (ix3 h n m) a = ix3 m h a from ext3 rfl rfl rfl, q_eq hx, k_eq hx, EReal.coe_mul]
  rw [Finset.sum_congr rfl fun a _ => e a, sum_coe, ← EReal.coe_mul]
  rfl

theorem o_eq (n : Fin 8192) (h : Fin 4) (b : Fin 128) : val_main_v87 (F := Ideal) x0 (ix3 n h b) = (O x0 h n b : EReal) := by
  rw [val_main_v87_apply, val_main_v86_apply]
  have e : ∀ m : Fin 8192, val_main_v8 (F := Ideal) x0 (lidx_main_v86 (idx_main_v87 (ix3 n h b)) m)
      * val_main_v85 (F := Ideal) x0 (ridx_main_v86 (idx_main_v87 (ix3 n h b)) m) = ((V x0 h m b * Pm x0 h n m : ℝ) : EReal) := fun m => by
    rw [show lidx_main_v86 (idx_main_v87 (ix3 n h b)) m = ix3 m h b from ext3 rfl rfl rfl,
      show ridx_main_v86 (idx_main_v87 (ix3 n h b)) m = ix3 h n m from ext3 rfl rfl rfl, v8_eq hx, p_eq hx, EReal.coe_mul]
  rw [Finset.sum_congr rfl fun m _ => e m, sum_coe]
  rfl

end Ret.Ref
-- ==== Proof.Ret.Bwd.lean ====
/-
  The backward lines of the reference read over the real numbers: the gradient of the retention's output through its
  normalization and gate, the gradients of the rotated queries and keys and of the values, the rotation undone, and the
  result at every index.
-/
module

public import proofs.«01_k».proof.Proof.Ret.Fwd

@[expose] public section

noncomputable section

open scoped BigOperators
open Idealize.ShloMosaic Idealize.ShloMosaic.ValueIdx

namespace Ret.Ref

open Cert.ReferenceIdeal Cert.ReferenceIdeal.Gen Cert.ReferenceIdeal.Read

/-- The logistic function. -/
def sig (x : ℝ) : ℝ := 1 / (1 + Real.exp (-x))
/-- A row's mean square, with the constant added. -/
def ms (x0 : Big) (h : Fin 4) (n : Fin 8192) : ℝ := (∑ b, O x0 h n b * O x0 h n b) * (1 / 128) + ep
/-- The factor that normalizes a row. -/
def rr (x0 : Big) (h : Fin 4) (n : Fin 8192) : ℝ := (Real.sqrt (ms x0 h n))⁻¹
/-- The gradient of the normalized output. -/
def gy (x0 : Big) (x1 : Cot) (h : Fin 4) (n : Fin 8192) (b : Fin 128) : ℝ :=
  X x0 h 3 n b * sig (X x0 h 3 n b) * Y x1 h n b
/-- The product of a row of the output with its gradient. -/
def tt (x0 : Big) (x1 : Cot) (h : Fin 4) (n : Fin 8192) : ℝ := ∑ b, O x0 h n b * gy x0 x1 h n b
/-- The gradient of the output before its normalization. -/
def G (x0 : Big) (x1 : Cot) (h : Fin 4) (n : Fin 8192) (b : Fin 128) : ℝ :=
  gy x0 x1 h n b * rr x0 h n + 2 * (O x0 h n b * ((tt x0 x1 h n * (-(1 / 2) * (rr x0 h n / ms x0 h n))) * (1 / 128)))
/-- The gradient of the gate. -/
def Dg (x0 : Big) (x1 : Cot) (h : Fin 4) (n : Fin 8192) (b : Fin 128) : ℝ :=
  Y x1 h n b * (O x0 h n b * rr x0 h n) * (sig (X x0 h 3 n b) * (1 + X x0 h 3 n b * (1 - sig (X x0 h 3 n b))))
/-- A row's rotation undone on a gradient. -/
def unrot (n : Fin 8192) (u : Fin 128 → ℝ) (a : Fin 128) : ℝ :=
  if h : a.val < 64 then u (lo ⟨a.val, h⟩) * Cs n ⟨a.val, h⟩ + u (hi ⟨a.val, h⟩) * Sn n ⟨a.val, h⟩
  else u (hi ⟨a.val - 64, by omega⟩) * Cs n ⟨a.val - 64, by omega⟩ - u (lo ⟨a.val - 64, by omega⟩) * Sn n ⟨a.val - 64, by omega⟩
/-- The gradient of the queries. -/
def Dq (x0 : Big) (x1 : Cot) (h : Fin 4) (n : Fin 8192) (a : Fin 128) : ℝ :=
  unrot n (fun a => dq (La h) (K x0 h) (V x0 h) (G x0 x1 h) n a * sc) a
/-- The gradient of the keys. -/
def Dk (x0 : Big) (x1 : Cot) (h : Fin 4) (n : Fin 8192) (a : Fin 128) : ℝ :=
  unrot n (dk (La h) (Q x0 h) (V x0 h) (G x0 x1 h) n) a
/-- The gradient of the values. -/
def Dv (x0 : Big) (x1 : Cot) (h : Fin 4) (n : Fin 8192) (b : Fin 128) : ℝ :=
  dv (La h) (Q x0 h) (K x0 h) (G x0 x1 h) n b

theorem ms_pos (x0 : Big) (h : Fin 4) (n : Fin 8192) : 0 < ms x0 h n :=
  add_pos_of_nonneg_of_pos (mul_nonneg (Finset.sum_nonneg fun b _ => mul_self_nonneg _) (by norm_num)) ep_pos

variable {x0 : Big} (hx : ∀ j, Re (x0 j : EReal)) {x1 : Cot} (hy : ∀ j, Re (x1 j : EReal))

/-! ## Normalization and gate -/

include hx

theorem v94_eq (n : Fin 8192) (h : Fin 4) (z : Fin 1) : val_main_v94 (F := Ideal) x0 (ix3 n h z) = (ms x0 h n : EReal) := by
  rw [val_main_v94_apply, val_main_v92_apply, val_main_v90_apply, val_main_v89_apply, val_main_v91_apply, val_main_v93_apply,
    val_main_cst_6_apply, val_main_cst_7_apply, val_main_cst_8_apply]
  simp only [Ideal.ofBits_def, lit_zero, lit_128, lit_ep, Ideal.addf_def, Ideal.hostDivf_def]
  have e : ∀ b : Fin 128, val_main_v88 (F := Ideal) x0 (idx_main_v89 (idx_main_v90 (ix3 n h z)) b) = ((O x0 h n b * O x0 h n b : ℝ) : EReal) :=
    fun b => by
      rw [show idx_main_v89 (idx_main_v90 (ix3 n h z)) b = ix3 n h b from ext3 rfl rfl rfl, val_main_v88_apply, o_eq hx,
        Ideal.mulf_def, EReal.coe_mul]
  rw [Finset.sum_congr rfl fun b _ => e b, sum_coe, ← EReal.coe_add, div_128, ← EReal.coe_add, zero_add]
  rfl

theorem v95_eq (n : Fin 8192) (h : Fin 4) (z : Fin 1) : val_main_v95 (F := Ideal) x0 (ix3 n h z) = (rr x0 h n : EReal) := by
  rw [val_main_v95_apply, v94_eq hx, Ideal.hostUnary_rsqrt_def, Ideal.rsqrt_coe, if_neg (not_lt.2 (ms_pos x0 h n).le),
    if_neg (ms_pos x0 h n).ne']
  rfl

theorem v100_eq (n : Fin 8192) (h : Fin 4) (b : Fin 128) :
    val_main_v100 (F := Ideal) x0 (ix3 n h b) = ((O x0 h n b * rr x0 h n : ℝ) : EReal) := by
  rw [val_main_v100_apply, val_main_v99_apply, show idx_main_v99 (ix3 n h b) = ix3 n h (0 : Fin 1) from ext3 rfl rfl rfl,
    v95_eq hx, o_eq hx, Ideal.mulf_def, EReal.coe_mul]

omit hx in
/-- Head and column of a joined column. -/
theorem hcol_idx (n : Fin 8192) (h : Fin 4) (b : Fin 128) {i : S8192x4x128.Idx}
    (h0 : (i 0).val = (n.val * 512 + (hcol h b).val) / 512) (h1 : (i 1).val = (n.val * 512 + (hcol h b).val) / 128 % 4)
    (h2 : (i 2).val = (n.val * 512 + (hcol h b).val) % 128) : i = ix3 n h b :=
  ext3 (by rw [h0]; simp only [hcol]; omega) (by rw [h1]; simp only [hcol]; omega) (by rw [h2]; simp only [hcol]; omega)

theorem v101_eq (n : Fin 8192) (h : Fin 4) (b : Fin 128) :
    val_main_v101 (F := Ideal) x0 (ix2 n (hcol h b)) = (X x0 h 3 n b : EReal) := by
  rw [val_main_v101_apply, hcol_idx n h b (i := idx_main_v101 (ix2 n (hcol h b))) rfl rfl rfl, v10_eq hx]

theorem v102_2_eq (n : Fin 8192) (h : Fin 4) (b : Fin 128) :
    val_main_v102_2 (F := Ideal) x0 (ix2 n (hcol h b)) = (sig (X x0 h 3 n b) : EReal) := by
  rw [val_main_v102_2_apply, val_main_call3_v4_apply, val_main_call3_v3_apply, val_main_call3_v2_apply, val_main_call3_v1_apply,
    val_main_call3_v0_apply, v101_eq hx, val_main_call3_cst_apply, val_main_call3_cst_0_apply]
  simp only [Ideal.ofBits_def, lit_one, Ideal.addf_def, Ideal.hostDivf_def, Ideal.hostNegf_def, Ideal.negf_def, Ideal.hostUnary_exp_def]
  rw [← EReal.coe_neg, Ideal.exp_coe, ← EReal.coe_add, div_ne]
  · rfl
  · have := Real.exp_pos (-(X x0 h 3 n b)); positivity

theorem v102_1_eq (n : Fin 8192) (h : Fin 4) (b : Fin 128) :
    val_main_v102_1 (F := Ideal) x0 (ix2 n (hcol h b)) = ((sig (X x0 h 3 n b) * (1 - sig (X x0 h 3 n b)) : ℝ) : EReal) := by
  rw [val_main_v102_1_apply, val_main_call3_v7_apply, val_main_call3_v6_apply, v102_2_eq hx, val_main_call3_cst_1_apply,
    Ideal.ofBits_def, lit_one, Ideal.mulf_def, Ideal.subf_def, EReal.coe_mul, EReal.coe_sub]

theorem v102_0_eq (n : Fin 8192) (h : Fin 4) (b : Fin 128) :
    val_main_v102_0 (F := Ideal) x0 (ix2 n (hcol h b)) = ((X x0 h 3 n b * sig (X x0 h 3 n b) : ℝ) : EReal) := by
  rw [val_main_v102_0_apply, v101_eq hx, v102_2_eq hx, Ideal.mulf_def, EReal.coe_mul]

theorem v103_eq (n : Fin 8192) (h : Fin 4) (b : Fin 128) :
    val_main_v103 (F := Ideal) x0 (ix2 n (hcol h b)) = ((O x0 h n b * rr x0 h n : ℝ) : EReal) := by
  rw [val_main_v103_apply, hcol_idx n h b (i := idx_main_v103 (ix2 n (hcol h b))) rfl rfl rfl, v100_eq hx]

include hy

omit hx in
theorem v105_eq (n : Fin 8192) (h : Fin 4) (b : Fin 128) :
    val_main_v105 (F := Ideal) x1 (ix2 n (hcol h b)) = (Y x1 h n b : EReal) := (hy (ix2 n (hcol h b))).eq

omit hx hy in
theorem flat_idx (n : Fin 8192) (h : Fin 4) (b : Fin 128) {i : S8192x512.Idx}
    (h0 : (i 0).val = ((n.val * 4 + h.val) * 128 + b.val) / 512) (h1 : (i 1).val = ((n.val * 4 + h.val) * 128 + b.val) % 512) :
    i = ix2 n (hcol h b) :=
  ext2 (by rw [h0]; omega) (by rw [h1]; simp only [hcol]; omega)

theorem v108_eq (n : Fin 8192) (h : Fin 4) (b : Fin 128) :
    val_main_v108 (F := Ideal) x0 x1 (ix3 n h b) = (gy x0 x1 h n b : EReal) := by
  rw [val_main_v108_apply, flat_idx n h b (i := idx_main_v108 (ix3 n h b)) rfl rfl, val_main_v106_apply, v102_0_eq hx,
    v105_eq hy, Ideal.mulf_def, ← EReal.coe_mul]
  rfl

theorem v110_eq (n : Fin 8192) (h : Fin 4) (b : Fin 128) :
    val_main_v110 (F := Ideal) x0 x1 (ix3 n h b) = (Dg x0 x1 h n b : EReal) := by
  rw [val_main_v110_apply, flat_idx n h b (i := idx_main_v110 (ix3 n h b)) rfl rfl, val_main_v109_apply, val_main_call4_v1_apply,
    val_main_call4_v2_apply, val_main_call4_v0_apply, val_main_v107_apply, v105_eq hy, v103_eq hx, v102_2_eq hx, v102_1_eq hx,
    v101_eq hx]
  simp only [Ideal.mulf_def, Ideal.addf_def, ← EReal.coe_mul, ← EReal.coe_add]
  exact congrArg Real.toEReal (by unfold Dg; ring)

theorem v113_eq (n : Fin 8192) (h : Fin 4) (z : Fin 1) : val_main_v113 (F := Ideal) x0 x1 (ix3 n h z) = (tt x0 x1 h n : EReal) := by
  rw [val_main_v113_apply]
  rw [show idx_main_v113 (ix3 n h z) = ix2 n h from ext2 (by show ((n.val * 4 + h.val) * 1 + z.val) / 4 = n.val; omega) (by show ((n.val * 4 + h.val) * 1 + z.val) % 4 = h.val; omega)]
  rw [val_main_v112_apply, val_main_cst_10_apply, Ideal.ofBits_def, lit_zero]
  have e : ∀ b : Fin 128, val_main_v111 (F := Ideal) x0 x1 (idx_main_v112 (ix2 n h) b) = ((O x0 h n b * gy x0 x1 h n b : ℝ) : EReal) :=
    fun b => by
      rw [show idx_main_v112 (ix2 n h) b = ix3 n h b from ext3 rfl rfl rfl, val_main_v111_apply, o_eq hx, v108_eq hx hy,
        Ideal.mulf_def, EReal.coe_mul]
  rw [Finset.sum_congr rfl fun b _ => e b, sum_coe, ← EReal.coe_add, zero_add]
  rfl

theorem v119_eq (n : Fin 8192) (h : Fin 4) : val_main_v119 (F := Ideal) x0 x1 (ix2 n h)
    = (((tt x0 x1 h n * (-(1 / 2) * (rr x0 h n / ms x0 h n))) * (1 / 128) : ℝ) : EReal) := by
  rw [val_main_v119_apply, Fin.sum_univ_one, show idx_main_v119 (ix2 n h) 0 = ix3 n h (0 : Fin 1) from ext3 rfl rfl rfl,
    val_main_v118_apply, val_main_v117_apply, val_main_v116_apply, v113_eq hx hy, val_main_v98_apply, val_main_v97_apply,
    val_main_v96_apply, v95_eq hx, v94_eq hx, val_main_cst_12_apply, val_main_cst_11_apply, val_main_cst_9_apply]
  simp only [Ideal.ofBits_def, lit_zero, lit_mhalf, lit_128, Ideal.mulf_def, Ideal.hostDivf_def]
  rw [div_ne _ (ms_pos x0 h n).ne', ← EReal.coe_mul, ← EReal.coe_mul, div_128, ← EReal.coe_add, zero_add]

theorem g_eq (n : Fin 8192) (h : Fin 4) (b : Fin 128) :
    val_main_v124 (F := Ideal) x0 x1 (ix3 n h b) = (G x0 x1 h n b : EReal) := by
  rw [val_main_v124_apply, val_main_v122_apply, val_main_v115_apply, val_main_v121_apply, val_main_v123_apply, val_main_v120_apply,
    val_main_v114_apply, show idx_main_v114 (ix3 n h b) = ix3 n h (0 : Fin 1) from ext3 rfl rfl rfl,
    show idx_main_v120 (ix3 n h b) = ix2 n h from ext2 rfl rfl, v95_eq hx, v108_eq hx hy, o_eq hx, v119_eq hx hy]
  simp only [Ideal.mulf_def, Ideal.addf_def, ← EReal.coe_mul, ← EReal.coe_add]
  exact congrArg Real.toEReal (by unfold G; ring)

/-! ## Values, keys, queries -/

theorem dv_eq (n : Fin 8192) (h : Fin 4) (b : Fin 128) :
    val_main_v128 (F := Ideal) x0 x1 (ix3 n h b) = (Dv x0 x1 h n b : EReal) := by
  rw [val_main_v128_apply, val_main_v127_apply]
  have e : ∀ m : Fin 8192, val_main_v125 (F := Ideal) x0 x1 (lidx_main_v127 (idx_main_v128 (ix3 n h b)) m)
      * val_main_v85 (F := Ideal) x0 (ridx_main_v127 (idx_main_v128 (ix3 n h b)) m)
      = ((((∑ a, Q x0 h m a * K x0 h n a) * D (La h) m n) * G x0 x1 h m b : ℝ) : EReal) := fun m => by
    rw [val_main_v125_apply,
      show idx_main_v125 (lidx_main_v127 (idx_main_v128 (ix3 n h b)) m) = ix3 m h b from ext3 rfl rfl rfl,
      show ridx_main_v127 (idx_main_v128 (ix3 n h b)) m = ix3 h m n from ext3 rfl rfl rfl, g_eq hx hy, p_eq hx, ← EReal.coe_mul,
      mul_comm]
    rfl
  rw [Finset.sum_congr rfl fun m _ => e m, sum_coe]
  rfl

theorem v129_eq (h : Fin 4) (n m : Fin 8192) : val_main_v129 (F := Ideal) x0 x1 (ix3 h n m)
    = (((∑ b, G x0 x1 h n b * V x0 h m b) * D (La h) n m : ℝ) : EReal) := by
  rw [val_main_v129_apply, val_main_v126_apply, d_eq, Ideal.mulf_def]
  have e : ∀ b : Fin 128, val_main_v125 (F := Ideal) x0 x1 (lidx_main_v126 (ix3 h n m) b) * val_main_v8 (F := Ideal) x0 (ridx_main_v126 (ix3 h n m) b)
      = ((G x0 x1 h n b * V x0 h m b : ℝ) : EReal) := fun b => by
    rw [val_main_v125_apply, show idx_main_v125 (lidx_main_v126 (ix3 h n m) b) = ix3 n h b from ext3 rfl rfl rfl,
      show ridx_main_v126 (ix3 h n m) b = ix3 m h b from ext3 rfl rfl rfl, g_eq hx hy, v8_eq hx, EReal.coe_mul]
  rw [Finset.sum_congr rfl fun b _ => e b, sum_coe, ← EReal.coe_mul]

theorem dk_eq (n : Fin 8192) (h : Fin 4) (a : Fin 128) :
    val_main_v131 (F := Ideal) x0 x1 (ix3 n h a) = (dk (La h) (Q x0 h) (V x0 h) (G x0 x1 h) n a : EReal) := by
  rw [val_main_v131_apply, val_main_v130_apply]
  have e : ∀ m : Fin 8192, val_main_v129 (F := Ideal) x0 x1 (lidx_main_v130 (idx_main_v131 (ix3 n h a)) m)
      * val_main_v83 (F := Ideal) x0 (ridx_main_v130 (idx_main_v131 (ix3 n h a)) m)
      = ((((∑ b, G x0 x1 h m b * V x0 h n b) * D (La h) m n) * Q x0 h m a : ℝ) : EReal) := fun m => by
    rw [show lidx_main_v130 (idx_main_v131 (ix3 n h a)) m = ix3 h m n from ext3 rfl rfl rfl,
      show ridx_main_v130 (idx_main_v131 (ix3 n h a)) m = ix3 m h a from ext3 rfl rfl rfl, v129_eq hx hy, q_eq hx, ← EReal.coe_mul]
  rw [Finset.sum_congr rfl fun m _ => e m, sum_coe]
  rfl

theorem dq_eq (n : Fin 8192) (h : Fin 4) (a : Fin 128) :
    val_main_v135 (F := Ideal) x0 x1 (ix3 n h a) = ((dq (La h) (K x0 h) (V x0 h) (G x0 x1 h) n a * sc : ℝ) : EReal) := by
  rw [val_main_v135_apply, val_main_v134_apply, val_main_cst_13_apply, Ideal.ofBits_def, lit_sc, val_main_v133_apply,
    val_main_v132_apply]
  have e : ∀ m : Fin 8192, val_main_v129 (F := Ideal) x0 x1 (lidx_main_v132 (idx_main_v133 (ix3 n h a)) m)
      * val_main_v52 (F := Ideal) x0 (ridx_main_v132 (idx_main_v133 (ix3 n h a)) m)
      = ((((∑ b, G x0 x1 h n b * V x0 h m b) * D (La h) n m) * K x0 h m a : ℝ) : EReal) := fun m => by
    rw [show lidx_main_v132 (idx_main_v133 (ix3 n h a)) m = ix3 h n m from ext3 rfl rfl rfl,
      show ridx_main_v132 (idx_main_v133 (ix3 n h a)) m = ix3 m h a from ext3 rfl rfl rfl, v129_eq hx hy, k_eq hx, ← EReal.coe_mul]
  rw [Finset.sum_congr rfl fun m _ => e m, sum_coe, Ideal.mulf_def, ← EReal.coe_mul]
  rfl

/-! ## The rotation undone -/

omit hx hy in
/-- Two halves of 64 columns, padded to 128 and added, read at a column. -/
theorem pads_eq (x y : S8192x4x64.Idx → EReal) (z z' : S_.Idx → EReal) (hz : ∀ i, z i = 0) (hz' : ∀ i, z' i = 0)
    (w : S8192x4x64.Pads ![0, 0, 64] ![0, 0, 0] ![0, 0, 0] S8192x4x128) (w' : S8192x4x64.Pads ![0, 0, 0] ![0, 0, 64] ![0, 0, 0] S8192x4x128)
    (hu : 0 < S_.numel) (n : Fin 8192) (h : Fin 4) (a : Fin 128) :
    pad S8192x4x128 ![0, 0, 64] ![0, 0, 0] ![0, 0, 0] x z w hu (ix3 n h a)
      + pad S8192x4x128 ![0, 0, 0] ![0, 0, 64] ![0, 0, 0] y z' w' hu (ix3 n h a)
      = if h1 : a.val < 64 then y (ix3 n h ⟨a.val, h1⟩) else x (ix3 n h ⟨a.val - 64, by omega⟩) := by
  by_cases h1 : a.val < 64
  · rw [dif_pos h1,
      pad_apply_of_not_inside ![0, 0, 64] ![0, 0, 0] ![0, 0, 0] x z w hu (ix3 n h a) 2 (fun hc => by
        have : 64 ≤ a.val := hc.1
        omega),
      pad_apply_of_inside ![0, 0, 0] ![0, 0, 64] ![0, 0, 0] y z' w' hu (ix3 n h a) (ix3 n h (⟨a.val, h1⟩ : Fin 64))
        (fun b => match b with
          | ⟨0, _⟩ => by show n.val = 0 + n.val * (0 + 1); omega
          | ⟨1, _⟩ => by show h.val = 0 + h.val * (0 + 1); omega
          | ⟨2, _⟩ => by show a.val = 0 + a.val * (0 + 1); omega), hz, zero_add]
  · rw [dif_neg h1,
      pad_apply_of_not_inside ![0, 0, 0] ![0, 0, 64] ![0, 0, 0] y z' w' hu (ix3 n h a) 2 (fun hc => by
        have : (a.val - 0) / (0 + 1) < 64 := hc.2.2
        omega),
      pad_apply_of_inside ![0, 0, 64] ![0, 0, 0] ![0, 0, 0] x z w hu (ix3 n h a) (ix3 n h (⟨a.val - 64, by omega⟩ : Fin 64))
        (fun b => match b with
          | ⟨0, _⟩ => by show n.val = 0 + n.val * (0 + 1); omega
          | ⟨1, _⟩ => by show h.val = 0 + h.val * (0 + 1); omega
          | ⟨2, _⟩ => by show a.val = 64 + (a.val - 64) * (0 + 1); omega), hz', add_zero]

theorem v145_eq (n : Fin 8192) (h : Fin 4) (a : Fin 64) :
    val_main_v145 (F := Ideal) x0 x1 (ix3 n h a)
      = ((dk (La h) (Q x0 h) (V x0 h) (G x0 x1 h) n (hi a) * Cs n a - dk (La h) (Q x0 h) (V x0 h) (G x0 x1 h) n (lo a) * Sn n a : ℝ) : EReal) := by
  rw [val_main_v145_apply, val_main_v139_apply, val_main_v144_apply, val_main_v142_apply, val_main_v137_apply, val_main_v136_apply,
    val_main_v138_apply, val_main_v143_apply, val_main_v40_apply, val_main_v41_apply,
    show idx_main_v137 (ix3 n h a) = ix3 n h (hi a) from ext3 rfl rfl rfl,
    show idx_main_v136 (ix3 n h a) = ix3 n h (lo a) from ext3 rfl rfl rfl,
    show idx_main_v40 (idx_main_v138 (ix3 n h a)) = ix2 n a from ext2 rfl rfl,
    show idx_main_v41 (idx_main_v143 (ix3 n h a)) = ix2 n a from ext2 rfl rfl, dk_eq hx hy, dk_eq hx hy, cs_eq, sn_eq]
  simp only [Ideal.addf_def, Ideal.mulf_def, Ideal.hostNegf_def, Ideal.negf_def, ← EReal.coe_mul, ← EReal.coe_neg, ← EReal.coe_add]
  exact congrArg Real.toEReal (by ring)

theorem v148_eq (n : Fin 8192) (h : Fin 4) (a : Fin 64) :
    val_main_v148 (F := Ideal) x0 x1 (ix3 n h a)
      = ((dk (La h) (Q x0 h) (V x0 h) (G x0 x1 h) n (lo a) * Cs n a + dk (La h) (Q x0 h) (V x0 h) (G x0 x1 h) n (hi a) * Sn n a : ℝ) : EReal) := by
  rw [val_main_v148_apply, val_main_v141_apply, val_main_v147_apply, val_main_v137_apply, val_main_v136_apply,
    val_main_v140_apply, val_main_v146_apply, val_main_v40_apply, val_main_v41_apply,
    show idx_main_v137 (ix3 n h a) = ix3 n h (hi a) from ext3 rfl rfl rfl,
    show idx_main_v136 (ix3 n h a) = ix3 n h (lo a) from ext3 rfl rfl rfl,
    show idx_main_v40 (idx_main_v146 (ix3 n h a)) = ix2 n a from ext2 rfl rfl,
    show idx_main_v41 (idx_main_v140 (ix3 n h a)) = ix2 n a from ext2 rfl rfl, dk_eq hx hy, dk_eq hx hy, cs_eq, sn_eq]
  simp only [Ideal.addf_def, Ideal.mulf_def, ← EReal.coe_mul, ← EReal.coe_add]
  exact congrArg Real.toEReal (by ring)

theorem v151_eq (n : Fin 8192) (h : Fin 4) (a : Fin 128) :
    val_main_v151 (F := Ideal) x0 x1 (ix3 n h a) = (Dk x0 x1 h n a : EReal) := by
  rw [val_main_v151_apply, Ideal.addf_def]
  unfold val_main_v149 val_main_v150
  rw [pads_eq _ _ _ _ (fun i => by rw [val_main_cst_14_apply, Ideal.ofBits_def, lit_zero]; rfl)
    (fun i => by rw [val_main_cst_15_apply, Ideal.ofBits_def, lit_zero]; rfl)]
  unfold Dk unrot
  by_cases h1 : a.val < 64
  · rw [dif_pos h1, dif_pos h1, v148_eq hx hy]
  · rw [dif_neg h1, dif_neg h1, v145_eq hx hy]

theorem v161_eq (n : Fin 8192) (h : Fin 4) (a : Fin 64) :
    val_main_v161 (F := Ideal) x0 x1 (ix3 n h a)
      = (((dq (La h) (K x0 h) (V x0 h) (G x0 x1 h) n (hi a) * sc) * Cs n a - (dq (La h) (K x0 h) (V x0 h) (G x0 x1 h) n (lo a) * sc) * Sn n a : ℝ) : EReal) := by
  rw [val_main_v161_apply, val_main_v155_apply, val_main_v160_apply, val_main_v158_apply, val_main_v153_apply, val_main_v152_apply,
    val_main_v154_apply, val_main_v159_apply, val_main_v25_apply, val_main_v26_apply,
    show idx_main_v153 (ix3 n h a) = ix3 n h (hi a) from ext3 rfl rfl rfl,
    show idx_main_v152 (ix3 n h a) = ix3 n h (lo a) from ext3 rfl rfl rfl,
    show idx_main_v25 (idx_main_v154 (ix3 n h a)) = ix2 n a from ext2 rfl rfl,
    show idx_main_v26 (idx_main_v159 (ix3 n h a)) = ix2 n a from ext2 rfl rfl, dq_eq hx hy, dq_eq hx hy, cs_eq, sn_eq]
  simp only [Ideal.addf_def, Ideal.mulf_def, Ideal.hostNegf_def, Ideal.negf_def, ← EReal.coe_mul, ← EReal.coe_neg, ← EReal.coe_add]
  exact congrArg Real.toEReal (by ring)

theorem v164_eq (n : Fin 8192) (h : Fin 4) (a : Fin 64) :
    val_main_v164 (F := Ideal) x0 x1 (ix3 n h a)
      = (((dq (La h) (K x0 h) (V x0 h) (G x0 x1 h) n (lo a) * sc) * Cs n a + (dq (La h) (K x0 h) (V x0 h) (G x0 x1 h) n (hi a) * sc) * Sn n a : ℝ) : EReal) := by
  rw [val_main_v164_apply, val_main_v157_apply, val_main_v163_apply, val_main_v153_apply, val_main_v152_apply,
    val_main_v156_apply, val_main_v162_apply, val_main_v25_apply, val_main_v26_apply,
    show idx_main_v153 (ix3 n h a) = ix3 n h (hi a) from ext3 rfl rfl rfl,
    show idx_main_v152 (ix3 n h a) = ix3 n h (lo a) from ext3 rfl rfl rfl,
    show idx_main_v25 (idx_main_v162 (ix3 n h a)) = ix2 n a from ext2 rfl rfl,
    show idx_main_v26 (idx_main_v156 (ix3 n h a)) = ix2 n a from ext2 rfl rfl, dq_eq hx hy, dq_eq hx hy, cs_eq, sn_eq]
  simp only [Ideal.addf_def, Ideal.mulf_def, ← EReal.coe_mul, ← EReal.coe_add]
  exact congrArg Real.toEReal (by ring)

theorem v167_eq (n : Fin 8192) (h : Fin 4) (a : Fin 128) :
    val_main_v167 (F := Ideal) x0 x1 (ix3 n h a) = (Dq x0 x1 h n a : EReal) := by
  rw [val_main_v167_apply, Ideal.addf_def]
  unfold val_main_v165 val_main_v166
  rw [pads_eq _ _ _ _ (fun i => by rw [val_main_cst_16_apply, Ideal.ofBits_def, lit_zero]; rfl)
    (fun i => by rw [val_main_cst_17_apply, Ideal.ofBits_def, lit_zero]; rfl)]
  unfold Dq unrot
  by_cases h1 : a.val < 64
  · rw [dif_pos h1, dif_pos h1, v164_eq hx hy]
  · rw [dif_neg h1, dif_neg h1, v161_eq hx hy]

/-! ## The result -/

/-- The four gradients of a head. -/
def slot (x0 : Big) (x1 : Cot) (h s : Fin 4) (n : Fin 8192) (a : Fin 128) : ℝ :=
  match s with
  | 0 => Dq x0 x1 h n a
  | 1 => Dk x0 x1 h n a
  | 2 => Dv x0 x1 h n a
  | 3 => Dg x0 x1 h n a

omit hx hy in
/-- Four pieces of extent one along the third axis, read at an index. -/
theorem stack_eq (x : Fin 4 → S8192x4x1x128.Idx → EReal)
    (w : Shape.Concatenates (([⟨S8192x4x1x128, x 0⟩, ⟨S8192x4x1x128, x 1⟩, ⟨S8192x4x1x128, x 2⟩, ⟨S8192x4x1x128, x 3⟩] :
      List ((s : Shape) × (s.Idx → EReal))).map (·.1)) S8192x4x4x128 2)
    (n : Fin 8192) (h s : Fin 4) (a : Fin 128) :
    concatenate S8192x4x4x128 2 [⟨S8192x4x1x128, x 0⟩, ⟨S8192x4x1x128, x 1⟩, ⟨S8192x4x1x128, x 2⟩, ⟨S8192x4x1x128, x 3⟩] w (ix4 n h s a)
      = x s (ix4 n h (0 : Fin 1) a) := by
  have hi : ∀ (s : Fin 4) (b : Fin 4), b ≠ 2 → ((ix4 n h (0 : Fin 1) a : S8192x4x1x128.Idx) b).val = ((ix4 n h s a : S8192x4x4x128.Idx) b).val :=
    fun s b hb => match b with | ⟨0, _⟩ => rfl | ⟨1, _⟩ => rfl | ⟨2, _⟩ => absurd rfl hb | ⟨3, _⟩ => rfl
  match s with
  | ⟨0, _⟩ => exact concatenate_apply_piece (t := S8192x4x4x128) 2 _ w (ix4 n h 0 a) 0 (show 0 < 4 by decide) S8192x4x1x128 (x 0) rfl rfl 0 rfl _ (hi 0) rfl
  | ⟨1, _⟩ => exact concatenate_apply_piece (t := S8192x4x4x128) 2 _ w (ix4 n h 1 a) 1 (show 1 < 4 by decide) S8192x4x1x128 (x 1) rfl rfl 1 rfl _ (hi 1) rfl
  | ⟨2, _⟩ => exact concatenate_apply_piece (t := S8192x4x4x128) 2 _ w (ix4 n h 2 a) 2 (show 2 < 4 by decide) S8192x4x1x128 (x 2) rfl rfl 2 rfl _ (hi 2) rfl
  | ⟨3, _⟩ => exact concatenate_apply_piece (t := S8192x4x4x128) 2 _ w (ix4 n h 3 a) 3 (show 3 < 4 by decide) S8192x4x1x128 (x 3) rfl rfl 3 rfl _ (hi 3) rfl

omit hx hy in
theorem ext4 {a b c d : ℕ} {i : (⟨4, ![a, b, c, d]⟩ : Shape).Idx} {p : Fin a} {q : Fin b} {r : Fin c} {s : Fin d} (h0 : (i 0).val = p.val)
    (h1 : (i 1).val = q.val) (h2 : (i 2).val = r.val) (h3 : (i 3).val = s.val) : i = ix4 p q r s :=
  funext fun d => Fin.ext (match d with | ⟨0, _⟩ => h0 | ⟨1, _⟩ => h1 | ⟨2, _⟩ => h2 | ⟨3, _⟩ => h3)

theorem v172_eq (n : Fin 8192) (h s : Fin 4) (a : Fin 128) :
    val_main_v172 (F := Ideal) x0 x1 (ix4 n h s a) = (slot x0 x1 h s n a : EReal) := by
  unfold val_main_v172
  refine (stack_eq (fun s : Fin 4 => match s with
    | 0 => val_main_v168 (F := Ideal) x0 x1
    | 1 => val_main_v169 (F := Ideal) x0 x1
    | 2 => val_main_v170 (F := Ideal) x0 x1
    | 3 => val_main_v171 (F := Ideal) x0 x1) _ n h s a).trans ?_
  match s with
  | 0 => exact (val_main_v168_apply x0 x1 _).trans ((congrArg (val_main_v167 (F := Ideal) x0 x1) (ext3 rfl rfl rfl)).trans (v167_eq hx hy n h a))
  | 1 => exact (val_main_v169_apply x0 x1 _).trans ((congrArg (val_main_v151 (F := Ideal) x0 x1) (ext3 rfl rfl rfl)).trans (v151_eq hx hy n h a))
  | 2 => exact (val_main_v170_apply x0 x1 _).trans ((congrArg (val_main_v128 (F := Ideal) x0 x1) (ext3 rfl rfl rfl)).trans (dv_eq hx hy n h a))
  | 3 => exact (val_main_v171_apply x0 x1 _).trans ((congrArg (val_main_v110 (F := Ideal) x0 x1) (ext3 rfl rfl rfl)).trans (v110_eq hx hy n h a))

/-- **The reference at a column of a head's slot** is that slot's gradient. -/
theorem result_eq (x2 : Big) (n : Fin 8192) (h s : Fin 4) (a : Fin 128) :
    val_main_v176 (F := Ideal) x0 x1 x2 (ix2 n (col h s a)) = (slot x0 x1 h s n a : EReal) := by
  unfold val_main_v176
  have hc : (col h s a).val = 6144 + 512 * h.val + 128 * s.val + a.val := rfl
  obtain ⟨k, hk⟩ : ∃ k : Fin 2048, k.val + 6144 = (col h s a).val := ⟨⟨512 * h.val + 128 * s.val + a.val, by omega⟩, by show 512 * h.val + 128 * s.val + a.val + 6144 = _; omega⟩
  refine (concatenate_pair_apply_right (t := S8192x8192) (s₁ := S8192x6144) (s₂ := S8192x2048) 1 _ _ _ (ix2 n (col h s a)) rfl rfl
    (ix2 n k) (fun b hb => match b with | ⟨0, _⟩ => rfl | ⟨1, _⟩ => absurd rfl hb) hk).trans ?_
  rw [val_main_v175_apply, val_main_v173_apply]
  refine Eq.trans ?_ (v172_eq hx hy n h s a)
  refine congrArg (val_main_v172 (F := Ideal) x0 x1) (ext4 ?_ ?_ ?_ ?_)
  · show (n.val * 2048 + k.val) / 2048 = n.val; omega
  · show (n.val * 2048 + k.val) / 512 % 4 = h.val; omega
  · show (n.val * 2048 + k.val) / 128 % 4 = s.val; omega
  · show (n.val * 2048 + k.val) % 128 = a.val; omega

omit hx hy in
/-- **The reference left of the gradients** is its third argument. -/
theorem result_left (x0 : Big) (x1 : Cot) (x2 : Big) (n : Fin 8192) (c : Fin 8192) (hc : c.val < 6144) :
    val_main_v176 (F := Ideal) x0 x1 x2 (ix2 n c) = x2 (ix2 n c) := by
  unfold val_main_v176
  refine (concatenate_pair_apply_left (t := S8192x8192) (s₁ := S8192x6144) (s₂ := S8192x2048) 1 _ _ _ (ix2 n c) rfl
    (ix2 n (⟨c.val, hc⟩ : Fin 6144)) (fun b => match b with | ⟨0, _⟩ => rfl | ⟨1, _⟩ => rfl)).trans ?_
  rw [val_main_v174_apply]
  exact congrArg x2 (ext2 rfl rfl)

end Ret.Ref
-- ==== Proof.Ret.Body.lean ====
/-
  What the body computes from one block, over the real numbers: given that its input blocks hold the projection's slots,
  the tables, the forward output, the state and the cotangent of block `i` of head `h`, and that the carried buffer holds
  the backward state after the block, its stores are the four gradients of the block and the backward state before it.
-/
module

public import proofs.«01_k».proof.Proof.Ret.Ops
public import proofs.«01_k».proof.Proof.Ret.Bwd

@[expose] public section

set_option maxRecDepth 16384

noncomputable section

open scoped BigOperators
open Idealize.ShloMosaic hiding ix0 ix1 ix2 ix3 ix4
open Idealize.ShloMosaic.ValueIdx (ix1 ix2 ix3 ix4)

namespace Ret.Body

open Cert.KernelIdeal Cert.KernelIdeal.Gen
open Ret.Ref (Big Cot X Y Cs Sn La Q K V O G Dg Dq Dk Dv rot unrot lo hi sig ms ms_pos rr gy tt)
open Ret.Ops

/-- The cosine table over all 128 columns. -/
def CT (n : Fin 8192) (a : Fin 128) : ℝ := if h : a.val < 64 then Cs n ⟨a.val, h⟩ else Cs n ⟨a.val - 64, by omega⟩
/-- The signed sine table over all 128 columns. -/
def ST (n : Fin 8192) (a : Fin 128) : ℝ := if h : a.val < 64 then -Sn n ⟨a.val, h⟩ else Sn n ⟨a.val - 64, by omega⟩

theorem rot_tables (n : Fin 8192) (u : Fin 128 → ℝ) (a : Fin 128) : u a * CT n a + u (across a) * ST n a = rot n u a := by
  unfold CT ST rot
  by_cases h : a.val < 64
  · rw [dif_pos h, dif_pos h, dif_pos h, show across a = hi ⟨a.val, h⟩ from Fin.ext (by show (a.val + 64) % 128 = 64 + a.val; omega),
      show lo ⟨a.val, h⟩ = a from rfl]; ring
  · rw [dif_neg h, dif_neg h, dif_neg h,
      show across a = lo ⟨a.val - 64, by omega⟩ from Fin.ext (by show (a.val + 64) % 128 = a.val - 64; omega),
      show hi ⟨a.val - 64, by omega⟩ = a from Fin.ext (by show 64 + (a.val - 64) = a.val; omega)]; ring

theorem unrot_tables (n : Fin 8192) (u : Fin 128 → ℝ) (a : Fin 128) :
    u a * CT n a + u (across a) * ST n (across a) = unrot n u a := by
  unfold CT ST unrot
  by_cases h : a.val < 64
  · have h2 : ¬ (across a).val < 64 := by show ¬ (a.val + 64) % 128 < 64; omega
    rw [dif_pos h, dif_neg h2, dif_pos h,
      show (⟨(across a).val - 64, by omega⟩ : Fin 64) = ⟨a.val, h⟩ from
        Fin.ext (by show (a.val + 64) % 128 - 64 = a.val; omega),
      show across a = hi ⟨a.val, h⟩ from Fin.ext (by show (a.val + 64) % 128 = 64 + a.val; omega), show lo ⟨a.val, h⟩ = a from rfl]
  · have h2 : (across a).val < 64 := by show (a.val + 64) % 128 < 64; omega
    rw [dif_neg h, dif_pos h2, dif_neg h,
      show (⟨(across a).val, h2⟩ : Fin 64) = ⟨a.val - 64, by omega⟩ from Fin.ext (by show (a.val + 64) % 128 = a.val - 64; omega),
      show across a = lo ⟨a.val - 64, by omega⟩ from Fin.ext (by show (a.val + 64) % 128 = a.val - 64; omega),
      show hi ⟨a.val - 64, by omega⟩ = a from Fin.ext (by show 64 + (a.val - 64) = a.val; omega)]; ring

theorem unrot_scale (n : Fin 8192) (u : Fin 128 → ℝ) (s : ℝ) (a : Fin 128) : unrot n (fun a => u a * s) a = unrot n u a * s := by
  unfold unrot; split <;> ring

variable {x0 : Big} {x1 : Cot} {h : Fin 4} {i : Fin 16}
  {vq vk vv vg : FVec Ideal S512x128 .bf16} {vc vs : FVec Ideal S512x128 .f32} {vm : FVec Ideal S1x512x512 .f32}
  {va vb : FVec Ideal S1x512x128 .f32} {vl : FVec Ideal S1x1x128 .f32} {vo : FVec Ideal S512x128 .f32}
  {vst : FVec Ideal S1x1x128x128 .f32} {vy : FVec Ideal S512x128 .bf16} {vd : FVec Ideal S128x128 .f32}
  (hq : ∀ k a, vq (ix2 k a) = (X x0 h 0 (pos i k) a : EReal)) (hk : ∀ k a, vk (ix2 k a) = (X x0 h 1 (pos i k) a : EReal))
  (hv : ∀ k a, vv (ix2 k a) = (X x0 h 2 (pos i k) a : EReal)) (hg : ∀ k a, vg (ix2 k a) = (X x0 h 3 (pos i k) a : EReal))
  (hc : ∀ k a, vc (ix2 k a) = (CT (pos i k) a : EReal)) (hs : ∀ k a, vs (ix2 k a) = (ST (pos i k) a : EReal))
  (hm : ∀ k k', vm (ix3 (0 : Fin 1) k k') = (M (La h) k k' : EReal))
  (ha : ∀ k a, va (ix3 (0 : Fin 1) k a) = (Real.exp (La h * ((k.val : ℝ) + 1)) : EReal))
  (hb : ∀ k a, vb (ix3 (0 : Fin 1) k a) = (Real.exp (La h * (511 - (k.val : ℝ))) : EReal))
  (hl : ∀ b, vl (ix3 (0 : Fin 1) (0 : Fin 1) b) = (Real.exp (La h * 512) : EReal))
  (ho : ∀ k b, vo (ix2 k b) = (O x0 h (pos i k) b : EReal))
  (hst : ∀ a b, vst (ix4 (0 : Fin 1) (0 : Fin 1) a b) = (st (La h) (K x0 h) (V x0 h) i a b : EReal))
  (hy : ∀ k b, vy (ix2 k b) = (Y x1 h (pos i k) b : EReal))
  (hd : ∀ a b, vd (ix2 a b) = (ds (La h) (Q x0 h) (G x0 x1 h) i a b : EReal))

theorem id_cast (x : FVec Ideal S512x128 .f32) : shapeCast S512x128 x shapeCasts_S512x128_S512x128 = x := shapeCast_self _ _
theorem id_cast' (x : FVec Ideal S128x128 .f32) : shapeCast S128x128 x shapeCasts_S128x128_S128x128 = x := shapeCast_self _ _

section tables
include hc in
theorem pay5 (k : Fin 512) (a : Fin 128) : k0_pay5 (F := Ideal) vc (ix2 k a) = (CT (pos i k) a : EReal) := by
  unfold k0_pay5; rw [id_cast, hc]
include hs in
theorem pay6 (k : Fin 512) (a : Fin 128) : k0_pay6 (F := Ideal) vs (ix2 k a) = (ST (pos i k) a : EReal) := by
  unfold k0_pay6; rw [id_cast, hs]
include hm in
theorem pay7 (k k' : Fin 512) : k0_pay7 (F := Ideal) vm (ix2 k k') = (M (La h) k k' : EReal) := by
  unfold k0_pay7; rw [cast_m, hm]
include ha in
theorem pay8 (k : Fin 512) (a : Fin 128) : k0_pay8 (F := Ideal) va (ix2 k a) = (Real.exp (La h * ((k.val : ℝ) + 1)) : EReal) := by
  unfold k0_pay8; rw [cast_w, ha]
include hb in
theorem pay9 (k : Fin 512) (a : Fin 128) : k0_pay9 (F := Ideal) vb (ix2 k a) = (Real.exp (La h * (511 - (k.val : ℝ))) : EReal) := by
  unfold k0_pay9; rw [cast_w, hb]

include hq hc hs in
theorem pay10 (k : Fin 512) (a : Fin 128) : k0_pay10 (F := Ideal) vc vs vq (ix2 k a) = (Q x0 h (pos i k) a : EReal) := by
  show (vq (ix2 k a) * k0_pay5 (F := Ideal) vc (ix2 k a) + dynamicRotate 1 64#32 none _ rotates_S512x128_d1 (ix2 k a) * k0_pay6 (F := Ideal) vs (ix2 k a))
    * Ideal.ofBits .f32 0x3DB504F3#32 = _
  rw [rotate, pay5 hc, pay6 hs, lit_sc]
  show (vq (ix2 k a) * _ + vq (ix2 k (across a)) * _) * _ = _
  rw [hq, hq, ← EReal.coe_mul, ← EReal.coe_mul, ← EReal.coe_add, rot_tables, ← EReal.coe_mul]
  rfl
include hk hc hs in
theorem pay11 (k : Fin 512) (a : Fin 128) : k0_pay11 (F := Ideal) vc vs vk (ix2 k a) = (K x0 h (pos i k) a : EReal) := by
  show vk (ix2 k a) * k0_pay5 (F := Ideal) vc (ix2 k a) + dynamicRotate 1 64#32 none _ rotates_S512x128_d1 (ix2 k a) * k0_pay6 (F := Ideal) vs (ix2 k a) = _
  rw [rotate, pay5 hc, pay6 hs]
  show vk (ix2 k a) * _ + vk (ix2 k (across a)) * _ = _
  rw [hk, hk, ← EReal.coe_mul, ← EReal.coe_mul, ← EReal.coe_add, rot_tables]
  rfl
include hq hk hc hs hm in
theorem pay14 (k k' : Fin 512) : k0_pay14 (F := Ideal) vc vs vm vq vk (ix2 k k')
    = (((∑ a, Q x0 h (pos i k) a * K x0 h (pos i k') a) * M (La h) k k' : ℝ) : EReal) := by
  show matmul dot_S512x128_S512x128_S512x512_1_1_0_0_n_n none (k0_pay12 (F := Ideal) vc vs vq) (k0_pay13 (F := Ideal) vc vs vk) _ (ix2 k k')
    * k0_pay7 (F := Ideal) vm (ix2 k k') = _
  rw [mm_qk, pay7 hm, Finset.sum_congr rfl fun a _ => show k0_pay12 (F := Ideal) vc vs vq (ix2 k a) * k0_pay13 (F := Ideal) vc vs vk (ix2 k' a)
    = ((Q x0 h (pos i k) a * K x0 h (pos i k') a : ℝ) : EReal) from by
      show k0_pay10 (F := Ideal) vc vs vq (ix2 k a) * k0_pay11 (F := Ideal) vc vs vk (ix2 k' a) = _
      rw [pay10 hq hc hs, pay11 hk hc hs, EReal.coe_mul], sum_coe, EReal.coe_mul]
end tables

/-! ## Normalization and gate -/

section gate
include ho in
theorem pay17 (k : Fin 512) (z : Fin 1) : k0_pay17 (F := Ideal) vo (ix2 k z) = (rr x0 h (pos i k) : EReal) := by
  show Ideal.rsqrt (Ideal.div (shapeCast S512x1 (multiReduction (F := Ideal) .add [1] S512 _ 0x00000000#32 reduces_S512x128_S512 (.inl rfl) rfl)
    shapeCasts_S512_S512x1 (ix2 k z)) (Ideal.ofBits .f32 0x43000000#32) + Ideal.ofBits .f32 0x358637BD#32) = _
  rw [row_sum, lit_128, lit_ep, Finset.sum_congr rfl fun b _ => show mulf (k0_pay16 (F := Ideal) vo) (k0_pay16 (F := Ideal) vo) (ix2 k b)
    = ((O x0 h (pos i k) b * O x0 h (pos i k) b : ℝ) : EReal) from by
      show k0_pay16 (F := Ideal) vo (ix2 k b) * k0_pay16 (F := Ideal) vo (ix2 k b) = _
      unfold k0_pay16
      rw [id_cast, ho, EReal.coe_mul], sum_coe, div_128, ← EReal.coe_add]
  rw [show (∑ b, O x0 h (pos i k) b * O x0 h (pos i k) b) * (1 / 128) + ep = ms x0 h (pos i k) from rfl, Ideal.rsqrt_coe,
    if_neg (not_lt.2 (ms_pos x0 h _).le), if_neg (ms_pos x0 h _).ne']
  rfl
include ho in
theorem pay18 (k : Fin 512) (b : Fin 128) : k0_pay18 (F := Ideal) vo (ix2 k b) = ((O x0 h (pos i k) b * rr x0 h (pos i k) : ℝ) : EReal) := by
  show k0_pay16 (F := Ideal) vo (ix2 k b) * broadcastTo S512x128 (k0_pay17 (F := Ideal) vo) broadcasts_S512x1_S512x128 (ix2 k b) = _
  unfold k0_pay16
  rw [bc_col, pay17 ho, id_cast, ho, EReal.coe_mul]
include hg in
theorem pay20 (k : Fin 512) (b : Fin 128) : k0_pay20 (F := Ideal) vg (ix2 k b) = (sig (X x0 h 3 (pos i k) b) : EReal) := by
  show Ideal.ofBits .f32 0x3F000000#32 * Ideal.tanh (Ideal.ofBits .f32 0x3F000000#32 * vg (ix2 k b)) + Ideal.ofBits .f32 0x3F000000#32 = _
  rw [lit_half, hg, ← EReal.coe_mul, Ideal.tanh_coe, ← EReal.coe_mul, ← EReal.coe_add, sigmoid_tanh]
  rfl
include ho hg hy in
theorem pay22 (k : Fin 512) (b : Fin 128) : k0_pay22 (F := Ideal) vo vg vy (ix2 k b) = (Dg x0 x1 h (pos i k) b : EReal) := by
  show (vy (ix2 k b) * k0_pay18 (F := Ideal) vo (ix2 k b)) * (k0_pay20 (F := Ideal) vg (ix2 k b) * (Ideal.ofBits .f32 0x3F800000#32
    + vg (ix2 k b) * (Ideal.ofBits .f32 0x3F800000#32 - k0_pay20 (F := Ideal) vg (ix2 k b)))) = _
  rw [pay18 ho, pay20 hg, lit_one, hy, hg]
  simp only [← EReal.coe_mul, ← EReal.coe_sub, ← EReal.coe_add]
  rfl
include hg hy in
theorem pay23 (k : Fin 512) (b : Fin 128) : k0_pay23 (F := Ideal) vg vy (ix2 k b) = (gy x0 x1 h (pos i k) b : EReal) := by
  show (vy (ix2 k b) * vg (ix2 k b)) * k0_pay20 (F := Ideal) vg (ix2 k b) = _
  rw [pay20 hg, hy, hg]
  simp only [← EReal.coe_mul]
  rw [show Y x1 h (pos i k) b * X x0 h 3 (pos i k) b * sig (X x0 h 3 (pos i k) b) = gy x0 x1 h (pos i k) b from by unfold gy; ring]
include ho hg hy in
theorem pay24 (k : Fin 512) (z : Fin 1) : k0_pay24 (F := Ideal) vo vg vy (ix2 k z) = ((tt x0 x1 h (pos i k) * rr x0 h (pos i k) * (1 / 128) : ℝ) : EReal) := by
  show Ideal.div (shapeCast S512x1 (multiReduction (F := Ideal) .add [1] S512 _ 0x00000000#32 reduces_S512x128_S512 (.inl rfl) rfl)
    shapeCasts_S512_S512x1 (ix2 k z)) (Ideal.ofBits .f32 0x43000000#32) = _
  rw [row_sum, lit_128, Finset.sum_congr rfl fun b _ => show mulf (k0_pay23 (F := Ideal) vg vy) (k0_pay18 (F := Ideal) vo) (ix2 k b)
    = ((O x0 h (pos i k) b * gy x0 x1 h (pos i k) b * rr x0 h (pos i k) : ℝ) : EReal) from by
      show k0_pay23 (F := Ideal) vg vy (ix2 k b) * k0_pay18 (F := Ideal) vo (ix2 k b) = _
      rw [pay23 hg hy, pay18 ho, ← EReal.coe_mul]; congr 1; ring, sum_coe, div_128, ← Finset.sum_mul]
  rfl
include ho hg hy in
theorem pay25 (k : Fin 512) (b : Fin 128) :
    k0_pay25 (F := Ideal) (k0_pay17 (F := Ideal) vo) (k0_pay18 (F := Ideal) vo) (k0_pay23 (F := Ideal) vg vy) (k0_pay24 (F := Ideal) vo vg vy) (ix2 k b) = (G x0 x1 h (pos i k) b : EReal) := by
  show broadcastTo S512x128 (k0_pay17 (F := Ideal) vo) broadcasts_S512x1_S512x128 (ix2 k b) * (k0_pay23 (F := Ideal) vg vy (ix2 k b)
    - k0_pay18 (F := Ideal) vo (ix2 k b) * broadcastTo S512x128 (k0_pay24 (F := Ideal) vo vg vy) broadcasts_S512x1_S512x128 (ix2 k b)) = _
  rw [bc_col, bc_col, pay17 ho, pay18 ho, pay23 hg hy, pay24 hg ho hy]
  simp only [← EReal.coe_mul, ← EReal.coe_sub]
  exact congrArg ((↑) : ℝ → EReal) (norm_grad (O x0 h (pos i k) b) (gy x0 x1 h (pos i k) b) (tt x0 x1 h (pos i k)) (rr x0 h (pos i k))
    (ms x0 h (pos i k)) (ms_pos x0 h _) rfl _ rfl)
end gate

/-! ## The products -/

include hm hv ho hg hy in
theorem pay27 (k k' : Fin 512) :
    k0_pay27 (F := Ideal) (k0_pay7 (F := Ideal) vm) vv (k0_pay17 (F := Ideal) vo) (k0_pay18 (F := Ideal) vo) (k0_pay23 (F := Ideal) vg vy) (k0_pay24 (F := Ideal) vo vg vy) (ix2 k k')
      = (((∑ b, G x0 x1 h (pos i k) b * V x0 h (pos i k') b) * M (La h) k k' : ℝ) : EReal) := by
  show matmul dot_S512x128_S512x128_S512x512_1_1_0_0_n_n none _ vv _ (ix2 k k') * k0_pay7 (F := Ideal) vm (ix2 k k') = _
  rw [mm_qk, pay7 hm, Finset.sum_congr rfl fun b _ => show _ * _ = ((G x0 x1 h (pos i k) b * V x0 h (pos i k') b : ℝ) : EReal) from by
      rw [pay25 hg ho hy, hv, EReal.coe_mul]; rfl, sum_coe, EReal.coe_mul]

include hk hv hg hc hs hm ha ho hst hy in
/-- The gradient of the scaled rotated queries. -/
theorem pay28 (k : Fin 512) (a : Fin 128) :
    k0_pay28 (F := Ideal) (k0_pay7 (F := Ideal) vm) (k0_pay8 (F := Ideal) va) (k0_pay13 (F := Ideal) vc vs vk) vv (k0_pay17 (F := Ideal) vo) (k0_pay18 (F := Ideal) vo) (k0_pay23 (F := Ideal) vg vy) (k0_pay24 (F := Ideal) vo vg vy) vst (ix2 k a)
      = (dq (La h) (K x0 h) (V x0 h) (G x0 x1 h) (pos i k) a : EReal) := by
  show matmul dot_S512x512_S512x128_S512x128_1_0_0_1_n_n none _ (k0_pay13 (F := Ideal) vc vs vk) _ (ix2 k a)
    + matmul dot_S512x128_S128x128_S512x128_1_1_0_0_n_n none _ _ _ (ix2 k a) * k0_pay8 (F := Ideal) va (ix2 k a) = _
  rw [mm_pk, mm_xs, pay8 ha,
    Finset.sum_congr rfl fun k' _ => show _ * k0_pay13 (F := Ideal) vc vs vk (ix2 k' a)
      = (((∑ b, G x0 x1 h (pos i k) b * V x0 h (pos i k') b) * M (La h) k k' * K x0 h (pos i k') a : ℝ) : EReal) from by
      show _ * k0_pay11 (F := Ideal) vc vs vk (ix2 k' a) = _
      rw [pay27 hv hg hm ho hy, pay11 hk hc hs, ← EReal.coe_mul], sum_coe,
    Finset.sum_congr rfl fun b _ => show k0_pay25 (F := Ideal) _ _ _ _ (ix2 k b) * truncf .bf16 (shapeCast S128x128 vst shapeCasts_S1x1x128x128_S128x128) bitsLt_bf16_f32 (ix2 a b)
      = ((G x0 x1 h (pos i k) b * st (La h) (K x0 h) (V x0 h) i a b : ℝ) : EReal) from by
      show _ * shapeCast S128x128 vst shapeCasts_S1x1x128x128_S128x128 (ix2 a b) = _
      rw [pay25 hg ho hy, cast_s, hst, EReal.coe_mul], sum_coe, ← EReal.coe_mul, ← EReal.coe_add, ← dq_block]

include hq hv hg hc hs hm hb ho hy hd in
/-- The gradient of the rotated keys. -/
theorem pay29 (k : Fin 512) (a : Fin 128) :
    k0_pay29 (F := Ideal) (k0_pay7 (F := Ideal) vm) (k0_pay9 (F := Ideal) vb) (k0_pay12 (F := Ideal) vc vs vq) vv (k0_pay17 (F := Ideal) vo) (k0_pay18 (F := Ideal) vo) (k0_pay23 (F := Ideal) vg vy) (k0_pay24 (F := Ideal) vo vg vy) vd (ix2 k a)
      = (dk (La h) (Q x0 h) (V x0 h) (G x0 x1 h) (pos i k) a : EReal) := by
  show matmul dot_S512x512_S512x128_S512x128_0_0_1_1_n_n none _ (k0_pay12 (F := Ideal) vc vs vq) _ (ix2 k a)
    + matmul dot_S512x128_S128x128_S512x128_1_1_0_0_n_n none _ _ _ (ix2 k a) * k0_pay9 (F := Ideal) vb (ix2 k a) = _
  rw [mm_tk, mm_xs, pay9 hb,
    Finset.sum_congr rfl fun k' _ => show _ * k0_pay12 (F := Ideal) vc vs vq (ix2 k' a)
      = (((∑ b, G x0 x1 h (pos i k') b * V x0 h (pos i k) b) * M (La h) k' k * Q x0 h (pos i k') a : ℝ) : EReal) from by
      show _ * k0_pay10 (F := Ideal) vc vs vq (ix2 k' a) = _
      rw [pay27 hv hg hm ho hy, pay10 hq hc hs, ← EReal.coe_mul], sum_coe,
    Finset.sum_congr rfl fun b _ => show vv (ix2 k b) * k0_pay26 (F := Ideal) vd (ix2 a b)
      = ((V x0 h (pos i k) b * ds (La h) (Q x0 h) (G x0 x1 h) i a b : ℝ) : EReal) from by
      show vv (ix2 k b) * vd (ix2 a b) = _
      rw [hv, hd, EReal.coe_mul]; rfl, sum_coe, ← EReal.coe_mul, ← EReal.coe_add, ← dk_block]

include hq hk hg hc hs hm hb ho hy hd in
/-- The gradient of the values. -/
theorem pay30 (k : Fin 512) (b : Fin 128) :
    k0_pay30 (F := Ideal) (k0_pay9 (F := Ideal) vb) (k0_pay11 (F := Ideal) vc vs vk) (k0_pay15 (F := Ideal) (k0_pay14 (F := Ideal) vc vs vm vq vk)) (k0_pay17 (F := Ideal) vo) (k0_pay18 (F := Ideal) vo) (k0_pay23 (F := Ideal) vg vy)
        (k0_pay24 (F := Ideal) vo vg vy) vd (ix2 k b)
      = (dv (La h) (Q x0 h) (K x0 h) (G x0 x1 h) (pos i k) b : EReal) := by
  show matmul dot_S512x512_S512x128_S512x128_0_0_1_1_n_n none _ _ _ (ix2 k b)
    + matmul dot_S512x128_S128x128_S512x128_1_0_0_1_n_n none _ _ _ (ix2 k b) = _
  rw [mm_tk, mm_ks,
    Finset.sum_congr rfl fun k' _ => show k0_pay15 (F := Ideal) (k0_pay14 (F := Ideal) vc vs vm vq vk) (ix2 k' k) * _
      = (((∑ a, Q x0 h (pos i k') a * K x0 h (pos i k) a) * M (La h) k' k * G x0 x1 h (pos i k') b : ℝ) : EReal) from by
      show k0_pay14 (F := Ideal) vc vs vm vq vk (ix2 k' k) * _ = _
      rw [pay14 hq hk hc hs hm, pay25 hg ho hy, ← EReal.coe_mul], sum_coe,
    Finset.sum_congr rfl fun a _ => show truncf .bf16 (mulf (k0_pay11 (F := Ideal) vc vs vk) (k0_pay9 (F := Ideal) vb)) bitsLt_bf16_f32 (ix2 k a) * k0_pay26 (F := Ideal) vd (ix2 a b)
      = ((K x0 h (pos i k) a * Real.exp (La h * (511 - (k.val : ℝ))) * ds (La h) (Q x0 h) (G x0 x1 h) i a b : ℝ) : EReal) from by
      show (k0_pay11 (F := Ideal) vc vs vk (ix2 k a) * k0_pay9 (F := Ideal) vb (ix2 k a)) * vd (ix2 a b) = _
      rw [pay11 hk hc hs, pay9 hb, hd, ← EReal.coe_mul, ← EReal.coe_mul], sum_coe, ← EReal.coe_add, ← dv_block]

include hq hg hc hs ha hl ho hy hd in
/-- The carried buffer after the body: the backward state before the block. -/
theorem pay31 (j : Fin 16) (hj : j.val + 1 = i.val) (a b : Fin 128) :
    k0_pay31 (F := Ideal) (k0_pay8 (F := Ideal) va) (k0_pay10 (F := Ideal) vc vs vq) (k0_pay17 (F := Ideal) vo) (k0_pay18 (F := Ideal) vo) (k0_pay23 (F := Ideal) vg vy) (k0_pay24 (F := Ideal) vo vg vy) vd vl (ix2 a b)
      = (ds (La h) (Q x0 h) (G x0 x1 h) j a b : EReal) := by
  unfold k0_pay31
  rw [id_cast']
  show vd (ix2 a b) * broadcastTo S128x128 (shapeCast S1x128 vl shapeCasts_S1x1x128_S1x128) broadcasts_S1x128_S128x128 (ix2 a b)
    + matmul dot_S512x128_S512x128_S128x128_0_0_1_1_n_n none _ _ _ (ix2 a b) = _
  rw [mm_st, bc_row, cast_g, hl, hd,
    Finset.sum_congr rfl fun k _ => show truncf .bf16 (mulf (k0_pay10 (F := Ideal) vc vs vq) (k0_pay8 (F := Ideal) va)) bitsLt_bf16_f32 (ix2 k a) * _
      = ((Q x0 h (pos i k) a * Real.exp (La h * ((k.val : ℝ) + 1)) * G x0 x1 h (pos i k) b : ℝ) : EReal) from by
      show (k0_pay10 (F := Ideal) vc vs vq (ix2 k a) * k0_pay8 (F := Ideal) va (ix2 k a)) * _ = _
      rw [pay10 hq hc hs, pay8 ha, pay25 hg ho hy, ← EReal.coe_mul, ← EReal.coe_mul], sum_coe, ← EReal.coe_mul, ← EReal.coe_add,
    ← ds_step _ _ _ i j hj]

/-! ## The stores -/

include hk hv hg hc hs hm ha ho hst hy in
theorem store_q (k : Fin 512) (a : Fin 128) :
    k0_pay1 (F := Ideal) (k0_pay5 (F := Ideal) vc) (k0_pay6 (F := Ideal) vs) (k0_pay28 (F := Ideal) (k0_pay7 (F := Ideal) vm) (k0_pay8 (F := Ideal) va) (k0_pay13 (F := Ideal) vc vs vk) vv (k0_pay17 (F := Ideal) vo) (k0_pay18 (F := Ideal) vo)
        (k0_pay23 (F := Ideal) vg vy) (k0_pay24 (F := Ideal) vo vg vy) vst) (ix2 k a) = (Dq x0 x1 h (pos i k) a : EReal) := by
  unfold k0_pay1
  show (k0_pay28 (F := Ideal) _ _ _ _ _ _ _ _ _ (ix2 k a) * k0_pay5 (F := Ideal) vc (ix2 k a) + dynamicRotate 1 64#32 none _ rotates_S512x128_d1 (ix2 k a))
    * Ideal.ofBits .f32 0x3DB504F3#32 = _
  rw [rotate]
  show (_ + k0_pay28 (F := Ideal) _ _ _ _ _ _ _ _ _ (ix2 k (across a)) * k0_pay6 (F := Ideal) vs (ix2 k (across a))) * _ = _
  rw [pay28 hk hv hg hc hs hm ha ho hst hy, pay28 hk hv hg hc hs hm ha ho hst hy, pay5 hc, pay6 hs, lit_sc, ← EReal.coe_mul, ← EReal.coe_mul,
    ← EReal.coe_add, ← EReal.coe_mul, unrot_tables]
  rw [← unrot_scale]; rfl

include hq hv hg hc hs hm hb ho hy hd in
theorem store_k (k : Fin 512) (a : Fin 128) :
    k0_pay2 (F := Ideal) (k0_pay5 (F := Ideal) vc) (k0_pay6 (F := Ideal) vs) (k0_pay29 (F := Ideal) (k0_pay7 (F := Ideal) vm) (k0_pay9 (F := Ideal) vb) (k0_pay12 (F := Ideal) vc vs vq) vv (k0_pay17 (F := Ideal) vo) (k0_pay18 (F := Ideal) vo)
        (k0_pay23 (F := Ideal) vg vy) (k0_pay24 (F := Ideal) vo vg vy) vd) (ix2 k a) = (Dk x0 x1 h (pos i k) a : EReal) := by
  unfold k0_pay2
  show k0_pay29 (F := Ideal) _ _ _ _ _ _ _ _ _ (ix2 k a) * k0_pay5 (F := Ideal) vc (ix2 k a) + dynamicRotate 1 64#32 none _ rotates_S512x128_d1 (ix2 k a) = _
  rw [rotate]
  show _ + k0_pay29 (F := Ideal) _ _ _ _ _ _ _ _ _ (ix2 k (across a)) * k0_pay6 (F := Ideal) vs (ix2 k (across a)) = _
  rw [pay29 hq hv hg hc hs hm hb ho hy hd, pay29 hq hv hg hc hs hm hb ho hy hd, pay5 hc, pay6 hs, ← EReal.coe_mul, ← EReal.coe_mul,
    ← EReal.coe_add, unrot_tables]
  rfl

end Ret.Body
-- ==== Proof.Ret.HostB.lean ====
/-
  The tables the kernel is given, read over the real numbers.
-/
module

public import proofs.«01_k».proof.Proof.Ret.HostA
public import proofs.«01_k».proof.Proof.Ret.Body
public import Idealize.ShloMosaic.Lib.StableHlo.ReadAt

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Ret.Host

open Cert.KernelIdeal Cert.KernelIdeal.Gen
open Cert.ReferenceIdeal.Read
open Ret.Ref Ret.Body

/-- The logarithm of a head's discount, as the lines compute it. -/
theorem la_line (h : Fin 4) :
    Ideal.log1p (-Ideal.exp (Ideal.ofBits .f32 1060205080#32 *
      (Ideal.ofBits .f32 3231711232#32 - FloatOps.sitofp (F := Ideal) .f32 (BitVec.ofNat 32 h.val)))) = (La h : EReal) := by
  rw [← la_eq h]
  rfl

/-- Whether a group comes no later than another, as a float. -/
theorem not_later (a b : Fin 512) :
    FloatOps.uitofp (F := Ideal) .f32 (IntOp.cmpi .sle (group (BitVec.ofNat 32 b.val)) (group (BitVec.ofNat 32 a.val)))
      = (((if b.val / 64 ≤ a.val / 64 then 1 else 0 : ℝ)) : EReal) := by
  rw [group_eq _ (by omega), group_eq _ (by omega), le_word _ _ (by omega) (by omega)]
  by_cases hc : b.val / 64 ≤ a.val / 64
  · rw [if_pos hc, if_pos hc]
    show ((((1#1 : BitVec 1).toNat : ℝ)) : EReal) = _
    norm_num
  · rw [if_neg hc, if_neg hc]
    show ((((0#1 : BitVec 1).toNat : ℝ)) : EReal) = _
    norm_num

variable (m : (ℓ : Loc nD τ sig) → Buf (Elt Ideal) ℓ) (c : Dev nD)

theorem v196_at (h : Fin 4) (z : Fin 1) (b : Fin 128) :
    (Gen.V m c main_v196 : FVec Ideal S4x1x128 .f32) (ix3 h z b) = (Real.exp (La h * 512) : EReal) := by
  simp only [← ix3_eq_valueIdx]
  after_reads_at
  rw [la_line, lit_512, ← EReal.coe_mul, Ideal.exp_coe]

theorem v192_at (h : Fin 4) (k : Fin 512) (b : Fin 128) :
    (Gen.V m c main_v192 : FVec Ideal S4x512x128 .f32) (ix3 h k b) = (Real.exp (La h * ((k.val : ℝ) + 1)) : EReal) := by
  simp only [← ix3_eq_valueIdx]
  after_reads_at
  rw [la_line, float_word _ (by omega), ← EReal.coe_one, ← EReal.coe_add, ← EReal.coe_mul, Ideal.exp_coe]

theorem v194_at (h : Fin 4) (k : Fin 512) (b : Fin 128) :
    (Gen.V m c main_v194 : FVec Ideal S4x512x128 .f32) (ix3 h k b) = (Real.exp (La h * (511 - (k.val : ℝ))) : EReal) := by
  simp only [← ix3_eq_valueIdx]
  after_reads_at
  rw [la_line, lit_511, float_word _ (by omega), ← EReal.coe_sub, ← EReal.coe_mul, Ideal.exp_coe]

theorem v178_at (h : Fin 4) (k k' : Fin 512) :
    (Gen.V m c main_v178 : FVec Ideal S4x512x512 .f32) (ix3 h k k') = (M (La h) k k' : EReal) := by
  have e : (Gen.V m c main_v178 : FVec Ideal S4x512x512 .f32) (ix3 h k k')
      = Ideal.exp ((La h : EReal) * FloatOps.absf (F := Ideal) (φ := .f32)
          (FloatOps.sitofp (F := Ideal) .f32 (BitVec.ofNat 32 k.val) - FloatOps.sitofp (F := Ideal) .f32 (BitVec.ofNat 32 k'.val)))
        * FloatOps.uitofp (F := Ideal) .f32 (IntOp.cmpi .sle (group (BitVec.ofNat 32 k'.val)) (group (BitVec.ofNat 32 k.val))) := by
    rw [← la_line]
    simp only [← ix3_eq_valueIdx]
    after_reads_at
    rfl
  rw [e, not_later, float_word _ (by omega), float_word _ (by omega), ← EReal.coe_sub, Ideal.absf_def, ← EReal.coe_neg,
    ← EReal.coe_strictMono.monotone.map_max, ← abs_eq_max_neg, ← EReal.coe_mul, Ideal.exp_coe, ← EReal.coe_mul]
  rfl

variable {m c}

theorem v88_at (hx : ∀ j, Re (m ((c : Thread nD τ).loc main_arg0) j)) (n : Fin 8192) (h : Fin 4) (b : Fin 128) :
    (Gen.V m c main_v88 : FVec Ideal S8192x512 .f32) (ix2 n (hcol h b)) = (O (m ((c : Thread nD τ).loc main_arg0)) h n b : EReal) := by
  rw [v88_term, ← o_eq hx n h b]
  exact shapeCast_apply _ _ _ (ix3 n h b) (by
    rw [Shape.rowMajor_val_three, Shape.rowMajor_val_two]; show (n.val * 4 + h.val) * 128 + b.val = n.val * 512 + (128 * h.val + b.val); omega)

theorem v197_at (n : Fin 8192) (a : Fin 128) :
    (Gen.V m c main_v197 : FVec Ideal S8192x128 .f32) (ix2 n a) = (CT n a : EReal) := by
  rw [v197_term]
  unfold CT
  by_cases h : a.val < 64
  · rw [dif_pos h, ← cs_eq]
    exact concatenate_pair_apply_left (t := S8192x128) (s₁ := S8192x64) (s₂ := S8192x64) 1 _ _ _ (ix2 n a) rfl (ix2 n (⟨a.val, h⟩ : Fin 64))
      (fun b => match b with | ⟨0, _⟩ => rfl | ⟨1, _⟩ => rfl)
  · rw [dif_neg h, ← cs_eq]
    exact concatenate_pair_apply_right (t := S8192x128) (s₁ := S8192x64) (s₂ := S8192x64) 1 _ _ _ (ix2 n a) rfl rfl
      (ix2 n (⟨a.val - 64, by omega⟩ : Fin 64))
      (fun b hb => match b with | ⟨0, _⟩ => rfl | ⟨1, _⟩ => absurd rfl hb) (by show a.val - 64 + 64 = a.val; omega)

theorem v199_at (n : Fin 8192) (a : Fin 128) :
    (Gen.V m c main_v199 : FVec Ideal S8192x128 .f32) (ix2 n a) = (Body.ST n a : EReal) := by
  rw [v199_term]
  unfold Body.ST
  by_cases h : a.val < 64
  · rw [dif_pos h, EReal.coe_neg, ← sn_eq]
    exact concatenate_pair_apply_left (t := S8192x128) (s₁ := S8192x64) (s₂ := S8192x64) 1 _ _ _ (ix2 n a) rfl (ix2 n (⟨a.val, h⟩ : Fin 64))
      (fun b => match b with | ⟨0, _⟩ => rfl | ⟨1, _⟩ => rfl)
  · rw [dif_neg h, ← sn_eq]
    exact concatenate_pair_apply_right (t := S8192x128) (s₁ := S8192x64) (s₂ := S8192x64) 1 _ _ _ (ix2 n a) rfl rfl
      (ix2 n (⟨a.val - 64, by omega⟩ : Fin 64))
      (fun b hb => match b with | ⟨0, _⟩ => rfl | ⟨1, _⟩ => absurd rfl hb) (by show a.val - 64 + 64 = a.val; omega)

/-- A weight of the states. -/
theorem weights_at (h : Fin 4) (i : Fin 16) (n : Fin 8192) : weights (ix3 h i n) = (w (La h) i n : EReal) := by
  have e : weights (ix3 h i n) = Scalar.select
      (FloatOps.cmpf (F := Ideal) (φ := .f32) .olt (FloatOps.sitofp (F := Ideal) .f32 (BitVec.ofNat 32 n.val))
        (FloatOps.sitofp (F := Ideal) .f32 (BitVec.ofNat 32 i.val) * Ideal.ofBits .f32 0x44000000#32))
      (Ideal.exp (val_main_v63 (F := Ideal) (ix1 h)
        * (FloatOps.sitofp (F := Ideal) .f32 (BitVec.ofNat 32 i.val) * Ideal.ofBits .f32 0x44000000#32
            - Ideal.ofBits .f32 0x3F800000#32 - FloatOps.sitofp (F := Ideal) .f32 (BitVec.ofNat 32 n.val))))
      (Ideal.ofBits .f32 0x00000000#32) := rfl
  rw [e, la_eq, float_word _ (by omega), float_word _ (by omega), lit_512, lit_one, lit_zero, ← EReal.coe_mul, ← EReal.coe_sub,
    ← EReal.coe_sub, ← EReal.coe_mul, Ideal.exp_coe, Ideal.cmpf_def, w]
  by_cases hc : n.val < 512 * i.val
  · have h1 : ((n.val : ℝ) : EReal) < (((i.val : ℝ) * 512 : ℝ) : EReal) := by
      rw [EReal.coe_lt_coe_iff]
      have : ((n.val : ℝ)) < ((512 * i.val : ℕ) : ℝ) := Nat.cast_lt.2 hc
      push_cast at this; linarith
    rw [if_pos hc]
    simp only [Ideal.cmp, h1, Scalar.select]
    simp
  · have h1 : ¬ ((n.val : ℝ) : EReal) < (((i.val : ℝ) * 512 : ℝ) : EReal) := by
      rw [EReal.coe_lt_coe_iff, not_lt]
      have : ((512 * i.val : ℕ) : ℝ) ≤ ((n.val : ℝ)) := Nat.cast_le.2 (not_lt.1 hc)
      push_cast at this; linarith
    rw [if_neg hc]
    simp only [Ideal.cmp, h1, Scalar.select]
    simp

/-- The state before a block. -/
theorem v127_at (hx : ∀ j, Re (m ((c : Thread nD τ).loc main_arg0) j)) (i : Fin 16) (h : Fin 4) (a b : Fin 128) :
    (Gen.V m c main_v127 : FVec Ideal S16x4x128x128 .f32) (ix4 i h a b)
      = (st (La h) (K (m ((c : Thread nD τ).loc main_arg0)) h) (Ref.V (m ((c : Thread nD τ).loc main_arg0)) h) i a b : EReal) := by
  have key : ∑ n : Fin 8192, (val_main_v8 (F := Ideal) (m ((c : Thread nD τ).loc main_arg0)) (ix3 n h b) : EReal)
        * (weights (ix3 h i n) * val_main_v52 (F := Ideal) (m ((c : Thread nD τ).loc main_arg0)) (ix3 n h a))
      = (st (La h) (K (m ((c : Thread nD τ).loc main_arg0)) h) (Ref.V (m ((c : Thread nD τ).loc main_arg0)) h) i a b : EReal) := by
    unfold st
    rw [← sum_coe]
    refine Finset.sum_congr rfl fun n _ => ?_
    rw [v8_eq hx, k_eq hx, weights_at, ← EReal.coe_mul, ← EReal.coe_mul, mul_comm]
  rw [v127_term]
  simp only [← ix4_eq_valueIdx]
  pointwise
  exact key

end Ret.Host
-- ==== Proof.Ret.Points.lean ====
/-
  What a grid point of the kernel reads: point `t` works on head `t / 16` and on block `15 - t % 16`, the blocks of one
  head in falling order.
-/
module

public import proofs.«01_k».proof.Proof.Ret.HostB
public import Idealize.ShloMosaic.Lib.Pipeline.ValueKit

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Ret.Grid

open Cert.KernelIdeal Cert.KernelIdeal.Gen
open Ret.Ref Ret.Body

/-- Where each window of a grid point stands. -/
theorem idx : ∀ t : Fin cfg0.N, win0_0.index t = ![15 - t.val % 16, 12 + t.val / 16] ∧ win0_1.index t = ![15 - t.val % 16, 0]
    ∧ win0_2.index t = ![15 - t.val % 16, 0] ∧ win0_3.index t = ![t.val / 16, 0, 0] ∧ win0_4.index t = ![t.val / 16, 0, 0]
    ∧ win0_5.index t = ![t.val / 16, 0, 0] ∧ win0_6.index t = ![t.val / 16, 0, 0]
    ∧ win0_7.index t = ![15 - t.val % 16, t.val / 16] ∧ win0_8.index t = ![15 - t.val % 16, t.val / 16, 0, 0]
    ∧ win0_9.index t = ![15 - t.val % 16, t.val / 16] ∧ win0_10.index t = ![15 - t.val % 16, 12 + t.val / 16] :=
  (by decide +kernel : ∀ t : Fin grid0.N, win0_0.index t = ![15 - t.val % 16, 12 + t.val / 16] ∧ win0_1.index t = ![15 - t.val % 16, 0]
    ∧ win0_2.index t = ![15 - t.val % 16, 0] ∧ win0_3.index t = ![t.val / 16, 0, 0] ∧ win0_4.index t = ![t.val / 16, 0, 0]
    ∧ win0_5.index t = ![t.val / 16, 0, 0] ∧ win0_6.index t = ![t.val / 16, 0, 0]
    ∧ win0_7.index t = ![15 - t.val % 16, t.val / 16] ∧ win0_8.index t = ![15 - t.val % 16, t.val / 16, 0, 0]
    ∧ win0_9.index t = ![15 - t.val % 16, t.val / 16] ∧ win0_10.index t = ![15 - t.val % 16, 12 + t.val / 16])

theorem points (t : Fin cfg0.N) : t.val < 64 := t.isLt

/-- The head a point works on. -/
def hd (t : Fin cfg0.N) : Fin 4 := ⟨t.val / 16, by have := points t; omega⟩
/-- The block a point works on. -/
def bk (t : Fin cfg0.N) : Fin 16 := ⟨15 - t.val % 16, by omega⟩

theorem hd_val (t : Fin cfg0.N) : (hd t).val = t.val / 16 := rfl
theorem bk_val (t : Fin cfg0.N) : (bk t).val = 15 - t.val % 16 := rfl

/-- Column `j` of a head's four slots. -/
def wide (h : Fin 4) (j : Fin 512) : Fin 8192 := ⟨6144 + 512 * h.val + j.val, by omega⟩
theorem wide_val (h : Fin 4) (j : Fin 512) : (wide h j).val = 6144 + 512 * h.val + j.val := rfl
theorem hcol_val (h : Fin 4) (a : Fin 128) : (hcol h a).val = 128 * h.val + a.val := rfl

variable (m : (ℓ : Loc nD τ sig) → Buf (Elt Ideal) ℓ) (c : Dev nD) (t : Fin cfg0.N)

theorem big_at (k j : Fin 512) : (iblk m c 0 t : FVec Ideal S512x512 .bf16) (ix2 k j)
    = (m ((c : Thread nD τ).loc main_arg0) : FVec Ideal S8192x8192 .bf16) (ix2 (pos (bk t) k) (wide (hd t) j)) := by
  rw [← Gen.V_main_arg0 m c]
  refine congrArg (Gen.V m c main_arg0) (ext2 (p := pos (bk t) k) (q := wide (hd t) j) ?_ ?_) <;>
    · blk_simp [idx t]; try simp only [c2_0, c2_1, c3_0, c3_1, c3_2, pos_val, bk_val, hd_val, wide_val, hcol_val]; try (first | omega | rfl)

theorem cos_at (k : Fin 512) (a : Fin 128) : (iblk m c 1 t : FVec Ideal S512x128 .f32) (ix2 k a) = (CT (pos (bk t) k) a : EReal) := by
  rw [← Host.v197_at (m := m) (c := c)]
  refine congrArg (Gen.V m c main_v197) (ext2 (p := pos (bk t) k) (q := a) ?_ ?_) <;>
    · blk_simp [idx t]; try simp only [c2_0, c2_1, c3_0, c3_1, c3_2, pos_val, bk_val, hd_val, wide_val, hcol_val]; try (first | omega | rfl)

theorem sin_at (k : Fin 512) (a : Fin 128) : (iblk m c 2 t : FVec Ideal S512x128 .f32) (ix2 k a) = (Body.ST (pos (bk t) k) a : EReal) := by
  rw [← Host.v199_at (m := m) (c := c)]
  refine congrArg (Gen.V m c main_v199) (ext2 (p := pos (bk t) k) (q := a) ?_ ?_) <;>
    · blk_simp [idx t]; try simp only [c2_0, c2_1, c3_0, c3_1, c3_2, pos_val, bk_val, hd_val, wide_val, hcol_val]; try (first | omega | rfl)

theorem mask_at (k k' : Fin 512) : (iblk m c 3 t : FVec Ideal S1x512x512 .f32) (ix3 (0 : Fin 1) k k') = (M (La (hd t)) k k' : EReal) := by
  rw [← Host.v178_at m c]
  refine congrArg (Gen.V m c main_v178) (ext3 (p := hd t) (q := k) (r := k') ?_ ?_ ?_) <;>
    · blk_simp [idx t]; try simp only [c2_0, c2_1, c3_0, c3_1, c3_2, pos_val, bk_val, hd_val, wide_val, hcol_val]; try (first | omega | rfl)

theorem fore_at (k : Fin 512) (a : Fin 128) : (iblk m c 4 t : FVec Ideal S1x512x128 .f32) (ix3 (0 : Fin 1) k a)
    = (Real.exp (La (hd t) * ((k.val : ℝ) + 1)) : EReal) := by
  rw [← Host.v192_at m c (hd t) k a]
  refine congrArg (Gen.V m c main_v192) (ext3 (p := hd t) (q := k) (r := a) ?_ ?_ ?_) <;>
    · blk_simp [idx t]; try simp only [c2_0, c2_1, c3_0, c3_1, c3_2, pos_val, bk_val, hd_val, wide_val, hcol_val]; try (first | omega | rfl)

theorem back_at (k : Fin 512) (a : Fin 128) : (iblk m c 5 t : FVec Ideal S1x512x128 .f32) (ix3 (0 : Fin 1) k a)
    = (Real.exp (La (hd t) * (511 - (k.val : ℝ))) : EReal) := by
  rw [← Host.v194_at m c (hd t) k a]
  refine congrArg (Gen.V m c main_v194) (ext3 (p := hd t) (q := k) (r := a) ?_ ?_ ?_) <;>
    · blk_simp [idx t]; try simp only [c2_0, c2_1, c3_0, c3_1, c3_2, pos_val, bk_val, hd_val, wide_val, hcol_val]; try (first | omega | rfl)

theorem whole_at (b : Fin 128) : (iblk m c 6 t : FVec Ideal S1x1x128 .f32) (ix3 (0 : Fin 1) (0 : Fin 1) b)
    = (Real.exp (La (hd t) * 512) : EReal) := by
  rw [← Host.v196_at m c (hd t) (0 : Fin 1) b]
  refine congrArg (Gen.V m c main_v196) (ext3 (p := hd t) (q := (0 : Fin 1)) (r := b) ?_ ?_ ?_)
  · blk_simp [idx t]; rfl
  · blk_simp [idx t]; try simp
  · blk_simp [idx t]; try simp only [c3_2]

theorem dy_raw (k : Fin 512) (b : Fin 128) : (iblk m c 9 t : FVec Ideal S512x128 .bf16) (ix2 k b)
    = (m ((c : Thread nD τ).loc main_arg1) : FVec Ideal S8192x512 .bf16) (ix2 (pos (bk t) k) (hcol (hd t) b)) := by
  rw [← Gen.V_main_arg1 m c]
  refine congrArg (Gen.V m c main_arg1) (ext2 (p := pos (bk t) k) (q := hcol (hd t) b) ?_ ?_) <;>
    · blk_simp [idx t]; try simp only [c2_0, c2_1, c3_0, c3_1, c3_2, pos_val, bk_val, hd_val, wide_val, hcol_val]; try (first | omega | rfl)

variable {m c} (hx : ∀ j, Re (m ((c : Thread nD τ).loc main_arg0) j)) (hy : ∀ j, Re (m ((c : Thread nD τ).loc main_arg1) j))

include hy in
theorem dy_at (k : Fin 512) (b : Fin 128) : (iblk m c 9 t : FVec Ideal S512x128 .bf16) (ix2 k b)
    = (Y (m ((c : Thread nD τ).loc main_arg1)) (hd t) (pos (bk t) k) b : EReal) := by
  rw [dy_raw]; exact (hy _).eq

include hx

theorem slot_at (s : Fin 4) (k : Fin 512) (a : Fin 128) (j : Fin 512) (hj : j.val = 128 * s.val + a.val) :
    (iblk m c 0 t : FVec Ideal S512x512 .bf16) (ix2 k j) = (X (m ((c : Thread nD τ).loc main_arg0)) (hd t) s (pos (bk t) k) a : EReal) := by
  rw [big_at, show wide (hd t) j = col (hd t) s a from Fin.ext (by simp only [wide, col, hj]; omega)]
  exact (hx _).eq

theorem out_at (k : Fin 512) (b : Fin 128) : (iblk m c 7 t : FVec Ideal S512x128 .f32) (ix2 k b)
    = (O (m ((c : Thread nD τ).loc main_arg0)) (hd t) (pos (bk t) k) b : EReal) := by
  rw [← Host.v88_at hx]
  refine congrArg (Gen.V m c main_v88) (ext2 (p := pos (bk t) k) (q := hcol (hd t) b) ?_ ?_) <;>
    · blk_simp [idx t]; try simp only [c2_0, c2_1, c3_0, c3_1, c3_2, pos_val, bk_val, hd_val, wide_val, hcol_val]; try (first | omega | rfl)

theorem state_at (a b : Fin 128) : (iblk m c 8 t : FVec Ideal S1x1x128x128 .f32) (ix4 (0 : Fin 1) (0 : Fin 1) a b)
    = (st (La (hd t)) (K (m ((c : Thread nD τ).loc main_arg0)) (hd t)) (Ref.V (m ((c : Thread nD τ).loc main_arg0)) (hd t)) (bk t) a b : EReal) := by
  rw [← Host.v127_at hx]
  refine congrArg (Gen.V m c main_v127) (ext4 (p := bk t) (q := hd t) (r := a) (s := b) ?_ ?_ ?_ ?_) <;>
    · blk_simp [idx t]; try simp only [c2_0, c2_1, c3_0, c3_1, c3_2, pos_val, bk_val, hd_val, wide_val, hcol_val]; try (first | omega | rfl)

end Ret.Grid
-- ==== Proof.Ret.Grid.lean ====
/-
  What the kernel leaves behind: the backward state it carries from block to block, and the gradient of the projection
  it writes.
-/
module

public import proofs.«01_k».proof.Proof.Gen.KernelIdeal.Value
public import proofs.«01_k».proof.Proof.Ret.Points
public import Idealize.ShloMosaic.Lib.Pipeline.ReadBack

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Ret.Grid

open Cert.KernelIdeal Cert.KernelIdeal.Gen
open Cert.ReferenceIdeal.Read
open Ret.Ref Ret.Body

/-- A block of one of the four gradients, at its place in the result. -/
theorem place {x0 : Big} {x1 : Cot} (fx : ∀ j, Re (x0 j)) (fy : ∀ j, Re (x1 j)) (x2 : Big) {h : Fin 4} {i : Fin 16} (s : Fin 4)
    (p : FVec Ideal S512x128 .bf16) (e : ∀ k a, p (ix2 k a) = (slot x0 x1 h s (pos i k) a : EReal))
    (x : S512x128.Idx) (j : S8192x8192.Idx) (e0 : (j 0).val = 512 * i.val + (x 0).val)
    (e1 : (j 1).val = 6144 + 512 * h.val + 128 * s.val + (x 1).val) : p x = val_main_v176 (F := Ideal) x0 x1 x2 j := by
  obtain ⟨k, ek⟩ : ∃ k : Fin 512, k.val = (x 0).val := ⟨x 0, rfl⟩
  obtain ⟨a, ea⟩ : ∃ a : Fin 128, a.val = (x 1).val := ⟨x 1, rfl⟩
  have ex : x = ix2 k a := ext2 ek.symm ea.symm
  have ej : j = ix2 (pos i k) (col h s a) := ext2 (by rw [e0, pos_val, ek]) (by rw [e1, ← ea]; rfl)
  rw [ej, ex]
  exact (e k a).trans (result_eq fx fy x2 (pos i k) h s a).symm

variable {m : (ℓ : Loc nD τ sig) → Buf (Elt Ideal) ℓ} {c : Dev nD}
  (fx : ∀ j, Re (m ((c : Thread nD τ).loc main_arg0) j)) (fy : ∀ j, Re (m ((c : Thread nD τ).loc main_arg1) j))

section Loads

/-- A band of 128 columns of a block, read at an index. -/
theorem band (B : Vec Ideal S512x512 .bf16) (o : ℕ) (l : ∀ b : Fin 2, (![0, o] : Fin 2 → ℕ) b + (![512, 128] : Fin 2 → ℕ) b ≤ S512x512.size b)
    (k : Fin 512) (a : Fin 128) (j : Fin 512) (e : j.val = o + a.val) :
    View.ld (Val := Elt Ideal) (e' := .bf16) B (Rect.unit (s := S512x512) ![0, o] ![512, 128] l) (ix2 k a) = B (ix2 k j) :=
  View.ld_unit_apply_of _ _ _ _ _ (ix2 k j) (fun b => match b with | ⟨0, _⟩ => (Nat.zero_add _).symm | ⟨1, _⟩ => e)

variable (t : Fin cfg0.N)
include fx

theorem load_q (k : Fin 512) (a : Fin 128) :
    View.ld (iblk m c 0 t) (Rect.unit ![0, 0] ![512, 128] inb_S512x512_S512x128_0_0) (ix2 k a)
      = (X (m ((c : Thread nD τ).loc main_arg0)) (hd t) 0 (pos (bk t) k) a : EReal) := by
  have e : (⟨0 + a.val, by omega⟩ : Fin 512).val = 128 * (0 : Fin 4).val + a.val := rfl
  rw [← slot_at t fx 0 k a _ e]
  exact band (iblk m c 0 t) 0 inb_S512x512_S512x128_0_0 k a ⟨0 + a.val, by omega⟩ rfl

theorem load_k (k : Fin 512) (a : Fin 128) :
    View.ld (iblk m c 0 t) (Rect.unit ![0, 128] ![512, 128] inb_S512x512_S512x128_0_128) (ix2 k a)
      = (X (m ((c : Thread nD τ).loc main_arg0)) (hd t) 1 (pos (bk t) k) a : EReal) := by
  have e : (⟨128 + a.val, by omega⟩ : Fin 512).val = 128 * (1 : Fin 4).val + a.val := rfl
  rw [← slot_at t fx 1 k a _ e]
  exact band (iblk m c 0 t) 128 inb_S512x512_S512x128_0_128 k a ⟨128 + a.val, by omega⟩ rfl

theorem load_v (k : Fin 512) (a : Fin 128) :
    View.ld (iblk m c 0 t) (Rect.unit ![0, 256] ![512, 128] inb_S512x512_S512x128_0_256) (ix2 k a)
      = (X (m ((c : Thread nD τ).loc main_arg0)) (hd t) 2 (pos (bk t) k) a : EReal) := by
  have e : (⟨256 + a.val, by omega⟩ : Fin 512).val = 128 * (2 : Fin 4).val + a.val := rfl
  rw [← slot_at t fx 2 k a _ e]
  exact band (iblk m c 0 t) 256 inb_S512x512_S512x128_0_256 k a ⟨256 + a.val, by omega⟩ rfl

theorem load_g (k : Fin 512) (a : Fin 128) :
    View.ld (iblk m c 0 t) (Rect.unit ![0, 384] ![512, 128] inb_S512x512_S512x128_0_384) (ix2 k a)
      = (X (m ((c : Thread nD τ).loc main_arg0)) (hd t) 3 (pos (bk t) k) a : EReal) := by
  have e : (⟨384 + a.val, by omega⟩ : Fin 512).val = 128 * (3 : Fin 4).val + a.val := rfl
  rw [← slot_at t fx 3 k a _ e]
  exact band (iblk m c 0 t) 384 inb_S512x512_S512x128_0_384 k a ⟨384 + a.val, by omega⟩ rfl

end Loads

/-- The backward state a point starts from. -/
def Carried (m : (ℓ : Loc nD τ sig) → Buf (Elt Ideal) ℓ) (c : Dev nD) (t : Fin cfg0.N) (d : FVec Ideal S128x128 .f32) : Prop :=
  ∀ a b, d (ix2 a b) = (ds (La (hd t)) (Q (m ((c : Thread nD τ).loc main_arg0)) (hd t))
    (G (m ((c : Thread nD τ).loc main_arg0)) (m ((c : Thread nD τ).loc main_arg1)) (hd t)) (bk t) a b : EReal)

theorem carried_zero (t : Fin cfg0.N) (e : t.val % 16 = 0) : Carried m c t (k0_pay4 (F := Ideal)) := fun a b => by
  rw [ds_last _ _ _ _ (by rw [bk_val, e])]
  exact lit_zero

include fx fy

/-- The state a point leaves is the one the next point of the head starts from. -/
theorem carried_next : ∀ (n : ℕ) (l : n < cfg0.N) (u : Fin cfg0.N), u.val = n + 1 → ¬ u.val % 16 = 0 →
    Carried m c u (outsAt0 m c n l).2 := by
  intro n
  induction n with
  | zero =>
    intro l u eu e a b
    have ht : (⟨0, l⟩ : Fin cfg0.N).val % 16 = 0 := rfl
    rw [outsAt0_A m c ⟨0, l⟩ ht]
    frame_out
    have hh : hd u = hd ⟨0, l⟩ := Fin.ext (by rw [hd_val, hd_val]; show u.val / 16 = 0 / 16; omega)
    rw [hh]
    exact pay31 (i := bk ⟨0, l⟩) (load_q fx _) (load_g fx _) (cos_at m c _) (sin_at m c _) (fore_at m c _) (whole_at m c _)
      (out_at _ fx) (dy_at _ fy) (carried_zero ⟨0, l⟩ ht) (bk u) (by rw [bk_val, bk_val]; show 15 - u.val % 16 + 1 = 15 - 0 % 16; omega) a b
  | succ n ih =>
    intro l u eu e a b
    have hu := points u
    have hh : hd u = hd ⟨n + 1, l⟩ := Fin.ext (by rw [hd_val, hd_val]; show u.val / 16 = (n + 1) / 16; omega)
    have hb : (bk u).val + 1 = (bk ⟨n + 1, l⟩).val := by rw [bk_val, bk_val]; show 15 - u.val % 16 + 1 = 15 - (n + 1) % 16; omega
    rw [hh]
    by_cases ht : (n + 1) % 16 = 0
    · rw [outsAt0_A m c ⟨n + 1, l⟩ ht]
      frame_out
      exact pay31 (i := bk ⟨n + 1, l⟩) (load_q fx _) (load_g fx _) (cos_at m c _) (sin_at m c _) (fore_at m c _) (whole_at m c _)
        (out_at _ fx) (dy_at _ fy) (carried_zero ⟨n + 1, l⟩ ht) (bk u) hb a b
    · rw [outsAt0_B m c ⟨n + 1, l⟩ ht]
      frame_out
      simp only [read_unread_whole]
      exact pay31 (i := bk ⟨n + 1, l⟩) (load_q fx _) (load_g fx _) (cos_at m c _) (sin_at m c _) (fore_at m c _) (whole_at m c _)
        (out_at _ fx) (dy_at _ fy) (ih (by omega) ⟨n + 1, l⟩ rfl ht) (bk u) hb a b

/-- The block a point writes. -/
theorem written (t : Fin cfg0.N) (y : S512x512.Idx) (x2 : Big) (j : S8192x8192.Idx) (e0 : (j 0).val = 512 * (bk t).val + (y 0).val)
    (e1 : (j 1).val = 6144 + 512 * (hd t).val + (y 1).val) :
    (outsAt0 m c t.val t.isLt).1 y
      = val_main_v176 (F := Ideal) (m ((c : Thread nD τ).loc main_arg0)) (m ((c : Thread nD τ).loc main_arg1)) x2 j := by
  by_cases e : t.val % 16 = 0
  · have cd : Carried m c t (k0_pay4 (F := Ideal)) := carried_zero t e
    rw [outsAt0_A m c t e]
    frame_out
    canon_tiles x h
    case piece0 =>
      exact place fx fy x2 2 _ (pay30 (load_q fx t) (load_k fx t) (load_g fx t) (cos_at m c t) (sin_at m c t) (mask_at m c t)
        (back_at m c t) (out_at t fx) (dy_at t fy) cd) x j (by omega) (by show _ = _ + 128 * 2 + _; omega)
    case piece1 =>
      exact place fx fy x2 1 _ (store_k (load_q fx t) (load_v fx t) (load_g fx t) (cos_at m c t) (sin_at m c t) (mask_at m c t)
        (back_at m c t) (out_at t fx) (dy_at t fy) cd) x j (by omega) (by show _ = _ + 128 * 1 + _; omega)
    case piece2 =>
      exact place fx fy x2 0 _ (store_q (load_k fx t) (load_v fx t) (load_g fx t) (cos_at m c t) (sin_at m c t) (mask_at m c t)
        (fore_at m c t) (out_at t fx) (state_at t fx) (dy_at t fy)) x j (by omega) (by show _ = _ + 128 * 0 + _; omega)
    case piece3 =>
      exact place fx fy x2 3 _ (pay22 (load_g fx t) (out_at t fx) (dy_at t fy)) x j (by omega) (by show _ = _ + 128 * 3 + _; omega)
  · have cd : Carried m c t (outsAt0 m c (t.val - 1) (Nat.lt_of_le_of_lt (Nat.sub_le _ _) t.isLt)).2 :=
      carried_next fx fy (t.val - 1) _ t (by omega) e
    rw [outsAt0_B m c t e]
    frame_out
    simp only [read_unread_whole]
    canon_tiles x h
    case piece0 =>
      exact place fx fy x2 2 _ (pay30 (load_q fx t) (load_k fx t) (load_g fx t) (cos_at m c t) (sin_at m c t) (mask_at m c t)
        (back_at m c t) (out_at t fx) (dy_at t fy) cd) x j (by omega) (by show _ = _ + 128 * 2 + _; omega)
    case piece1 =>
      exact place fx fy x2 1 _ (store_k (load_q fx t) (load_v fx t) (load_g fx t) (cos_at m c t) (sin_at m c t) (mask_at m c t)
        (back_at m c t) (out_at t fx) (dy_at t fy) cd) x j (by omega) (by show _ = _ + 128 * 1 + _; omega)
    case piece2 =>
      exact place fx fy x2 0 _ (store_q (load_k fx t) (load_v fx t) (load_g fx t) (cos_at m c t) (sin_at m c t) (mask_at m c t)
        (fore_at m c t) (out_at t fx) (state_at t fx) (dy_at t fy)) x j (by omega) (by show _ = _ + 128 * 0 + _; omega)
    case piece3 =>
      exact place fx fy x2 3 _ (pay22 (load_g fx t) (out_at t fx) (dy_at t fy)) x j (by omega) (by show _ = _ + 128 * 3 + _; omega)

/-- The result array after the run. -/
theorem final : (dats m 0 c).arrAt 10 (cfgs 0).N
    = (val_main_v176 (F := Ideal) (m ((c : Thread nD τ).loc main_arg0)) (m ((c : Thread nD τ).loc main_arg1))
        (m ((c : Thread nD τ).loc main_arg2)) : FVec Ideal S8192x8192 .bf16) := by
  have key : (dats m 0 c).arrAt 10 (cfgs 0).N = fun i : S8192x8192.Idx => if 12 * 512 ≤ (i 1 : ℕ)
      then (val_main_v176 (F := Ideal) (m ((c : Thread nD τ).loc main_arg0)) (m ((c : Thread nD τ).loc main_arg1))
        (m ((c : Thread nD τ).loc main_arg2)) : FVec Ideal S8192x8192 .bf16) i else Gen.V m c main_v200 i := by
    refine (dats m 0 c).arrAt_eq_of_coversWhere 10 _ (fun β => 12 ≤ β 1) (by decide +kernel) (fun t hf y => ?_)
      (fun j => by blk_simp [Pipeline.Window.cell_apply]; omega)
    blk_simp
    rw [after0_10]
    refine written fx fy t y _ _ ?_ ?_
    · blk_simp [idx t]; rw [bk_val]; omega
    · blk_simp [idx t]; rw [hd_val]; omega
  rw [key]
  funext i
  by_cases hi : 12 * 512 ≤ (i 1 : ℕ)
  · rw [if_pos hi]
  · rw [if_neg hi, Host.v200_term]
    have ei : i = ix2 (i 0) (i 1) := ext2 rfl rfl
    rw [ei]
    exact (result_left _ _ _ (i 0) (i 1) (by omega)).symm

end Ret.Grid
-- ==== Proof.Step.Sums.lean ====
/-
  Sums of extended reals taken block by block, and arrays read at an index.
-/
module

public import Idealize.ShloMosaic.PureOps.Ideal
public import Idealize.ShloMosaic.Lib.Pointwise
public import Idealize.ShloMosaic.Lib.Pointwise.IndexBridge

@[expose] public section

noncomputable section

open scoped BigOperators
open Idealize.ShloMosaic hiding ix0 ix1 ix2 ix3 ix4
open Idealize.ShloMosaic.ValueIdx (ix1 ix2 ix3 ix4)

namespace Step

theorem ext2 {a b : ℕ} {i : (⟨2, ![a, b]⟩ : Shape).Idx} {p : Fin a} {q : Fin b} (h0 : (i 0).val = p.val)
    (h1 : (i 1).val = q.val) : i = ix2 p q := funext fun d => Fin.ext (match d with | ⟨0, _⟩ => h0 | ⟨1, _⟩ => h1)
theorem ext3 {a b c : ℕ} {i : (⟨3, ![a, b, c]⟩ : Shape).Idx} {p : Fin a} {q : Fin b} {r : Fin c} (h0 : (i 0).val = p.val)
    (h1 : (i 1).val = q.val) (h2 : (i 2).val = r.val) : i = ix3 p q r :=
  funext fun d => Fin.ext (match d with | ⟨0, _⟩ => h0 | ⟨1, _⟩ => h1 | ⟨2, _⟩ => h2)
theorem ext4 {a b c d : ℕ} {i : (⟨4, ![a, b, c, d]⟩ : Shape).Idx} {p : Fin a} {q : Fin b} {r : Fin c} {s : Fin d}
    (h0 : (i 0).val = p.val) (h1 : (i 1).val = q.val) (h2 : (i 2).val = r.val) (h3 : (i 3).val = s.val) : i = ix4 p q r s :=
  funext fun e => Fin.ext (match e with | ⟨0, _⟩ => h0 | ⟨1, _⟩ => h1 | ⟨2, _⟩ => h2 | ⟨3, _⟩ => h3)

theorem c2_0 {a b : ℕ} (i : Fin a) (j : Fin b) : ix2 i j 0 = i := rfl
theorem c2_1 {a b : ℕ} (i : Fin a) (j : Fin b) : ix2 i j 1 = j := rfl
theorem c3_0 {a b c : ℕ} (i : Fin a) (j : Fin b) (k : Fin c) : ix3 i j k 0 = i := rfl
theorem c3_1 {a b c : ℕ} (i : Fin a) (j : Fin b) (k : Fin c) : ix3 i j k 1 = j := rfl
theorem c3_2 {a b c : ℕ} (i : Fin a) (j : Fin b) (k : Fin c) : ix3 i j k 2 = k := rfl
theorem c4_0 {a b c d : ℕ} (i : Fin a) (j : Fin b) (k : Fin c) (l : Fin d) : ix4 i j k l 0 = i := rfl
theorem c4_1 {a b c d : ℕ} (i : Fin a) (j : Fin b) (k : Fin c) (l : Fin d) : ix4 i j k l 1 = j := rfl
theorem c4_2 {a b c d : ℕ} (i : Fin a) (j : Fin b) (k : Fin c) (l : Fin d) : ix4 i j k l 2 = k := rfl
theorem c4_3 {a b c d : ℕ} (i : Fin a) (j : Fin b) (k : Fin c) (l : Fin d) : ix4 i j k l 3 = l := rfl

/-- The first `n` terms of a sum. -/
def upto {N : ℕ} (g : Fin N → EReal) (n : ℕ) : EReal := ∑ j ∈ Finset.range n, if h : j < N then g ⟨j, h⟩ else 0

theorem upto_zero {N : ℕ} (g : Fin N → EReal) : upto g 0 = 0 := Finset.sum_range_zero _

theorem upto_all {N : ℕ} (g : Fin N → EReal) : upto g N = ∑ k, g k := by
  rw [upto, Finset.sum_range]
  exact Finset.sum_congr rfl fun k _ => dif_pos k.isLt

/-- The next `B` terms. -/
theorem upto_add {N : ℕ} (g : Fin N → EReal) (n B : ℕ) (f : Fin B → EReal) (r : ℕ) (hr : r = n + B)
    (h : ∀ k : Fin B, ∃ l : n + k.val < N, f k = g ⟨n + k.val, l⟩) : upto g r = upto g n + ∑ k, f k := by
  subst hr
  rw [upto, upto, Finset.sum_range_add, Finset.sum_range (n := B)]
  refine congrArg _ (Finset.sum_congr rfl fun k _ => ?_)
  obtain ⟨l, e⟩ := h k
  rw [e, dif_pos l]

/-- The first `B` terms. -/
theorem upto_first {N : ℕ} (g : Fin N → EReal) (B : ℕ) (f : Fin B → EReal)
    (h : ∀ k : Fin B, ∃ l : k.val < N, f k = g ⟨k.val, l⟩) : upto g B = ∑ k, f k := by
  rw [upto_add g 0 B f B (Nat.zero_add B).symm fun k => by
    obtain ⟨l, e⟩ := h k
    exact ⟨by omega, e.trans (congrArg g (Fin.ext (Nat.zero_add _).symm))⟩, upto_zero, zero_add]

end Step
-- ==== Proof.Step.FfnWeight.lean ====
/-
  The gradient of a feed-forward weight: the kernel sums a product over two blocks of 4096 rows, the reference over all
  8192 rows at once.
-/
module

public import proofs.«01_k».proof.Proof.Gen.Kernel2Ideal.Value
public import proofs.«01_k».proof.Proof.Gen.Reference2Ideal.Read
public import proofs.«01_k».proof.Proof.Step.Sums
public import Idealize.ShloMosaic.Lib.Pointwise
public import Idealize.ShloMosaic.Lib.Pointwise.IndexBridge
public import Idealize.ShloMosaic.Lib.Pipeline.ValueKit
public import Idealize.ShloMosaic.Lib.Pipeline.ReadBack

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Step.FfnWeight

open Cert.Kernel2Ideal Cert.Kernel2Ideal.Gen

/-- The product of two blocks. -/
theorem prod_at (x : FVec Ideal S1x4096x704 .bf16) (y : FVec Ideal S4096x1024 .bf16) (a : Fin 704) (b : Fin 1024) :
    k0_pay1 (F := Ideal) x y (ix2 a b) = ∑ k : Fin 4096, x (ix3 (0 : Fin 1) k a) * y (ix2 k b) := by
  unfold k0_pay1
  simp only [← ix2_eq_valueIdx, ← ix3_eq_valueIdx]; pointwise

theorem points (t : Fin cfg0.N) : t.val < 8 := t.isLt

/-- Where each window of a grid point stands. -/
theorem idx : ∀ t : Fin cfg0.N, win0_0.index t = ![t.val / 2, t.val % 2, 0] ∧ win0_1.index t = ![t.val % 2, 0]
    ∧ win0_2.index t = ![t.val / 2, 0, 0] :=
  (by decide +kernel : ∀ t : Fin grid0.N, win0_0.index t = ![t.val / 2, t.val % 2, 0] ∧ win0_1.index t = ![t.val % 2, 0]
    ∧ win0_2.index t = ![t.val / 2, 0, 0])

/-- The part of the weight a point works on. -/
def part (t : Fin cfg0.N) : Fin 4 := ⟨t.val / 2, by have := points t; omega⟩
/-- The row a point reads. -/
def row (t : Fin cfg0.N) (k : Fin 4096) : Fin 8192 := ⟨4096 * (t.val % 2) + k.val, by omega⟩

variable (m : (ℓ : Loc nD τ sig) → Buf (Elt Ideal) ℓ) (c : Dev nD) (t : Fin cfg0.N)

abbrev A : FVec Ideal S4x8192x704 .bf16 := m ((c : Thread nD τ).loc main_arg0)
abbrev B : FVec Ideal S8192x1024 .bf16 := m ((c : Thread nD τ).loc main_arg1)

theorem a_at (k : Fin 4096) (a : Fin 704) : (iblk m c 0 t : FVec Ideal S1x4096x704 .bf16) (ix3 (0 : Fin 1) k a)
    = A m c (ix3 (part t) (row t k) a) := by
  unfold A
  rw [← Gen.V_main_arg0 m c]
  refine congrArg (Gen.V m c main_arg0) (ext3 (p := part t) (q := row t k) (r := a) ?_ ?_ ?_) <;>
    · blk_simp [idx t]; try simp [part, row]; try omega

theorem b_at (k : Fin 4096) (b : Fin 1024) : (iblk m c 1 t : FVec Ideal S4096x1024 .bf16) (ix2 k b)
    = B m c (ix2 (row t k) b) := by
  unfold B
  rw [← Gen.V_main_arg1 m c]
  refine congrArg (Gen.V m c main_arg1) (ext2 (p := row t k) (q := b) ?_ ?_) <;>
    · blk_simp [idx t]; try simp [part, row]; try omega

/-- The terms of one entry of the gradient. -/
def term (p : Fin 4) (a : Fin 704) (b : Fin 1024) (k : Fin 8192) : EReal := A m c (ix3 p k a) * B m c (ix2 k b)

theorem prod_block (a : Fin 704) (b : Fin 1024) (k : Fin 4096) :
    HMul.hMul (α := EReal) (β := EReal) (γ := EReal) ((iblk m c 0 t : FVec Ideal S1x4096x704 .bf16) (ix3 (0 : Fin 1) k a))
        ((iblk m c 1 t : FVec Ideal S4096x1024 .bf16) (ix2 k b))
      = term m c (part t) a b (row t k) := by
  rw [a_at, b_at]; rfl

/-- After an even point the carried array holds the sum over the first block. -/
theorem first (e : t.val % 2 = 0) (a : Fin 704) (b : Fin 1024) :
    (outsAt0 m c t.val t.isLt).2 (ix2 a b) = upto (term m c (part t) a b) 4096 := by
  rw [outsAt0_A m c t e (by omega) (by omega)]
  frame_out
  have key : k0_pay2 (F := Ideal) (iblk m c 0 t) (iblk m c 1 t) (ix2 a b) = upto (term m c (part t) a b) 4096 := by
    unfold k0_pay2
    rw [shapeCast_self, prod_at]
    refine (upto_first _ 4096 _ fun k => ⟨by omega, ?_⟩).symm
    rw [prod_block]
    exact congrArg _ (Fin.ext (by simp [row, e]))
  exact key

/-- After an odd point the carried array holds the whole sum. -/
theorem second (e : t.val % 2 = 1) (a : Fin 704) (b : Fin 1024) :
    k0_pay3 (F := Ideal) (iblk m c 0 t) (iblk m c 1 t) (outsAt0 m c (t.val - 1) (Nat.lt_of_le_of_lt (Nat.sub_le _ _) t.isLt)).2 (ix2 a b)
      = ∑ k, term m c (part t) a b k := by
  have hf := first m c ⟨t.val - 1, Nat.lt_of_le_of_lt (Nat.sub_le _ _) t.isLt⟩ (by show (t.val - 1) % 2 = 0; omega) a b
  have hp : part ⟨t.val - 1, Nat.lt_of_le_of_lt (Nat.sub_le _ _) t.isLt⟩ = part t :=
    Fin.ext (by show (t.val - 1) / 2 = t.val / 2; omega)
  rw [hp] at hf
  unfold k0_pay3
  rw [shapeCast_self]
  show (outsAt0 m c (t.val - 1) _).2 (ix2 a b) + k0_pay1 (F := Ideal) (iblk m c 0 t) (iblk m c 1 t) (ix2 a b) = _
  rw [prod_at, ← upto_all (term m c (part t) a b), upto_add (term m c (part t) a b) 4096 4096 _ 8192 rfl fun k => ⟨by omega, ?_⟩]
  · exact congrArg (· + _) hf
  · rw [prod_block]
    exact congrArg _ (Fin.ext (by simp [row, e]))

/-- The block an odd point writes. -/
theorem written (e : t.val % 2 = 1) (y : S1x704x1024.Idx) (a : Fin 704) (b : Fin 1024) (ea : (y 1).val = a.val) (eb : (y 2).val = b.val) :
    (outsAt0 m c t.val t.isLt).1 y = ∑ k, term m c (part t) a b k := by
  have ey : y = ix3 (0 : Fin 1) a b := ext3 (by have : (y 0).val < 1 := (y 0).isLt; show (y 0).val = 0; omega) ea eb
  rw [outsAt0_B m c t (by omega) e e, ey]
  frame_out
  simp only [read_unread_whole]
  rw [← second m c t e a b]
  have key : ∀ v : FVec Ideal S704x1024 .f32, k0_pay4 (F := Ideal) v (ix3 (0 : Fin 1) a b) = v (ix2 a b) := fun v => by
    unfold k0_pay4
    simp only [← ix2_eq_valueIdx, ← ix3_eq_valueIdx]; pointwise
  exact key _

open Cert.Reference2Ideal.Read in
/-- The reference's entry. -/
theorem ref_at (p : Fin 4) (a : Fin 704) (b : Fin 1024) :
    val_main_v9 (F := Ideal) (A m c) (B m c) (ix3 p a b) = ∑ k, term m c p a b k := by
  rw [val_main_v9_apply, val_main_v8_apply, val_main_v7_apply]
  show val_main_v6 (F := Ideal) _ _ _ = _
  rw [val_main_v6_apply]
  refine Finset.sum_congr rfl fun k _ => ?_
  rw [val_main_v5_apply, val_main_v3_apply, val_main_v2_apply, val_main_v1_apply]
  show B m c _ * A m c _ = _
  rw [mul_comm]
  refine congrArg₂ (fun u v : EReal => u * v) (congrArg (A m c) (ext3 ?_ ?_ ?_)) (congrArg (B m c) (ext2 ?_ ?_))
  all_goals have := p.isLt; have := a.isLt; have := b.isLt; have := k.isLt; simp [c3_0, c3_1, c3_2]; try omega

/-- The result array after the run. -/
theorem final : (dats m 0 c).arrAt 2 cfg0.N = (Cert.Reference2Ideal.Read.val_main_v9 (F := Ideal) (A m c) (B m c) : FVec Ideal S4x704x1024 .bf16) := by
  refine (dats m 0 c).arrAt_eq_of_cover 2 _ (fun t hf => ?_) (fun i => (Value.covered_iff2 i).2 (by
    have h0 : (i 0).val < 4 := (i 0).isLt; have h1 : (i 1).val < 704 := (i 1).isLt; have h2 : (i 2).val < 1024 := (i 2).isLt; omega))
  have e : t.val % 2 = 1 := (flush0_2 t).mp hf
  funext y
  rw [Value.flushed2]
  have h1 : (y 1).val < 704 := (y 1).isLt
  have h2 : (y 2).val < 1024 := (y 2).isLt
  have h0 : (y 0).val < 1 := (y 0).isLt
  refine (written m c t e ((cfg0.win 2).xinj (grid0.coords t) y) ⟨(y 1).val, h1⟩ ⟨(y 2).val, h2⟩ rfl rfl).trans ?_
  rw [← ref_at]
  refine congrArg (Cert.Reference2Ideal.Read.val_main_v9 (F := Ideal) (A m c) (B m c)) (ext3 ?_ ?_ ?_).symm <;>
    · blk_simp [idx t]; try simp [part]; try omega

end Step.FfnWeight
-- ==== Proof.Step.Claim2.lean ====
/-
  The weight gradients of a feed-forward projection: the claims of the pair of programs.
-/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Step.FfnWeight
public import Idealize.ShloMosaic.Lib.Claim
public import Idealize.ShloMosaic.Adequacy
public import Idealize.ShloMosaic.Init

@[expose] public section

set_option maxRecDepth 16384

noncomputable section

namespace Step.Claim2

open Idealize.ShloMosaic Idealize.SL.Sem

/-- The reference ends with its arguments unchanged and every counter at zero. -/
theorem quiescent_reference2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) :=
  (θ_run _ _ _).mono (fun r h => ⟨fun c => (h c).2, sem_eq_zero_of_no_sems (by decide) r.2⟩) (Cert.Reference2Ideal.Value.run m g)

/-- Kernel and reference leave the same arrays. -/
theorem algebraic2 : Cert.algebraic_Kernel2Ideal_Reference2Ideal (hKernel2Ideal := Cert.Kernel2Ideal.Gen.facts) (hReference2Ideal := Cert.Reference2Ideal.Gen.facts) := by
  intro m g m' g' _ hagree
  refine ⟨fun c => Cert.Reference2Ideal.Read.val_main_v9 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · exact (θ_run _ _ _).mono (fun r h c => ⟨(h c).1.trans (Step.FfnWeight.final m c), (h c).2⟩) (Cert.Kernel2Ideal.Value.run_blocks m g)
  · refine (θ_run _ _ _).mono (fun r h c => ⟨(h c).1.trans ((Cert.Reference2Ideal.Read.val_main_v9_eq ..).trans ?_), (h c).2⟩) (Cert.Reference2Ideal.Value.run m' g')
    show Cert.Reference2Ideal.Read.val_main_v9 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) = _
    rw [(hagree c).1, (hagree c).2]

end Step.Claim2

end
-- ==== Proof.Step.Norm.lean ====
/-
  The gradient through a root-mean-square normalisation, on the extended reals.
-/
module

public import proofs.«01_k».proof.Proof.Ret.Lift
public import Mathlib.Tactic.FieldSimp

@[expose] public section

noncomputable section

open Idealize.ShloMosaic
open scoped BigOperators

namespace Step

theorem lit_1024 : Ideal.ofBits .f32 0x44800000#32 = ((1024 : ℝ) : EReal) := by
  simp [Ideal.ofBits, Ideal.ieee, -EReal.coe_mul]; norm_num

/-- The mean square of a row, plus the small constant. -/
def meanSq (x : Fin 1024 → EReal) : EReal :=
  Ideal.div (∑ d, x d * x d) (Ideal.ofBits .f32 0x44800000#32) + Ideal.ofBits .f32 0x358637BD#32

theorem sq_nonneg' (x : EReal) : 0 ≤ x * x := by
  rcases le_total 0 x with h | h
  · exact mul_nonneg h h
  · rw [← neg_mul_neg]
    exact mul_nonneg (EReal.neg_nonneg.2 h) (EReal.neg_nonneg.2 h)

theorem meanSq_pos (x : Fin 1024 → EReal) : 0 < meanSq x := by
  unfold meanSq
  rw [lit_1024, Ret.lit_ep, Ideal.div_coe (by norm_num)]
  have h : 0 ≤ (∑ d, x d * x d) * ((1 / 1024 : ℝ) : EReal) :=
    mul_nonneg (Finset.sum_nonneg fun d _ => sq_nonneg' _) (EReal.coe_nonneg.2 (by norm_num))
  calc (0 : EReal) < ((Ret.ep : ℝ) : EReal) := EReal.coe_pos.2 Ret.ep_pos
    _ = 0 + ((Ret.ep : ℝ) : EReal) := (zero_add _).symm
    _ ≤ _ := add_le_add h le_rfl

theorem coe_mul_sum {ι : Type} (s : Finset ι) (r : ℝ) (h : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.2 h) (EReal.coe_ne_top _), ih]

theorem half_add (y : EReal) : ((-(1 / 2) : ℝ) : EReal) * y + ((-(1 / 2) : ℝ) : EReal) * y = -y := by
  induction y with
  | bot => rw [EReal.coe_mul_bot_of_neg (by norm_num)]; rfl
  | top => rw [EReal.coe_mul_top_of_neg (by norm_num)]; rfl
  | coe y =>
    rw [← EReal.coe_mul, ← EReal.coe_add, ← EReal.coe_neg]
    congr 1
    ring

/-- The two ways of writing the gradient of a normalised row. -/
theorem norm_back (x g : Fin 1024 → EReal) (d : Fin 1024) :
    Ideal.rsqrt (meanSq x) * (g d - x d * Ideal.rsqrt (meanSq x) * Ideal.div (∑ e, g e * (x e * Ideal.rsqrt (meanSq x))) (Ideal.ofBits .f32 0x44800000#32))
      = g d * Ideal.rsqrt (meanSq x)
        + x d * Ideal.div ((∑ e, x e * g e) * (Ideal.ofBits .f32 0xBF000000#32 * Ideal.div (Ideal.rsqrt (meanSq x)) (meanSq x))) (Ideal.ofBits .f32 0x44800000#32)
        + Ideal.div ((∑ e, x e * g e) * (Ideal.ofBits .f32 0xBF000000#32 * Ideal.div (Ideal.rsqrt (meanSq x)) (meanSq x))) (Ideal.ofBits .f32 0x44800000#32) * x d := by
  have hp := meanSq_pos x
  rw [lit_1024, Ret.lit_mhalf]
  simp only [Ideal.div_coe (show (1024 : ℝ) ≠ 0 by norm_num)]
  generalize hS : meanSq x = S at hp ⊢
  induction S with
  | bot => exact absurd hp (by simp)
  | top =>
    have hr : Ideal.rsqrt ⊤ = 0 := rfl
    rw [hr]
    have hd : Ideal.div (0 : EReal) ⊤ = 0 := by
      unfold Ideal.div
      rw [if_neg (by simp), zero_mul]
    simp [hd]
  | coe s =>
    have hs : 0 < s := EReal.coe_pos.1 hp
    rw [Ideal.rsqrt_coe, if_neg (not_lt.2 hs.le), if_neg hs.ne']
    have h2 : (Real.sqrt s)⁻¹ * (Real.sqrt s)⁻¹ = 1 / s := by
      rw [← mul_inv, Real.mul_self_sqrt hs.le, one_div]
    have h0 : 0 ≤ (Real.sqrt s)⁻¹ := inv_nonneg.2 (Real.sqrt_nonneg s)
    generalize (Real.sqrt s)⁻¹ = r at h2 h0 ⊢
    rw [Ideal.div_coe hs.ne', ← h2, ← EReal.coe_mul, ← EReal.coe_mul]
    have hA : (∑ e, g e * (x e * (r : EReal))) = (r : EReal) * ∑ e, x e * g e := by
      rw [coe_mul_sum _ r h0]
      exact Finset.sum_congr rfl fun e _ => by rw [← mul_assoc, mul_comm, mul_comm (g e)]
    rw [hA]
    generalize (∑ e, x e * g e) = A
    rw [sub_eq_add_neg, EReal.left_distrib_of_nonneg_of_ne_top (EReal.coe_nonneg.2 h0) (EReal.coe_ne_top _), mul_neg, add_assoc, mul_comm (r : EReal) (g d)]
    refine congrArg _ ?_
    have hl : (r : EReal) * (x d * r * (r * A * ((1 / 1024 : ℝ) : EReal))) = ((r * r * r * (1 / 1024) : ℝ) : EReal) * (x d * A) := by
      simp only [EReal.coe_mul]
      ac_rfl
    have hq : A * ((-(1 / 2) * (r * (r * r)) : ℝ) : EReal) * ((1 / 1024 : ℝ) : EReal)
        = A * (((-(1 / 2) : ℝ) : EReal) * ((r * r * r * (1 / 1024) : ℝ) : EReal)) := by
      rw [mul_assoc, ← EReal.coe_mul, ← EReal.coe_mul]
      congr 2
      ring
    rw [hl, hq, ← half_add]
    refine congrArg₂ (fun u v : EReal => u + v) ?_ ?_ <;> ac_rfl

end Step
-- ==== Proof.Step.FfnResid.lean ====
/-
  The feed-forward block's gradient with respect to its input: the kernel sums the hidden gradients over four blocks
  of columns, and sends the sum back through the normalisation.
-/
module

public import proofs.«01_k».proof.Proof.Gen.Kernel3Ideal.Value
public import proofs.«01_k».proof.Proof.Gen.Reference3Ideal.Read
public import proofs.«01_k».proof.Proof.Step.Sums
public import proofs.«01_k».proof.Proof.Step.Norm
public import Idealize.ShloMosaic.Lib.Pointwise
public import Idealize.ShloMosaic.Lib.Pointwise.IndexBridge
public import Idealize.ShloMosaic.Lib.Pipeline.ValueKit
public import Idealize.ShloMosaic.Lib.Pipeline.ReadBack

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Step.FfnResid

open Cert.Kernel3Ideal Cert.Kernel3Ideal.Gen

/-! ## The gradient as functions of its arrays -/

def blk (k : Fin 2816) : Fin 4 := ⟨k.val / 704, by omega⟩
def pos (k : Fin 2816) : Fin 704 := ⟨k.val % 704, by omega⟩

section Maths
variable (P Q : FVec Ideal S4x8192x704 .bf16) (G U : FVec Ideal S4x704x1024 .bf16) (X : FVec Ideal S8192x1024 .f32) (W : FVec Ideal S1x1024 .f32)

/-- The terms of one projection of a hidden gradient. -/
def term (r : Fin 8192) (d : Fin 1024) (k : Fin 2816) : EReal := P (ix3 (blk k) r (pos k)) * G (ix3 (blk k) (pos k) d)
/-- The gradient of the normalised row. -/
def back (r : Fin 8192) (d : Fin 1024) : EReal := ∑ k, term P G r d k + ∑ k, term Q U r d k
/-- The reciprocal root mean square of a row. -/
def scale (r : Fin 8192) : EReal := Ideal.rsqrt (meanSq fun d => X (ix2 r d))
/-- The terms of the gradient of the normalisation's weight. -/
def wterm (d : Fin 1024) (r : Fin 8192) : EReal := back P Q G U r d * (X (ix2 r d) * scale X r)

end Maths

/-! ## The kernel's stores at an index -/

theorem prod_at (p : FVec Ideal S1x1024x704 .bf16) (g : FVec Ideal S1x704x1024 .bf16) (q : FVec Ideal S1x1024x704 .bf16) (u : FVec Ideal S1x704x1024 .bf16)
    (a d : Fin 1024) : k0_pay1 (F := Ideal) p g q u (ix2 a d)
      = (∑ f : Fin 704, p (ix3 0 a f) * g (ix3 0 f d)) + ∑ f : Fin 704, q (ix3 0 a f) * u (ix3 0 f d) := by
  unfold k0_pay1
  simp only [← ix2_eq_valueIdx, ← ix3_eq_valueIdx]; pointwise

theorem zero_at (i : S1x1024.Idx) : k0_pay2 (F := Ideal) i = 0 := Ideal.ofBits_zero_f32

theorem first_at (p : FVec Ideal S1x1024x704 .bf16) (g : FVec Ideal S1x704x1024 .bf16) (q : FVec Ideal S1x1024x704 .bf16) (u : FVec Ideal S1x704x1024 .bf16) :
    k0_pay3 (F := Ideal) p g q u = k0_pay1 (F := Ideal) p g q u := by
  unfold k0_pay3
  rw [shapeCast_self]

theorem next_at (p : FVec Ideal S1x1024x704 .bf16) (g : FVec Ideal S1x704x1024 .bf16) (q : FVec Ideal S1x1024x704 .bf16) (u : FVec Ideal S1x704x1024 .bf16)
    (v : FVec Ideal S1024x1024 .f32) (i : S1024x1024.Idx) : k0_pay4 (F := Ideal) p g q u v i = v i + k0_pay1 (F := Ideal) p g q u i := by
  unfold k0_pay4
  rw [shapeCast_self]
  rfl

theorem scale_at (x : FVec Ideal S1024x1024 .f32) (a : Fin 1024) :
    k0_pay5 (F := Ideal) x (ix2 a 0) = Ideal.rsqrt (meanSq fun d => x (ix2 a d)) := by
  unfold k0_pay5
  simp only [← ix2_eq_valueIdx, ← ix3_eq_valueIdx]; pointwise
  rfl

theorem scaled_at (x : FVec Ideal S1024x1024 .f32) (a d : Fin 1024) :
    k0_pay6 (F := Ideal) x (ix2 a d) = x (ix2 a d) * Ideal.rsqrt (meanSq fun d => x (ix2 a d)) := by
  rw [← scale_at]
  unfold k0_pay6
  simp only [← ix2_eq_valueIdx, ← ix3_eq_valueIdx]; pointwise

theorem out_at (v x : FVec Ideal S1024x1024 .f32) (w : FVec Ideal S1x1024 .f32) (o : FVec Ideal S1024x1024 .f32) (a d : Fin 1024) :
    k0_pay7 (F := Ideal) v x w o (ix2 a d) = o (ix2 a d) + k0_pay5 (F := Ideal) x (ix2 a 0) * (v (ix2 a d) * w (ix2 0 d) - k0_pay6 (F := Ideal) x (ix2 a d)
      * Ideal.div (∑ e : Fin 1024, v (ix2 a e) * w (ix2 0 e) * k0_pay6 (F := Ideal) x (ix2 a e)) (Ideal.ofBits .f32 0x44800000#32)) := by
  unfold k0_pay7
  simp only [← ix2_eq_valueIdx, ← ix3_eq_valueIdx]; pointwise

theorem wnext_at (v x : FVec Ideal S1024x1024 .f32) (w : FVec Ideal S1x1024 .f32) (d : Fin 1024) :
    k0_pay8 (F := Ideal) v x w (ix2 0 d) = w (ix2 0 d) + ∑ a : Fin 1024, v (ix2 a d) * k0_pay6 (F := Ideal) x (ix2 a d) := by
  unfold k0_pay8
  rw [shapeCast_self]
  simp only [← ix2_eq_valueIdx, ← ix3_eq_valueIdx]; pointwise

/-! ## The blocks of a grid point -/

theorem points (t : Fin cfg0.N) : t.val < 32 := t.isLt

/-- Where each window of a grid point stands. -/
theorem idx : ∀ t : Fin cfg0.N, win0_0.index t = ![t.val % 4, t.val / 4, 0] ∧ win0_1.index t = ![t.val % 4, t.val / 4, 0] ∧ win0_2.index t = ![t.val % 4, 0, 0]
    ∧ win0_3.index t = ![t.val % 4, 0, 0] ∧ win0_4.index t = ![t.val / 4, 0] ∧ win0_5.index t = ![0, 0] ∧ win0_6.index t = ![t.val / 4, 0]
    ∧ win0_7.index t = ![t.val / 4, 0] ∧ win0_8.index t = ![0, 0] :=
  (by decide +kernel : ∀ t : Fin grid0.N, win0_0.index t = ![t.val % 4, t.val / 4, 0] ∧ win0_1.index t = ![t.val % 4, t.val / 4, 0] ∧ win0_2.index t = ![t.val % 4, 0, 0]
    ∧ win0_3.index t = ![t.val % 4, 0, 0] ∧ win0_4.index t = ![t.val / 4, 0] ∧ win0_5.index t = ![0, 0] ∧ win0_6.index t = ![t.val / 4, 0]
    ∧ win0_7.index t = ![t.val / 4, 0] ∧ win0_8.index t = ![0, 0])

/-- The block of hidden columns a point works on. -/
def part (t : Fin cfg0.N) : Fin 4 := ⟨t.val % 4, by omega⟩
/-- The row a point works on. -/
def row (t : Fin cfg0.N) (a : Fin 1024) : Fin 8192 := ⟨1024 * (t.val / 4) + a.val, by have := points t; omega⟩

variable (m : (ℓ : Loc nD τ sig) → Buf (Elt Ideal) ℓ) (c : Dev nD) (t : Fin cfg0.N)

abbrev P : FVec Ideal S4x8192x704 .bf16 := m ((c : Thread nD τ).loc main_arg0)
abbrev Q : FVec Ideal S4x8192x704 .bf16 := m ((c : Thread nD τ).loc main_arg1)
abbrev G : FVec Ideal S4x704x1024 .bf16 := m ((c : Thread nD τ).loc main_arg2)
abbrev U : FVec Ideal S4x704x1024 .bf16 := m ((c : Thread nD τ).loc main_arg3)
abbrev X : FVec Ideal S8192x1024 .f32 := m ((c : Thread nD τ).loc main_arg4)
abbrev W : FVec Ideal S1x1024 .f32 := m ((c : Thread nD τ).loc main_arg5)
abbrev O : FVec Ideal S8192x1024 .f32 := m ((c : Thread nD τ).loc main_arg6)

theorem p_at (z : Fin 1) (a : Fin 1024) (f : Fin 704) : (iblk m c 0 t : FVec Ideal S1x1024x704 .bf16) (ix3 z a f)
    = P m c (ix3 (part t) (row t a) f) := by
  unfold P
  rw [← Gen.V_main_arg0 m c]
  refine congrArg (Gen.V m c main_arg0) (ext3 (p := part t) (q := row t a) (r := f) ?_ ?_ ?_) <;>
    · blk_simp [idx t]; try simp [part, row]; try omega

theorem q_at (z : Fin 1) (a : Fin 1024) (f : Fin 704) : (iblk m c 1 t : FVec Ideal S1x1024x704 .bf16) (ix3 z a f)
    = Q m c (ix3 (part t) (row t a) f) := by
  unfold Q
  rw [← Gen.V_main_arg1 m c]
  refine congrArg (Gen.V m c main_arg1) (ext3 (p := part t) (q := row t a) (r := f) ?_ ?_ ?_) <;>
    · blk_simp [idx t]; try simp [part, row]; try omega

theorem g_at (z : Fin 1) (f : Fin 704) (d : Fin 1024) : (iblk m c 2 t : FVec Ideal S1x704x1024 .bf16) (ix3 z f d)
    = G m c (ix3 (part t) f d) := by
  unfold G
  rw [← Gen.V_main_arg2 m c]
  refine congrArg (Gen.V m c main_arg2) (ext3 (p := part t) (q := f) (r := d) ?_ ?_ ?_) <;>
    · blk_simp [idx t]; try simp [part]; try omega

theorem u_at (z : Fin 1) (f : Fin 704) (d : Fin 1024) : (iblk m c 3 t : FVec Ideal S1x704x1024 .bf16) (ix3 z f d)
    = U m c (ix3 (part t) f d) := by
  unfold U
  rw [← Gen.V_main_arg3 m c]
  refine congrArg (Gen.V m c main_arg3) (ext3 (p := part t) (q := f) (r := d) ?_ ?_ ?_) <;>
    · blk_simp [idx t]; try simp [part]; try omega

theorem x_at (a d : Fin 1024) : (iblk m c 4 t : FVec Ideal S1024x1024 .f32) (ix2 a d) = X m c (ix2 (row t a) d) := by
  unfold X
  rw [← Gen.V_main_arg4 m c]
  refine congrArg (Gen.V m c main_arg4) (ext2 (p := row t a) (q := d) ?_ ?_) <;>
    · blk_simp [idx t]; try simp [row]; try omega

theorem o_at (a d : Fin 1024) : (iblk m c 6 t : FVec Ideal S1024x1024 .f32) (ix2 a d) = O m c (ix2 (row t a) d) := by
  unfold O
  rw [← Gen.V_main_arg6 m c]
  refine congrArg (Gen.V m c main_arg6) (ext2 (p := row t a) (q := d) ?_ ?_) <;>
    · blk_simp [idx t]; try simp [row]; try omega

theorem w_at (z : Fin 1) (d : Fin 1024) : (iblk m c 5 t : FVec Ideal S1x1024 .f32) (ix2 z d) = W m c (ix2 0 d) := by
  unfold W
  rw [← Gen.V_main_arg5 m c]
  refine congrArg (Gen.V m c main_arg5) (ext2 (p := 0) (q := d) ?_ ?_) <;>
    · blk_simp [idx t]; try simp; try omega

/-! ## One grid point -/

/-- The projection of a block, as terms of the whole projection. -/
theorem split (f : Fin 704) (l : 704 * (t.val % 4) + f.val < 2816) :
    blk ⟨704 * (t.val % 4) + f.val, l⟩ = part t ∧ pos ⟨704 * (t.val % 4) + f.val, l⟩ = f :=
  ⟨Fin.ext (by show (704 * (t.val % 4) + f.val) / 704 = t.val % 4; omega), Fin.ext (by show (704 * (t.val % 4) + f.val) % 704 = f.val; omega)⟩

/-- Both projections up to a hidden column. -/
def sofar (n : ℕ) (r : Fin 8192) (d : Fin 1024) : EReal :=
  upto (term (P m c) (G m c) r d) n + upto (term (Q m c) (U m c) r d) n

theorem sofar_all (r : Fin 8192) (d : Fin 1024) : sofar m c 2816 r d = back (P m c) (Q m c) (G m c) (U m c) r d := by
  unfold sofar back
  rw [upto_all (term (P m c) (G m c) r d), upto_all (term (Q m c) (U m c) r d)]

theorem add_block (a d : Fin 1024) : sofar m c (704 * (t.val % 4)) (row t a) d
    + k0_pay1 (F := Ideal) (iblk m c 0 t) (iblk m c 2 t) (iblk m c 1 t) (iblk m c 3 t) (ix2 a d) = sofar m c (704 * (t.val % 4 + 1)) (row t a) d := by
  rw [prod_at]
  unfold sofar
  rw [upto_add (term (P m c) (G m c) (row t a) d) (704 * (t.val % 4)) 704 (fun f => P m c (ix3 (part t) (row t a) f) * G m c (ix3 (part t) f d)) (704 * (t.val % 4 + 1)) (by omega) fun f => ⟨by omega, ?_⟩,
    upto_add (term (Q m c) (U m c) (row t a) d) (704 * (t.val % 4)) 704 (fun f => Q m c (ix3 (part t) (row t a) f) * U m c (ix3 (part t) f d)) (704 * (t.val % 4 + 1)) (by omega) fun f => ⟨by omega, ?_⟩]
  · rw [add_add_add_comm]
    refine congrArg₂ (fun u v : EReal => _ + u + (_ + v)) (Finset.sum_congr rfl fun f _ => ?_) (Finset.sum_congr rfl fun f _ => ?_)
    · exact congrArg₂ (fun u v : EReal => u * v) (p_at m c t 0 a f) (g_at m c t 0 f d)
    · exact congrArg₂ (fun u v : EReal => u * v) (q_at m c t 0 a f) (u_at m c t 0 f d)
  · unfold term
    rw [(split t f (by omega)).1, (split t f (by omega)).2]
  · unfold term
    rw [(split t f (by omega)).1, (split t f (by omega)).2]

/-! ## What a grid point leaves -/

/-- The state before a point. -/
abbrev before (t : Fin cfg0.N) := outsAt0 m c (t.val - 1) (Nat.lt_of_le_of_lt (Nat.sub_le _ _) t.isLt)

theorem carried_first (e : t.val % 4 = 0) : (outsAt0 m c t.val t.isLt).2.2
    = k0_pay1 (F := Ideal) (iblk m c 0 t) (iblk m c 2 t) (iblk m c 1 t) (iblk m c 3 t) := by
  rw [← first_at]
  by_cases h : t.val % 32 = 0
  · rw [outsAt0_A m c t h e (by omega) (by omega)]
    frame_out
  · rw [outsAt0_D m c t h e (by omega) (by omega)]
    frame_out

theorem carried_next (e : ¬t.val % 4 = 0) : (outsAt0 m c t.val t.isLt).2.2
    = k0_pay4 (F := Ideal) (iblk m c 0 t) (iblk m c 2 t) (iblk m c 1 t) (iblk m c 3 t) (before m c t).2.2 := by
  by_cases h : t.val % 4 = 3
  · rw [outsAt0_C m c t (by omega) e (by omega) h]
    frame_out
    simp only [read_unread_whole]
  · rw [outsAt0_B m c t (by omega) e (by omega) h]
    frame_out
    simp only [read_unread_whole]

theorem written (e : t.val % 4 = 3) : (outsAt0 m c t.val t.isLt).1
    = k0_pay7 (F := Ideal) (outsAt0 m c t.val t.isLt).2.2 (iblk m c 4 t) (iblk m c 5 t) (iblk m c 6 t) := by
  rw [carried_next m c t (by omega), outsAt0_C m c t (by omega) (by omega) (by omega) e]
  frame_out
  simp only [read_unread_whole]

theorem weight_first (e : t.val % 32 = 0) : (outsAt0 m c t.val t.isLt).2.1 = k0_pay2 (F := Ideal) := by
  rw [outsAt0_A m c t e (by omega) (by omega) (by omega)]
  frame_out

theorem weight_kept (e : ¬t.val % 32 = 0) (h : ¬t.val % 4 = 3) : (outsAt0 m c t.val t.isLt).2.1 = (before m c t).2.1 := by
  by_cases e0 : t.val % 4 = 0
  · rw [outsAt0_D m c t e e0 (by omega) h]
    rfl
  · rw [outsAt0_B m c t e e0 (by omega) h]
    rfl

theorem weight_next (e : t.val % 4 = 3) : (outsAt0 m c t.val t.isLt).2.1
    = k0_pay8 (F := Ideal) (outsAt0 m c t.val t.isLt).2.2 (iblk m c 4 t) (before m c t).2.1 := by
  rw [carried_next m c t (by omega), outsAt0_C m c t (by omega) (by omega) (by omega) e]
  frame_out
  simp only [read_unread_whole]

theorem row_pred (e : ¬t.val % 4 = 0) (a : Fin 1024) : row ⟨t.val - 1, Nat.lt_of_le_of_lt (Nat.sub_le _ _) t.isLt⟩ a = row t a :=
  Fin.ext (by show 1024 * ((t.val - 1) / 4) + a.val = 1024 * (t.val / 4) + a.val; omega)

/-- After any point the carried array holds both projections over the blocks so far. -/
theorem carried : ∀ (n : ℕ) (t : Fin cfg0.N), t.val % 4 = n →
    ∀ a d, (outsAt0 m c t.val t.isLt).2.2 (ix2 a d) = sofar m c (704 * (t.val % 4 + 1)) (row t a) d
  | 0, t, e, a, d => by
    rw [carried_first m c t e, ← add_block m c t a d, e]
    have h0 : sofar m c (704 * 0) (row t a) d = 0 := by
      unfold sofar
      rw [Nat.mul_zero, upto_zero, upto_zero, add_zero]
    rw [h0, zero_add]
  | n + 1, t, e, a, d => by
    have ih := carried n ⟨t.val - 1, Nat.lt_of_le_of_lt (Nat.sub_le _ _) t.isLt⟩ (by show (t.val - 1) % 4 = n; omega) a d
    have e' : ¬t.val % 4 = 0 := by omega
    rw [row_pred t e' a, show 704 * ((t.val - 1) % 4 + 1) = 704 * (t.val % 4) by omega] at ih
    rw [carried_next m c t e', next_at, ← add_block m c t a d]
    exact congrArg (· + _) ih

/-- At the last block of a row tile, the carried array is the whole gradient of the normalised rows. -/
theorem whole (e : t.val % 4 = 3) (a d : Fin 1024) : (outsAt0 m c t.val t.isLt).2.2 (ix2 a d)
    = back (P m c) (Q m c) (G m c) (U m c) (row t a) d := by
  rw [carried m c 3 t e a d, ← sofar_all, e]

theorem scaled_block (a d : Fin 1024) : k0_pay6 (F := Ideal) (iblk m c 4 t) (ix2 a d) = X m c (ix2 (row t a) d) * scale (X m c) (row t a) := by
  rw [scaled_at]
  simp only [x_at]
  rfl

theorem scale_block (a : Fin 1024) : k0_pay5 (F := Ideal) (iblk m c 4 t) (ix2 a 0) = scale (X m c) (row t a) := by
  rw [scale_at]
  simp only [x_at]
  rfl

/-- After any point the weight's gradient is the sum over the row tiles finished. -/
theorem weight : ∀ (n : ℕ) (l : n < cfg0.N) (d : Fin 1024), (outsAt0 m c n l).2.1 (ix2 0 d)
    = upto (wterm (P m c) (Q m c) (G m c) (U m c) (X m c) d) (1024 * ((n + 1) / 4)) := by
  intro n
  induction n with
  | zero =>
    intro l d
    have h := congrFun (weight_first m c ⟨0, l⟩ (Nat.zero_mod 32)) (ix2 0 d)
    refine h.trans ((zero_at _).trans ?_)
    rw [show 1024 * ((0 + 1) / 4) = 0 by omega, upto_zero]
  | succ n ih =>
    intro l d
    have ih' := ih (by omega) d
    have hN := points ⟨n + 1, l⟩
    by_cases h : (n + 1) % 4 = 3
    · have hw := congrFun (weight_next m c ⟨n + 1, l⟩ h) (ix2 0 d)
      refine hw.trans ?_
      rw [wnext_at, upto_add (wterm (P m c) (Q m c) (G m c) (U m c) (X m c) d) (1024 * ((n + 1) / 4)) 1024 _ (1024 * ((n + 1 + 1) / 4)) (by omega) fun a => ⟨by simp only at hN; omega, ?_⟩]
      · exact congrArg (· + _) ih'
      · rw [whole m c ⟨n + 1, l⟩ h a d, scaled_block]
        rfl
    · have hw := congrFun (weight_kept m c ⟨n + 1, l⟩ (by simp only at hN ⊢; omega) h) (ix2 0 d)
      refine hw.trans (ih'.trans ?_)
      rw [show (n + 1 + 1) / 4 = (n + 1) / 4 by omega]

/-- An entry a point writes at the last block of a row tile. -/
theorem entry (e : t.val % 4 = 3) (a d : Fin 1024) : (outsAt0 m c t.val t.isLt).1 (ix2 a d)
    = O m c (ix2 (row t a) d) + scale (X m c) (row t a) * (back (P m c) (Q m c) (G m c) (U m c) (row t a) d * W m c (ix2 0 d)
      - X m c (ix2 (row t a) d) * scale (X m c) (row t a) * Ideal.div (∑ e : Fin 1024, back (P m c) (Q m c) (G m c) (U m c) (row t a) e * W m c (ix2 0 e)
        * (X m c (ix2 (row t a) e) * scale (X m c) (row t a))) (Ideal.ofBits .f32 0x44800000#32)) := by
  rw [written m c t e, out_at]
  simp only [whole m c t e, scaled_block, scale_block, w_at, o_at]

/-! ## The reference at an index -/

open Cert.Reference3Ideal.Read

section
variable (P Q : FVec Ideal S4x8192x704 .bf16) (G U : FVec Ideal S4x704x1024 .bf16) (X : FVec Ideal S8192x1024 .f32) (W : FVec Ideal S1x1024 .f32) (O : FVec Ideal S8192x1024 .f32)

theorem ref_ms (i : Cert.Reference3Ideal.S8192x1.Idx) (r : Fin 8192) (h : (i 0).val = r.val) : val_main_v6 (F := Ideal) X i = meanSq fun d => X (ix2 r d) := by
  simp only [val_main_v6_apply, val_main_v5_apply, val_main_v4_apply, val_main_v3_apply, val_main_v2_apply, val_main_v1_apply, val_main_v0_apply]
  simp only [show ∀ k, idx_main_v1 (idx_main_v2 i) k = ix2 r k from fun k => ext2 h rfl]
  show Ideal.div (Ideal.ofBits .f32 0#32 + ∑ k : Fin 1024, X (ix2 r k) * X (ix2 r k)) (Ideal.ofBits .f32 0x44800000#32) + Ideal.ofBits .f32 0x358637BD#32 = _
  rw [Ideal.ofBits_zero_f32, zero_add]
  rfl

theorem ref_scale (i : Cert.Reference3Ideal.S8192x1.Idx) (r : Fin 8192) (h : (i 0).val = r.val) : val_main_v7 (F := Ideal) X i = scale X r := by
  rw [val_main_v7_apply, ref_ms X i r h]
  rfl

theorem ref_up (r : Fin 8192) (d : Fin 1024) : val_main_v29 (F := Ideal) Q U (ix2 r d) = ∑ k, term Q U r d k := by
  rw [val_main_v29_apply]
  refine Finset.sum_congr rfl fun k _ => ?_
  rw [val_main_v28_apply, val_main_v27_apply, val_main_v26_apply, val_main_v21_apply, val_main_v20_apply, val_main_v19_apply]
  refine congrArg₂ (fun u v : EReal => u * v) (congrArg Q (ext3 ?_ ?_ ?_)) (congrArg U (ext3 ?_ ?_ ?_)) <;>
    · have := r.isLt; have := d.isLt; have := k.isLt; simp [c2_0, c2_1, blk, pos]; try omega

theorem ref_gate (r : Fin 8192) (d : Fin 1024) : val_main_v30 (F := Ideal) P G (ix2 r d) = ∑ k, term P G r d k := by
  rw [val_main_v30_apply]
  refine Finset.sum_congr rfl fun k _ => ?_
  rw [val_main_v25_apply, val_main_v24_apply, val_main_v23_apply, val_main_v17_apply, val_main_v16_apply, val_main_v15_apply]
  refine congrArg₂ (fun u v : EReal => u * v) (congrArg P (ext3 ?_ ?_ ?_)) (congrArg G (ext3 ?_ ?_ ?_)) <;>
    · have := r.isLt; have := d.isLt; have := k.isLt; simp [c2_0, c2_1, blk, pos]; try omega

theorem ref_back (r : Fin 8192) (d : Fin 1024) : val_main_v31 (F := Ideal) P Q G U (ix2 r d) = back P Q G U r d := by
  rw [val_main_v31_apply, ref_up, ref_gate]
  exact add_comm (G := EReal) _ _

theorem ref_weight (d : Fin 1024) : val_main_v34 (F := Ideal) P Q G U X (ix2 0 d) = ∑ r, wterm P Q G U X d r := by
  rw [val_main_v34_apply, val_main_v33_apply]
  show Ideal.ofBits .f32 0#32 + _ = _
  rw [Ideal.ofBits_zero_f32, zero_add]
  refine Finset.sum_congr rfl fun r _ => ?_
  rw [show idx_main_v33 (idx_main_v34 (ix2 0 d)) r = ix2 r d from ext2 rfl (by simp [c2_0, c2_1]), val_main_v32_apply, ref_back, val_main_v12_apply, val_main_v11_apply,
    ref_scale X _ r rfl]
  exact mul_comm (G := EReal) _ _

/-- The part of a row's gradient that runs through its root mean square, halved. -/
def through (r : Fin 8192) : EReal :=
  Ideal.div ((∑ e : Fin 1024, X (ix2 r e) * (back P Q G U r e * W (ix2 0 e))) * (Ideal.ofBits .f32 0xBF000000#32 * Ideal.div (scale X r) (meanSq fun d => X (ix2 r d))))
    (Ideal.ofBits .f32 0x44800000#32)

theorem ref_weighted (r : Fin 8192) (d : Fin 1024) : val_main_v36 (F := Ideal) P Q G U W (ix2 r d) = back P Q G U r d * W (ix2 0 d) := by
  rw [val_main_v36_apply, ref_back, val_main_v35_apply, show idx_main_v35 (ix2 r d) = ix2 0 d from ext2 (by simp) rfl]
  rfl

theorem ref_through (i : S8192x1024.Idx) (r : Fin 8192) (h : (i 0).val = r.val) : val_main_v46 (F := Ideal) P Q G U X W i = through P Q G U X W r := by
  rw [val_main_v46_apply, val_main_v45_apply]
  show Ideal.ofBits .f32 0#32 + _ = _
  rw [Ideal.ofBits_zero_f32, zero_add, Fin.sum_univ_one, val_main_v44_apply, val_main_v43_apply, val_main_v42_apply, val_main_v39_apply, val_main_v38_apply, val_main_v10_apply, val_main_v9_apply,
    val_main_v8_apply, ref_scale X _ r h, ref_ms X _ r h]
  simp only [show ∀ k, idx_main_v38 (idx_main_v39 (idx_main_v45 (idx_main_v46 i) 0)) k = ix2 r k from fun k => ext2 (by simp [h]) rfl, val_main_v37_apply, ref_weighted]
  show Ideal.div ((Ideal.ofBits .f32 0#32 + _) * _) _ = _
  rw [Ideal.ofBits_zero_f32, zero_add]
  rfl

theorem ref_out (r : Fin 8192) (d : Fin 1024) : val_main_v51 (F := Ideal) P Q G U X W O (ix2 r d)
    = O (ix2 r d) + (back P Q G U r d * W (ix2 0 d) * scale X r + X (ix2 r d) * through P Q G U X W r + through P Q G U X W r * X (ix2 r d)) := by
  rw [val_main_v51_apply, val_main_v50_apply, val_main_v49_apply, val_main_v48_apply, val_main_v47_apply, val_main_v41_apply, val_main_v40_apply, ref_scale X _ r rfl,
    ref_weighted, ref_through P Q G U X W _ r rfl]
  rfl

end

/-! ## The result arrays -/

theorem final_out : (dats m 0 c).arrAt 7 cfg0.N
    = (val_main_v51 (F := Ideal) (P m c) (Q m c) (G m c) (U m c) (X m c) (W m c) (O m c) : FVec Ideal S8192x1024 .f32) := by
  refine (dats m 0 c).arrAt_eq_of_cover 7 _ (fun t hf => ?_) (fun i => (Value.covered_iff7 i).2 (by
    have h0 : (i 0).val < 8192 := (i 0).isLt; have h1 : (i 1).val < 1024 := (i 1).isLt; omega))
  have e : t.val % 4 = 3 := (flush0_7 t).mp hf
  funext y
  rw [Value.flushed7]
  have h0 : (y 0).val < 1024 := (y 0).isLt
  have h1 : (y 1).val < 1024 := (y 1).isLt
  have ey : (cfg0.win 7).xinj (grid0.coords t) y = ix2 (⟨(y 0).val, h0⟩ : Fin 1024) ⟨(y 1).val, h1⟩ := ext2 rfl rfl
  show (outsAt0 m c t.val t.isLt).1 ((cfg0.win 7).xinj (grid0.coords t) y) = _
  rw [ey, entry m c t e]
  refine (congrArg (fun v : EReal => O m c (ix2 (row t ⟨(y 0).val, h0⟩) ⟨(y 1).val, h1⟩) + v) (norm_back (fun d => X m c (ix2 (row t ⟨(y 0).val, h0⟩) d))
    (fun d => back (P m c) (Q m c) (G m c) (U m c) (row t ⟨(y 0).val, h0⟩) d * W m c (ix2 0 d)) ⟨(y 1).val, h1⟩)).trans ?_
  refine (ref_out _ _ _ _ _ _ _ (row t ⟨(y 0).val, h0⟩) ⟨(y 1).val, h1⟩).symm.trans ?_
  refine congrArg (val_main_v51 (F := Ideal) (P m c) (Q m c) (G m c) (U m c) (X m c) (W m c) (O m c)) (ext2 ?_ ?_).symm <;>
    · blk_simp [idx t]; try simp [row]; try omega

theorem final_weight : (dats m 0 c).arrAt 8 cfg0.N
    = (val_main_v34 (F := Ideal) (P m c) (Q m c) (G m c) (U m c) (X m c) : FVec Ideal S1x1024 .f32) := by
  refine (dats m 0 c).arrAt_eq_of_cover 8 _ (fun t hf => ?_) (fun i => (Value.covered_iff8 i).2 (by
    have h0 : (i 0).val < 1 := (i 0).isLt; have h1 : (i 1).val < 1024 := (i 1).isLt; omega))
  have e : t.val % 32 = 31 := (flush0_8 t).mp hf
  have hN := points t
  funext y
  rw [Value.flushed8]
  have h0 : (y 0).val < 1 := (y 0).isLt
  have h1 : (y 1).val < 1024 := (y 1).isLt
  have ey : (cfg0.win 8).xinj (grid0.coords t) y = ix2 (0 : Fin 1) (⟨(y 1).val, h1⟩ : Fin 1024) := ext2 (by show (y 0).val = 0; omega) rfl
  show (outsAt0 m c t.val t.isLt).2.1 ((cfg0.win 8).xinj (grid0.coords t) y) = _
  rw [ey]
  have hsum := weight m c t.val t.isLt ⟨(y 1).val, h1⟩
  rw [show 1024 * ((t.val + 1) / 4) = 8192 by omega, upto_all (wterm (P m c) (Q m c) (G m c) (U m c) (X m c) _)] at hsum
  rw [hsum]
  refine (ref_weight _ _ _ _ _ ⟨(y 1).val, h1⟩).symm.trans ?_
  refine congrArg (val_main_v34 (F := Ideal) (P m c) (Q m c) (G m c) (U m c) (X m c)) (ext2 ?_ ?_).symm <;>
    · blk_simp [idx t]; try simp; try omega

end Step.FfnResid
-- ==== Proof.Step.Claim3.lean ====
/-
  The gradient of a feed-forward block with respect to its input: the claims of the pair of programs.
-/
module

public import proofs.«01_k».proof.Defs
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Step.FfnResid
public import Idealize.ShloMosaic.Lib.Claim
public import Idealize.ShloMosaic.Adequacy
public import Idealize.ShloMosaic.Init

@[expose] public section

set_option maxRecDepth 16384

noncomputable section

namespace Step.Claim3

open Idealize.ShloMosaic Idealize.SL.Sem

/-- The reference ends with its arguments unchanged and every counter at zero. -/
theorem quiescent_reference3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0) :=
  (θ_run _ _ _).mono (fun r h => ⟨fun c => (h c).2.2, sem_eq_zero_of_no_sems (by decide) r.2⟩) (Cert.Reference3Ideal.Value.run m g)

/-- Kernel and reference leave the same arrays. -/
theorem algebraic3 : Cert.algebraic_Kernel3Ideal_Reference3Ideal (hKernel3Ideal := Cert.Kernel3Ideal.Gen.facts) (hReference3Ideal := Cert.Reference3Ideal.Gen.facts) := by
  intro m g m' g' _ hagree
  refine ⟨fun c => Cert.Reference3Ideal.Read.val_main_v51 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)),
    fun c => Cert.Reference3Ideal.Read.val_main_v34 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)), ?_, ?_⟩
  · exact (θ_run _ _ _).mono (fun r h c => ⟨(h c).1.trans (Step.FfnResid.final_out m c), (h c).2.1.trans (Step.FfnResid.final_weight m c), (h c).2.2⟩) (Cert.Kernel3Ideal.Value.run_blocks m g)
  · refine (θ_run _ _ _).mono (fun r h c => ⟨(h c).1.trans ((Cert.Reference3Ideal.Read.val_main_v51_eq ..).trans ?_), (h c).2.1.trans ((Cert.Reference3Ideal.Read.val_main_v34_eq ..).trans ?_), (h c).2.2⟩) (Cert.Reference3Ideal.Value.run m' g')
    · show Cert.Reference3Ideal.Read.val_main_v51 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) = _
      rw [(hagree c).1, (hagree c).2.1, (hagree c).2.2.1, (hagree c).2.2.2.1, (hagree c).2.2.2.2.1, (hagree c).2.2.2.2.2.1, (hagree c).2.2.2.2.2.2]
    · show Cert.Reference3Ideal.Read.val_main_v34 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = _
      rw [(hagree c).1, (hagree c).2.1, (hagree c).2.2.1, (hagree c).2.2.2.1, (hagree c).2.2.2.2.1]

end Step.Claim3

end
-- ==== Proof.Step.Gate.lean ====
/-
  The logistic function written with the hyperbolic tangent, on the extended reals.
-/
module

public import proofs.«01_k».proof.Proof.Ret.Lift

@[expose] public section

noncomputable section

open Idealize.ShloMosaic

namespace Step

/-- Half of the hyperbolic tangent of half of `x`, plus a half, is the logistic function of `x`. -/
theorem sigmoid_eq (x : EReal) :
    Ideal.ofBits .f32 0x3F000000#32 * Ideal.tanh (Ideal.ofBits .f32 0x3F000000#32 * x) + Ideal.ofBits .f32 0x3F000000#32
      = Ideal.div (Ideal.ofBits .f32 0x3F800000#32) (Ideal.ofBits .f32 0x3F800000#32 + Ideal.exp (-x)) := by
  rw [Ret.lit_half, Ret.lit_one, EReal.coe_one]
  induction x with
  | bot =>
    rw [EReal.coe_mul_bot_of_pos (by norm_num)]
    show ((1 / 2 : ℝ) : EReal) * (-1) + ((1 / 2 : ℝ) : EReal) = Ideal.div 1 (1 + Ideal.exp (-⊥))
    rw [EReal.neg_bot]
    show _ = Ideal.div 1 (1 + ⊤)
    rw [show (1 : EReal) + ⊤ = ⊤ from rfl]
    unfold Ideal.div
    rw [if_neg (by simp), EReal.inv_top, mul_zero]
    rw [show (-1 : EReal) = ((-1 : ℝ) : EReal) from rfl, ← EReal.coe_mul, ← EReal.coe_add]
    norm_num
  | top =>
    rw [EReal.coe_mul_top_of_pos (by norm_num)]
    show ((1 / 2 : ℝ) : EReal) * 1 + ((1 / 2 : ℝ) : EReal) = Ideal.div 1 (1 + Ideal.exp (-⊤))
    rw [EReal.neg_top]
    show _ = Ideal.div 1 (1 + 0)
    unfold Ideal.div
    rw [add_zero, if_neg (by simp), inv_one, mul_one, mul_one, ← EReal.coe_add]
    norm_num
  | coe x =>
    rw [← EReal.coe_mul]
    show ((1 / 2 : ℝ) : EReal) * ((Real.tanh (1 / 2 * x) : ℝ) : EReal) + ((1 / 2 : ℝ) : EReal) = Ideal.div 1 (1 + Ideal.exp (-(x : EReal)))
    rw [← EReal.coe_neg]
    show _ = Ideal.div 1 (1 + ((Real.exp (-x) : ℝ) : EReal))
    have hp : (0 : ℝ) < 1 + Real.exp (-x) := by positivity
    rw [← EReal.coe_mul, ← EReal.coe_add, Ret.sigmoid_tanh, show (1 : EReal) = ((1 : ℝ) : EReal) from rfl, ← EReal.coe_add]
    unfold Ideal.div
    rw [if_neg (by rw [EReal.coe_eq_zero]; exact hp.ne'), ← EReal.coe_inv, ← EReal.coe_mul, one_div, one_mul]

end Step
-- ==== Proof.Step.FfnForward.lean ====
/-
  The feed-forward block: the kernel normalises 1024 rows, then sums the output over four blocks of 704 hidden columns.
-/
module

public import proofs.«01_k».proof.Proof.Gen.Kernel4Ideal.Value
public import proofs.«01_k».proof.Proof.Gen.Reference4Ideal.Read
public import proofs.«01_k».proof.Proof.Step.Sums
public import proofs.«01_k».proof.Proof.Step.Gate
public import Idealize.ShloMosaic.Lib.Pointwise
public import Idealize.ShloMosaic.Lib.Pointwise.IndexBridge
public import Idealize.ShloMosaic.Lib.Pipeline.ValueKit
public import Idealize.ShloMosaic.Lib.Pipeline.ReadBack

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Step.FfnForward

open Cert.Kernel4Ideal Cert.Kernel4Ideal.Gen

/-! ## The block as functions of its arrays -/

section Maths
variable (X : FVec Ideal S8192x1024 .f32) (W : FVec Ideal S1x1024 .f32) (G U V : FVec Ideal S4x704x1024 .bf16)

/-- The reciprocal root mean square of a row. -/
def scale (r : Fin 8192) : EReal :=
  Ideal.rsqrt (Ideal.div (∑ d : Fin 1024, X (ix2 r d) * X (ix2 r d)) (Ideal.ofBits .f32 0x44800000#32) + Ideal.ofBits .f32 0x358637BD#32)
/-- The normalised row. -/
def normed (r : Fin 8192) (d : Fin 1024) : EReal := X (ix2 r d) * scale X r * W (ix2 0 d)
/-- One hidden projection, by block and column. -/
def hid (p : Fin 4) (r : Fin 8192) (f : Fin 704) : EReal := ∑ d : Fin 1024, normed X W r d * G (ix3 p f d)
/-- The gated hidden value. -/
def act (p : Fin 4) (r : Fin 8192) (f : Fin 704) : EReal :=
  hid X W G p r f * Ideal.div (Ideal.ofBits .f32 0x3F800000#32) (Ideal.ofBits .f32 0x3F800000#32 + Ideal.exp (-hid X W G p r f)) * hid X W U p r f
def blk (k : Fin 2816) : Fin 4 := ⟨k.val / 704, by omega⟩
def pos (k : Fin 2816) : Fin 704 := ⟨k.val % 704, by omega⟩
/-- The terms of one entry of the output projection. -/
def term (r : Fin 8192) (d : Fin 1024) (k : Fin 2816) : EReal := act X W G U (blk k) r (pos k) * V (ix3 (blk k) (pos k) d)

end Maths

/-! ## The kernel's stores at an index -/

theorem norm_at (x : FVec Ideal S1024x1024 .f32) (w : FVec Ideal S1x1024 .f32) (a d : Fin 1024) :
    k0_pay3 (F := Ideal) x w (ix2 a d) = x (ix2 a d) * Ideal.rsqrt (Ideal.div (∑ d : Fin 1024, x (ix2 a d) * x (ix2 a d)) (Ideal.ofBits .f32 0x44800000#32) + Ideal.ofBits .f32 0x358637BD#32) * w (ix2 0 d) := by
  unfold k0_pay3
  rw [shapeCast_self]
  simp only [← ix2_eq_valueIdx, ← ix3_eq_valueIdx]; pointwise

theorem zero_at (i : S1024x1024.Idx) : k0_pay4 (F := Ideal) i = 0 := by
  unfold k0_pay4
  rw [shapeCast_self]
  exact Ideal.ofBits_zero_f32

theorem gate_at (x : FVec Ideal S1024x1024 .bf16) (w : FVec Ideal S1x704x1024 .bf16) (a : Fin 1024) (f : Fin 704) :
    k0_pay5 (F := Ideal) x w (ix2 a f) = ∑ d : Fin 1024, x (ix2 a d) * w (ix3 0 f d) := by
  unfold k0_pay5
  simp only [← ix2_eq_valueIdx, ← ix3_eq_valueIdx]; pointwise

theorem up_at (x : FVec Ideal S1024x1024 .bf16) (w : FVec Ideal S1x704x1024 .bf16) (a : Fin 1024) (f : Fin 704) :
    k0_pay6 (F := Ideal) x w (ix2 a f) = ∑ d : Fin 1024, x (ix2 a d) * w (ix3 0 f d) := by
  unfold k0_pay6
  simp only [← ix2_eq_valueIdx, ← ix3_eq_valueIdx]; pointwise

theorem gate_out (x : FVec Ideal S1024x1024 .bf16) (w : FVec Ideal S1x704x1024 .bf16) (a : Fin 1024) (f : Fin 704) :
    k0_pay7 (F := Ideal) x w (ix3 0 a f) = k0_pay5 (F := Ideal) x w (ix2 a f) := by
  unfold k0_pay7
  simp only [← ix2_eq_valueIdx, ← ix3_eq_valueIdx]; pointwise

theorem up_out (x : FVec Ideal S1024x1024 .bf16) (w : FVec Ideal S1x704x1024 .bf16) (a : Fin 1024) (f : Fin 704) :
    k0_pay8 (F := Ideal) x w (ix3 0 a f) = k0_pay6 (F := Ideal) x w (ix2 a f) := by
  unfold k0_pay8
  simp only [← ix2_eq_valueIdx, ← ix3_eq_valueIdx]; pointwise

theorem act_at (x : FVec Ideal S1024x1024 .bf16) (w w' : FVec Ideal S1x704x1024 .bf16) (a : Fin 1024) (f : Fin 704) :
    k0_pay9 (F := Ideal) x w w' (ix2 a f) = k0_pay5 (F := Ideal) x w (ix2 a f)
      * Ideal.div (Ideal.ofBits .f32 0x3F800000#32) (Ideal.ofBits .f32 0x3F800000#32 + Ideal.exp (-k0_pay5 (F := Ideal) x w (ix2 a f)))
      * k0_pay6 (F := Ideal) x w' (ix2 a f) := by
  rw [← sigmoid_eq]
  unfold k0_pay9
  simp only [← ix2_eq_valueIdx, ← ix3_eq_valueIdx]; pointwise

theorem add_at (x : FVec Ideal S1024x704 .bf16) (v : FVec Ideal S1024x1024 .f32) (w : FVec Ideal S1x704x1024 .bf16) (a d : Fin 1024) :
    k0_pay1 (F := Ideal) x v w (ix2 a d) = v (ix2 a d) + ∑ f : Fin 704, x (ix2 a f) * w (ix3 0 f d) := by
  unfold k0_pay1
  simp only [← ix2_eq_valueIdx, ← ix3_eq_valueIdx]; pointwise

theorem out_at (x v : FVec Ideal S1024x1024 .f32) (a d : Fin 1024) :
    k0_pay2 (F := Ideal) x v (ix2 a d) = x (ix2 a d) + Ideal.ofBits .f32 0x3F000000#32 * v (ix2 a d) := by
  unfold k0_pay2
  simp only [← ix2_eq_valueIdx, ← ix3_eq_valueIdx]; pointwise

/-! ## The blocks of a grid point -/

theorem points (t : Fin cfg0.N) : t.val < 32 := t.isLt

/-- Where each window of a grid point stands. -/
theorem idx : ∀ t : Fin cfg0.N, win0_0.index t = ![t.val / 4, 0] ∧ win0_1.index t = ![0, 0] ∧ win0_2.index t = ![t.val % 4, 0, 0]
    ∧ win0_3.index t = ![t.val % 4, 0, 0] ∧ win0_4.index t = ![t.val % 4, 0, 0] ∧ win0_5.index t = ![t.val / 4, 0]
    ∧ win0_6.index t = ![t.val % 4, t.val / 4, 0] ∧ win0_7.index t = ![t.val % 4, t.val / 4, 0] :=
  (by decide +kernel : ∀ t : Fin grid0.N, win0_0.index t = ![t.val / 4, 0] ∧ win0_1.index t = ![0, 0] ∧ win0_2.index t = ![t.val % 4, 0, 0]
    ∧ win0_3.index t = ![t.val % 4, 0, 0] ∧ win0_4.index t = ![t.val % 4, 0, 0] ∧ win0_5.index t = ![t.val / 4, 0]
    ∧ win0_6.index t = ![t.val % 4, t.val / 4, 0] ∧ win0_7.index t = ![t.val % 4, t.val / 4, 0])

/-- The block of hidden columns a point works on. -/
def part (t : Fin cfg0.N) : Fin 4 := ⟨t.val % 4, by omega⟩
/-- The row a point works on. -/
def row (t : Fin cfg0.N) (a : Fin 1024) : Fin 8192 := ⟨1024 * (t.val / 4) + a.val, by have := points t; omega⟩

variable (m : (ℓ : Loc nD τ sig) → Buf (Elt Ideal) ℓ) (c : Dev nD) (t : Fin cfg0.N)

abbrev X : FVec Ideal S8192x1024 .f32 := m ((c : Thread nD τ).loc main_arg0)
abbrev W : FVec Ideal S1x1024 .f32 := m ((c : Thread nD τ).loc main_arg1)
abbrev G : FVec Ideal S4x704x1024 .bf16 := m ((c : Thread nD τ).loc main_arg2)
abbrev U : FVec Ideal S4x704x1024 .bf16 := m ((c : Thread nD τ).loc main_arg3)
abbrev D : FVec Ideal S4x704x1024 .bf16 := m ((c : Thread nD τ).loc main_arg4)

theorem x_at (a d : Fin 1024) : (iblk m c 0 t : FVec Ideal S1024x1024 .f32) (ix2 a d) = X m c (ix2 (row t a) d) := by
  unfold X
  rw [← Gen.V_main_arg0 m c]
  refine congrArg (Gen.V m c main_arg0) (ext2 (p := row t a) (q := d) ?_ ?_) <;>
    · blk_simp [idx t]; try simp [row]; try omega

theorem w_at (a : Fin 1) (d : Fin 1024) : (iblk m c 1 t : FVec Ideal S1x1024 .f32) (ix2 a d) = W m c (ix2 0 d) := by
  unfold W
  rw [← Gen.V_main_arg1 m c]
  refine congrArg (Gen.V m c main_arg1) (ext2 (p := 0) (q := d) ?_ ?_) <;>
    · blk_simp [idx t]; try simp; try omega

theorem g_at (a : Fin 1) (f : Fin 704) (d : Fin 1024) : (iblk m c 2 t : FVec Ideal S1x704x1024 .bf16) (ix3 a f d)
    = G m c (ix3 (part t) f d) := by
  unfold G
  rw [← Gen.V_main_arg2 m c]
  refine congrArg (Gen.V m c main_arg2) (ext3 (p := part t) (q := f) (r := d) ?_ ?_ ?_) <;>
    · blk_simp [idx t]; try simp [part]; try omega

theorem u_at (a : Fin 1) (f : Fin 704) (d : Fin 1024) : (iblk m c 3 t : FVec Ideal S1x704x1024 .bf16) (ix3 a f d)
    = U m c (ix3 (part t) f d) := by
  unfold U
  rw [← Gen.V_main_arg3 m c]
  refine congrArg (Gen.V m c main_arg3) (ext3 (p := part t) (q := f) (r := d) ?_ ?_ ?_) <;>
    · blk_simp [idx t]; try simp [part]; try omega

theorem d_at (a : Fin 1) (f : Fin 704) (d : Fin 1024) : (iblk m c 4 t : FVec Ideal S1x704x1024 .bf16) (ix3 a f d)
    = D m c (ix3 (part t) f d) := by
  unfold D
  rw [← Gen.V_main_arg4 m c]
  refine congrArg (Gen.V m c main_arg4) (ext3 (p := part t) (q := f) (r := d) ?_ ?_ ?_) <;>
    · blk_simp [idx t]; try simp [part]; try omega

/-! ## One grid point -/

theorem norm_block (a d : Fin 1024) : k0_pay3 (F := Ideal) (iblk m c 0 t) (iblk m c 1 t) (ix2 a d) = normed (X m c) (W m c) (row t a) d := by
  rw [norm_at]
  simp only [x_at, w_at]
  rfl

/-- What the scratch holding the normalised rows must be. -/
def Rows (x : FVec Ideal S1024x1024 .bf16) : Prop := ∀ a d, x (ix2 a d) = normed (X m c) (W m c) (row t a) d

variable {m c t}

theorem gate_block {x : FVec Ideal S1024x1024 .bf16} (hx : Rows m c t x) (a : Fin 1024) (f : Fin 704) :
    k0_pay5 (F := Ideal) x (iblk m c 2 t) (ix2 a f) = hid (X m c) (W m c) (G m c) (part t) (row t a) f := by
  rw [gate_at]
  refine Finset.sum_congr rfl fun d _ => ?_
  rw [hx]
  exact congrArg (_ * ·) (g_at m c t 0 f d)

theorem up_block {x : FVec Ideal S1024x1024 .bf16} (hx : Rows m c t x) (a : Fin 1024) (f : Fin 704) :
    k0_pay6 (F := Ideal) x (iblk m c 3 t) (ix2 a f) = hid (X m c) (W m c) (U m c) (part t) (row t a) f := by
  rw [up_at]
  refine Finset.sum_congr rfl fun d _ => ?_
  rw [hx]
  exact congrArg (_ * ·) (u_at m c t 0 f d)

theorem act_block {x : FVec Ideal S1024x1024 .bf16} (hx : Rows m c t x) (a : Fin 1024) (f : Fin 704) :
    k0_pay9 (F := Ideal) x (iblk m c 2 t) (iblk m c 3 t) (ix2 a f) = act (X m c) (W m c) (G m c) (U m c) (part t) (row t a) f := by
  rw [act_at, gate_block hx, up_block hx]
  rfl

/-- Adding a block's share to the sum over the blocks before it. -/
theorem add_block {x : FVec Ideal S1024x1024 .bf16} (hx : Rows m c t x) (v : FVec Ideal S1024x1024 .f32) (a d : Fin 1024)
    (hv : v (ix2 a d) = upto (term (X m c) (W m c) (G m c) (U m c) (D m c) (row t a) d) (704 * (t.val % 4))) :
    k0_pay1 (F := Ideal) (k0_pay9 (F := Ideal) x (iblk m c 2 t) (iblk m c 3 t)) v (iblk m c 4 t) (ix2 a d)
      = upto (term (X m c) (W m c) (G m c) (U m c) (D m c) (row t a) d) (704 * (t.val % 4 + 1)) := by
  rw [add_at, upto_add (term (X m c) (W m c) (G m c) (U m c) (D m c) (row t a) d) (704 * (t.val % 4)) 704 _ (704 * (t.val % 4 + 1)) (by omega) fun f => ⟨by omega, ?_⟩]
  · exact congrArg (· + _) hv
  rw [act_block hx]
  have hb : blk ⟨704 * (t.val % 4) + f.val, by omega⟩ = part t := Fin.ext (by show (704 * (t.val % 4) + f.val) / 704 = t.val % 4; omega)
  have hp : pos ⟨704 * (t.val % 4) + f.val, by omega⟩ = f := Fin.ext (by show (704 * (t.val % 4) + f.val) % 704 = f.val; omega)
  show _ = act (X m c) (W m c) (G m c) (U m c) (blk _) (row t a) (pos _) * D m c (ix3 (blk _) (pos _) d)
  rw [hb, hp]
  exact congrArg (_ * ·) (d_at m c t 0 f d)

variable (m c t)

/-! ## What a grid point leaves -/

/-- The state before a point. -/
abbrev before (t : Fin cfg0.N) := outsAt0 m c (t.val - 1) (Nat.lt_of_le_of_lt (Nat.sub_le _ _) t.isLt)

theorem held_first (e : t.val % 4 = 0) : (outsAt0 m c t.val t.isLt).2.2.2.1 = k0_pay3 (F := Ideal) (iblk m c 0 t) (iblk m c 1 t) := by
  rw [outsAt0_A m c t e (by omega)]
  frame_out

theorem held_next (e : ¬t.val % 4 = 0) : (outsAt0 m c t.val t.isLt).2.2.2.1 = (before m c t).2.2.2.1 := by
  by_cases h : t.val % 4 = 3
  · rw [outsAt0_C m c t e h]
    rfl
  · rw [outsAt0_B m c t e h]
    rfl

theorem carried_first (e : t.val % 4 = 0) : (outsAt0 m c t.val t.isLt).2.2.2.2
    = k0_pay1 (F := Ideal) (k0_pay9 (F := Ideal) (k0_pay3 (F := Ideal) (iblk m c 0 t) (iblk m c 1 t)) (iblk m c 2 t) (iblk m c 3 t)) (k0_pay4 (F := Ideal)) (iblk m c 4 t) := by
  rw [outsAt0_A m c t e (by omega)]
  frame_out

theorem carried_next (e : ¬t.val % 4 = 0) : (outsAt0 m c t.val t.isLt).2.2.2.2
    = k0_pay1 (F := Ideal) (k0_pay9 (F := Ideal) (before m c t).2.2.2.1 (iblk m c 2 t) (iblk m c 3 t)) (before m c t).2.2.2.2 (iblk m c 4 t) := by
  by_cases h : t.val % 4 = 3
  · rw [outsAt0_C m c t e h]
    frame_out
    simp only [read_unread_whole]
  · rw [outsAt0_B m c t e h]
    frame_out
    simp only [read_unread_whole]

theorem written (e : t.val % 4 = 3) : (outsAt0 m c t.val t.isLt).1
    = k0_pay2 (F := Ideal) (iblk m c 0 t) ((outsAt0 m c t.val t.isLt).2.2.2.2) := by
  rw [carried_next m c t (by omega), outsAt0_C m c t (by omega) e]
  frame_out
  simp only [read_unread_whole]

theorem gate_left : (outsAt0 m c t.val t.isLt).2.1
    = k0_pay7 (F := Ideal) ((outsAt0 m c t.val t.isLt).2.2.2.1) (iblk m c 2 t) := by
  by_cases e : t.val % 4 = 0
  · rw [held_first m c t e, outsAt0_A m c t e (by omega)]
    frame_out
  · rw [held_next m c t e]
    by_cases h : t.val % 4 = 3
    · rw [outsAt0_C m c t e h]
      frame_out
      simp only [read_unread_whole]
    · rw [outsAt0_B m c t e h]
      frame_out
      simp only [read_unread_whole]

theorem up_left : (outsAt0 m c t.val t.isLt).2.2.1
    = k0_pay8 (F := Ideal) ((outsAt0 m c t.val t.isLt).2.2.2.1) (iblk m c 3 t) := by
  by_cases e : t.val % 4 = 0
  · rw [held_first m c t e, outsAt0_A m c t e (by omega)]
    frame_out
  · rw [held_next m c t e]
    by_cases h : t.val % 4 = 3
    · rw [outsAt0_C m c t e h]
      frame_out
      simp only [read_unread_whole]
    · rw [outsAt0_B m c t e h]
      frame_out
      simp only [read_unread_whole]

theorem row_pred (e : ¬t.val % 4 = 0) (a : Fin 1024) : row ⟨t.val - 1, Nat.lt_of_le_of_lt (Nat.sub_le _ _) t.isLt⟩ a = row t a :=
  Fin.ext (by show 1024 * ((t.val - 1) / 4) + a.val = 1024 * (t.val / 4) + a.val; omega)

/-- After any point the held array is the normalised rows, and the carried array the sum over the blocks so far. -/
theorem carried : ∀ (n : ℕ) (t : Fin cfg0.N), t.val % 4 = n → Rows m c t ((outsAt0 m c t.val t.isLt).2.2.2.1)
    ∧ ∀ a d, (outsAt0 m c t.val t.isLt).2.2.2.2 (ix2 a d) = upto (term (X m c) (W m c) (G m c) (U m c) (D m c) (row t a) d) (704 * (t.val % 4 + 1))
  | 0, t, e => by
    refine ⟨fun a d => ?_, fun a d => ?_⟩
    · rw [held_first m c t e]
      exact norm_block m c t a d
    · rw [carried_first m c t e]
      refine add_block (fun a d => norm_block m c t a d) _ a d ?_
      rw [zero_at, e]
      exact (upto_zero _).symm
  | n + 1, t, e => by
    obtain ⟨hx, hv⟩ := carried n ⟨t.val - 1, Nat.lt_of_le_of_lt (Nat.sub_le _ _) t.isLt⟩ (by show (t.val - 1) % 4 = n; omega)
    have e' : ¬t.val % 4 = 0 := by omega
    have hx' : Rows m c t (before m c t).2.2.2.1 := fun a d => by
      rw [← row_pred t e' a]
      exact hx a d
    refine ⟨fun a d => ?_, fun a d => ?_⟩
    · rw [held_next m c t e']
      exact hx' a d
    · rw [carried_next m c t e']
      refine add_block hx' _ a d ?_
      rw [← row_pred t e' a, show 704 * (t.val % 4) = 704 * ((t.val - 1) % 4 + 1) by omega]
      exact hv a d

/-! ## The reference at an index -/

open Cert.Reference4Ideal.Read

section
variable (X : FVec Ideal S8192x1024 .f32) (W : FVec Ideal S1x1024 .f32) (G U V : FVec Ideal S4x704x1024 .bf16)

theorem ref_norm (r : Fin 8192) (d : Fin 1024) : val_main_v11 (F := Ideal) X W (ix2 r d) = normed X W r d := by
  simp only [val_main_v11_apply, val_main_v10_apply, val_main_v9_apply, val_main_v8_apply, val_main_v7_apply, val_main_v6_apply, val_main_v5_apply, val_main_v4_apply, val_main_v3_apply, val_main_v2_apply, val_main_v1_apply, val_main_v0_apply]
  rw [show idx_main_v10 (ix2 r d) = ix2 0 d from ext2 (by simp) rfl]
  simp only [show ∀ k, idx_main_v1 (idx_main_v2 (idx_main_v8 (ix2 r d))) k = ix2 r k from fun k => ext2 rfl rfl]
  show X (ix2 r d) * Ideal.rsqrt (Ideal.div (Ideal.ofBits .f32 0#32 + ∑ k : Fin 1024, X (ix2 r k) * X (ix2 r k)) (Ideal.ofBits .f32 0x44800000#32) + Ideal.ofBits .f32 0x358637BD#32) * W (ix2 0 d) = _
  rw [Ideal.ofBits_zero_f32, zero_add]
  rfl

theorem ref_gate (r : Fin 8192) (k : Fin 2816) : val_main_v15 (F := Ideal) X W G (ix2 r k) = hid X W G (blk k) r (pos k) := by
  rw [val_main_v15_apply]
  refine Finset.sum_congr rfl fun d _ => ?_
  rw [show lidx_main_v15 (ix2 r k) d = ix2 r d from ext2 rfl rfl, ref_norm, val_main_v14_apply, val_main_v13_apply, val_main_v12_apply]
  refine congrArg (fun v : EReal => normed X W r d * v) (congrArg G (ext3 ?_ ?_ ?_)) <;>
    · simp [c2_0, c2_1, blk, pos]; try omega

theorem ref_up (r : Fin 8192) (k : Fin 2816) : val_main_v19 (F := Ideal) X W U (ix2 r k) = hid X W U (blk k) r (pos k) := by
  rw [val_main_v19_apply]
  refine Finset.sum_congr rfl fun d _ => ?_
  rw [show lidx_main_v19 (ix2 r k) d = ix2 r d from ext2 rfl rfl, ref_norm, val_main_v18_apply, val_main_v17_apply, val_main_v16_apply]
  refine congrArg (fun v : EReal => normed X W r d * v) (congrArg U (ext3 ?_ ?_ ?_)) <;>
    · simp [c2_0, c2_1, blk, pos]; try omega

theorem ref_act (r : Fin 8192) (k : Fin 2816) : val_main_v21 (F := Ideal) X W G U (ix2 r k) = act X W G U (blk k) r (pos k) := by
  rw [val_main_v21_apply, val_main_v20_apply, ref_up, val_main_call0_v5_apply, val_main_call0_v4_apply, val_main_call0_v3_apply, val_main_call0_v2_apply,
    val_main_call0_v1_apply, val_main_call0_v0_apply, ref_gate]
  rfl

theorem ref_out (r : Fin 8192) (d : Fin 1024) : val_main_v27 (F := Ideal) X W G U V (ix2 r d)
    = X (ix2 r d) + Ideal.ofBits .f32 0x3F000000#32 * ∑ k, term X W G U V r d k := by
  rw [val_main_v27_apply, val_main_v26_apply, val_main_v25_apply, val_main_v24_apply]
  refine congrArg (fun v : EReal => X (ix2 r d) + Ideal.ofBits .f32 0x3F000000#32 * v) (Finset.sum_congr rfl fun k _ => ?_)
  rw [show lidx_main_v24 (ix2 r d) k = ix2 r k from ext2 rfl rfl, ref_act, val_main_v23_apply, val_main_v22_apply]
  refine congrArg (fun v : EReal => act X W G U (blk k) r (pos k) * v) (congrArg V (ext3 ?_ ?_ ?_)) <;>
    · simp [c2_0, c2_1, blk, pos]; try omega

theorem ref_gate_out (p : Fin 4) (r : Fin 8192) (f : Fin 704) : val_main_v30 (F := Ideal) X W G (ix3 p r f) = hid X W G p r f := by
  rw [val_main_v30_apply, val_main_v29_apply, val_main_v28_apply]
  have hi : idx_main_v28 (idx_main_v29 (ix3 p r f)) = ix2 r ⟨704 * p.val + f.val, by omega⟩ := ext2 (by simp [c3_0, c3_1, c3_2]; omega) (by simp [c3_0, c3_1, c3_2]; omega)
  rw [hi, ref_gate, show blk ⟨704 * p.val + f.val, by omega⟩ = p from Fin.ext (by show (704 * p.val + f.val) / 704 = p.val; omega),
    show pos ⟨704 * p.val + f.val, by omega⟩ = f from Fin.ext (by show (704 * p.val + f.val) % 704 = f.val; omega)]
  rfl

theorem ref_up_out (p : Fin 4) (r : Fin 8192) (f : Fin 704) : val_main_v33 (F := Ideal) X W U (ix3 p r f) = hid X W U p r f := by
  rw [val_main_v33_apply, val_main_v32_apply, val_main_v31_apply]
  have hi : idx_main_v31 (idx_main_v32 (ix3 p r f)) = ix2 r ⟨704 * p.val + f.val, by omega⟩ := ext2 (by simp [c3_0, c3_1, c3_2]; omega) (by simp [c3_0, c3_1, c3_2]; omega)
  rw [hi, ref_up, show blk ⟨704 * p.val + f.val, by omega⟩ = p from Fin.ext (by show (704 * p.val + f.val) / 704 = p.val; omega),
    show pos ⟨704 * p.val + f.val, by omega⟩ = f from Fin.ext (by show (704 * p.val + f.val) % 704 = f.val; omega)]
  rfl

end

/-! ## The result arrays -/

theorem final_out : (dats m 0 c).arrAt 5 cfg0.N
    = (val_main_v27 (F := Ideal) (X m c) (W m c) (G m c) (U m c) (D m c) : FVec Ideal S8192x1024 .f32) := by
  refine (dats m 0 c).arrAt_eq_of_cover 5 _ (fun t hf => ?_) (fun i => (Value.covered_iff5 i).2 (by
    have h0 : (i 0).val < 8192 := (i 0).isLt; have h1 : (i 1).val < 1024 := (i 1).isLt; omega))
  have e : t.val % 4 = 3 := (flush0_5 t).mp hf
  funext y
  rw [Value.flushed5, written m c t e]
  have h0 : (y 0).val < 1024 := (y 0).isLt
  have h1 : (y 1).val < 1024 := (y 1).isLt
  have ey : (cfg0.win 5).xinj (grid0.coords t) y = ix2 (⟨(y 0).val, h0⟩ : Fin 1024) ⟨(y 1).val, h1⟩ := ext2 rfl rfl
  show k0_pay2 (F := Ideal) _ _ ((cfg0.win 5).xinj (grid0.coords t) y) = _
  have hsum := (carried m c 3 t e).2 ⟨(y 0).val, h0⟩ ⟨(y 1).val, h1⟩
  rw [show 704 * (t.val % 4 + 1) = 2816 by omega, upto_all (term (X m c) (W m c) (G m c) (U m c) (D m c) _ _)] at hsum
  rw [ey, out_at, hsum]
  refine (congrArg (fun v : EReal => v + _) (x_at m c t _ _)).trans ?_
  refine (ref_out _ _ _ _ _ (row t ⟨(y 0).val, h0⟩) ⟨(y 1).val, h1⟩).symm.trans ?_
  refine congrArg (val_main_v27 (F := Ideal) (X m c) (W m c) (G m c) (U m c) (D m c)) (ext2 ?_ ?_).symm <;>
    · blk_simp [idx t]; try simp [row]; try omega

theorem final_gate : (dats m 0 c).arrAt 6 cfg0.N
    = (val_main_v30 (F := Ideal) (X m c) (W m c) (G m c) : FVec Ideal S4x8192x704 .bf16) := by
  refine (dats m 0 c).arrAt_eq_of_cover 6 _ (fun t hf => ?_) (fun i => (Value.covered_iff6 i).2 (by
    have h0 : (i 0).val < 4 := (i 0).isLt; have h1 : (i 1).val < 8192 := (i 1).isLt; have h2 : (i 2).val < 704 := (i 2).isLt; omega))
  funext y
  rw [Value.flushed6, gate_left m c t]
  have h0 : (y 0).val < 1 := (y 0).isLt
  have h1 : (y 1).val < 1024 := (y 1).isLt
  have h2 : (y 2).val < 704 := (y 2).isLt
  have ey : (cfg0.win 6).xinj (grid0.coords t) y = ix3 (0 : Fin 1) (⟨(y 1).val, h1⟩ : Fin 1024) ⟨(y 2).val, h2⟩ := ext3 (by show (y 0).val = 0; omega) rfl rfl
  show k0_pay7 (F := Ideal) _ _ ((cfg0.win 6).xinj (grid0.coords t) y) = _
  rw [ey, gate_out, gate_block (carried m c _ t rfl).1, ← ref_gate_out]
  refine congrArg (val_main_v30 (F := Ideal) (X m c) (W m c) (G m c)) (ext3 ?_ ?_ ?_).symm <;>
    · blk_simp [idx t]; try simp [row, part]; try omega

theorem final_up : (dats m 0 c).arrAt 7 cfg0.N
    = (val_main_v33 (F := Ideal) (X m c) (W m c) (U m c) : FVec Ideal S4x8192x704 .bf16) := by
  refine (dats m 0 c).arrAt_eq_of_cover 7 _ (fun t hf => ?_) (fun i => (Value.covered_iff7 i).2 (by
    have h0 : (i 0).val < 4 := (i 0).isLt; have h1 : (i 1).val < 8192 := (i 1).isLt; have h2 : (i 2).val < 704 := (i 2).isLt; omega))
  funext y
  rw [Value.flushed7, up_left m c t]
  have h0 : (y 0).val < 1 := (y 0).isLt
  have h1 : (y 1).val < 1024 := (y 1).isLt
  have h2 : (y 2).val < 704 := (y 2).isLt
  have ey : (cfg0.win 7).xinj (grid0.coords t) y = ix3 (0 : Fin 1) (⟨(y 1).val, h1⟩ : Fin 1024) ⟨(y 2).val, h2⟩ := ext3 (by show (y 0).val = 0; omega) rfl rfl
  show k0_pay8 (F := Ideal) _ _ ((cfg0.win 7).xinj (grid0.coords t) y) = _
  rw [ey, up_out, up_block (carried m c _ t rfl).1, ← ref_up_out]
  refine congrArg (val_main_v33 (F := Ideal) (X m c) (W m c) (U m c)) (ext3 ?_ ?_ ?_).symm <;>
    · blk_simp [idx t]; try simp [row, part]; try omega

end Step.FfnForward
-- ==== Proof.Step.Claim4.lean ====
/-
  The forward feed-forward block: the claims of the pair of programs.
-/
module

public import proofs.«01_k».proof.Defs
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Step.FfnForward
public import Idealize.ShloMosaic.Lib.Claim
public import Idealize.ShloMosaic.Adequacy
public import Idealize.ShloMosaic.Init

@[expose] public section

set_option maxRecDepth 16384

noncomputable section

namespace Step.Claim4

open Idealize.ShloMosaic Idealize.SL.Sem

/-- The reference ends with its arguments unchanged and every counter at zero. -/
theorem quiescent_reference4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0) :=
  (θ_run _ _ _).mono (fun r h => ⟨fun c => (h c).2.2.2, sem_eq_zero_of_no_sems (by decide) r.2⟩) (Cert.Reference4Ideal.Value.run m g)

/-- Kernel and reference leave the same arrays. -/
theorem algebraic4 : Cert.algebraic_Kernel4Ideal_Reference4Ideal (hKernel4Ideal := Cert.Kernel4Ideal.Gen.facts) (hReference4Ideal := Cert.Reference4Ideal.Gen.facts) := by
  intro m g m' g' _ hagree
  refine ⟨fun c => Cert.Reference4Ideal.Read.val_main_v27 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)),
    fun c => Cert.Reference4Ideal.Read.val_main_v30 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v33 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)), ?_, ?_⟩
  · exact (θ_run _ _ _).mono (fun r h c => ⟨(h c).1.trans (Step.FfnForward.final_out m c), (h c).2.1.trans (Step.FfnForward.final_gate m c), (h c).2.2.1.trans (Step.FfnForward.final_up m c), (h c).2.2.2⟩) (Cert.Kernel4Ideal.Value.run_blocks m g)
  · refine (θ_run _ _ _).mono (fun r h c => ⟨(h c).1.trans ((Cert.Reference4Ideal.Read.val_main_v27_eq ..).trans ?_), (h c).2.1.trans ((Cert.Reference4Ideal.Read.val_main_v30_eq ..).trans ?_), (h c).2.2.1.trans ((Cert.Reference4Ideal.Read.val_main_v33_eq ..).trans ?_), (h c).2.2.2⟩) (Cert.Reference4Ideal.Value.run m' g')
    · show Cert.Reference4Ideal.Read.val_main_v27 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) = _
      rw [(hagree c).1, (hagree c).2.1, (hagree c).2.2.1, (hagree c).2.2.2.1, (hagree c).2.2.2.2]
    · show Cert.Reference4Ideal.Read.val_main_v30 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = _
      rw [(hagree c).1, (hagree c).2.1, (hagree c).2.2.1]
    · show Cert.Reference4Ideal.Read.val_main_v33 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3)) = _
      rw [(hagree c).1, (hagree c).2.1, (hagree c).2.2.2.1]

end Step.Claim4

end
-- ==== Proof.Step.HiddenBackRun.lean ====
/-
  The run of program 5's kernel (`Kernel5Ideal`), which the printed module leaves to be proved by hand.

  The grid has 32 points, in groups of four: the first point of a group normalizes its block of
  1024 rows, halves the block of the cotangent and keeps the latter twice, in a scratch buffer and
  in the buffer of the fifth result; every point of the group multiplies the scratch by its shard of
  the weight and makes its blocks of the first three results. The last two results are written back at
  the last point of the group, which stores nothing into them: what is written is what the first
  point left.
-/
module

public import proofs.«01_k».proof.Proof.Gen.Kernel5Ideal.Frame
public import proofs.«01_k».proof.Proof.Gen.Kernel5Ideal.Skeleton
public import proofs.«01_k».proof.Proof.Gen.Kernel5Ideal.Launch
public import proofs.«01_k».proof.Proof.Gen.Kernel5Ideal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Step.HiddenBackRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the assertions below are about. -/
abbrev Res (F : FTy → Type) [FloatOps F] : Type := MT nD τ sig Unit (Elt F) ℕ (UR sig nD τ) ℕ

variable (m : (ℓ : Loc nD τ sig) → Buf (Elt F) ℓ) (ρ : Dev nD → PrngReg)

/-! ## The body -/

/-- The branch is taken at the first point of each group of four. -/
theorem taken : ∀ t : Fin cfg0.N, k0_cond1 (grid0.coords t) = 1#1 ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

/-- The block of the first result, from the scratch, the two blocks of hidden columns and the shard of the weight. -/
def dgOf (xs : Vec F S1024x1024 .bf16) (x3 x4 : Vec F S1x1024x704 .bf16) (x5 : Vec F S1x704x1024 .bf16) : Vec F S1x1024x704 .bf16 :=
  k0_pay1 (k0_pay8 x3) (k0_pay9 x3) (k0_pay12 xs x5 x4) (Scalar.ofBits .bf16 0x3F80#16)

set_option maxHeartbeats 4000000 in
/-- The body where the branch is taken. -/
theorem body_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1x704x1024 .bf16) (harg7 : arg7.IsWhole) (arg8 : Memref sig .tc .vmem S1x1024x704 .bf16) (harg8 : arg8.IsWhole) (arg9 : Memref sig .tc .vmem S1x1024x704 .bf16) (harg9 : arg9.IsWhole) (arg10 : Memref sig .tc .vmem S1x1024x704 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (hc : k0_cond1 i = 1#1)
    (x0 : Vec F S1024x1024 .f32) (x1 : Vec F S1024x1024 .f32) (x2 : Vec F S1x1024 .f32) (x3 : Vec F S1x1024x704 .bf16) (x4 : Vec F S1x1024x704 .bf16) (x5 : Vec F S1x704x1024 .bf16) (E : Set ℕ) (K : PUnit → sProp (Res F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (dgOf (k0_pay4 x0) x3 x4 x5) ∗ owns (c : Thread nD τ) arg9 fullShare (k0_pay11 (k0_pay4 x0) x5 x3) ∗ owns (c : Thread nD τ) arg10 fullShare (k0_pay10 x3 x4) ∗ owns (c : Thread nD τ) arg11 fullShare (k0_pay2 x1 x2) ∗ owns (c : Thread nD τ) arg12 fullShare (k0_pay3 x0) ∗ owns (c : Thread nD τ) arg13 fullShare (k0_pay4 x0)) -∗ K ⟨⟩))
      ⊢ wp frame (wpE (defs₀ (F := F)) Variants.none c none) E
          (cc0_ffn_bwd_hidden i arg2 harg2 arg3 harg3 arg4 harg4 arg5 harg5 arg6 harg6 arg7 harg7 arg8 harg8 arg9 harg9 arg10 harg10 arg11 harg11 arg12 harg12 arg13 harg13) K := by
  simp only [cc0_ffn_bwd_hidden_eq_skeleton]; unfold cc0_ffn_bwd_hidden_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_
    unfold dgOf body_first.sl.r body_first.sl.r_1 body_first.sl.r_2 body_first.sl.cst_20
    unfold body_first.sl.v3 body_first.sl.HS_1
    rw [View.readCov_full]
    rw [View.readAt_full, View.readAt_full, View.readAt_full, View.readAt_full, harg2.read_unread, harg5.read_unread, harg6.read_unread, harg7.read_unread]
  isplitl [H7]
  · iexists _; isplitr
    swap; · iexact H7
    ipureintro
    refine (View.read_writes_full _ _ _ _ _).trans ?_
    unfold body_first.sl.v3 body_first.sl.HS_1
    rw [View.readCov_full]
    rw [View.readAt_full, View.readAt_full, View.readAt_full, harg2.read_unread, harg5.read_unread, harg7.read_unread]
  isplitl [H8]
  · iexists _; isplitr
    swap; · iexact H8
    ipureintro
    refine (View.read_writes_full _ _ _ _ _).trans ?_
    rw [View.readAt_full, View.readAt_full, harg5.read_unread, harg6.read_unread]
  isplitl [H9]
  · iexists _; isplitr
    swap; · iexact H9
    ipureintro
    refine (View.read_writes_full _ _ _ _ _).trans ?_
    rw [View.readAt_full, View.readAt_full, harg3.read_unread, harg4.read_unread]
  isplitl [H10]
  · iexists _; isplitr
    swap; · iexact H10
    ipureintro
    refine (View.read_writes_full _ _ _ _ _).trans ?_
    rw [View.readAt_full, harg2.read_unread]
  iexists _; isplitr
  swap; · iexact HS
  ipureintro
  unfold body_first.sl.HS_1
  refine (View.read_writes_full _ _ _ _ _).trans ?_
  rw [View.readAt_full, harg2.read_unread]

set_option maxHeartbeats 4000000 in
/-- The body where the branch is not taken: the scratch and the buffers of the last two results are left alone. -/
theorem body_next (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1x704x1024 .bf16) (harg7 : arg7.IsWhole) (arg8 : Memref sig .tc .vmem S1x1024x704 .bf16) (harg8 : arg8.IsWhole) (arg9 : Memref sig .tc .vmem S1x1024x704 .bf16) (harg9 : arg9.IsWhole) (arg10 : Memref sig .tc .vmem S1x1024x704 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (hc : ¬k0_cond1 i = 1#1)
    (x3 : Vec F S1x1024x704 .bf16) (x4 : Vec F S1x1024x704 .bf16) (x5 : Vec F S1x704x1024 .bf16) (xs : Vec F S1024x1024 .bf16) (E : Set ℕ) (K : PUnit → sProp (Res F)) :
    iprop(owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d) ∗ owns (c : Thread nD τ) arg13 fullShare xs
        ∗ (iprop(owns (c : Thread nD τ) arg5 fullShare x3 ∗ owns (c : Thread nD τ) arg6 fullShare x4 ∗ owns (c : Thread nD τ) arg7 fullShare x5 ∗ owns (c : Thread nD τ) arg8 fullShare (dgOf xs x3 x4 x5) ∗ owns (c : Thread nD τ) arg9 fullShare (k0_pay11 xs x5 x3) ∗ owns (c : Thread nD τ) arg10 fullShare (k0_pay10 x3 x4) ∗ owns (c : Thread nD τ) arg13 fullShare xs) -∗ K ⟨⟩))
      ⊢ wp frame (wpE (defs₀ (F := F)) Variants.none c none) E
          (cc0_ffn_bwd_hidden i arg2 harg2 arg3 harg3 arg4 harg4 arg5 harg5 arg6 harg6 arg7 harg7 arg8 harg8 arg9 harg9 arg10 harg10 arg11 harg11 arg12 harg12 arg13 harg13) K := by
  simp only [cc0_ffn_bwd_hidden_eq_skeleton]; unfold cc0_ffn_bwd_hidden_skel
  simp only [k0_part1_eq_skeleton]
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, Hk⟩
  obtain rfl := harg5.eq_unread hf3; obtain rfl := harg6.eq_unread hf4; obtain rfl := harg7.eq_unread hf5; obtain rfl := harg13.eq_unread hfs
  sl_exec (disch := sl_exact hc)
  sl_step
  iapply Hk
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_
    unfold dgOf body_next.sl.r body_next.sl.r_1 body_next.sl.r_2 body_next.sl.cst_20
    rw [View.readAt_full, View.readAt_full, View.readAt_full, View.readAt_full, harg5.read_unread, harg6.read_unread, harg7.read_unread, harg13.read_unread]
  isplitl [H7]
  · iexists _; isplitr
    swap; · iexact H7
    ipureintro
    refine (View.read_writes_full _ _ _ _ _).trans ?_
    rw [View.readAt_full, View.readAt_full, View.readAt_full, harg5.read_unread, harg7.read_unread, harg13.read_unread]
  isplitl [H8]
  · iexists _; isplitr
    swap; · iexact H8
    ipureintro
    refine (View.read_writes_full _ _ _ _ _).trans ?_
    rw [View.readAt_full, View.readAt_full, harg5.read_unread, harg6.read_unread]
  iexists _; isplitr
  swap; · iexact HS
  ipureintro
  exact harg13.read_unread _

/-! ## What the buffers hold, point by point -/

/-- The first point of the group of four that a point is in. -/
def lead (t : Fin cfg0.N) : Fin cfg0.N := ⟨4 * (t.val / 4), lt_of_le_of_lt (Nat.mul_div_le t.val 4) t.isLt⟩

theorem lead_first (t : Fin cfg0.N) (h : t.val % 4 = 0) : lead t = t :=
  Fin.ext (show 4 * (t.val / 4) = t.val by omega)

theorem lead_pred (t : Fin cfg0.N) (h : ¬t.val % 4 = 0) (hp : t.val - 1 < cfg0.N) : lead t = lead ⟨t.val - 1, hp⟩ :=
  Fin.ext (show 4 * (t.val / 4) = 4 * ((t.val - 1) / 4) by omega)

/-- The normalized block of the group of point `t`: what the fourth result's buffer holds there. -/
def normed (c : Dev nD) (t : Fin cfg0.N) : Vec F S1024x1024 .bf16 := k0_pay2 (iblk m c 1 (lead t)) (iblk m c 2 (lead t))

/-- The halved block of the cotangent: what the fifth result's buffer holds. -/
def halved (c : Dev nD) (t : Fin cfg0.N) : Vec F S1024x1024 .bf16 := k0_pay3 (iblk m c 0 (lead t))

/-- The same block as the scratch holds it. -/
def kept (c : Dev nD) (t : Fin cfg0.N) : Vec F S1024x1024 .bf16 := k0_pay4 (iblk m c 0 (lead t))

/-- The scratch buffer. -/
abbrev scratch : Memref sig .tc .vmem S1024x1024 .bf16 := Memref.whole cc0_scratch0

theorem start_eq (c : Dev nD) :
    (Pipeline.ΦA spec0 c : sProp (Res F)) = iprop((∃ d, owns (c : Thread nD τ) scratch fullShare d) ∗ (∃ r, prngReg c r)) := by
  unfold Pipeline.ΦA; rw [scopedRest0_eq]; simp only [scratch, owns_whole]; rfl

/-- What is known before point `n`: nothing at first, then the scratch as the point before left it. -/
def known (c : Dev nD) : (n : ℕ) → n ≤ cfg0.N → sProp (Res F)
  | 0, _ => Pipeline.ΦA spec0 c
  | n + 1, h => iprop(owns (c : Thread nD τ) scratch fullShare (kept m c ⟨n, h⟩) ∗ (∃ r, prngReg c r))

theorem known_zero (c : Dev nD) (n : ℕ) (h : n ≤ cfg0.N) (hz : n = 0) : known m c n h = Pipeline.ΦA spec0 c := by
  subst hz; rfl

theorem known_succ (c : Dev nD) (n : ℕ) (h : n < cfg0.N) :
    known m c (n + 1) h = iprop(owns (c : Thread nD τ) scratch fullShare (kept m c ⟨n, h⟩) ∗ (∃ r, prngReg c r)) := rfl

theorem known_pos (c : Dev nD) (n : ℕ) (h : n ≤ cfg0.N) (hz : n ≠ 0) :
    known m c n h = iprop(owns (c : Thread nD τ) scratch fullShare (kept m c ⟨n - 1, by omega⟩) ∗ (∃ r, prngReg c r)) := by
  obtain ⟨k, rfl⟩ := Nat.exists_eq_succ_of_ne_zero hz
  rfl

/-- The data of the run: the arrays as found, what each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dgOf (kept m c t) (iblk m c 3 t) (iblk m c 4 t) (iblk m c 5 t)
    | ⟨7, _⟩ => k0_pay11 (kept m c t) (iblk m c 5 t) (iblk m c 3 t)
    | ⟨8, _⟩ => k0_pay10 (iblk m c 3 t) (iblk m c 4 t)
    | ⟨9, _⟩ => normed m c t
    | ⟨10, _⟩ => halved m c t
  Φ t := known m c t.val (Nat.le_of_lt_succ t.isLt)
  q _ := fullShare
  owed _ := 0

theorem A_eq (c : Dev nD) (w : Fin cfg0.W) : (dats m 0 c).A w = V m c (Pipeline.arrRef spec0 w) := by dsimp only [dats]

theorem known_castSucc (c : Dev nD) (t : Fin cfg0.N) : (dats m 0 c).Φ t.castSucc = known m c t.val (Nat.le_of_lt t.isLt) := by
  dsimp only [dats]; exact Pipeline.Dat.Φ_castSucc (known m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dgOf (kept m c t) (iblk m c 3 t) (iblk m c 4 t) (iblk m c 5 t) := by dsimp only [dats]
theorem after7 (c : Dev nD) (t : Fin cfg0.N) : (dats m 0 c).after 7 t = k0_pay11 (kept m c t) (iblk m c 5 t) (iblk m c 3 t) := by dsimp only [dats]
theorem after8 (c : Dev nD) (t : Fin cfg0.N) : (dats m 0 c).after 8 t = k0_pay10 (iblk m c 3 t) (iblk m c 4 t) := by dsimp only [dats]
theorem after9 (c : Dev nD) (t : Fin cfg0.N) : (dats m 0 c).after 9 t = normed m c t := by dsimp only [dats]
theorem after10 (c : Dev nD) (t : Fin cfg0.N) : (dats m 0 c).after 10 t = halved m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The buffers of the last two results keep their blocks -/

theorem live9 : ∀ t : Fin cfg0.N, t.val % 4 = 0 → cfg0.idle 9 (grid0.coords t) = false := fun t h => by
  show (!(k0_cond1 (grid0.coords t) == 1#1)) = false
  rw [(taken t).mpr h]; rfl

theorem idle9 : ∀ t : Fin cfg0.N, ¬t.val % 4 = 0 → cfg0.idle 9 (grid0.coords t) = true := fun t h => by
  show (!(k0_cond1 (grid0.coords t) == 1#1)) = true
  rw [beq_eq_false_iff_ne.mpr (fun e => h ((taken t).mp e))]; rfl

theorem flush9 (t : Fin cfg0.N) (h : ¬t.val % 4 = 3) : (cfg0.win 9).flush t = false :=
  Bool.eq_false_iff.mpr fun e => h ((flush0_9 t).mp e)

theorem fetch9 (t : Fin cfg0.N) : (cfg0.win 9).fetch t = false := (cfg0.win 9).fetch_out rfl t

/-- After the first point of a group, the buffer is found holding the group's block. -/
theorem before9 (c : Dev nD) (d) : ∀ (n : ℕ) (h : n < cfg0.N), ¬n % 4 = 0 → (dats m 0 c).before 9 ⟨n, h⟩ d = normed m c ⟨n, h⟩
  | 0, _, hn => absurd rfl hn
  | n + 1, h, hn => by
    rw [(dats m 0 c).before_of_pos 9 ⟨n + 1, h⟩ (Nat.succ_ne_zero n) (fetch9 _) d,
      if_neg (by rw [flush9 ⟨n + 1 - 1, _⟩ (show ¬(n + 1 - 1) % 4 = 3 by omega)]; exact Bool.false_ne_true)]
    have hp : n < cfg0.N := Nat.lt_of_succ_lt h
    have e : normed m c ⟨n + 1, h⟩ = normed m c ⟨n, hp⟩ := by
      unfold normed; rw [lead_pred ⟨n + 1, h⟩ hn hp]; rfl
    rw [e]
    show (dats m 0 c).left 9 ⟨n, hp⟩ d = _
    unfold Dat.left
    by_cases h0 : n % 4 = 0
    · rw [live9 ⟨n, hp⟩ h0]
      show (dats m 0 c).kept 9 ⟨n, hp⟩ d = _
      unfold Dat.kept
      rw [after9]
      rw [Pipeline.fill_of_clip_none (cfg := cfg0) 9 _ (fun _ => rfl) d (normed m c ⟨n, hp⟩), Window.fill_cut]
    · rw [idle9 ⟨n, hp⟩ h0]
      exact before9 c d n hp h0

theorem live10 : ∀ t : Fin cfg0.N, t.val % 4 = 0 → cfg0.idle 10 (grid0.coords t) = false := fun t h => by
  show (!(k0_cond1 (grid0.coords t) == 1#1)) = false
  rw [(taken t).mpr h]; rfl

theorem idle10 : ∀ t : Fin cfg0.N, ¬t.val % 4 = 0 → cfg0.idle 10 (grid0.coords t) = true := fun t h => by
  show (!(k0_cond1 (grid0.coords t) == 1#1)) = true
  rw [beq_eq_false_iff_ne.mpr (fun e => h ((taken t).mp e))]; rfl

theorem flush10 (t : Fin cfg0.N) (h : ¬t.val % 4 = 3) : (cfg0.win 10).flush t = false :=
  Bool.eq_false_iff.mpr fun e => h ((flush0_10 t).mp e)

theorem fetch10 (t : Fin cfg0.N) : (cfg0.win 10).fetch t = false := (cfg0.win 10).fetch_out rfl t

/-- After the first point of a group, the buffer is found holding the group's block. -/
theorem before10 (c : Dev nD) (d) : ∀ (n : ℕ) (h : n < cfg0.N), ¬n % 4 = 0 → (dats m 0 c).before 10 ⟨n, h⟩ d = halved m c ⟨n, h⟩
  | 0, _, hn => absurd rfl hn
  | n + 1, h, hn => by
    rw [(dats m 0 c).before_of_pos 10 ⟨n + 1, h⟩ (Nat.succ_ne_zero n) (fetch10 _) d,
      if_neg (by rw [flush10 ⟨n + 1 - 1, _⟩ (show ¬(n + 1 - 1) % 4 = 3 by omega)]; exact Bool.false_ne_true)]
    have hp : n < cfg0.N := Nat.lt_of_succ_lt h
    have e : halved m c ⟨n + 1, h⟩ = halved m c ⟨n, hp⟩ := by
      unfold halved; rw [lead_pred ⟨n + 1, h⟩ hn hp]; rfl
    rw [e]
    show (dats m 0 c).left 10 ⟨n, hp⟩ d = _
    unfold Dat.left
    by_cases h0 : n % 4 = 0
    · rw [live10 ⟨n, hp⟩ h0]
      show (dats m 0 c).kept 10 ⟨n, hp⟩ d = _
      unfold Dat.kept
      rw [after10]
      rw [Pipeline.fill_of_clip_none (cfg := cfg0) 10 _ (fun _ => rfl) d (halved m c ⟨n, hp⟩), Window.fill_cut]
    · rw [idle10 ⟨n, hp⟩ h0]
      exact before10 c d n hp h0

/-! ## The body's obligation -/

theorem leaves0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (st0_6 t) fullShare (dgOf (kept m c t) (iblk m c 3 t) (iblk m c 4 t) (iblk m c 5 t)) := by
  unfold Dat.leavesExact; rw [show cfg0.idle 6 (grid0.coords t) = false from rfl, after6]
theorem leaves7 (c : Dev nD) (t : Fin cfg0.N) : (dats m 0 c).leavesExact 7 t = owns (c : Thread nD τ) (st0_7 t) fullShare (k0_pay11 (kept m c t) (iblk m c 5 t) (iblk m c 3 t)) := by
  unfold Dat.leavesExact; rw [show cfg0.idle 7 (grid0.coords t) = false from rfl, after7]
theorem leaves8 (c : Dev nD) (t : Fin cfg0.N) : (dats m 0 c).leavesExact 8 t = owns (c : Thread nD τ) (st0_8 t) fullShare (k0_pay10 (iblk m c 3 t) (iblk m c 4 t)) := by
  unfold Dat.leavesExact; rw [show cfg0.idle 8 (grid0.coords t) = false from rfl, after8]

/-- At the first point of a group the buffer must hold the block. -/
theorem leaves9_first (c : Dev nD) (t : Fin cfg0.N) (h : t.val % 4 = 0) :
    (dats m 0 c).leavesExact 9 t = owns (c : Thread nD τ) (st0_9 t) fullShare (normed m c t) := by
  unfold Dat.leavesExact; rw [live9 t h, after9]

/-- At the others it is enough that it is left as found. -/
theorem leaves9_next (c : Dev nD) (t : Fin cfg0.N) (h : ¬t.val % 4 = 0) (d) :
    owns (c : Thread nD τ) (st0_9 t) fullShare ((dats m 0 c).before 9 t d) ⊢ ((dats m 0 c).leavesExact 9 t : sProp (Res F)) := by
  by_cases h3 : t.val % 4 = 3
  · rw [before9 m c d t.val t.isLt h]
    unfold Dat.leavesExact; rw [idle9 t h, (flush0_9 t).mpr h3, after9]
  · rw [Dat.leavesExact_idle (dats m 0 c) 9 t (idle9 t h) (flush9 t h3)]
    iintro H
    iexists d
    iexact H

/-- At the first point of a group the buffer must hold the block. -/
theorem leaves10_first (c : Dev nD) (t : Fin cfg0.N) (h : t.val % 4 = 0) :
    (dats m 0 c).leavesExact 10 t = owns (c : Thread nD τ) (st0_10 t) fullShare (halved m c t) := by
  unfold Dat.leavesExact; rw [live10 t h, after10]

/-- At the others it is enough that it is left as found. -/
theorem leaves10_next (c : Dev nD) (t : Fin cfg0.N) (h : ¬t.val % 4 = 0) (d) :
    owns (c : Thread nD τ) (st0_10 t) fullShare ((dats m 0 c).before 10 t d) ⊢ ((dats m 0 c).leavesExact 10 t : sProp (Res F)) := by
  by_cases h3 : t.val % 4 = 3
  · rw [before10 m c d t.val t.isLt h]
    unfold Dat.leavesExact; rw [idle10 t h, (flush0_10 t).mpr h3, after10]
  · rw [Dat.leavesExact_idle (dats m 0 c) 10 t (idle10 t h) (flush10 t h3)]
    iintro H
    iexists d
    iexact H

/-- What the body is given at point `t`. -/
def given (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body must leave there. -/
def due (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- Whatever is known before a point, the scratch is there, at some contents. -/
theorem known_some (c : Dev nD) (n : ℕ) (h : n ≤ cfg0.N) :
    known m c n h ⊢ (iprop((∃ d, owns (c : Thread nD τ) scratch fullShare d) ∗ (∃ r, prngReg c r)) : sProp (Res F)) := by
  by_cases hz : n = 0
  · rw [known_zero m c n h hz, start_eq]
  · rw [known_pos m c n h hz]
    iintro ⟨HS, Hg⟩
    isplitl [HS]
    · iexists _; iexact HS
    iexact Hg

set_option maxHeartbeats 1000000 in
theorem sound_first (c : Dev nD) (t : Fin cfg0.N) (h0 : t.val % 4 = 0) :
    given m c t ⊢ wp frame (wpE (defs₀ (F := F)) Variants.none c none) Set.univ (bodyAt0 t) (fun _ => due m c t) := by
  unfold given due bodyAt0
  simp only [before0, before1, before2, before3, before4, before5, leaves0, leaves1, leaves2, leaves3, leaves4, leaves5, leaves6, leaves7, leaves8]
  rw [leaves9_first m c t h0, leaves10_first m c t h0, show (dats m 0 c).owesAt () t.succ = (dats m 0 c).owesAt () t.castSucc from rfl,
    show (dats m 0 c).Φ t.succ = known m c (t.val + 1) t.isLt from rfl, known_succ, known_castSucc m c t]
  unfold normed halved kept
  rw [lead_first t h0]
  iintro ⟨HK, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HK' := known_some m c _ _ $$ HK
  icases HK' with ⟨HS, Hg⟩
  iapply (body_first c (grid0.coords t) _ _ _ _ _ _ _ _ _ _ _ _ _ _ _ _ _ _ _ _ _ _ _ _ ((taken t).mpr h0) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS]; · iexact HS
  iintro ⟨H0, H1, H2, H3, H4, H5, H6, H7, H8, H9, H10, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1000000 in
theorem sound_next (c : Dev nD) (t : Fin cfg0.N) (h0 : ¬t.val % 4 = 0) :
    given m c t ⊢ wp frame (wpE (defs₀ (F := F)) Variants.none c none) Set.univ (bodyAt0 t) (fun _ => due m c t) := by
  unfold given due bodyAt0
  simp only [before0, before1, before2, before3, before4, before5, leaves0, leaves1, leaves2, leaves3, leaves4, leaves5, leaves6, leaves7, leaves8]
  have hz : t.val ≠ 0 := fun e => h0 (by rw [e])
  rw [show (dats m 0 c).owesAt () t.succ = (dats m 0 c).owesAt () t.castSucc from rfl,
    show (dats m 0 c).Φ t.succ = known m c (t.val + 1) t.isLt from rfl, known_succ, known_castSucc m c t, known_pos m c _ _ hz]
  have e : kept m c t = kept m c ⟨t.val - 1, lt_of_le_of_lt (Nat.sub_le _ _) t.isLt⟩ := by
    unfold kept; rw [lead_pred t h0 _]
  rw [← e]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_next c (grid0.coords t) _ _ _ _ _ _ _ _ _ _ _ _ _ _ _ _ _ _ _ _ _ _ _ _ (fun h => h0 ((taken t).mp h)) (iblk m c 3 t) (iblk m c 4 t) (iblk m c 5 t) (kept m c t) Set.univ _)
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  iintro ⟨H3, H4, H5, H6, H7, H8, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (leaves9_next m c t h0 d9)
    iexact H9
  iapply (leaves10_next m c t h0 d10)
  iexact H10

theorem sound (c : Dev nD) (t : Fin cfg0.N) :
    given m c t ⊢ wp frame (wpE (defs₀ (F := F)) Variants.none c none) Set.univ (bodyAt0 t) (fun _ => due m c t) := by
  by_cases h0 : t.val % 4 = 0
  · exact sound_first m c t h0
  · exact sound_next m c t h0

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

theorem hin (c : Dev nD) : Pipeline.ΦA spec0 c ⊢ (dats m 0 c).Φ 0 := by
  rw [show (dats m 0 c).Φ 0 = known m c 0 (Nat.zero_le _) from rfl, known_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = known m c (Fin.last cfg0.N).val (Nat.le_of_lt_succ (Fin.last cfg0.N).isLt) from rfl, start_eq]
  exact known_some m c _ _

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The run ends with every array at what the data say. -/
theorem run_main : θ_run defs (onTc (τ := τ) (main (F := F))) (s₀ m ρ) (Pipeline.FramePost cfgs (dats m) 0 (V m)) :=
  (θ_run defs _ _).mono (fun _ h => h.1) (run_quiet m ρ)

/-- The run leaves the arguments as they were, and no signal pending. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiet m ρ))

/-- The run ends with the result arrays at what the data say, and the arguments as they were. -/
theorem run_arrays : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_v0_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8, (h c).1 9, (h c).1 10,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Step.HiddenBackRun

end
-- ==== Proof.Step.HiddenBack.lean ====
/-
  The hidden columns in the backward pass of a feed-forward half: the kernel takes 1024 rows and the four blocks of 704
  hidden columns in turn, and makes the gradients of the gate and of the linear column and the gated column again.
-/
module

public import proofs.«01_k».proof.Proof.Step.HiddenBackRun
public import proofs.«01_k».proof.Proof.Gen.Reference5Ideal.Read
public import proofs.«01_k».proof.Proof.Step.Sums
public import proofs.«01_k».proof.Proof.Step.Gate
public import Idealize.ShloMosaic.Lib.Pointwise
public import Idealize.ShloMosaic.Lib.Pointwise.IndexBridge
public import Idealize.ShloMosaic.Lib.Pipeline.ValueKit
public import Idealize.ShloMosaic.Lib.Pipeline.ReadBack

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Step.HiddenBack

open Cert.Kernel5Ideal Cert.Kernel5Ideal.Gen
open Step.HiddenBackRun (dats after6 after7 after8 after9 after10 lead kept normed halved dgOf)

/-! ## The derivative of the gate -/

/-- The logistic function. -/
def logi (x : EReal) : EReal := Ideal.div (Ideal.ofBits .f32 0x3F800000#32) (Ideal.ofBits .f32 0x3F800000#32 + Ideal.exp (-x))

theorem lit_one_half : Ideal.ofBits .bf16 0x3F80#16 = ((1 : ℝ) : EReal) := by
  simp [Ideal.ofBits, Ideal.ieee, -EReal.coe_mul]; norm_num

theorem sig_bot : logi ⊥ = 0 := by
  unfold logi
  rw [EReal.neg_bot]
  show Ideal.div _ (_ + ⊤) = _
  rw [Ret.lit_one, EReal.coe_one, show (1 : EReal) + ⊤ = ⊤ from rfl]
  unfold Ideal.div
  rw [if_neg (by simp), EReal.inv_top, mul_zero]

theorem sig_top : logi ⊤ = ((1 : ℝ) : EReal) := by
  unfold logi
  rw [EReal.neg_top]
  show Ideal.div _ (_ + 0) = _
  rw [Ret.lit_one, EReal.coe_one, add_zero]
  unfold Ideal.div
  rw [if_neg (by simp), inv_one, mul_one]

theorem sig_coe (x : ℝ) : Ret.Re (logi (x : EReal)) := by
  unfold logi
  rw [← sigmoid_eq, Ret.lit_half, ← EReal.coe_mul]
  exact ((Ret.Re.coe _).mul (Ret.Re.coe (Real.tanh (1 / 2 * x)))).add (Ret.Re.coe _)

/-- The two ways of writing the gradient of `silu`, where the incoming gradient is a real number. -/
theorem gate_back {A : EReal} (hA : Ret.Re A) (g : EReal) :
    A * (logi g + g * logi g * (Ideal.ofBits .bf16 0x3F80#16 - logi g))
      = A * logi g + g * A * (logi g * (Ideal.ofBits .f32 0x3F800000#32 - logi g)) := by
  obtain ⟨a, rfl⟩ := hA
  rw [lit_one_half, Ret.lit_one]
  induction g with
  | bot => rw [sig_bot]; simp
  | top => rw [sig_top, ← EReal.coe_sub, sub_self, EReal.coe_zero]; simp
  | coe g =>
    obtain ⟨s, hs⟩ := sig_coe g
    rw [hs]
    simp only [← EReal.coe_mul, ← EReal.coe_add, ← EReal.coe_sub]
    exact congrArg _ (by ring)

theorem re_sum {ι : Type*} (s : Finset ι) (f : ι → EReal) (h : ∀ i, Ret.Re (f i)) : Ret.Re (∑ i ∈ s, f i) :=
  ⟨∑ i ∈ s, (f i).toReal, by rw [← Ret.sum_coe]; exact Finset.sum_congr rfl fun i _ => (h i).eq⟩

/-! ## The results as functions of the arrays -/

section Maths
variable (Y : FVec Ideal S8192x1024 .f32) (X : FVec Ideal S8192x1024 .f32) (W : FVec Ideal S1x1024 .f32) (G U : FVec Ideal S4x8192x704 .bf16)
  (V : FVec Ideal S4x704x1024 .bf16)

/-- The halved cotangent. -/
def half (r : Fin 8192) (d : Fin 1024) : EReal := Ideal.ofBits .f32 0x3F000000#32 * Y (ix2 r d)
/-- The gradient of the gated column. -/
def back (p : Fin 4) (r : Fin 8192) (f : Fin 704) : EReal := ∑ d : Fin 1024, half Y r d * V (ix3 p f d)
/-- The gated column. -/
def act (p : Fin 4) (r : Fin 8192) (f : Fin 704) : EReal := G (ix3 p r f) * logi (G (ix3 p r f)) * U (ix3 p r f)
/-- The gradient of the linear column. -/
def backUp (p : Fin 4) (r : Fin 8192) (f : Fin 704) : EReal := G (ix3 p r f) * logi (G (ix3 p r f)) * back Y V p r f
/-- The gradient of the gate. -/
def backGate (p : Fin 4) (r : Fin 8192) (f : Fin 704) : EReal :=
  back Y V p r f * U (ix3 p r f) * logi (G (ix3 p r f))
    + G (ix3 p r f) * (back Y V p r f * U (ix3 p r f)) * (logi (G (ix3 p r f)) * (Ideal.ofBits .f32 0x3F800000#32 - logi (G (ix3 p r f))))
/-- The normalised row. -/
def rows (r : Fin 8192) (d : Fin 1024) : EReal :=
  X (ix2 r d) * Ideal.rsqrt (Ideal.div (∑ d : Fin 1024, X (ix2 r d) * X (ix2 r d)) (Ideal.ofBits .f32 0x44800000#32) + Ideal.ofBits .f32 0x358637BD#32) * W (ix2 0 d)
def blk (k : Fin 2816) : Fin 4 := ⟨k.val / 704, by omega⟩
def pos (k : Fin 2816) : Fin 704 := ⟨k.val % 704, by omega⟩

theorem back_re (hY : ∀ j, Ret.Re (Y j)) (hV : ∀ j, Ret.Re (V j)) (p : Fin 4) (r : Fin 8192) (f : Fin 704) : Ret.Re (back Y V p r f) :=
  re_sum _ _ fun d => (by unfold half; rw [Ret.lit_half]; exact (Ret.Re.coe _).mul (hY _) : Ret.Re (half Y r d)).mul (hV _)

end Maths

/-! ## The kernel's stores at an index -/

theorem norm_at (x : FVec Ideal S1024x1024 .f32) (w : FVec Ideal S1x1024 .f32) (a d : Fin 1024) :
    k0_pay2 (F := Ideal) x w (ix2 a d) = x (ix2 a d) * Ideal.rsqrt (Ideal.div (∑ d : Fin 1024, x (ix2 a d) * x (ix2 a d)) (Ideal.ofBits .f32 0x44800000#32) + Ideal.ofBits .f32 0x358637BD#32) * w (ix2 0 d) := by
  unfold k0_pay2
  simp only [← ix2_eq_valueIdx, ← ix3_eq_valueIdx]; pointwise

theorem half_at (x : FVec Ideal S1024x1024 .f32) (a d : Fin 1024) :
    k0_pay3 (F := Ideal) x (ix2 a d) = Ideal.ofBits .f32 0x3F000000#32 * x (ix2 a d) := by
  unfold k0_pay3
  simp only [← ix2_eq_valueIdx, ← ix3_eq_valueIdx]; pointwise

theorem same (x : FVec Ideal S1024x1024 .f32) : k0_pay4 (F := Ideal) x = k0_pay3 (F := Ideal) x := by
  unfold k0_pay4
  rw [shapeCast_self]

theorem prod_at (x : FVec Ideal S1024x1024 .bf16) (w : FVec Ideal S1x704x1024 .bf16) (a : Fin 1024) (f : Fin 704) :
    k0_pay5 (F := Ideal) x w (ix2 a f) = ∑ d : Fin 1024, x (ix2 a d) * w (ix3 0 f d) := by
  unfold k0_pay5
  simp only [← ix2_eq_valueIdx, ← ix3_eq_valueIdx]; pointwise

theorem gate_at (g : FVec Ideal S1x1024x704 .bf16) (a : Fin 1024) (f : Fin 704) : k0_pay6 (F := Ideal) g (ix2 a f) = g (ix3 0 a f) := by
  unfold k0_pay6
  simp only [← ix2_eq_valueIdx, ← ix3_eq_valueIdx]; pointwise

theorem up_at (u : FVec Ideal S1x1024x704 .bf16) (a : Fin 1024) (f : Fin 704) : k0_pay7 (F := Ideal) u (ix2 a f) = u (ix3 0 a f) := by
  unfold k0_pay7
  simp only [← ix2_eq_valueIdx, ← ix3_eq_valueIdx]; pointwise

theorem sig_at (g : FVec Ideal S1x1024x704 .bf16) (a : Fin 1024) (f : Fin 704) : k0_pay8 (F := Ideal) g (ix2 a f) = logi (g (ix3 0 a f)) := by
  rw [← gate_at g, logi, ← sigmoid_eq]
  unfold k0_pay8
  simp only [← ix2_eq_valueIdx, ← ix3_eq_valueIdx]; pointwise

theorem silu_at (g : FVec Ideal S1x1024x704 .bf16) (a : Fin 1024) (f : Fin 704) :
    k0_pay9 (F := Ideal) g (ix2 a f) = g (ix3 0 a f) * logi (g (ix3 0 a f)) := by
  rw [← sig_at, ← gate_at g]
  rfl

theorem act_at (g u : FVec Ideal S1x1024x704 .bf16) (a : Fin 1024) (f : Fin 704) :
    k0_pay10 (F := Ideal) g u (ix3 0 a f) = g (ix3 0 a f) * logi (g (ix3 0 a f)) * u (ix3 0 a f) := by
  rw [← silu_at, ← up_at u]
  unfold k0_pay10
  simp only [← ix2_eq_valueIdx, ← ix3_eq_valueIdx]; pointwise

theorem du_at (x : FVec Ideal S1024x1024 .bf16) (w : FVec Ideal S1x704x1024 .bf16) (g : FVec Ideal S1x1024x704 .bf16) (a : Fin 1024) (f : Fin 704) :
    k0_pay11 (F := Ideal) x w g (ix3 0 a f) = (∑ d : Fin 1024, x (ix2 a d) * w (ix3 0 f d)) * (g (ix3 0 a f) * logi (g (ix3 0 a f))) := by
  rw [← silu_at, ← prod_at]
  unfold k0_pay11
  simp only [← ix2_eq_valueIdx, ← ix3_eq_valueIdx]; pointwise

theorem inner_at (x : FVec Ideal S1024x1024 .bf16) (w : FVec Ideal S1x704x1024 .bf16) (u : FVec Ideal S1x1024x704 .bf16) (a : Fin 1024) (f : Fin 704) :
    k0_pay12 (F := Ideal) x w u (ix2 a f) = (∑ d : Fin 1024, x (ix2 a d) * w (ix3 0 f d)) * u (ix3 0 a f) := by
  rw [← up_at u, ← prod_at]
  rfl

theorem join_at (s t v : FVec Ideal S1024x704 .bf16) (o : EReal) (a : Fin 1024) (f : Fin 704) :
    k0_pay1 (F := Ideal) s t v o (ix3 0 a f) = v (ix2 a f) * (s (ix2 a f) + t (ix2 a f) * (o - s (ix2 a f))) := by
  unfold k0_pay1
  simp only [← ix2_eq_valueIdx, ← ix3_eq_valueIdx]; pointwise

theorem dg_at (x : FVec Ideal S1024x1024 .bf16) (w : FVec Ideal S1x704x1024 .bf16) (g u : FVec Ideal S1x1024x704 .bf16) (a : Fin 1024) (f : Fin 704) :
    dgOf (F := Ideal) x g u w (ix3 0 a f) = (∑ d : Fin 1024, x (ix2 a d) * w (ix3 0 f d)) * u (ix3 0 a f)
      * (logi (g (ix3 0 a f)) + g (ix3 0 a f) * logi (g (ix3 0 a f)) * (Ideal.ofBits .bf16 0x3F80#16 - logi (g (ix3 0 a f)))) := by
  unfold dgOf
  refine (join_at _ _ _ _ a f).trans ?_
  rw [inner_at, silu_at, sig_at]
  rfl

/-! ## The blocks of a grid point -/

theorem points (t : Fin cfg0.N) : t.val < 32 := t.isLt

/-- Where each window of a grid point stands. -/
theorem idx : ∀ t : Fin cfg0.N, win0_0.index t = ![t.val / 4, 0]
    ∧ win0_1.index t = ![t.val / 4, 0]
    ∧ win0_2.index t = ![0, 0]
    ∧ win0_3.index t = ![t.val % 4, t.val / 4, 0]
    ∧ win0_4.index t = ![t.val % 4, t.val / 4, 0]
    ∧ win0_5.index t = ![t.val % 4, 0, 0]
    ∧ win0_6.index t = ![t.val % 4, t.val / 4, 0]
    ∧ win0_7.index t = ![t.val % 4, t.val / 4, 0]
    ∧ win0_8.index t = ![t.val % 4, t.val / 4, 0]
    ∧ win0_9.index t = ![t.val / 4, 0]
    ∧ win0_10.index t = ![t.val / 4, 0] :=
  (by decide +kernel : ∀ t : Fin grid0.N, win0_0.index t = ![t.val / 4, 0]
    ∧ win0_1.index t = ![t.val / 4, 0]
    ∧ win0_2.index t = ![0, 0]
    ∧ win0_3.index t = ![t.val % 4, t.val / 4, 0]
    ∧ win0_4.index t = ![t.val % 4, t.val / 4, 0]
    ∧ win0_5.index t = ![t.val % 4, 0, 0]
    ∧ win0_6.index t = ![t.val % 4, t.val / 4, 0]
    ∧ win0_7.index t = ![t.val % 4, t.val / 4, 0]
    ∧ win0_8.index t = ![t.val % 4, t.val / 4, 0]
    ∧ win0_9.index t = ![t.val / 4, 0]
    ∧ win0_10.index t = ![t.val / 4, 0])

/-- The block of hidden columns a point works on. -/
def part (t : Fin cfg0.N) : Fin 4 := ⟨t.val % 4, by omega⟩
/-- The row a point works on. -/
def row (t : Fin cfg0.N) (a : Fin 1024) : Fin 8192 := ⟨1024 * (t.val / 4) + a.val, by have := points t; omega⟩

theorem row_lead (t : Fin cfg0.N) (a : Fin 1024) : row (lead t) a = row t a :=
  Fin.ext (by show 1024 * (4 * (t.val / 4) / 4) + a.val = 1024 * (t.val / 4) + a.val; omega)

variable (m : (ℓ : Loc nD τ sig) → Buf (Elt Ideal) ℓ) (c : Dev nD) (t : Fin cfg0.N)

abbrev Y : FVec Ideal S8192x1024 .f32 := m ((c : Thread nD τ).loc main_arg0)
abbrev X : FVec Ideal S8192x1024 .f32 := m ((c : Thread nD τ).loc main_arg1)
abbrev W : FVec Ideal S1x1024 .f32 := m ((c : Thread nD τ).loc main_arg2)
abbrev G : FVec Ideal S4x8192x704 .bf16 := m ((c : Thread nD τ).loc main_arg3)
abbrev U : FVec Ideal S4x8192x704 .bf16 := m ((c : Thread nD τ).loc main_arg4)
abbrev V : FVec Ideal S4x704x1024 .bf16 := m ((c : Thread nD τ).loc main_arg5)

theorem y_at (a d : Fin 1024) : (iblk m c 0 t : FVec Ideal S1024x1024 .f32) (ix2 a d) = Y m c (ix2 (row t a) d) := by
  unfold Y
  rw [← Gen.V_main_arg0 m c]
  refine congrArg (Gen.V m c main_arg0) (ext2 (p := row t a) (q := d) ?_ ?_) <;>
    · blk_simp [idx t]; try simp [row, part]; try omega

theorem x_at (a d : Fin 1024) : (iblk m c 1 t : FVec Ideal S1024x1024 .f32) (ix2 a d) = X m c (ix2 (row t a) d) := by
  unfold X
  rw [← Gen.V_main_arg1 m c]
  refine congrArg (Gen.V m c main_arg1) (ext2 (p := row t a) (q := d) ?_ ?_) <;>
    · blk_simp [idx t]; try simp [row, part]; try omega

theorem w_at (a : Fin 1) (d : Fin 1024) : (iblk m c 2 t : FVec Ideal S1x1024 .f32) (ix2 a d) = W m c (ix2 0 d) := by
  unfold W
  rw [← Gen.V_main_arg2 m c]
  refine congrArg (Gen.V m c main_arg2) (ext2 (p := 0) (q := d) ?_ ?_) <;>
    · blk_simp [idx t]; try simp [row, part]; try omega

theorem g_at (b : Fin 1) (a : Fin 1024) (f : Fin 704) : (iblk m c 3 t : FVec Ideal S1x1024x704 .bf16) (ix3 b a f) = G m c (ix3 (part t) (row t a) f) := by
  unfold G
  rw [← Gen.V_main_arg3 m c]
  refine congrArg (Gen.V m c main_arg3) (ext3 (p := part t) (q := row t a) (r := f) ?_ ?_ ?_) <;>
    · blk_simp [idx t]; try simp [row, part]; try omega

theorem u_at (b : Fin 1) (a : Fin 1024) (f : Fin 704) : (iblk m c 4 t : FVec Ideal S1x1024x704 .bf16) (ix3 b a f) = U m c (ix3 (part t) (row t a) f) := by
  unfold U
  rw [← Gen.V_main_arg4 m c]
  refine congrArg (Gen.V m c main_arg4) (ext3 (p := part t) (q := row t a) (r := f) ?_ ?_ ?_) <;>
    · blk_simp [idx t]; try simp [row, part]; try omega

theorem v_at (b : Fin 1) (f : Fin 704) (d : Fin 1024) : (iblk m c 5 t : FVec Ideal S1x704x1024 .bf16) (ix3 b f d) = V m c (ix3 (part t) f d) := by
  unfold V
  rw [← Gen.V_main_arg5 m c]
  refine congrArg (Gen.V m c main_arg5) (ext3 (p := part t) (q := f) (r := d) ?_ ?_ ?_) <;>
    · blk_simp [idx t]; try simp [row, part]; try omega

/-! ## One grid point -/

theorem normed_at (a d : Fin 1024) : normed (F := Ideal) m c t (ix2 a d) = rows (X m c) (W m c) (row t a) d := by
  unfold normed
  rw [norm_at]
  simp only [x_at, w_at, row_lead]
  rfl

theorem halved_at (a d : Fin 1024) : halved (F := Ideal) m c t (ix2 a d) = half (Y m c) (row t a) d := by
  unfold halved
  rw [half_at, y_at, row_lead]
  rfl

theorem kept_at (a d : Fin 1024) : kept (F := Ideal) m c t (ix2 a d) = half (Y m c) (row t a) d := by
  rw [show kept (F := Ideal) m c t = halved (F := Ideal) m c t from same _, halved_at]

theorem back_at (a : Fin 1024) (f : Fin 704) :
    (∑ d : Fin 1024, (kept (F := Ideal) m c t : FVec Ideal S1024x1024 .bf16) (ix2 a d) * (iblk m c 5 t : FVec Ideal S1x704x1024 .bf16) (ix3 0 f d) : EReal)
      = back (Y m c) (V m c) (part t) (row t a) f :=
  Finset.sum_congr rfl fun d _ => by rw [kept_at, v_at]

theorem gate_block (hY : ∀ j, Ret.Re (Y m c j)) (hU : ∀ j, Ret.Re (U m c j)) (hV : ∀ j, Ret.Re (V m c j)) (a : Fin 1024) (f : Fin 704) :
    dgOf (F := Ideal) (kept m c t) (iblk m c 3 t) (iblk m c 4 t) (iblk m c 5 t) (ix3 0 a f)
      = backGate (Y m c) (G m c) (U m c) (V m c) (part t) (row t a) f := by
  rw [dg_at, back_at, g_at, u_at]
  exact gate_back ((back_re _ _ hY hV _ _ _).mul (hU _)) _

theorem up_block (a : Fin 1024) (f : Fin 704) : k0_pay11 (F := Ideal) (kept m c t) (iblk m c 5 t) (iblk m c 3 t) (ix3 0 a f)
    = backUp (Y m c) (G m c) (V m c) (part t) (row t a) f := by
  rw [du_at, back_at, g_at]
  exact mul_comm _ _

theorem act_block (a : Fin 1024) (f : Fin 704) : k0_pay10 (F := Ideal) (iblk m c 3 t) (iblk m c 4 t) (ix3 0 a f)
    = act (G m c) (U m c) (part t) (row t a) f := by
  rw [act_at, g_at, u_at]
  rfl

/-! ## The reference at an index -/

open Cert.Reference5Ideal.Read

section
variable (Y : FVec Ideal S8192x1024 .f32) (X : FVec Ideal S8192x1024 .f32) (W : FVec Ideal S1x1024 .f32) (G U : FVec Ideal S4x8192x704 .bf16)
  (V : FVec Ideal S4x704x1024 .bf16)

theorem ref_half (r : Fin 8192) (d : Fin 1024) : val_main_v45 (F := Ideal) Y (ix2 r d) = half Y r d := by
  rw [val_main_v45_apply, val_main_v44_apply, val_main_v43_apply]
  rfl

theorem ref_norm (r : Fin 8192) (d : Fin 1024) : val_main_v42 (F := Ideal) X W (ix2 r d) = rows X W r d := by
  simp only [val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply]
  rw [show idx_main_v40 (ix2 r d) = ix2 0 d from ext2 (by simp) rfl]
  simp only [show ∀ k, idx_main_v31 (idx_main_v32 (idx_main_v38 (ix2 r d))) k = ix2 r k from fun k => ext2 rfl rfl]
  show X (ix2 r d) * Ideal.rsqrt (Ideal.div (Ideal.ofBits .f32 0#32 + ∑ k : Fin 1024, X (ix2 r k) * X (ix2 r k)) (Ideal.ofBits .f32 0x44800000#32) + Ideal.ofBits .f32 0x358637BD#32) * W (ix2 0 d) = _
  rw [Ideal.ofBits_zero_f32, zero_add]
  rfl

theorem ref_gate (r : Fin 8192) (k : Fin 2816) : val_main_v2 (F := Ideal) G (ix2 r k) = G (ix3 (blk k) r (pos k)) := by
  rw [val_main_v2_apply, val_main_v1_apply, val_main_v0_apply]
  refine congrArg G (ext3 ?_ ?_ ?_) <;>
    · simp [c2_0, c2_1, c3_0, c3_1, c3_2, blk, pos]; try omega

theorem ref_up (r : Fin 8192) (k : Fin 2816) : val_main_v5 (F := Ideal) U (ix2 r k) = U (ix3 (blk k) r (pos k)) := by
  rw [val_main_v5_apply, val_main_v4_apply, val_main_v3_apply]
  refine congrArg U (ext3 ?_ ?_ ?_) <;>
    · simp [c2_0, c2_1, c3_0, c3_1, c3_2, blk, pos]; try omega

theorem ref_sig (r : Fin 8192) (k : Fin 2816) : val_main_v6_2 (F := Ideal) G (ix2 r k) = logi (G (ix3 (blk k) r (pos k))) := by
  rw [val_main_v6_2_apply, val_main_call0_v4_apply, val_main_call0_v3_apply, val_main_call0_v2_apply, val_main_call0_v1_apply, val_main_call0_v0_apply, ref_gate]
  rfl

theorem ref_back (r : Fin 8192) (k : Fin 2816) : val_main_v15 (F := Ideal) Y V (ix2 r k) = back Y V (blk k) r (pos k) := by
  rw [val_main_v15_apply]
  refine Finset.sum_congr rfl fun d _ => ?_
  rw [show lidx_main_v15 (ix2 r k) d = ix2 r d from ext2 rfl rfl, val_main_v14_apply, val_main_v13_apply, val_main_v9_apply, val_main_v8_apply]
  refine congrArg (fun v : EReal => half Y r d * v) (congrArg V (ext3 ?_ ?_ ?_)) <;>
    · simp [c2_0, c2_1, blk, pos]; try omega

theorem ref_silu (r : Fin 8192) (k : Fin 2816) : val_main_v6_0 (F := Ideal) G (ix2 r k) = G (ix3 (blk k) r (pos k)) * logi (G (ix3 (blk k) r (pos k))) := by
  rw [val_main_v6_0_apply, ref_gate, ref_sig]
  rfl

theorem ref_backUp (r : Fin 8192) (k : Fin 2816) : val_main_v16 (F := Ideal) Y G V (ix2 r k) = backUp Y G V (blk k) r (pos k) := by
  rw [val_main_v16_apply, ref_silu, ref_back]
  rfl

theorem ref_backGate (r : Fin 8192) (k : Fin 2816) : val_main_v18 (F := Ideal) Y G U V (ix2 r k) = backGate Y G U V (blk k) r (pos k) := by
  rw [val_main_v18_apply, val_main_call1_v2_apply, val_main_call1_v1_apply, val_main_call1_v0_apply, val_main_v17_apply, val_main_v6_1_apply, val_main_call0_v7_apply,
    val_main_call0_v6_apply, ref_back, ref_up, ref_sig, ref_gate]
  rfl

theorem ref_act (r : Fin 8192) (k : Fin 2816) : val_main_v26 (F := Ideal) G U (ix2 r k) = act G U (blk k) r (pos k) := by
  rw [val_main_v26_apply, val_main_v25_apply, val_main_call2_v5_apply, val_main_call2_v4_apply, val_main_call2_v3_apply, val_main_call2_v2_apply, val_main_call2_v1_apply,
    val_main_call2_v0_apply, ref_gate, ref_up]
  rfl

/-- The column of all 2816 that is column `f` of block `p`. -/
def whole (p : Fin 4) (f : Fin 704) : Fin 2816 := ⟨704 * p.val + f.val, by omega⟩

theorem blk_whole (p : Fin 4) (f : Fin 704) : blk (whole p f) = p := Fin.ext (by show (704 * p.val + f.val) / 704 = p.val; omega)
theorem pos_whole (p : Fin 4) (f : Fin 704) : pos (whole p f) = f := Fin.ext (by show (704 * p.val + f.val) % 704 = f.val; omega)

theorem ref_gate_out (p : Fin 4) (r : Fin 8192) (f : Fin 704) : val_main_v21 (F := Ideal) Y G U V (ix3 p r f) = backGate Y G U V p r f := by
  rw [val_main_v21_apply, val_main_v20_apply, val_main_v19_apply]
  have hi : idx_main_v19 (idx_main_v20 (ix3 p r f)) = ix2 r (whole p f) := ext2 (by simp [c3_0, c3_1, c3_2]; omega) (by simp [c3_0, c3_1, c3_2, whole]; omega)
  rw [hi, ref_backGate, blk_whole, pos_whole]
  rfl

theorem ref_up_out (p : Fin 4) (r : Fin 8192) (f : Fin 704) : val_main_v24 (F := Ideal) Y G V (ix3 p r f) = backUp Y G V p r f := by
  rw [val_main_v24_apply, val_main_v23_apply, val_main_v22_apply]
  have hi : idx_main_v22 (idx_main_v23 (ix3 p r f)) = ix2 r (whole p f) := ext2 (by simp [c3_0, c3_1, c3_2]; omega) (by simp [c3_0, c3_1, c3_2, whole]; omega)
  rw [hi, ref_backUp, blk_whole, pos_whole]
  rfl

theorem ref_act_out (p : Fin 4) (r : Fin 8192) (f : Fin 704) : val_main_v29 (F := Ideal) G U (ix3 p r f) = act G U p r f := by
  rw [val_main_v29_apply, val_main_v28_apply, val_main_v27_apply]
  have hi : idx_main_v27 (idx_main_v28 (ix3 p r f)) = ix2 r (whole p f) := ext2 (by simp [c3_0, c3_1, c3_2]; omega) (by simp [c3_0, c3_1, c3_2, whole]; omega)
  rw [hi, ref_act, blk_whole, pos_whole]
  rfl

end

/-! ## The result arrays -/

theorem mem_blk6 (t : Fin cfg0.N) (i : S4x8192x704.Idx) :
    i ∈ ((cfg0.win 6).blk t).view.set ↔ ∀ a : Fin 3, win0_6.index t a * S1x1024x704.size a ≤ (i a).val ∧ (i a).val < win0_6.index t a * S1x1024x704.size a + S1x1024x704.size a := by
  show i ∈ ((View.whole main_v0_0).slice (win0_6.rect t)).set ↔ _
  rw [View.set_slice_whole, Rect.mem_set_unit]
  exact Iff.rfl

theorem cover6 (i : S4x8192x704.Idx) : ∃ t : Fin cfg0.N, (cfg0.win 6).flush t = true ∧ i ∈ ((cfg0.win 6).blk t).view.set := by
  have h0 : (i 0).val < 4 := (i 0).isLt
  have h1 : (i 1).val < 8192 := (i 1).isLt
  have h2 : (i 2).val < 704 := (i 2).isLt
  obtain ⟨t, ht⟩ : ∃ t : Fin cfg0.N, t.val = 4 * ((i 1).val / 1024) + (i 0).val :=
    ⟨⟨4 * ((i 1).val / 1024) + (i 0).val, by show _ < 32; omega⟩, rfl⟩
  refine ⟨t, flush0_6 t, (mem_blk6 t i).2 fun a => ?_⟩
  have e : win0_6.index t = ![t.val % 4, t.val / 4, 0] := by have := idx t; tauto
  rw [e]
  match a with
  | ⟨0, _⟩ => show t.val % 4 * 1 ≤ (i 0).val ∧ (i 0).val < t.val % 4 * 1 + 1; omega
  | ⟨1, _⟩ => show t.val / 4 * 1024 ≤ (i 1).val ∧ (i 1).val < t.val / 4 * 1024 + 1024; omega
  | ⟨2, _⟩ => show 0 * 704 ≤ (i 2).val ∧ (i 2).val < 0 * 704 + 704; omega

theorem mem_blk7 (t : Fin cfg0.N) (i : S4x8192x704.Idx) :
    i ∈ ((cfg0.win 7).blk t).view.set ↔ ∀ a : Fin 3, win0_7.index t a * S1x1024x704.size a ≤ (i a).val ∧ (i a).val < win0_7.index t a * S1x1024x704.size a + S1x1024x704.size a := by
  show i ∈ ((View.whole main_v0_1).slice (win0_7.rect t)).set ↔ _
  rw [View.set_slice_whole, Rect.mem_set_unit]
  exact Iff.rfl

theorem cover7 (i : S4x8192x704.Idx) : ∃ t : Fin cfg0.N, (cfg0.win 7).flush t = true ∧ i ∈ ((cfg0.win 7).blk t).view.set := by
  have h0 : (i 0).val < 4 := (i 0).isLt
  have h1 : (i 1).val < 8192 := (i 1).isLt
  have h2 : (i 2).val < 704 := (i 2).isLt
  obtain ⟨t, ht⟩ : ∃ t : Fin cfg0.N, t.val = 4 * ((i 1).val / 1024) + (i 0).val :=
    ⟨⟨4 * ((i 1).val / 1024) + (i 0).val, by show _ < 32; omega⟩, rfl⟩
  refine ⟨t, flush0_7 t, (mem_blk7 t i).2 fun a => ?_⟩
  have e : win0_7.index t = ![t.val % 4, t.val / 4, 0] := by have := idx t; tauto
  rw [e]
  match a with
  | ⟨0, _⟩ => show t.val % 4 * 1 ≤ (i 0).val ∧ (i 0).val < t.val % 4 * 1 + 1; omega
  | ⟨1, _⟩ => show t.val / 4 * 1024 ≤ (i 1).val ∧ (i 1).val < t.val / 4 * 1024 + 1024; omega
  | ⟨2, _⟩ => show 0 * 704 ≤ (i 2).val ∧ (i 2).val < 0 * 704 + 704; omega

theorem mem_blk8 (t : Fin cfg0.N) (i : S4x8192x704.Idx) :
    i ∈ ((cfg0.win 8).blk t).view.set ↔ ∀ a : Fin 3, win0_8.index t a * S1x1024x704.size a ≤ (i a).val ∧ (i a).val < win0_8.index t a * S1x1024x704.size a + S1x1024x704.size a := by
  show i ∈ ((View.whole main_v0_2).slice (win0_8.rect t)).set ↔ _
  rw [View.set_slice_whole, Rect.mem_set_unit]
  exact Iff.rfl

theorem cover8 (i : S4x8192x704.Idx) : ∃ t : Fin cfg0.N, (cfg0.win 8).flush t = true ∧ i ∈ ((cfg0.win 8).blk t).view.set := by
  have h0 : (i 0).val < 4 := (i 0).isLt
  have h1 : (i 1).val < 8192 := (i 1).isLt
  have h2 : (i 2).val < 704 := (i 2).isLt
  obtain ⟨t, ht⟩ : ∃ t : Fin cfg0.N, t.val = 4 * ((i 1).val / 1024) + (i 0).val :=
    ⟨⟨4 * ((i 1).val / 1024) + (i 0).val, by show _ < 32; omega⟩, rfl⟩
  refine ⟨t, flush0_8 t, (mem_blk8 t i).2 fun a => ?_⟩
  have e : win0_8.index t = ![t.val % 4, t.val / 4, 0] := by have := idx t; tauto
  rw [e]
  match a with
  | ⟨0, _⟩ => show t.val % 4 * 1 ≤ (i 0).val ∧ (i 0).val < t.val % 4 * 1 + 1; omega
  | ⟨1, _⟩ => show t.val / 4 * 1024 ≤ (i 1).val ∧ (i 1).val < t.val / 4 * 1024 + 1024; omega
  | ⟨2, _⟩ => show 0 * 704 ≤ (i 2).val ∧ (i 2).val < 0 * 704 + 704; omega

theorem mem_blk9 (t : Fin cfg0.N) (i : S8192x1024.Idx) :
    i ∈ ((cfg0.win 9).blk t).view.set ↔ ∀ a : Fin 2, win0_9.index t a * S1024x1024.size a ≤ (i a).val ∧ (i a).val < win0_9.index t a * S1024x1024.size a + S1024x1024.size a := by
  show i ∈ ((View.whole main_v0_3).slice (win0_9.rect t)).set ↔ _
  rw [View.set_slice_whole, Rect.mem_set_unit]
  exact Iff.rfl

theorem cover9 (i : S8192x1024.Idx) : ∃ t : Fin cfg0.N, (cfg0.win 9).flush t = true ∧ i ∈ ((cfg0.win 9).blk t).view.set := by
  have h0 : (i 0).val < 8192 := (i 0).isLt
  have h1 : (i 1).val < 1024 := (i 1).isLt
  obtain ⟨t, ht⟩ : ∃ t : Fin cfg0.N, t.val = 4 * ((i 0).val / 1024) + 3 :=
    ⟨⟨4 * ((i 0).val / 1024) + 3, by show _ < 32; omega⟩, rfl⟩
  refine ⟨t, (flush0_9 t).mpr (by omega), (mem_blk9 t i).2 fun a => ?_⟩
  have e : win0_9.index t = ![t.val / 4, 0] := by have := idx t; tauto
  rw [e]
  match a with
  | ⟨0, _⟩ => show t.val / 4 * 1024 ≤ (i 0).val ∧ (i 0).val < t.val / 4 * 1024 + 1024; omega
  | ⟨1, _⟩ => show 0 * 1024 ≤ (i 1).val ∧ (i 1).val < 0 * 1024 + 1024; omega

theorem mem_blk10 (t : Fin cfg0.N) (i : S8192x1024.Idx) :
    i ∈ ((cfg0.win 10).blk t).view.set ↔ ∀ a : Fin 2, win0_10.index t a * S1024x1024.size a ≤ (i a).val ∧ (i a).val < win0_10.index t a * S1024x1024.size a + S1024x1024.size a := by
  show i ∈ ((View.whole main_v0_4).slice (win0_10.rect t)).set ↔ _
  rw [View.set_slice_whole, Rect.mem_set_unit]
  exact Iff.rfl

theorem cover10 (i : S8192x1024.Idx) : ∃ t : Fin cfg0.N, (cfg0.win 10).flush t = true ∧ i ∈ ((cfg0.win 10).blk t).view.set := by
  have h0 : (i 0).val < 8192 := (i 0).isLt
  have h1 : (i 1).val < 1024 := (i 1).isLt
  obtain ⟨t, ht⟩ : ∃ t : Fin cfg0.N, t.val = 4 * ((i 0).val / 1024) + 3 :=
    ⟨⟨4 * ((i 0).val / 1024) + 3, by show _ < 32; omega⟩, rfl⟩
  refine ⟨t, (flush0_10 t).mpr (by omega), (mem_blk10 t i).2 fun a => ?_⟩
  have e : win0_10.index t = ![t.val / 4, 0] := by have := idx t; tauto
  rw [e]
  match a with
  | ⟨0, _⟩ => show t.val / 4 * 1024 ≤ (i 0).val ∧ (i 0).val < t.val / 4 * 1024 + 1024; omega
  | ⟨1, _⟩ => show 0 * 1024 ≤ (i 1).val ∧ (i 1).val < 0 * 1024 + 1024; omega

theorem final_gate (hY : ∀ j, Ret.Re (Y m c j)) (hU : ∀ j, Ret.Re (U m c j)) (hV : ∀ j, Ret.Re (V m c j)) : (dats m 0 c).arrAt 6 cfg0.N
    = (val_main_v21 (F := Ideal) (Y m c) (G m c) (U m c) (V m c) : FVec Ideal S4x8192x704 .bf16) := by
  refine (dats m 0 c).arrAt_eq_of_cover 6 _ (fun t hf => ?_) cover6
  funext y
  show (cfg0.win 6).cut (grid0.coords t) ((dats m 0 c).after 6 t) y = _
  rw [after6]
  have h0 : (y 0).val < 1 := (y 0).isLt
  have h1 : (y 1).val < 1024 := (y 1).isLt
  have h2 : (y 2).val < 704 := (y 2).isLt
  have ey : (cfg0.win 6).xinj (grid0.coords t) y = ix3 (0 : Fin 1) (⟨(y 1).val, h1⟩ : Fin 1024) ⟨(y 2).val, h2⟩ := ext3 (by show (y 0).val = 0; omega) rfl rfl
  show dgOf (F := Ideal) _ _ _ _ ((cfg0.win 6).xinj (grid0.coords t) y) = _
  rw [ey, gate_block m c t hY hU hV, ← ref_gate_out]
  refine congrArg (val_main_v21 (F := Ideal) (Y m c) (G m c) (U m c) (V m c)) (ext3 ?_ ?_ ?_).symm <;>
    · blk_simp [idx t]; try simp [row, part]; try omega

theorem final_up : (dats m 0 c).arrAt 7 cfg0.N
    = (val_main_v24 (F := Ideal) (Y m c) (G m c) (V m c) : FVec Ideal S4x8192x704 .bf16) := by
  refine (dats m 0 c).arrAt_eq_of_cover 7 _ (fun t hf => ?_) cover7
  funext y
  show (cfg0.win 7).cut (grid0.coords t) ((dats m 0 c).after 7 t) y = _
  rw [after7]
  have h0 : (y 0).val < 1 := (y 0).isLt
  have h1 : (y 1).val < 1024 := (y 1).isLt
  have h2 : (y 2).val < 704 := (y 2).isLt
  have ey : (cfg0.win 7).xinj (grid0.coords t) y = ix3 (0 : Fin 1) (⟨(y 1).val, h1⟩ : Fin 1024) ⟨(y 2).val, h2⟩ := ext3 (by show (y 0).val = 0; omega) rfl rfl
  show k0_pay11 (F := Ideal) _ _ _ ((cfg0.win 7).xinj (grid0.coords t) y) = _
  rw [ey, up_block, ← ref_up_out]
  refine congrArg (val_main_v24 (F := Ideal) (Y m c) (G m c) (V m c)) (ext3 ?_ ?_ ?_).symm <;>
    · blk_simp [idx t]; try simp [row, part]; try omega

theorem final_act : (dats m 0 c).arrAt 8 cfg0.N
    = (val_main_v29 (F := Ideal) (G m c) (U m c) : FVec Ideal S4x8192x704 .bf16) := by
  refine (dats m 0 c).arrAt_eq_of_cover 8 _ (fun t hf => ?_) cover8
  funext y
  show (cfg0.win 8).cut (grid0.coords t) ((dats m 0 c).after 8 t) y = _
  rw [after8]
  have h0 : (y 0).val < 1 := (y 0).isLt
  have h1 : (y 1).val < 1024 := (y 1).isLt
  have h2 : (y 2).val < 704 := (y 2).isLt
  have ey : (cfg0.win 8).xinj (grid0.coords t) y = ix3 (0 : Fin 1) (⟨(y 1).val, h1⟩ : Fin 1024) ⟨(y 2).val, h2⟩ := ext3 (by show (y 0).val = 0; omega) rfl rfl
  show k0_pay10 (F := Ideal) _ _ ((cfg0.win 8).xinj (grid0.coords t) y) = _
  rw [ey, act_block, ← ref_act_out]
  refine congrArg (val_main_v29 (F := Ideal) (G m c) (U m c)) (ext3 ?_ ?_ ?_).symm <;>
    · blk_simp [idx t]; try simp [row, part]; try omega

theorem final_normed : (dats m 0 c).arrAt 9 cfg0.N
    = (val_main_v42 (F := Ideal) (X m c) (W m c) : FVec Ideal S8192x1024 .bf16) := by
  refine (dats m 0 c).arrAt_eq_of_cover 9 _ (fun t hf => ?_) cover9
  funext y
  show (cfg0.win 9).cut (grid0.coords t) ((dats m 0 c).after 9 t) y = _
  rw [after9]
  have h0 : (y 0).val < 1024 := (y 0).isLt
  have h1 : (y 1).val < 1024 := (y 1).isLt
  have ey : (cfg0.win 9).xinj (grid0.coords t) y = ix2 (⟨(y 0).val, h0⟩ : Fin 1024) (⟨(y 1).val, h1⟩ : Fin 1024) := ext2 rfl rfl
  show normed (F := Ideal) m c t ((cfg0.win 9).xinj (grid0.coords t) y) = _
  rw [ey, normed_at, ← ref_norm]
  refine congrArg (val_main_v42 (F := Ideal) (X m c) (W m c)) (ext2 ?_ ?_).symm <;>
    · blk_simp [idx t]; try simp [row]; try omega

theorem final_half : (dats m 0 c).arrAt 10 cfg0.N
    = (val_main_v45 (F := Ideal) (Y m c) : FVec Ideal S8192x1024 .bf16) := by
  refine (dats m 0 c).arrAt_eq_of_cover 10 _ (fun t hf => ?_) cover10
  funext y
  show (cfg0.win 10).cut (grid0.coords t) ((dats m 0 c).after 10 t) y = _
  rw [after10]
  have h0 : (y 0).val < 1024 := (y 0).isLt
  have h1 : (y 1).val < 1024 := (y 1).isLt
  have ey : (cfg0.win 10).xinj (grid0.coords t) y = ix2 (⟨(y 0).val, h0⟩ : Fin 1024) (⟨(y 1).val, h1⟩ : Fin 1024) := ext2 rfl rfl
  show halved (F := Ideal) m c t ((cfg0.win 10).xinj (grid0.coords t) y) = _
  rw [ey, halved_at, ← ref_half]
  refine congrArg (val_main_v45 (F := Ideal) (Y m c)) (ext2 ?_ ?_).symm <;>
    · blk_simp [idx t]; try simp [row]; try omega

end Step.HiddenBack

end
-- ==== Proof.Step.Finite.lean ====
/-
  What the preconditions say of an entry.
-/
module

public import proofs.«01_k».proof.Proof.Ret.Lift

@[expose] public section

noncomputable section

open Idealize.ShloMosaic

namespace Step

/-- An extended real below infinity in absolute value is a real number. -/
theorem re_of_lt (x : EReal)
    (e : FloatOps.cmpf (F := Ideal) (φ := .f32) .olt (FloatOps.hostAbsf (F := Ideal) (φ := .f32) x) (Ideal.ofBits .f32 0x7F800000#32) = 1#1) :
    Ret.Re x := by
  have top : Ideal.ofBits .f32 0x7F800000#32 = (⊤ : EReal) := by simp [Ideal.ofBits, Ideal.ieee]
  rw [top, Ideal.hostAbsf_def, Ideal.absf_def, Ideal.cmpf_def] at e
  have hlt : max x (-x) < (⊤ : EReal) := by
    by_contra hn
    simp only [Ideal.cmp, hn] at e
    exact absurd e (by decide)
  refine ⟨x.toReal, (EReal.coe_toReal ?_ ?_).symm⟩
  · rintro rfl; simp at hlt
  · rintro rfl; simp at hlt

end Step

end
-- ==== Proof.Step.Claim5.lean ====
/-
  The hidden gradients of a feed-forward block: the claims of the pair of programs.
-/
module

public import proofs.«01_k».proof.Defs
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Step.HiddenBackRunBits
public import proofs.«01_k».proof.Proof.Step.HiddenBack
public import proofs.«01_k».proof.Proof.Step.Finite
public import proofs.«01_k».proof.Proof.Gen.Pre_finite5
public import Idealize.ShloMosaic.Lib.Claim
public import Idealize.ShloMosaic.Adequacy
public import Idealize.ShloMosaic.Init

@[expose] public section

set_option maxRecDepth 16384

noncomputable section

namespace Step.Claim5

open Idealize.ShloMosaic Idealize.SL.Sem

/-- The reference ends with its arguments unchanged and every counter at zero. -/
theorem quiescent_reference5 (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0) :=
  (θ_run _ _ _).mono (fun r h => ⟨fun c => (h c).2.2.2.2.2, sem_eq_zero_of_no_sems (by decide) r.2⟩) (Cert.Reference5Ideal.Value.run m g)

/-- Kernel and reference leave the same arrays, where the cotangent, the linear columns and the weight are finite. -/
theorem algebraic5 : Cert.algebraic_Kernel5Ideal_Reference5Ideal_pre_finite5 (hPre_finite5 := Cert.Pre_finite5.Gen.facts) (hKernel5Ideal := Cert.Kernel5Ideal.Gen.facts) (hReference5Ideal := Cert.Reference5Ideal.Gen.facts) := by
  intro m g m' g' hpre hagree
  refine ⟨fun c => Cert.Reference5Ideal.Read.val_main_v21 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)),
    fun c => Cert.Reference5Ideal.Read.val_main_v24 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg5)),
    fun c => Cert.Reference5Ideal.Read.val_main_v29 (F := Ideal) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    fun c => Cert.Reference5Ideal.Read.val_main_v42 (F := Ideal) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    fun c => Cert.Reference5Ideal.Read.val_main_v45 (F := Ideal) (m ((c.tc : Thread Cert.Kernel5Ideal.nD Cert.Kernel5Ideal.τ).loc Cert.Kernel5Ideal.main_arg0)), ?_, ?_⟩
  · exact (θ_run _ _ _).mono (fun r h c => ⟨(h c).1.trans (Step.HiddenBack.final_gate m c (fun j => re_of_lt _ (congrFun (hpre c).1 j)) (fun j => re_of_lt _ (congrFun (hpre c).2.1 j)) (fun j => re_of_lt _ (congrFun (hpre c).2.2 j))), (h c).2.1.trans (Step.HiddenBack.final_up m c), (h c).2.2.1.trans (Step.HiddenBack.final_act m c), (h c).2.2.2.1.trans (Step.HiddenBack.final_normed m c), (h c).2.2.2.2.1.trans (Step.HiddenBack.final_half m c), (h c).2.2.2.2.2⟩) (Step.HiddenBackRun.run_arrays m g)
  · refine (θ_run _ _ _).mono (fun r h c => ⟨(h c).1.trans ((Cert.Reference5Ideal.Read.val_main_v21_eq ..).trans ?_), (h c).2.1.trans ((Cert.Reference5Ideal.Read.val_main_v24_eq ..).trans ?_), (h c).2.2.1.trans ((Cert.Reference5Ideal.Read.val_main_v29_eq ..).trans ?_), (h c).2.2.2.1.trans ((Cert.Reference5Ideal.Read.val_main_v42_eq ..).trans ?_), (h c).2.2.2.2.1.trans ((Cert.Reference5Ideal.Read.val_main_v45_eq ..).trans ?_), (h c).2.2.2.2.2⟩) (Cert.Reference5Ideal.Value.run m' g')
    · show Cert.Reference5Ideal.Read.val_main_v21 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) = _
      rw [(hagree c).1, (hagree c).2.2.2.1, (hagree c).2.2.2.2.1, (hagree c).2.2.2.2.2]
    · show Cert.Reference5Ideal.Read.val_main_v24 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg5)) = _
      rw [(hagree c).1, (hagree c).2.2.2.1, (hagree c).2.2.2.2.2]
    · show Cert.Reference5Ideal.Read.val_main_v29 (F := Ideal) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) = _
      rw [(hagree c).2.2.2.1, (hagree c).2.2.2.2.1]
    · show Cert.Reference5Ideal.Read.val_main_v42 (F := Ideal) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = _
      rw [(hagree c).2.1, (hagree c).2.2.1]
    · show Cert.Reference5Ideal.Read.val_main_v45 (F := Ideal) (m' ((c.tc : Thread Cert.Reference5Ideal.nD Cert.Reference5Ideal.τ).loc Cert.Reference5Ideal.main_arg0)) = _
      rw [(hagree c).1]

end Step.Claim5

end
-- ==== Proof.Step.InForwardRun.lean ====
/-
  The run of program 6's kernel (`Kernel6Ideal`), which the printed module leaves to be proved by hand.

  The grid has 32 points, in groups of four: the first point of a group normalizes its block of
  1024 rows and keeps it twice, in a scratch buffer and in the buffer of the second result; every
  point of the group multiplies the scratch by its block of 2048 columns. The second result is
  written back at the last point of the group, which stores nothing into it: what is written is
  what the first point left.
-/
module

public import proofs.«01_k».proof.Proof.Gen.Kernel6Ideal.Frame
public import proofs.«01_k».proof.Proof.Gen.Kernel6Ideal.Skeleton
public import proofs.«01_k».proof.Proof.Gen.Kernel6Ideal.Launch
public import proofs.«01_k».proof.Proof.Gen.Kernel6Ideal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Step.InForwardRun

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the assertions below are about. -/
abbrev Res (F : FTy → Type) [FloatOps F] : Type := MT nD τ sig Unit (Elt F) ℕ (UR sig nD τ) ℕ

variable (m : (ℓ : Loc nD τ sig) → Buf (Elt F) ℓ) (ρ : Dev nD → PrngReg)

/-! ## The body -/

/-- The branch is taken at the first point of each group of four. -/
theorem taken : ∀ t : Fin cfg0.N, k0_cond1 (grid0.coords t) = 1#1 ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

set_option maxHeartbeats 1000000 in
/-- The body where the branch is taken: the scratch, the second result's buffer and the first
    result's buffer end at the normalized block, the same, and its product. -/
theorem body_first (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1024x2048 .bf16) (harg4 : arg4.IsWhole)
    (arg5 : Memref sig .tc .vmem S1024x2048 .bf16) (harg5 : arg5.IsWhole) (arg6 : Memref sig .tc .vmem S1024x1024 .bf16) (harg6 : arg6.IsWhole)
    (arg7 : Memref sig .tc .vmem S1024x1024 .bf16) (harg7 : arg7.IsWhole) (hc : k0_cond1 i = 1#1)
    (x0 : Vec F S1024x1024 .f32) (x1 : Vec F S1x1024 .f32) (x2 : Vec F S1024x2048 .bf16) (E : Set ℕ) (K : PUnit → sProp (Res F)) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1) x2) ∗ owns (c : Thread nD τ) arg6 fullShare (k0_pay1 x0 x1)
            ∗ owns (c : Thread nD τ) arg7 fullShare (k0_pay2 x0 x1)) -∗ K ⟨⟩))
      ⊢ wp frame (wpE (defs₀ (F := F)) Variants.none c none) E
          (cc0_inproj_fwd i arg2 harg2 arg3 harg3 arg4 harg4 arg5 harg5 arg6 harg6 arg7 harg7) K := by
  simp only [cc0_inproj_fwd_eq_skeleton]; unfold cc0_inproj_fwd_skel
  unfold owns
  iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
  obtain rfl := harg2.eq_unread hf0; obtain rfl := harg3.eq_unread hf1; obtain rfl := harg4.eq_unread hf2
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    unfold body_first.sl.v3 body_first.sl.HS_1
    rw [View.readCov_full, View.readAt_full, View.readAt_full, View.readAt_full, harg2.read_unread, harg3.read_unread, harg4.read_unread]
  isplitl [H4]
  · iexists _; isplitr
    swap; · iexact H4
    ipureintro
    refine (View.read_writes_full _ _ _ _ _).trans ?_
    rw [View.readAt_full, View.readAt_full, harg2.read_unread, harg3.read_unread]
  iexists _; isplitr
  swap; · iexact HS
  ipureintro
  unfold body_first.sl.HS_1
  refine (View.read_writes_full _ _ _ _ _).trans ?_
  rw [View.readAt_full, View.readAt_full, harg2.read_unread, harg3.read_unread]

set_option maxHeartbeats 1000000 in
/-- The body where the branch is not taken: the first result's buffer ends at the product of what
    the scratch holds, and nothing else changes. -/
theorem body_next (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1024x2048 .bf16) (harg4 : arg4.IsWhole)
    (arg5 : Memref sig .tc .vmem S1024x2048 .bf16) (harg5 : arg5.IsWhole) (arg6 : Memref sig .tc .vmem S1024x1024 .bf16) (harg6 : arg6.IsWhole)
    (arg7 : Memref sig .tc .vmem S1024x1024 .bf16) (harg7 : arg7.IsWhole) (hc : ¬k0_cond1 i = 1#1)
    (x2 : Vec F S1024x2048 .bf16) (xs : Vec F S1024x1024 .bf16) (E : Set ℕ) (K : PUnit → sProp (Res F)) :
    iprop(owns (c : Thread nD τ) arg4 fullShare x2
        ∗ (∃ d, owns (c : Thread nD τ) arg5 fullShare d) ∗ owns (c : Thread nD τ) arg7 fullShare xs
        ∗ (iprop(owns (c : Thread nD τ) arg4 fullShare x2
            ∗ owns (c : Thread nD τ) arg5 fullShare (k0_pay3 xs x2)
            ∗ owns (c : Thread nD τ) arg7 fullShare xs) -∗ K ⟨⟩))
      ⊢ wp frame (wpE (defs₀ (F := F)) Variants.none c none) E
          (cc0_inproj_fwd i arg2 harg2 arg3 harg3 arg4 harg4 arg5 harg5 arg6 harg6 arg7 harg7) K := by
  simp only [cc0_inproj_fwd_eq_skeleton]; unfold cc0_inproj_fwd_skel
  unfold owns
  iintro ⟨⟨%f2, %hf2, H2⟩, ⟨%d3, %f3, -, H3⟩, ⟨%fs, %hfs, HS⟩, Hk⟩
  obtain rfl := harg4.eq_unread hf2; obtain rfl := harg7.eq_unread hfs
  sl_exec (disch := sl_exact hc)
  sl_step
  iapply Hk
  isplitl [H2]
  · iexists _; isplitr; · ipureintro; exact harg4.read_unread _
    iexact H2
  isplitl [H3]
  · iexists _; isplitr
    swap; · iexact H3
    ipureintro
    refine (View.read_writes_full _ _ _ _ _).trans ?_
    rw [View.readAt_full, View.readAt_full, harg4.read_unread, harg7.read_unread]
  iexists _; isplitr
  swap; · iexact HS
  ipureintro
  exact harg7.read_unread _

/-! ## What the buffers hold, point by point -/

/-- The first point of the group of four that a point is in. -/
def lead (t : Fin cfg0.N) : Fin cfg0.N := ⟨4 * (t.val / 4), lt_of_le_of_lt (Nat.mul_div_le t.val 4) t.isLt⟩

theorem lead_first (t : Fin cfg0.N) (h : t.val % 4 = 0) : lead t = t :=
  Fin.ext (show 4 * (t.val / 4) = t.val by omega)

theorem lead_pred (t : Fin cfg0.N) (h : ¬t.val % 4 = 0) (hp : t.val - 1 < cfg0.N) : lead t = lead ⟨t.val - 1, hp⟩ :=
  Fin.ext (show 4 * (t.val / 4) = 4 * ((t.val - 1) / 4) by omega)

/-- The normalized block of the group of point `t`: what the second result's buffer holds there. -/
def normed (c : Dev nD) (t : Fin cfg0.N) : Vec F S1024x1024 .bf16 := k0_pay1 (iblk m c 0 (lead t)) (iblk m c 1 (lead t))

/-- The same block as the scratch holds it. -/
def kept (c : Dev nD) (t : Fin cfg0.N) : Vec F S1024x1024 .bf16 := k0_pay2 (iblk m c 0 (lead t)) (iblk m c 1 (lead t))

/-- The scratch buffer. -/
abbrev scratch : Memref sig .tc .vmem S1024x1024 .bf16 := Memref.whole cc0_scratch0

theorem start_eq (c : Dev nD) :
    (Pipeline.ΦA spec0 c : sProp (Res F)) = iprop((∃ d, owns (c : Thread nD τ) scratch fullShare d) ∗ (∃ r, prngReg c r)) := by
  unfold Pipeline.ΦA; rw [scopedRest0_eq]; simp only [scratch, owns_whole]; rfl

/-- What is known before point `n`: nothing at first, then the scratch as the point before left it. -/
def known (c : Dev nD) : (n : ℕ) → n ≤ cfg0.N → sProp (Res F)
  | 0, _ => Pipeline.ΦA spec0 c
  | n + 1, h => iprop(owns (c : Thread nD τ) scratch fullShare (kept m c ⟨n, h⟩) ∗ (∃ r, prngReg c r))

theorem known_zero (c : Dev nD) (n : ℕ) (h : n ≤ cfg0.N) (hz : n = 0) : known m c n h = Pipeline.ΦA spec0 c := by
  subst hz; rfl

theorem known_succ (c : Dev nD) (n : ℕ) (h : n < cfg0.N) :
    known m c (n + 1) h = iprop(owns (c : Thread nD τ) scratch fullShare (kept m c ⟨n, h⟩) ∗ (∃ r, prngReg c r)) := rfl

theorem known_pos (c : Dev nD) (n : ℕ) (h : n ≤ cfg0.N) (hz : n ≠ 0) :
    known m c n h = iprop(owns (c : Thread nD τ) scratch fullShare (kept m c ⟨n - 1, by omega⟩) ∗ (∃ r, prngReg c r)) := by
  obtain ⟨k, rfl⟩ := Nat.exists_eq_succ_of_ne_zero hz
  rfl

/-- The data of the run: the arrays as found, what each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (kept m c t) (iblk m c 2 t)
    | ⟨4, _⟩ => normed m c t
  Φ t := known m c t.val (Nat.le_of_lt_succ t.isLt)
  q _ := fullShare
  owed _ := 0

theorem A_eq (c : Dev nD) (w : Fin cfg0.W) : (dats m 0 c).A w = V m c (Pipeline.arrRef spec0 w) := by dsimp only [dats]

theorem known_castSucc (c : Dev nD) (t : Fin cfg0.N) : (dats m 0 c).Φ t.castSucc = known m c t.val (Nat.le_of_lt t.isLt) := by
  dsimp only [dats]; exact Pipeline.Dat.Φ_castSucc (known m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay3 (kept m c t) (iblk m c 2 t) := by dsimp only [dats]
theorem after4 (c : Dev nD) (t : Fin cfg0.N) : (dats m 0 c).after 4 t = normed m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The second result's buffer keeps the block -/

theorem live4 : ∀ t : Fin cfg0.N, t.val % 4 = 0 → cfg0.idle 4 (grid0.coords t) = false := fun t h => by
  show (!(k0_cond1 (grid0.coords t) == 1#1)) = false
  rw [(taken t).mpr h]; rfl

theorem idle4 : ∀ t : Fin cfg0.N, ¬t.val % 4 = 0 → cfg0.idle 4 (grid0.coords t) = true := fun t h => by
  show (!(k0_cond1 (grid0.coords t) == 1#1)) = true
  rw [beq_eq_false_iff_ne.mpr (fun e => h ((taken t).mp e))]; rfl

theorem flush4 (t : Fin cfg0.N) (h : ¬t.val % 4 = 3) : (cfg0.win 4).flush t = false :=
  Bool.eq_false_iff.mpr fun e => h ((flush0_4 t).mp e)

theorem fetch4 (t : Fin cfg0.N) : (cfg0.win 4).fetch t = false := (cfg0.win 4).fetch_out rfl t

/-- After the first point of a group, the buffer is found holding the group's block. -/
theorem before4 (c : Dev nD) (d) : ∀ (n : ℕ) (h : n < cfg0.N), ¬n % 4 = 0 → (dats m 0 c).before 4 ⟨n, h⟩ d = normed m c ⟨n, h⟩
  | 0, _, hn => absurd rfl hn
  | n + 1, h, hn => by
    rw [(dats m 0 c).before_of_pos 4 ⟨n + 1, h⟩ (Nat.succ_ne_zero n) (fetch4 _) d,
      if_neg (by rw [flush4 ⟨n + 1 - 1, _⟩ (show ¬(n + 1 - 1) % 4 = 3 by omega)]; exact Bool.false_ne_true)]
    have hp : n < cfg0.N := Nat.lt_of_succ_lt h
    have e : normed m c ⟨n + 1, h⟩ = normed m c ⟨n, hp⟩ := by
      unfold normed; rw [lead_pred ⟨n + 1, h⟩ hn hp]; rfl
    rw [e]
    show (dats m 0 c).left 4 ⟨n, hp⟩ d = _
    unfold Dat.left
    by_cases h0 : n % 4 = 0
    · rw [live4 ⟨n, hp⟩ h0]
      show (dats m 0 c).kept 4 ⟨n, hp⟩ d = _
      unfold Dat.kept
      rw [after4]
      rw [Pipeline.fill_of_clip_none (cfg := cfg0) 4 _ (fun _ => rfl) d (normed m c ⟨n, hp⟩), Window.fill_cut]
    · rw [idle4 ⟨n, hp⟩ h0]
      exact before4 c d n hp h0

/-! ## The body's obligation -/

theorem leaves0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (st0_3 t) fullShare (k0_pay3 (kept m c t) (iblk m c 2 t)) := by
  unfold Dat.leavesExact; rw [show cfg0.idle 3 (grid0.coords t) = false from rfl, after3]

/-- At the first point of a group the second result's buffer must hold the block. -/
theorem leaves4_first (c : Dev nD) (t : Fin cfg0.N) (h : t.val % 4 = 0) :
    (dats m 0 c).leavesExact 4 t = owns (c : Thread nD τ) (st0_4 t) fullShare (normed m c t) := by
  unfold Dat.leavesExact; rw [live4 t h, after4]

/-- At the others it is enough that it is left as found. -/
theorem leaves4_next (c : Dev nD) (t : Fin cfg0.N) (h : ¬t.val % 4 = 0) (d) :
    owns (c : Thread nD τ) (st0_4 t) fullShare ((dats m 0 c).before 4 t d) ⊢ ((dats m 0 c).leavesExact 4 t : sProp (Res F)) := by
  by_cases h3 : t.val % 4 = 3
  · rw [before4 m c d t.val t.isLt h]
    unfold Dat.leavesExact; rw [idle4 t h, (flush0_4 t).mpr h3, after4]
  · rw [Dat.leavesExact_idle (dats m 0 c) 4 t (idle4 t h) (flush4 t h3)]
    iintro H
    iexists d
    iexact H

/-- What the body is given at point `t`. -/
def given (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body must leave there. -/
def due (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- Whatever is known before a point, the scratch is there, at some contents. -/
theorem known_some (c : Dev nD) (n : ℕ) (h : n ≤ cfg0.N) :
    known m c n h ⊢ (iprop((∃ d, owns (c : Thread nD τ) scratch fullShare d) ∗ (∃ r, prngReg c r)) : sProp (Res F)) := by
  by_cases hz : n = 0
  · rw [known_zero m c n h hz, start_eq]
  · rw [known_pos m c n h hz]
    iintro ⟨HS, Hg⟩
    isplitl [HS]
    · iexists _; iexact HS
    iexact Hg

set_option maxHeartbeats 1000000 in
theorem sound_first (c : Dev nD) (t : Fin cfg0.N) (h0 : t.val % 4 = 0) :
    given m c t ⊢ wp frame (wpE (defs₀ (F := F)) Variants.none c none) Set.univ (bodyAt0 t) (fun _ => due m c t) := by
  unfold given due bodyAt0
  simp only [before0, before1, before2, leaves0, leaves1, leaves2, leaves3]
  rw [leaves4_first m c t h0, show (dats m 0 c).owesAt () t.succ = (dats m 0 c).owesAt () t.castSucc from rfl,
    show (dats m 0 c).Φ t.succ = known m c (t.val + 1) t.isLt from rfl, known_succ, known_castSucc m c t]
  unfold normed kept
  rw [lead_first t h0]
  iintro ⟨HK, Ho, ⟨%d0, H0⟩, ⟨%d1, H1⟩, ⟨%d2, H2⟩, ⟨%d3, H3⟩, ⟨%d4, H4⟩⟩
  ihave HK' := known_some m c _ _ $$ HK
  icases HK' with ⟨HS, Hg⟩
  iapply (body_first c (grid0.coords t) _ _ _ _ _ _ _ _ _ _ _ _ ((taken t).mpr h0) (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, H3, H4, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexact H4

set_option maxHeartbeats 1000000 in
theorem sound_next (c : Dev nD) (t : Fin cfg0.N) (h0 : ¬t.val % 4 = 0) :
    given m c t ⊢ wp frame (wpE (defs₀ (F := F)) Variants.none c none) Set.univ (bodyAt0 t) (fun _ => due m c t) := by
  unfold given due bodyAt0
  simp only [before0, before1, before2, leaves0, leaves1, leaves2, leaves3]
  have hz : t.val ≠ 0 := fun e => h0 (by rw [e])
  rw [show (dats m 0 c).owesAt () t.succ = (dats m 0 c).owesAt () t.castSucc from rfl,
    show (dats m 0 c).Φ t.succ = known m c (t.val + 1) t.isLt from rfl, known_succ, known_castSucc m c t, known_pos m c _ _ hz]
  have e : kept m c t = kept m c ⟨t.val - 1, lt_of_le_of_lt (Nat.sub_le _ _) t.isLt⟩ := by
    unfold kept; rw [lead_pred t h0 _]
  rw [← e]
  iintro ⟨⟨HS, Hg⟩, Ho, ⟨%d0, H0⟩, ⟨%d1, H1⟩, ⟨%d2, H2⟩, ⟨%d3, H3⟩, ⟨%d4, H4⟩⟩
  iapply (body_next c (grid0.coords t) _ _ _ _ _ _ _ _ _ _ _ _ (fun h => h0 ((taken t).mp h)) (iblk m c 2 t) (kept m c t) Set.univ _)
  isplitl [H2]; · iexact H2
  isplitl [H3]; · iexists _; iexact H3
  isplitl [HS]; · iexact HS
  iintro ⟨H2, H3, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iapply (leaves4_next m c t h0 d4)
  iexact H4

theorem sound (c : Dev nD) (t : Fin cfg0.N) :
    given m c t ⊢ wp frame (wpE (defs₀ (F := F)) Variants.none c none) Set.univ (bodyAt0 t) (fun _ => due m c t) := by
  by_cases h0 : t.val % 4 = 0
  · exact sound_first m c t h0
  · exact sound_next m c t h0

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

theorem hin (c : Dev nD) : Pipeline.ΦA spec0 c ⊢ (dats m 0 c).Φ 0 := by
  rw [show (dats m 0 c).Φ 0 = known m c 0 (Nat.zero_le _) from rfl, known_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = known m c (Fin.last cfg0.N).val (Nat.le_of_lt_succ (Fin.last cfg0.N).isLt) from rfl, start_eq]
  exact known_some m c _ _

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The run ends with every array at what the data say. -/
theorem run_main : θ_run defs (onTc (τ := τ) (main (F := F))) (s₀ m ρ) (Pipeline.FramePost cfgs (dats m) 0 (V m)) :=
  (θ_run defs _ _).mono (fun _ h => h.1) (run_quiet m ρ)

/-- The run leaves the arguments as they were, and no signal pending. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

/-- The run ends with the result arrays at what the data say, and the arguments as they were. -/
theorem run_arrays : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Step.InForwardRun

end
-- ==== Proof.Step.InForward.lean ====
/-
  The input projection: the kernel normalises 1024 rows, then multiplies them by four blocks of 2048 columns.
-/
module

public import proofs.«01_k».proof.Proof.Step.InForwardRun
public import proofs.«01_k».proof.Proof.Gen.Reference6Ideal.Read
public import proofs.«01_k».proof.Proof.Step.Sums
public import Idealize.ShloMosaic.Lib.Pointwise
public import Idealize.ShloMosaic.Lib.Pointwise.IndexBridge
public import Idealize.ShloMosaic.Lib.Pipeline.ValueKit
public import Idealize.ShloMosaic.Lib.Pipeline.ReadBack

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Step.InForward

open Cert.Kernel6Ideal Cert.Kernel6Ideal.Gen
open Step.InForwardRun (dats after3 after4 lead kept normed)

/-! ## The projection as functions of its arrays -/

section Maths
variable (X : FVec Ideal S8192x1024 .f32) (W : FVec Ideal S1x1024 .f32) (B : FVec Ideal S1024x8192 .bf16)

/-- The reciprocal root mean square of a row. -/
def scale (r : Fin 8192) : EReal :=
  Ideal.rsqrt (Ideal.div (∑ d : Fin 1024, X (ix2 r d) * X (ix2 r d)) (Ideal.ofBits .f32 0x44800000#32) + Ideal.ofBits .f32 0x358637BD#32)
/-- The normalised row. -/
def rows (r : Fin 8192) (d : Fin 1024) : EReal := X (ix2 r d) * scale X r * W (ix2 0 d)
/-- The projected row. -/
def proj (r q : Fin 8192) : EReal := ∑ d : Fin 1024, rows X W r d * B (ix2 d q)

end Maths

/-! ## The kernel's stores at an index -/

theorem norm_at (x : FVec Ideal S1024x1024 .f32) (w : FVec Ideal S1x1024 .f32) (a d : Fin 1024) :
    k0_pay1 (F := Ideal) x w (ix2 a d) = x (ix2 a d) * Ideal.rsqrt (Ideal.div (∑ d : Fin 1024, x (ix2 a d) * x (ix2 a d)) (Ideal.ofBits .f32 0x44800000#32) + Ideal.ofBits .f32 0x358637BD#32) * w (ix2 0 d) := by
  unfold k0_pay1
  simp only [← ix2_eq_valueIdx, ← ix3_eq_valueIdx]; pointwise

theorem same (x : FVec Ideal S1024x1024 .f32) (w : FVec Ideal S1x1024 .f32) : k0_pay2 (F := Ideal) x w = k0_pay1 (F := Ideal) x w := by
  unfold k0_pay2
  rw [shapeCast_self]

theorem prod_at (x : FVec Ideal S1024x1024 .bf16) (w : FVec Ideal S1024x2048 .bf16) (a : Fin 1024) (q : Fin 2048) :
    k0_pay3 (F := Ideal) x w (ix2 a q) = ∑ d : Fin 1024, x (ix2 a d) * w (ix2 d q) := by
  unfold k0_pay3
  simp only [← ix2_eq_valueIdx, ← ix3_eq_valueIdx]; pointwise

/-! ## The blocks of a grid point -/

theorem points (t : Fin cfg0.N) : t.val < 32 := t.isLt

/-- Where each window of a grid point stands. -/
theorem idx : ∀ t : Fin cfg0.N, win0_0.index t = ![t.val / 4, 0] ∧ win0_1.index t = ![0, 0] ∧ win0_2.index t = ![0, t.val % 4]
    ∧ win0_3.index t = ![t.val / 4, t.val % 4] ∧ win0_4.index t = ![t.val / 4, 0] :=
  (by decide +kernel : ∀ t : Fin grid0.N, win0_0.index t = ![t.val / 4, 0] ∧ win0_1.index t = ![0, 0] ∧ win0_2.index t = ![0, t.val % 4]
    ∧ win0_3.index t = ![t.val / 4, t.val % 4] ∧ win0_4.index t = ![t.val / 4, 0])

/-- The row a point works on. -/
def row (t : Fin cfg0.N) (a : Fin 1024) : Fin 8192 := ⟨1024 * (t.val / 4) + a.val, by have := points t; omega⟩
/-- The column a point works on. -/
def col (t : Fin cfg0.N) (q : Fin 2048) : Fin 8192 := ⟨2048 * (t.val % 4) + q.val, by omega⟩

theorem row_lead (t : Fin cfg0.N) (a : Fin 1024) : row (lead t) a = row t a :=
  Fin.ext (by show 1024 * (4 * (t.val / 4) / 4) + a.val = 1024 * (t.val / 4) + a.val; omega)

variable (m : (ℓ : Loc nD τ sig) → Buf (Elt Ideal) ℓ) (c : Dev nD) (t : Fin cfg0.N)

abbrev X : FVec Ideal S8192x1024 .f32 := m ((c : Thread nD τ).loc main_arg0)
abbrev W : FVec Ideal S1x1024 .f32 := m ((c : Thread nD τ).loc main_arg1)
abbrev B : FVec Ideal S1024x8192 .bf16 := m ((c : Thread nD τ).loc main_arg2)

theorem x_at (a d : Fin 1024) : (iblk m c 0 t : FVec Ideal S1024x1024 .f32) (ix2 a d) = X m c (ix2 (row t a) d) := by
  unfold X
  rw [← Gen.V_main_arg0 m c]
  refine congrArg (Gen.V m c main_arg0) (ext2 (p := row t a) (q := d) ?_ ?_) <;>
    · blk_simp [idx t]; try simp [row]; try omega

theorem w_at (a : Fin 1) (d : Fin 1024) : (iblk m c 1 t : FVec Ideal S1x1024 .f32) (ix2 a d) = W m c (ix2 0 d) := by
  unfold W
  rw [← Gen.V_main_arg1 m c]
  refine congrArg (Gen.V m c main_arg1) (ext2 (p := 0) (q := d) ?_ ?_) <;>
    · blk_simp [idx t]; try simp; try omega

theorem b_at (d : Fin 1024) (q : Fin 2048) : (iblk m c 2 t : FVec Ideal S1024x2048 .bf16) (ix2 d q) = B m c (ix2 d (col t q)) := by
  unfold B
  rw [← Gen.V_main_arg2 m c]
  refine congrArg (Gen.V m c main_arg2) (ext2 (p := d) (q := col t q) ?_ ?_) <;>
    · blk_simp [idx t]; try simp [col]; try omega

/-! ## One grid point -/

theorem normed_at (a d : Fin 1024) : normed (F := Ideal) m c t (ix2 a d) = rows (X m c) (W m c) (row t a) d := by
  unfold normed
  rw [norm_at]
  simp only [x_at, w_at, row_lead]
  rfl

theorem out_at (a : Fin 1024) (q : Fin 2048) : k0_pay3 (F := Ideal) (kept (F := Ideal) m c t) (iblk m c 2 t) (ix2 a q)
    = proj (X m c) (W m c) (B m c) (row t a) (col t q) := by
  rw [prod_at]
  refine Finset.sum_congr rfl fun d _ => ?_
  rw [show kept (F := Ideal) m c t = normed (F := Ideal) m c t from same _ _, normed_at]
  exact congrArg (_ * ·) (b_at m c t d q)

/-! ## The reference at an index -/

open Cert.Reference6Ideal.Read

section
variable (X : FVec Ideal S8192x1024 .f32) (W : FVec Ideal S1x1024 .f32) (B : FVec Ideal S1024x8192 .bf16)

theorem ref_norm (r : Fin 8192) (d : Fin 1024) : val_main_v11 (F := Ideal) X W (ix2 r d) = rows X W r d := by
  simp only [val_main_v11_apply, val_main_v10_apply, val_main_v9_apply, val_main_v8_apply, val_main_v7_apply, val_main_v6_apply, val_main_v5_apply, val_main_v4_apply, val_main_v3_apply, val_main_v2_apply, val_main_v1_apply, val_main_v0_apply]
  rw [show idx_main_v10 (ix2 r d) = ix2 0 d from ext2 (by simp) rfl]
  simp only [show ∀ k, idx_main_v1 (idx_main_v2 (idx_main_v8 (ix2 r d))) k = ix2 r k from fun k => ext2 rfl rfl]
  show X (ix2 r d) * Ideal.rsqrt (Ideal.div (Ideal.ofBits .f32 0#32 + ∑ k : Fin 1024, X (ix2 r k) * X (ix2 r k)) (Ideal.ofBits .f32 0x44800000#32) + Ideal.ofBits .f32 0x358637BD#32) * W (ix2 0 d) = _
  rw [Ideal.ofBits_zero_f32, zero_add]
  rfl

theorem ref_normed (r : Fin 8192) (d : Fin 1024) : val_main_v15 (F := Ideal) X W (ix2 r d) = rows X W r d := by
  rw [val_main_v15_apply, ref_norm]
  rfl

theorem ref_out (r q : Fin 8192) : val_main_v14 (F := Ideal) X W B (ix2 r q) = proj X W B r q := by
  rw [val_main_v14_apply, val_main_v13_apply]
  refine Finset.sum_congr rfl fun d _ => ?_
  rw [show lidx_main_v13 (ix2 r q) d = ix2 r d from ext2 rfl rfl, ref_norm, val_main_v12_apply]
  exact congrArg (fun v : EReal => rows X W r d * v) (congrArg B (ext2 rfl rfl))

end

/-! ## The result arrays -/

theorem mem_blk3 (t : Fin cfg0.N) (i : S8192x8192.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v0_0).slice (win0_3.rect t)).set ↔ _
  rw [View.set_slice_whole, Rect.mem_set_unit]
  exact Iff.rfl

theorem cover3 (i : S8192x8192.Idx) : ∃ t : Fin cfg0.N, (cfg0.win 3).flush t = true ∧ i ∈ ((cfg0.win 3).blk t).view.set := by
  have h0 : (i 0).val < 8192 := (i 0).isLt
  have h1 : (i 1).val < 8192 := (i 1).isLt
  obtain ⟨t, ht⟩ : ∃ t : Fin cfg0.N, t.val = 4 * ((i 0).val / 1024) + (i 1).val / 2048 :=
    ⟨⟨4 * ((i 0).val / 1024) + (i 1).val / 2048, by show _ < 32; omega⟩, rfl⟩
  refine ⟨t, flush0_3 t, (mem_blk3 t i).2 fun a => ?_⟩
  have e : win0_3.index t = ![t.val / 4, t.val % 4] := by have := idx t; tauto
  rw [e]
  match a with
  | ⟨0, _⟩ => show t.val / 4 * 1024 ≤ (i 0).val ∧ (i 0).val < t.val / 4 * 1024 + 1024; omega
  | ⟨1, _⟩ => show t.val % 4 * 2048 ≤ (i 1).val ∧ (i 1).val < t.val % 4 * 2048 + 2048; omega

theorem mem_blk4 (t : Fin cfg0.N) (i : S8192x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v0_1).slice (win0_4.rect t)).set ↔ _
  rw [View.set_slice_whole, Rect.mem_set_unit]
  exact Iff.rfl

theorem cover4 (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  obtain ⟨t, ht⟩ : ∃ t : Fin cfg0.N, t.val = 4 * ((i 0).val / 1024) + 3 :=
    ⟨⟨4 * ((i 0).val / 1024) + 3, by show _ < 32; omega⟩, rfl⟩
  refine ⟨t, (flush0_4 t).mpr (by omega), (mem_blk4 t i).2 fun a => ?_⟩
  have e : win0_4.index t = ![t.val / 4, 0] := by have := idx t; tauto
  rw [e]
  match a with
  | ⟨0, _⟩ => show t.val / 4 * 1024 ≤ (i 0).val ∧ (i 0).val < t.val / 4 * 1024 + 1024; omega
  | ⟨1, _⟩ => show 0 * 1024 ≤ (i 1).val ∧ (i 1).val < 0 * 1024 + 1024; omega

theorem final_out : (dats m 0 c).arrAt 3 cfg0.N
    = (val_main_v14 (F := Ideal) (X m c) (W m c) (B m c) : FVec Ideal S8192x8192 .bf16) := by
  refine (dats m 0 c).arrAt_eq_of_cover 3 _ (fun t hf => ?_) cover3
  funext y
  show (cfg0.win 3).cut (grid0.coords t) ((dats m 0 c).after 3 t) y = _
  rw [after3]
  have h0 : (y 0).val < 1024 := (y 0).isLt
  have h1 : (y 1).val < 2048 := (y 1).isLt
  have ey : (cfg0.win 3).xinj (grid0.coords t) y = ix2 (⟨(y 0).val, h0⟩ : Fin 1024) (⟨(y 1).val, h1⟩ : Fin 2048) := ext2 rfl rfl
  show k0_pay3 (F := Ideal) _ _ ((cfg0.win 3).xinj (grid0.coords t) y) = _
  rw [ey, out_at, ← ref_out]
  refine congrArg (val_main_v14 (F := Ideal) (X m c) (W m c) (B m c)) (ext2 ?_ ?_).symm <;>
    · blk_simp [idx t]; try simp [row, col]; try omega

theorem final_normed : (dats m 0 c).arrAt 4 cfg0.N
    = (val_main_v15 (F := Ideal) (X m c) (W m c) : FVec Ideal S8192x1024 .bf16) := by
  refine (dats m 0 c).arrAt_eq_of_cover 4 _ (fun t hf => ?_) cover4
  funext y
  show (cfg0.win 4).cut (grid0.coords t) ((dats m 0 c).after 4 t) y = _
  rw [after4]
  have h0 : (y 0).val < 1024 := (y 0).isLt
  have h1 : (y 1).val < 1024 := (y 1).isLt
  have ey : (cfg0.win 4).xinj (grid0.coords t) y = ix2 (⟨(y 0).val, h0⟩ : Fin 1024) (⟨(y 1).val, h1⟩ : Fin 1024) := ext2 rfl rfl
  show normed (F := Ideal) m c t ((cfg0.win 4).xinj (grid0.coords t) y) = _
  rw [ey, normed_at, ← ref_normed]
  refine congrArg (val_main_v15 (F := Ideal) (X m c) (W m c)) (ext2 ?_ ?_).symm <;>
    · blk_simp [idx t]; try simp [row]; try omega

end Step.InForward

end
-- ==== Proof.Step.Claim6.lean ====
/-
  The input projection: the claims of the pair of programs.
-/
module

public import proofs.«01_k».proof.Defs
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Step.InForwardRunBits
public import proofs.«01_k».proof.Proof.Step.InForward
public import Idealize.ShloMosaic.Lib.Claim
public import Idealize.ShloMosaic.Adequacy
public import Idealize.ShloMosaic.Init

@[expose] public section

set_option maxRecDepth 16384

noncomputable section

namespace Step.Claim6

open Idealize.ShloMosaic Idealize.SL.Sem

/-- The reference ends with its arguments unchanged and every counter at zero. -/
theorem quiescent_reference6 (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0) :=
  (θ_run _ _ _).mono (fun r h => ⟨fun c => (h c).2.2, sem_eq_zero_of_no_sems (by decide) r.2⟩) (Cert.Reference6Ideal.Value.run m g)

/-- Kernel and reference leave the same arrays. -/
theorem algebraic6 : Cert.algebraic_Kernel6Ideal_Reference6Ideal (hKernel6Ideal := Cert.Kernel6Ideal.Gen.facts) (hReference6Ideal := Cert.Reference6Ideal.Gen.facts) := by
  intro m g m' g' _ hagree
  refine ⟨fun c => Cert.Reference6Ideal.Read.val_main_v14 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    fun c => Cert.Reference6Ideal.Read.val_main_v15 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · exact (θ_run _ _ _).mono (fun r h c => ⟨(h c).1.trans (Step.InForward.final_out m c), (h c).2.1.trans (Step.InForward.final_normed m c), (h c).2.2⟩) (Step.InForwardRun.run_arrays m g)
  · refine (θ_run _ _ _).mono (fun r h c => ⟨(h c).1.trans ((Cert.Reference6Ideal.Read.val_main_v14_eq ..).trans ?_), (h c).2.1.trans ((Cert.Reference6Ideal.Read.val_main_v15_eq ..).trans ?_), (h c).2.2⟩) (Cert.Reference6Ideal.Value.run m' g')
    · show Cert.Reference6Ideal.Read.val_main_v14 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = _
      rw [(hagree c).1, (hagree c).2.1, (hagree c).2.2]
    · show Cert.Reference6Ideal.Read.val_main_v15 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) = _
      rw [(hagree c).1, (hagree c).2.1]

end Step.Claim6

end
-- ==== Proof.Step.InWeight.lean ====
/-
  The gradient of the input projection's weight: the kernel sums a product over four blocks of 2048 rows for each group of
  1024 columns.
-/
module

public import proofs.«01_k».proof.Proof.Gen.Kernel7Ideal.Value
public import proofs.«01_k».proof.Proof.Gen.Reference7Ideal.Read
public import proofs.«01_k».proof.Proof.Step.Sums
public import Idealize.ShloMosaic.Lib.Pointwise
public import Idealize.ShloMosaic.Lib.Pointwise.IndexBridge
public import Idealize.ShloMosaic.Lib.Pipeline.ValueKit
public import Idealize.ShloMosaic.Lib.Pipeline.ReadBack

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Step.InWeight

open Cert.Kernel7Ideal Cert.Kernel7Ideal.Gen

/-- The product of two blocks. -/
theorem prod_at (x : FVec Ideal S2048x1024 .bf16) (y : FVec Ideal S2048x1024 .bf16) (a : Fin 1024) (b : Fin 1024) :
    k0_pay1 (F := Ideal) x y (ix2 a b) = ∑ k : Fin 2048, x (ix2 k a) * y (ix2 k b) := by
  unfold k0_pay1
  simp only [← ix2_eq_valueIdx, ← ix3_eq_valueIdx]; pointwise

theorem points (t : Fin cfg0.N) : t.val < 20 := t.isLt

/-- Where each window of a grid point stands. -/
theorem idx : ∀ t : Fin cfg0.N, win0_0.index t = ![t.val % 4, 0] ∧ win0_1.index t = ![t.val % 4, 3 + t.val / 4]
    ∧ win0_2.index t = ![0, t.val / 4] :=
  (by decide +kernel : ∀ t : Fin grid0.N, win0_0.index t = ![t.val % 4, 0] ∧ win0_1.index t = ![t.val % 4, 3 + t.val / 4]
    ∧ win0_2.index t = ![0, t.val / 4])

/-- The group of 1024 columns a point works on. -/
def grp (t : Fin cfg0.N) : Fin 5 := ⟨t.val / 4, by have := points t; omega⟩
/-- The row a point reads. -/
def row (t : Fin cfg0.N) (k : Fin 2048) : Fin 8192 := ⟨2048 * (t.val % 4) + k.val, by omega⟩
/-- A column of a group, in the wide array. -/
def col (p : Fin 5) (b : Fin 1024) : Fin 8192 := ⟨1024 * (3 + p.val) + b.val, by omega⟩

variable (m : (ℓ : Loc nD τ sig) → Buf (Elt Ideal) ℓ) (c : Dev nD) (t : Fin cfg0.N)

abbrev A : FVec Ideal S8192x1024 .bf16 := m ((c : Thread nD τ).loc main_arg0)
abbrev B : FVec Ideal S8192x8192 .bf16 := m ((c : Thread nD τ).loc main_arg1)

theorem a_at (k : Fin 2048) (a : Fin 1024) : (iblk m c 0 t : FVec Ideal S2048x1024 .bf16) (ix2 k a)
    = A m c (ix2 (row t k) a) := by
  unfold A
  rw [← Gen.V_main_arg0 m c]
  refine congrArg (Gen.V m c main_arg0) (ext2 (p := row t k) (q := a) ?_ ?_) <;>
    · blk_simp [idx t]; try simp [row]; try omega

theorem b_at (k : Fin 2048) (b : Fin 1024) : (iblk m c 1 t : FVec Ideal S2048x1024 .bf16) (ix2 k b)
    = B m c (ix2 (row t k) (col (grp t) b)) := by
  unfold B
  rw [← Gen.V_main_arg1 m c]
  refine congrArg (Gen.V m c main_arg1) (ext2 (p := row t k) (q := col (grp t) b) ?_ ?_) <;>
    · blk_simp [idx t]; try simp [row, col, grp]; try omega

/-- The terms of one entry of the gradient. -/
def term (p : Fin 5) (a : Fin 1024) (b : Fin 1024) (k : Fin 8192) : EReal := A m c (ix2 k a) * B m c (ix2 k (col p b))

theorem prod_block (a : Fin 1024) (b : Fin 1024) (k : Fin 2048) :
    HMul.hMul (α := EReal) (β := EReal) (γ := EReal) ((iblk m c 0 t : FVec Ideal S2048x1024 .bf16) (ix2 k a))
        ((iblk m c 1 t : FVec Ideal S2048x1024 .bf16) (ix2 k b))
      = term m c (grp t) a b (row t k) := by
  rw [a_at, b_at]; rfl

/-- Adding a block's product to the sum over the blocks before it. -/
theorem add_block (v : FVec Ideal S1024x1024 .f32) (a : Fin 1024) (b : Fin 1024)
    (h : v (ix2 a b) = upto (term m c (grp t) a b) (2048 * (t.val % 4))) :
    k0_pay3 (F := Ideal) (iblk m c 0 t) (iblk m c 1 t) v (ix2 a b) = upto (term m c (grp t) a b) (2048 * (t.val % 4 + 1)) := by
  unfold k0_pay3
  rw [shapeCast_self]
  show v (ix2 a b) + k0_pay1 (F := Ideal) (iblk m c 0 t) (iblk m c 1 t) (ix2 a b) = _
  rw [prod_at, upto_add (term m c (grp t) a b) (2048 * (t.val % 4)) 2048 _ (2048 * (t.val % 4 + 1)) (by omega) fun k => ⟨by omega, prod_block m c t a b k⟩]
  exact congrArg (· + _) h

/-- The first point of a group leaves the sum over its block. -/
theorem first (e : t.val % 4 = 0) (a b : Fin 1024) :
    (outsAt0 m c t.val t.isLt).2 (ix2 a b) = upto (term m c (grp t) a b) (2048 * (t.val % 4 + 1)) := by
  rw [outsAt0_A m c t e (by omega) (by omega)]
  frame_out
  have key : k0_pay2 (F := Ideal) (iblk m c 0 t) (iblk m c 1 t) (ix2 a b) = upto (term m c (grp t) a b) (2048 * (t.val % 4 + 1)) := by
    unfold k0_pay2
    rw [shapeCast_self, prod_at, e]
    refine (upto_first _ (2048 * (0 + 1)) _ fun k => ⟨by omega, ?_⟩).symm
    rw [prod_block]
    exact congrArg _ (Fin.ext (by simp [row, e]))
  exact key

/-- A point inside a group adds its block. -/
theorem next (h : ¬ t.val % 4 = 0) (e : ¬ t.val % 4 = 3) (a b : Fin 1024)
    (hv : (outsAt0 m c (t.val - 1) (Nat.lt_of_le_of_lt (Nat.sub_le _ _) t.isLt)).2 (ix2 a b) = upto (term m c (grp t) a b) (2048 * (t.val % 4))) :
    (outsAt0 m c t.val t.isLt).2 (ix2 a b) = upto (term m c (grp t) a b) (2048 * (t.val % 4 + 1)) := by
  rw [outsAt0_B m c t h (by omega) e]
  frame_out
  simp only [read_unread_whole]
  exact add_block m c t _ a b hv

/-- A point before the last of its group leaves the sum over the blocks read so far. -/
theorem carried : ∀ (n : ℕ) (l : n < cfg0.N), ¬ n % 4 = 3 → ∀ a b,
    (outsAt0 m c n l).2 (ix2 a b) = upto (term m c (grp ⟨n, l⟩) a b) (2048 * (n % 4 + 1)) := by
  intro n
  induction n with
  | zero =>
    intro l _ a b
    exact first m c ⟨0, l⟩ rfl a b
  | succ n ih =>
    intro l e a b
    by_cases h : (n + 1) % 4 = 0
    · exact first m c ⟨n + 1, l⟩ h a b
    · refine next m c ⟨n + 1, l⟩ h e a b ?_
      have := ih (by omega) (by omega) a b
      have hg : grp ⟨n, by omega⟩ = grp ⟨n + 1, l⟩ := Fin.ext (by show n / 4 = (n + 1) / 4; omega)
      rw [hg, show n % 4 + 1 = (n + 1) % 4 by omega] at this
      exact this

/-- The last point of a group completes the sum. -/
theorem whole_sum (e : t.val % 4 = 3) (a b : Fin 1024) :
    k0_pay3 (F := Ideal) (iblk m c 0 t) (iblk m c 1 t) (outsAt0 m c (t.val - 1) (Nat.lt_of_le_of_lt (Nat.sub_le _ _) t.isLt)).2 (ix2 a b)
      = ∑ k, term m c (grp t) a b k := by
  rw [← upto_all (term m c (grp t) a b)]
  have := carried m c (t.val - 1) (Nat.lt_of_le_of_lt (Nat.sub_le _ _) t.isLt) (by omega) a b
  have hg : grp ⟨t.val - 1, Nat.lt_of_le_of_lt (Nat.sub_le _ _) t.isLt⟩ = grp t := Fin.ext (by show (t.val - 1) / 4 = t.val / 4; omega)
  rw [hg, show (t.val - 1) % 4 + 1 = t.val % 4 by omega] at this
  rw [add_block m c t _ a b this, e]

/-- The block the last point of a group writes. -/
theorem written (e : t.val % 4 = 3) (y : S1024x1024.Idx) (a b : Fin 1024) (ea : (y 0).val = a.val) (eb : (y 1).val = b.val) :
    (outsAt0 m c t.val t.isLt).1 y = ∑ k, term m c (grp t) a b k := by
  have ey : y = ix2 a b := ext2 ea eb
  rw [outsAt0_C m c t (by omega) (by omega) e, ey]
  frame_out
  simp only [read_unread_whole]
  exact whole_sum m c t e a b

open Cert.Reference7Ideal.Read in
/-- The reference's entry. -/
theorem ref_at (p : Fin 5) (a b : Fin 1024) (j : Fin 5120) (ej : j.val = 1024 * p.val + b.val) :
    val_main_v7 (F := Ideal) (A m c) (B m c) (ix2 a j) = ∑ k, term m c p a b k := by
  rw [val_main_v7_apply, val_main_v6_apply]
  show val_main_v5 (F := Ideal) _ _ _ = _
  rw [val_main_v5_apply]
  refine Finset.sum_congr rfl fun k _ => ?_
  rw [val_main_v4_apply, val_main_v3_apply, val_main_v1_apply]
  show B m c _ * A m c _ = _
  rw [mul_comm]
  refine congrArg₂ (fun u v : EReal => u * v) (congrArg (A m c) (ext2 ?_ ?_)) (congrArg (B m c) (ext2 ?_ ?_))
  all_goals have := p.isLt; have := a.isLt; have := b.isLt; have := k.isLt; simp [c2_0, c2_1, col]; try omega

/-- The result array after the run. -/
theorem final : (dats m 0 c).arrAt 2 cfg0.N = (Cert.Reference7Ideal.Read.val_main_v7 (F := Ideal) (A m c) (B m c) : FVec Ideal S1024x5120 .bf16) := by
  refine (dats m 0 c).arrAt_eq_of_cover 2 _ (fun t hf => ?_) (fun i => (Value.covered_iff2 i).2 (by
    have h0 : (i 0).val < 1024 := (i 0).isLt; have h1 : (i 1).val < 5120 := (i 1).isLt; omega))
  have e : t.val % 4 = 3 := (flush0_2 t).mp hf
  funext y
  rw [Value.flushed2]
  have h0 : (y 0).val < 1024 := (y 0).isLt
  have h1 : (y 1).val < 1024 := (y 1).isLt
  have hg := (grp t).isLt
  refine (written m c t e ((cfg0.win 2).xinj (grid0.coords t) y) ⟨(y 0).val, h0⟩ ⟨(y 1).val, h1⟩ rfl rfl).trans ?_
  rw [← ref_at m c (grp t) ⟨(y 0).val, h0⟩ ⟨(y 1).val, h1⟩ ⟨1024 * (grp t).val + (y 1).val, by omega⟩ rfl]
  refine congrArg (Cert.Reference7Ideal.Read.val_main_v7 (F := Ideal) (A m c) (B m c)) (ext2 ?_ ?_).symm <;>
    · blk_simp [idx t]; try simp [grp]; try omega

end Step.InWeight
-- ==== Proof.Step.Claim7.lean ====
/-
  The weight gradient of the input projection: the claims of the pair of programs.
-/
module

public import proofs.«01_k».proof.Defs
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Step.InWeight
public import Idealize.ShloMosaic.Lib.Claim
public import Idealize.ShloMosaic.Adequacy
public import Idealize.ShloMosaic.Init

@[expose] public section

set_option maxRecDepth 16384

noncomputable section

namespace Step.Claim7

open Idealize.ShloMosaic Idealize.SL.Sem

/-- The reference ends with its arguments unchanged and every counter at zero. -/
theorem quiescent_reference7 (m : (ℓ : Loc Cert.Reference7Ideal.nD Cert.Reference7Ideal.τ Cert.Reference7Ideal.sig) → Buf (Elt Ideal) ℓ)
    (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0) :=
  (θ_run _ _ _).mono (fun r h => ⟨fun c => (h c).2, sem_eq_zero_of_no_sems (by decide) r.2⟩) (Cert.Reference7Ideal.Value.run m g)

/-- Kernel and reference leave the same arrays. -/
theorem algebraic7 : Cert.algebraic_Kernel7Ideal_Reference7Ideal (hKernel7Ideal := Cert.Kernel7Ideal.Gen.facts) (hReference7Ideal := Cert.Reference7Ideal.Gen.facts) := by
  intro m g m' g' _ hagree
  refine ⟨fun c => Cert.Reference7Ideal.Read.val_main_v7 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · exact (θ_run _ _ _).mono (fun r h c => ⟨(h c).1.trans (Step.InWeight.final m c), (h c).2⟩) (Cert.Kernel7Ideal.Value.run_blocks m g)
  · refine (θ_run _ _ _).mono (fun r h c => ⟨(h c).1.trans ((Cert.Reference7Ideal.Read.val_main_v7_eq ..).trans ?_), (h c).2⟩) (Cert.Reference7Ideal.Value.run m' g')
    show Cert.Reference7Ideal.Read.val_main_v7 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) = _
    rw [(hagree c).1, (hagree c).2]

end Step.Claim7

end
-- ==== Proof.Step.GateWeight.lean ====
/-
  The gradient of the gates' weights: the kernel sums a product over four blocks of 2048 rows for each of the three gates.
-/
module

public import proofs.«01_k».proof.Proof.Gen.Kernel8Ideal.Value
public import proofs.«01_k».proof.Proof.Gen.Reference8Ideal.Read
public import proofs.«01_k».proof.Proof.Step.Sums
public import Idealize.ShloMosaic.Lib.Pointwise
public import Idealize.ShloMosaic.Lib.Pointwise.IndexBridge
public import Idealize.ShloMosaic.Lib.Pipeline.ValueKit
public import Idealize.ShloMosaic.Lib.Pipeline.ReadBack

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Step.GateWeight

open Cert.Kernel8Ideal Cert.Kernel8Ideal.Gen

/-- The product of two blocks. -/
theorem prod_at (x : FVec Ideal S2048x1024 .bf16) (y : FVec Ideal S2048x1024 .bf16) (a : Fin 1024) (b : Fin 1024) :
    k0_pay1 (F := Ideal) x y (ix2 a b) = ∑ k : Fin 2048, x (ix2 k a) * y (ix2 k b) := by
  unfold k0_pay1
  simp only [← ix2_eq_valueIdx, ← ix3_eq_valueIdx]; pointwise

theorem points (t : Fin cfg0.N) : t.val < 12 := t.isLt

/-- Where each window of a grid point stands. -/
theorem idx : ∀ t : Fin cfg0.N, win0_0.index t = ![t.val % 4, 0] ∧ win0_1.index t = ![t.val % 4, 0 + t.val / 4]
    ∧ win0_2.index t = ![0, t.val / 4, 0, 0] :=
  (by decide +kernel : ∀ t : Fin grid0.N, win0_0.index t = ![t.val % 4, 0] ∧ win0_1.index t = ![t.val % 4, 0 + t.val / 4]
    ∧ win0_2.index t = ![0, t.val / 4, 0, 0])

/-- The group of 1024 columns a point works on. -/
def grp (t : Fin cfg0.N) : Fin 3 := ⟨t.val / 4, by have := points t; omega⟩
/-- The row a point reads. -/
def row (t : Fin cfg0.N) (k : Fin 2048) : Fin 8192 := ⟨2048 * (t.val % 4) + k.val, by omega⟩
/-- A column of a group, in the wide array. -/
def col (p : Fin 3) (b : Fin 1024) : Fin 8192 := ⟨1024 * (0 + p.val) + b.val, by omega⟩

variable (m : (ℓ : Loc nD τ sig) → Buf (Elt Ideal) ℓ) (c : Dev nD) (t : Fin cfg0.N)

abbrev A : FVec Ideal S8192x1024 .bf16 := m ((c : Thread nD τ).loc main_arg0)
abbrev B : FVec Ideal S8192x8192 .bf16 := m ((c : Thread nD τ).loc main_arg1)

theorem a_at (k : Fin 2048) (a : Fin 1024) : (iblk m c 0 t : FVec Ideal S2048x1024 .bf16) (ix2 k a)
    = A m c (ix2 (row t k) a) := by
  unfold A
  rw [← Gen.V_main_arg0 m c]
  refine congrArg (Gen.V m c main_arg0) (ext2 (p := row t k) (q := a) ?_ ?_) <;>
    · blk_simp [idx t]; try simp [row]; try omega

theorem b_at (k : Fin 2048) (b : Fin 1024) : (iblk m c 1 t : FVec Ideal S2048x1024 .bf16) (ix2 k b)
    = B m c (ix2 (row t k) (col (grp t) b)) := by
  unfold B
  rw [← Gen.V_main_arg1 m c]
  refine congrArg (Gen.V m c main_arg1) (ext2 (p := row t k) (q := col (grp t) b) ?_ ?_) <;>
    · blk_simp [idx t]; try simp [row, col, grp]; try omega

/-- The terms of one entry of the gradient. -/
def term (p : Fin 3) (a : Fin 1024) (b : Fin 1024) (k : Fin 8192) : EReal := A m c (ix2 k a) * B m c (ix2 k (col p b))

theorem prod_block (a : Fin 1024) (b : Fin 1024) (k : Fin 2048) :
    HMul.hMul (α := EReal) (β := EReal) (γ := EReal) ((iblk m c 0 t : FVec Ideal S2048x1024 .bf16) (ix2 k a))
        ((iblk m c 1 t : FVec Ideal S2048x1024 .bf16) (ix2 k b))
      = term m c (grp t) a b (row t k) := by
  rw [a_at, b_at]; rfl

/-- Adding a block's product to the sum over the blocks before it. -/
theorem add_block (v : FVec Ideal S1024x1024 .f32) (a : Fin 1024) (b : Fin 1024)
    (h : v (ix2 a b) = upto (term m c (grp t) a b) (2048 * (t.val % 4))) :
    k0_pay3 (F := Ideal) (iblk m c 0 t) (iblk m c 1 t) v (ix2 a b) = upto (term m c (grp t) a b) (2048 * (t.val % 4 + 1)) := by
  unfold k0_pay3
  rw [shapeCast_self]
  show v (ix2 a b) + k0_pay1 (F := Ideal) (iblk m c 0 t) (iblk m c 1 t) (ix2 a b) = _
  rw [prod_at, upto_add (term m c (grp t) a b) (2048 * (t.val % 4)) 2048 _ (2048 * (t.val % 4 + 1)) (by omega) fun k => ⟨by omega, prod_block m c t a b k⟩]
  exact congrArg (· + _) h

/-- The first point of a group leaves the sum over its block. -/
theorem first (e : t.val % 4 = 0) (a b : Fin 1024) :
    (outsAt0 m c t.val t.isLt).2 (ix2 a b) = upto (term m c (grp t) a b) (2048 * (t.val % 4 + 1)) := by
  rw [outsAt0_A m c t e (by omega) (by omega)]
  frame_out
  have key : k0_pay2 (F := Ideal) (iblk m c 0 t) (iblk m c 1 t) (ix2 a b) = upto (term m c (grp t) a b) (2048 * (t.val % 4 + 1)) := by
    unfold k0_pay2
    rw [shapeCast_self, prod_at, e]
    refine (upto_first _ (2048 * (0 + 1)) _ fun k => ⟨by omega, ?_⟩).symm
    rw [prod_block]
    exact congrArg _ (Fin.ext (by simp [row, e]))
  exact key

/-- A point inside a group adds its block. -/
theorem next (h : ¬ t.val % 4 = 0) (e : ¬ t.val % 4 = 3) (a b : Fin 1024)
    (hv : (outsAt0 m c (t.val - 1) (Nat.lt_of_le_of_lt (Nat.sub_le _ _) t.isLt)).2 (ix2 a b) = upto (term m c (grp t) a b) (2048 * (t.val % 4))) :
    (outsAt0 m c t.val t.isLt).2 (ix2 a b) = upto (term m c (grp t) a b) (2048 * (t.val % 4 + 1)) := by
  rw [outsAt0_B m c t h (by omega) e]
  frame_out
  simp only [read_unread_whole]
  exact add_block m c t _ a b hv

/-- A point before the last of its group leaves the sum over the blocks read so far. -/
theorem carried : ∀ (n : ℕ) (l : n < cfg0.N), ¬ n % 4 = 3 → ∀ a b,
    (outsAt0 m c n l).2 (ix2 a b) = upto (term m c (grp ⟨n, l⟩) a b) (2048 * (n % 4 + 1)) := by
  intro n
  induction n with
  | zero =>
    intro l _ a b
    exact first m c ⟨0, l⟩ rfl a b
  | succ n ih =>
    intro l e a b
    by_cases h : (n + 1) % 4 = 0
    · exact first m c ⟨n + 1, l⟩ h a b
    · refine next m c ⟨n + 1, l⟩ h e a b ?_
      have := ih (by omega) (by omega) a b
      have hg : grp ⟨n, by omega⟩ = grp ⟨n + 1, l⟩ := Fin.ext (by show n / 4 = (n + 1) / 4; omega)
      rw [hg, show n % 4 + 1 = (n + 1) % 4 by omega] at this
      exact this

/-- The last point of a group completes the sum. -/
theorem whole_sum (e : t.val % 4 = 3) (a b : Fin 1024) :
    k0_pay3 (F := Ideal) (iblk m c 0 t) (iblk m c 1 t) (outsAt0 m c (t.val - 1) (Nat.lt_of_le_of_lt (Nat.sub_le _ _) t.isLt)).2 (ix2 a b)
      = ∑ k, term m c (grp t) a b k := by
  rw [← upto_all (term m c (grp t) a b)]
  have := carried m c (t.val - 1) (Nat.lt_of_le_of_lt (Nat.sub_le _ _) t.isLt) (by omega) a b
  have hg : grp ⟨t.val - 1, Nat.lt_of_le_of_lt (Nat.sub_le _ _) t.isLt⟩ = grp t := Fin.ext (by show (t.val - 1) / 4 = t.val / 4; omega)
  rw [hg, show (t.val - 1) % 4 + 1 = t.val % 4 by omega] at this
  rw [add_block m c t _ a b this, e]

/-- Row `a` of part `s` of the weight. -/
def at256 (s : Fin 4) (a : Fin 256) : Fin 1024 := ⟨256 * s.val + a.val, by omega⟩

theorem out4 (w : FVec Ideal S256x1024 .f32) (a : Fin 256) (b : Fin 1024) : k0_pay4 (F := Ideal) w (ix4 0 0 a b) = w (ix2 a b) := by
  unfold k0_pay4
  simp only [← ix2_eq_valueIdx, ← ix4_eq_valueIdx]; pointwise

theorem out5 (w : FVec Ideal S256x1024 .f32) (a : Fin 256) (b : Fin 1024) : k0_pay5 (F := Ideal) w (ix4 0 0 a b) = w (ix2 a b) := by
  unfold k0_pay5
  simp only [← ix2_eq_valueIdx, ← ix4_eq_valueIdx]; pointwise

theorem out6 (w : FVec Ideal S256x1024 .f32) (a : Fin 256) (b : Fin 1024) : k0_pay6 (F := Ideal) w (ix4 0 0 a b) = w (ix2 a b) := by
  unfold k0_pay6
  simp only [← ix2_eq_valueIdx, ← ix4_eq_valueIdx]; pointwise

theorem out7 (w : FVec Ideal S256x1024 .f32) (a : Fin 256) (b : Fin 1024) : k0_pay7 (F := Ideal) w (ix4 0 0 a b) = w (ix2 a b) := by
  unfold k0_pay7
  simp only [← ix2_eq_valueIdx, ← ix4_eq_valueIdx]; pointwise

/-- The block the last point of a group writes. -/
theorem written (e : t.val % 4 = 3) (y : S4x1x256x1024.Idx) (s : Fin 4) (a : Fin 256) (b : Fin 1024) (es : (y 0).val = s.val)
    (ea : (y 2).val = a.val) (eb : (y 3).val = b.val) :
    (outsAt0 m c t.val t.isLt).1 y = ∑ k, term m c (grp t) (at256 s a) b k := by
  rw [← whole_sum m c t e]
  rw [outsAt0_C m c t (by omega) (by omega) e]
  frame_out
  simp only [read_unread_whole]
  generalize k0_pay3 (F := Ideal) (iblk m c 0 t) (iblk m c 1 t) (outsAt0 m c (t.val - 1) (Nat.lt_of_le_of_lt (Nat.sub_le _ _) t.isLt)).2 = v
  canon_tiles x h
  all_goals
    have hs := s.isLt
    obtain rfl : x = ix4 (0 : Fin 1) (0 : Fin 1) a b := ext4 (p := 0) (q := 0) (by show (x 0).val = 0; omega) (by show (x 1).val = 0; omega) (by omega) (by omega)
    rw [View.readCov_fill _ _ _ _ _ (by intro a; fin_cases a <;> rfl)]
    first
      | refine (out7 _ _ _).trans (View.ld_unit_apply_of _ _ _ _ _ _ fun j => ?_)
      | refine (out6 _ _ _).trans (View.ld_unit_apply_of _ _ _ _ _ _ fun j => ?_)
      | refine (out5 _ _ _).trans (View.ld_unit_apply_of _ _ _ _ _ _ fun j => ?_)
      | refine (out4 _ _ _).trans (View.ld_unit_apply_of _ _ _ _ _ _ fun j => ?_)
    match j with
    | ⟨0, _⟩ =>
      first
        | show 256 * s.val + a.val = 768 + a.val; omega
        | show 256 * s.val + a.val = 512 + a.val; omega
        | show 256 * s.val + a.val = 256 + a.val; omega
        | show 256 * s.val + a.val = 0 + a.val; omega
    | ⟨1, _⟩ => exact (Nat.zero_add _).symm

open Cert.Reference8Ideal.Read in
/-- The reference's entry. -/
theorem ref_at (s : Fin 4) (p : Fin 3) (a : Fin 256) (b : Fin 1024) :
    val_main_v9 (F := Ideal) (A m c) (B m c) (ix4 s p a b) = ∑ k, term m c p (at256 s a) b k := by
  rw [val_main_v9_apply, val_main_v8_apply, val_main_v7_apply, val_main_v6_apply]
  show val_main_v5 (F := Ideal) _ _ _ = _
  rw [val_main_v5_apply]
  refine Finset.sum_congr rfl fun k _ => ?_
  rw [val_main_v4_apply, val_main_v3_apply, val_main_v1_apply]
  show B m c _ * A m c _ = _
  rw [mul_comm]
  refine congrArg₂ (fun u v : EReal => u * v) (congrArg (A m c) (ext2 ?_ ?_)) (congrArg (B m c) (ext2 ?_ ?_))
  all_goals have := p.isLt; have := a.isLt; have := b.isLt; have := k.isLt; have := s.isLt; simp [c4_0, c4_1, c4_2, c4_3, col, at256]; try omega

/-- The result array after the run. -/
theorem final : (dats m 0 c).arrAt 2 cfg0.N = (Cert.Reference8Ideal.Read.val_main_v9 (F := Ideal) (A m c) (B m c) : FVec Ideal S4x3x256x1024 .bf16) := by
  refine (dats m 0 c).arrAt_eq_of_cover 2 _ (fun t hf => ?_) (fun i => (Value.covered_iff2 i).2 (by
    have h0 : (i 0).val < 4 := (i 0).isLt; have h1 : (i 1).val < 3 := (i 1).isLt; have h2 : (i 2).val < 256 := (i 2).isLt
    have h3 : (i 3).val < 1024 := (i 3).isLt; omega))
  have e : t.val % 4 = 3 := (flush0_2 t).mp hf
  funext y
  rw [Value.flushed2]
  have h0 : (y 0).val < 4 := (y 0).isLt
  have h1 : (y 1).val < 1 := (y 1).isLt
  have h2 : (y 2).val < 256 := (y 2).isLt
  have h3 : (y 3).val < 1024 := (y 3).isLt
  refine (written m c t e ((cfg0.win 2).xinj (grid0.coords t) y) ⟨(y 0).val, h0⟩ ⟨(y 2).val, h2⟩ ⟨(y 3).val, h3⟩ rfl rfl rfl).trans ?_
  rw [← ref_at m c ⟨(y 0).val, h0⟩ (grp t) ⟨(y 2).val, h2⟩ ⟨(y 3).val, h3⟩]
  refine congrArg (Cert.Reference8Ideal.Read.val_main_v9 (F := Ideal) (A m c) (B m c)) (ext4 ?_ ?_ ?_ ?_).symm <;>
    · blk_simp [idx t]; try simp [grp]; try omega

end Step.GateWeight
-- ==== Proof.Step.Claim8.lean ====
/-
  The weight gradient of the merge gates: the claims of the pair of programs.
-/
module

public import proofs.«01_k».proof.Defs
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Step.GateWeight
public import Idealize.ShloMosaic.Lib.Claim
public import Idealize.ShloMosaic.Adequacy
public import Idealize.ShloMosaic.Init

@[expose] public section

set_option maxRecDepth 16384

noncomputable section

namespace Step.Claim8

open Idealize.ShloMosaic Idealize.SL.Sem

/-- The reference ends with its arguments unchanged and every counter at zero. -/
theorem quiescent_reference8 (m : (ℓ : Loc Cert.Reference8Ideal.nD Cert.Reference8Ideal.τ Cert.Reference8Ideal.sig) → Buf (Elt Ideal) ℓ)
    (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run _ _ _).mono (fun r h => ⟨fun c => (h c).2, sem_eq_zero_of_no_sems (by decide) r.2⟩) (Cert.Reference8Ideal.Value.run m g)

/-- Kernel and reference leave the same arrays. -/
theorem algebraic8 : Cert.algebraic_Kernel8Ideal_Reference8Ideal (hKernel8Ideal := Cert.Kernel8Ideal.Gen.facts) (hReference8Ideal := Cert.Reference8Ideal.Gen.facts) := by
  intro m g m' g' _ hagree
  refine ⟨fun c => Cert.Reference8Ideal.Read.val_main_v9 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · exact (θ_run _ _ _).mono (fun r h c => ⟨(h c).1.trans (Step.GateWeight.final m c), (h c).2⟩) (Cert.Kernel8Ideal.Value.run_blocks m g)
  · refine (θ_run _ _ _).mono (fun r h c => ⟨(h c).1.trans ((Cert.Reference8Ideal.Read.val_main_v9_eq ..).trans ?_), (h c).2⟩) (Cert.Reference8Ideal.Value.run m' g')
    show Cert.Reference8Ideal.Read.val_main_v9 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) = _
    rw [(hagree c).1, (hagree c).2]

end Step.Claim8

end
-- ==== Proof.Step.OutWeight.lean ====
/-
  The gradient of the output projection's weights: the kernel sums a product over four blocks of 2048 rows.
  What a product of two blocks is, and what is written of a part of the sum, is as for the gates' weights.
-/
module

public import proofs.«01_k».proof.Proof.Step.GateWeight
public import proofs.«01_k».proof.Proof.Gen.Kernel9Ideal.Value
public import proofs.«01_k».proof.Proof.Gen.Reference9Ideal.Read

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Step.OutWeight

open Cert.Kernel9Ideal Cert.Kernel9Ideal.Gen
open Step.GateWeight (at256)

theorem points (t : Fin cfg0.N) : t.val < 4 := t.isLt

/-- Where each window of a grid point stands. -/
theorem idx : ∀ t : Fin cfg0.N, win0_0.index t = ![t.val, 0] ∧ win0_1.index t = ![t.val, 0] ∧ win0_2.index t = ![0, 0, 0, 0] :=
  (by decide +kernel : ∀ t : Fin grid0.N, win0_0.index t = ![t.val, 0] ∧ win0_1.index t = ![t.val, 0] ∧ win0_2.index t = ![0, 0, 0, 0])

/-- The row a point reads. -/
def row (t : Fin cfg0.N) (k : Fin 2048) : Fin 8192 := ⟨2048 * t.val + k.val, by have := points t; omega⟩

variable (m : (ℓ : Loc nD τ sig) → Buf (Elt Ideal) ℓ) (c : Dev nD) (t : Fin cfg0.N)

abbrev A : FVec Ideal S8192x1024 .bf16 := m ((c : Thread nD τ).loc main_arg0)
abbrev B : FVec Ideal S8192x1024 .bf16 := m ((c : Thread nD τ).loc main_arg1)

theorem a_at (k : Fin 2048) (a : Fin 1024) : (iblk m c 0 t : FVec Ideal S2048x1024 .bf16) (ix2 k a) = A m c (ix2 (row t k) a) := by
  unfold A
  rw [← Gen.V_main_arg0 m c]
  refine congrArg (Gen.V m c main_arg0) (ext2 (p := row t k) (q := a) ?_ ?_) <;>
    · blk_simp [idx t]; try simp [row]; try omega

theorem b_at (k : Fin 2048) (b : Fin 1024) : (iblk m c 1 t : FVec Ideal S2048x1024 .bf16) (ix2 k b) = B m c (ix2 (row t k) b) := by
  unfold B
  rw [← Gen.V_main_arg1 m c]
  refine congrArg (Gen.V m c main_arg1) (ext2 (p := row t k) (q := b) ?_ ?_) <;>
    · blk_simp [idx t]; try simp [row]; try omega

/-- The terms of one entry of the gradient. -/
def term (a b : Fin 1024) (k : Fin 8192) : EReal := A m c (ix2 k a) * B m c (ix2 k b)

/-- The product of a point's blocks. -/
theorem prod_block (a b : Fin 1024) : k0_pay1 (F := Ideal) (iblk m c 0 t) (iblk m c 1 t) (ix2 a b) = ∑ k, term m c a b (row t k) := by
  refine (Step.GateWeight.prod_at _ _ a b).trans (Finset.sum_congr rfl fun k _ => ?_)
  exact congrArg₂ (fun u v : EReal => u * v) (a_at m c t k a) (b_at m c t k b)

/-- Adding a block's product to the sum over the blocks before it. -/
theorem add_block (v : FVec Ideal S1024x1024 .f32) (a b : Fin 1024) (h : v (ix2 a b) = upto (term m c a b) (2048 * t.val)) :
    k0_pay3 (F := Ideal) (iblk m c 0 t) (iblk m c 1 t) v (ix2 a b) = upto (term m c a b) (2048 * (t.val + 1)) := by
  have := points t
  unfold k0_pay3
  rw [shapeCast_self]
  show v (ix2 a b) + k0_pay1 (F := Ideal) (iblk m c 0 t) (iblk m c 1 t) (ix2 a b) = _
  rw [prod_block, upto_add (term m c a b) (2048 * t.val) 2048 (fun k => term m c a b (row t k)) (2048 * (t.val + 1)) (by omega) fun k => ⟨by omega, rfl⟩]
  exact congrArg (· + _) h

/-- A point before the last leaves the sum over the blocks read so far. -/
theorem carried : ∀ (n : ℕ) (l : n < cfg0.N), n < 3 → ∀ a b,
    (outsAt0 m c n l).2 (ix2 a b) = upto (term m c a b) (2048 * (n + 1)) := by
  intro n
  induction n with
  | zero =>
    intro l _ a b
    rw [outsAt0_A m c ⟨0, l⟩ (by show 0 % 4 = 0; omega) (by show ¬ 1 ≤ 0; omega) (by show ¬ 0 % 4 = 3; omega)]
    frame_out
    have key : k0_pay2 (F := Ideal) (iblk m c 0 ⟨0, l⟩) (iblk m c 1 ⟨0, l⟩) (ix2 a b) = upto (term m c a b) (2048 * (0 + 1)) := by
      unfold k0_pay2
      rw [shapeCast_self, prod_block]
      exact (upto_first _ (2048 * (0 + 1)) _ fun k => ⟨by omega, congrArg _ (Fin.ext (by simp [row]))⟩).symm
    exact key
  | succ n ih =>
    intro l e a b
    rw [outsAt0_B m c ⟨n + 1, l⟩ (by show ¬ (n + 1) % 4 = 0; omega) (by show 1 ≤ n + 1; omega) (by show ¬ (n + 1) % 4 = 3; omega)]
    frame_out
    simp only [read_unread_whole]
    exact add_block m c ⟨n + 1, l⟩ _ a b (ih (by omega) (by omega) a b)

/-- The last point completes the sum. -/
theorem whole_sum (e : t.val = 3) (a b : Fin 1024) :
    k0_pay3 (F := Ideal) (iblk m c 0 t) (iblk m c 1 t) (outsAt0 m c (t.val - 1) (Nat.lt_of_le_of_lt (Nat.sub_le _ _) t.isLt)).2 (ix2 a b)
      = ∑ k, term m c a b k := by
  rw [← upto_all (term m c a b)]
  have := carried m c (t.val - 1) (Nat.lt_of_le_of_lt (Nat.sub_le _ _) t.isLt) (by omega) a b
  rw [show t.val - 1 + 1 = t.val by omega] at this
  rw [add_block m c t _ a b this, e]

/-- The block the last point writes. -/
theorem written (e : t.val = 3) (y : S4x1x256x1024.Idx) (s : Fin 4) (a : Fin 256) (b : Fin 1024) (es : (y 0).val = s.val)
    (ea : (y 2).val = a.val) (eb : (y 3).val = b.val) : (outsAt0 m c t.val t.isLt).1 y = ∑ k, term m c (at256 s a) b k := by
  rw [← whole_sum m c t e]
  rw [outsAt0_C m c t (by omega) (by omega) (by omega)]
  frame_out
  simp only [read_unread_whole]
  generalize k0_pay3 (F := Ideal) (iblk m c 0 t) (iblk m c 1 t) (outsAt0 m c (t.val - 1) (Nat.lt_of_le_of_lt (Nat.sub_le _ _) t.isLt)).2 = v
  canon_tiles x h
  all_goals
    have hs := s.isLt
    obtain rfl : x = ix4 (0 : Fin 1) (0 : Fin 1) a b := ext4 (p := 0) (q := 0) (by show (x 0).val = 0; omega) (by show (x 1).val = 0; omega) (by omega) (by omega)
    rw [View.readCov_fill _ _ _ _ _ (by intro a; fin_cases a <;> rfl)]
    first
      | refine (Step.GateWeight.out7 _ _ _).trans (View.ld_unit_apply_of _ _ _ _ _ _ fun j => ?_)
      | refine (Step.GateWeight.out6 _ _ _).trans (View.ld_unit_apply_of _ _ _ _ _ _ fun j => ?_)
      | refine (Step.GateWeight.out5 _ _ _).trans (View.ld_unit_apply_of _ _ _ _ _ _ fun j => ?_)
      | refine (Step.GateWeight.out4 _ _ _).trans (View.ld_unit_apply_of _ _ _ _ _ _ fun j => ?_)
    match j with
    | ⟨0, _⟩ =>
      first
        | show 256 * s.val + a.val = 768 + a.val; omega
        | show 256 * s.val + a.val = 512 + a.val; omega
        | show 256 * s.val + a.val = 256 + a.val; omega
        | show 256 * s.val + a.val = 0 + a.val; omega
    | ⟨1, _⟩ => exact (Nat.zero_add _).symm

open Cert.Reference9Ideal.Read in
/-- The reference's entry. -/
theorem ref_at (s : Fin 4) (p : Fin 1) (a : Fin 256) (b : Fin 1024) :
    val_main_v7 (F := Ideal) (A m c) (B m c) (ix4 s p a b) = ∑ k, term m c (at256 s a) b k := by
  rw [val_main_v7_apply, val_main_v6_apply]
  show val_main_v5 (F := Ideal) _ _ _ = _
  rw [val_main_v5_apply, val_main_v4_apply]
  refine Finset.sum_congr rfl fun k _ => ?_
  rw [val_main_v3_apply, val_main_v1_apply]
  show B m c _ * A m c _ = _
  rw [mul_comm]
  refine congrArg₂ (fun u v : EReal => u * v) (congrArg (A m c) (ext2 ?_ ?_)) (congrArg (B m c) (ext2 ?_ ?_))
  all_goals have := p.isLt; have := a.isLt; have := b.isLt; have := k.isLt; have := s.isLt; simp [c4_0, c4_1, c4_2, c4_3, at256]; try omega

/-- The result array after the run. -/
theorem final : (dats m 0 c).arrAt 2 cfg0.N = (Cert.Reference9Ideal.Read.val_main_v7 (F := Ideal) (A m c) (B m c) : FVec Ideal S4x1x256x1024 .bf16) := by
  refine (dats m 0 c).arrAt_eq_of_cover 2 _ (fun t hf => ?_) (fun i => (Value.covered_iff2 i).2 (by
    have h0 : (i 0).val < 4 := (i 0).isLt; have h1 : (i 1).val < 1 := (i 1).isLt; have h2 : (i 2).val < 256 := (i 2).isLt
    have h3 : (i 3).val < 1024 := (i 3).isLt; omega))
  have e : t.val = 3 := by have := (flush0_2 t).mp hf; have := points t; omega
  funext y
  rw [Value.flushed2]
  have h0 : (y 0).val < 4 := (y 0).isLt
  have h1 : (y 1).val < 1 := (y 1).isLt
  have h2 : (y 2).val < 256 := (y 2).isLt
  have h3 : (y 3).val < 1024 := (y 3).isLt
  refine (written m c t e ((cfg0.win 2).xinj (grid0.coords t) y) ⟨(y 0).val, h0⟩ ⟨(y 2).val, h2⟩ ⟨(y 3).val, h3⟩ rfl rfl rfl).trans ?_
  rw [← ref_at m c ⟨(y 0).val, h0⟩ ⟨(y 1).val, h1⟩ ⟨(y 2).val, h2⟩ ⟨(y 3).val, h3⟩]
  refine congrArg (Cert.Reference9Ideal.Read.val_main_v7 (F := Ideal) (A m c) (B m c)) (ext4 ?_ ?_ ?_ ?_).symm <;>
    · blk_simp [idx t]; try simp; try omega

end Step.OutWeight
-- ==== Proof.Step.Claim9.lean ====
/-
  The weight gradient of the output projection: the claims of the pair of programs.
-/
module

public import proofs.«01_k».proof.Defs
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Step.OutWeight
public import Idealize.ShloMosaic.Lib.Claim
public import Idealize.ShloMosaic.Adequacy
public import Idealize.ShloMosaic.Init

@[expose] public section

set_option maxRecDepth 16384

noncomputable section

namespace Step.Claim9

open Idealize.ShloMosaic Idealize.SL.Sem

/-- The reference ends with its arguments unchanged and every counter at zero. -/
theorem quiescent_reference9 (m : (ℓ : Loc Cert.Reference9Ideal.nD Cert.Reference9Ideal.τ Cert.Reference9Ideal.sig) → Buf (Elt Ideal) ℓ)
    (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0) :=
  (θ_run _ _ _).mono (fun r h => ⟨fun c => (h c).2, sem_eq_zero_of_no_sems (by decide) r.2⟩) (Cert.Reference9Ideal.Value.run m g)

/-- Kernel and reference leave the same arrays. -/
theorem algebraic9 : Cert.algebraic_Kernel9Ideal_Reference9Ideal (hKernel9Ideal := Cert.Kernel9Ideal.Gen.facts) (hReference9Ideal := Cert.Reference9Ideal.Gen.facts) := by
  intro m g m' g' _ hagree
  refine ⟨fun c => Cert.Reference9Ideal.Read.val_main_v7 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · exact (θ_run _ _ _).mono (fun r h c => ⟨(h c).1.trans (Step.OutWeight.final m c), (h c).2⟩) (Cert.Kernel9Ideal.Value.run_blocks m g)
  · refine (θ_run _ _ _).mono (fun r h c => ⟨(h c).1.trans ((Cert.Reference9Ideal.Read.val_main_v7_eq ..).trans ?_), (h c).2⟩) (Cert.Reference9Ideal.Value.run m' g')
    show Cert.Reference9Ideal.Read.val_main_v7 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) = _
    rw [(hagree c).1, (hagree c).2]

end Step.Claim9

end
-- ==== Proof.Step.Merge.lean ====
/-
  The merge of the three branches: the kernel projects each branch, weighs the projections by the gates in the first
  columns of the wide array, and adds the output projection of their sum to the residual.
-/
module

public import proofs.«01_k».proof.Proof.Gen.Kernel10Ideal.Value
public import proofs.«01_k».proof.Proof.Gen.Reference10Ideal.Read
public import proofs.«01_k».proof.Proof.Step.Sums
public import proofs.«01_k».proof.Proof.Step.Gate
public import Idealize.ShloMosaic.Lib.Pointwise
public import Idealize.ShloMosaic.Lib.Pointwise.IndexBridge
public import Idealize.ShloMosaic.Lib.Pipeline.ValueKit
public import Idealize.ShloMosaic.Lib.Pipeline.ReadBack

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Step.Merge

open Cert.Kernel10Ideal Cert.Kernel10Ideal.Gen

/-! ## The merge as functions of its arrays -/

/-- The column of the wide array that holds a branch's gate. -/
def col (p : Fin 3) (d : Fin 1024) : Fin 8192 := ⟨1024 * p.val + d.val, by omega⟩
/-- The logistic function. -/
def gate (x : EReal) : EReal := Ideal.div (Ideal.ofBits .f32 0x3F800000#32) (Ideal.ofBits .f32 0x3F800000#32 + Ideal.exp (-x))

section Maths
variable (X : FVec Ideal S8192x1024 .f32) (B : FVec Ideal S8192x8192 .bf16) (Y0 Y1 Y2 : FVec Ideal S8192x512 .bf16)
variable (W : FVec Ideal S3x512x1024 .bf16) (O : FVec Ideal S1024x1024 .bf16)

/-- A branch projected. -/
def proj (Y : FVec Ideal S8192x512 .bf16) (p : Fin 3) (r : Fin 8192) (d : Fin 1024) : EReal := ∑ k : Fin 512, Y (ix2 r k) * W (ix3 p k d)
/-- The gated sum of the projections. -/
def merged (r : Fin 8192) (d : Fin 1024) : EReal :=
  gate (B (ix2 r (col 0 d))) * proj W Y0 0 r d + gate (B (ix2 r (col 1 d))) * proj W Y1 1 r d + gate (B (ix2 r (col 2 d))) * proj W Y2 2 r d
/-- The residual with the output projection added. -/
def added (r : Fin 8192) (d : Fin 1024) : EReal := X (ix2 r d) + ∑ k : Fin 1024, merged B Y0 Y1 Y2 W r k * O (ix2 k d)

end Maths

/-! ## The kernel's stores at an index -/

theorem proj1_at (y : FVec Ideal S512x512 .bf16) (w : FVec Ideal S1x512x1024 .bf16) (a : Fin 512) (d : Fin 1024) :
    k0_pay1 (F := Ideal) y w (ix2 a d) = ∑ k : Fin 512, y (ix2 a k) * w (ix3 0 k d) := by
  unfold k0_pay1
  simp only [← ix2_eq_valueIdx, ← ix3_eq_valueIdx]; pointwise

theorem proj4_at (y : FVec Ideal S512x512 .bf16) (w : FVec Ideal S1x512x1024 .bf16) (a : Fin 512) (d : Fin 1024) :
    k0_pay4 (F := Ideal) y w (ix2 a d) = ∑ k : Fin 512, y (ix2 a k) * w (ix3 0 k d) := by
  unfold k0_pay4
  simp only [← ix2_eq_valueIdx, ← ix3_eq_valueIdx]; pointwise

theorem proj6_at (y : FVec Ideal S512x512 .bf16) (w : FVec Ideal S1x512x1024 .bf16) (a : Fin 512) (d : Fin 1024) :
    k0_pay6 (F := Ideal) y w (ix2 a d) = ∑ k : Fin 512, y (ix2 a k) * w (ix3 0 k d) := by
  unfold k0_pay6
  simp only [← ix2_eq_valueIdx, ← ix3_eq_valueIdx]; pointwise

theorem first_at (y : FVec Ideal S512x512 .bf16) (w : FVec Ideal S1x512x1024 .bf16) (g : FVec Ideal S512x1024 .bf16) (a : Fin 512) (d : Fin 1024) :
    k0_pay5 (F := Ideal) y w g (ix2 a d) = gate (g (ix2 a d)) * k0_pay4 (F := Ideal) y w (ix2 a d) := by
  unfold gate
  rw [← sigmoid_eq]
  unfold k0_pay5
  simp only [← ix2_eq_valueIdx, ← ix3_eq_valueIdx]; pointwise

theorem second_at (g : FVec Ideal S512x1024 .bf16) (a : Fin 512) (d : Fin 1024) :
    k0_pay8 (F := Ideal) (ix2 a d) * k0_pay7 (F := Ideal) g (ix2 a d) + Ideal.ofBits .f32 0x3F000000#32 = gate (g (ix2 a d)) := by
  unfold gate
  rw [← sigmoid_eq]
  unfold k0_pay7 k0_pay8
  simp only [← ix2_eq_valueIdx, ← ix3_eq_valueIdx]; pointwise

theorem merged_at (s : FVec Ideal S512x1024 .f32) (p : FVec Ideal S512x1024 .bf16) (u v : FVec Ideal S512x1024 .f32)
    (y : FVec Ideal S512x512 .bf16) (w : FVec Ideal S1x512x1024 .bf16) (g : FVec Ideal S512x1024 .bf16) (a : Fin 512) (d : Fin 1024) :
    k0_pay2 (F := Ideal) s p u v y w g (ix2 a d) = s (ix2 a d)
      + (v (ix2 a d) * u (ix2 a d) + Ideal.ofBits .f32 0x3F000000#32) * p (ix2 a d) + gate (g (ix2 a d)) * k0_pay1 (F := Ideal) y w (ix2 a d) := by
  unfold gate
  rw [← sigmoid_eq]
  unfold k0_pay2
  simp only [← ix2_eq_valueIdx, ← ix3_eq_valueIdx]; pointwise

theorem added_at (s : FVec Ideal S512x1024 .f32) (p : FVec Ideal S512x1024 .bf16) (u v : FVec Ideal S512x1024 .f32)
    (y : FVec Ideal S512x512 .bf16) (w : FVec Ideal S1x512x1024 .bf16) (g : FVec Ideal S512x1024 .bf16) (x : FVec Ideal S512x1024 .f32)
    (o : FVec Ideal S1024x1024 .bf16) (a : Fin 512) (d : Fin 1024) :
    k0_pay3 (F := Ideal) s p u v y w g x o (ix2 a d) = x (ix2 a d) + ∑ k : Fin 1024, k0_pay2 (F := Ideal) s p u v y w g (ix2 a k) * o (ix2 k d) := by
  unfold k0_pay3
  generalize k0_pay2 (F := Ideal) s p u v y w g = q
  simp only [← ix2_eq_valueIdx, ← ix3_eq_valueIdx]; pointwise

/-! ## The blocks of a grid point -/

theorem points (t : Fin cfg0.N) : t.val < 16 := t.isLt

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0, 0] ∧ win0_6.index t = ![0, 0]
    ∧ win0_7.index t = ![t.val, 0] ∧ win0_8.index t = ![t.val, 0] ∧ win0_9.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0, 0] ∧ win0_6.index t = ![0, 0]
    ∧ win0_7.index t = ![t.val, 0] ∧ win0_8.index t = ![t.val, 0] ∧ win0_9.index t = ![t.val, 0])

/-- The row a point works on. -/
def row (t : Fin cfg0.N) (a : Fin 512) : Fin 8192 := ⟨512 * t.val + a.val, by have := points t; omega⟩

variable (m : (ℓ : Loc nD τ sig) → Buf (Elt Ideal) ℓ) (c : Dev nD) (t : Fin cfg0.N)

abbrev X : FVec Ideal S8192x1024 .f32 := m ((c : Thread nD τ).loc main_arg0)
abbrev B : FVec Ideal S8192x8192 .bf16 := m ((c : Thread nD τ).loc main_arg1)
abbrev Y0 : FVec Ideal S8192x512 .bf16 := m ((c : Thread nD τ).loc main_arg2)
abbrev Y1 : FVec Ideal S8192x512 .bf16 := m ((c : Thread nD τ).loc main_arg3)
abbrev Y2 : FVec Ideal S8192x512 .bf16 := m ((c : Thread nD τ).loc main_arg4)
abbrev W : FVec Ideal S3x512x1024 .bf16 := m ((c : Thread nD τ).loc main_arg5)
abbrev O : FVec Ideal S1024x1024 .bf16 := m ((c : Thread nD τ).loc main_arg6)

theorem x_at (a : Fin 512) (d : Fin 1024) : (iblk m c 0 t : FVec Ideal S512x1024 .f32) (ix2 a d) = X m c (ix2 (row t a) d) := by
  unfold X
  rw [← Gen.V_main_arg0 m c]
  refine congrArg (Gen.V m c main_arg0) (ext2 (p := row t a) (q := d) ?_ ?_) <;>
    · blk_simp [idx t]; try simp [row]; try omega

theorem b_at (a : Fin 512) (e : Fin 3072) (r : Fin 8192) (j : Fin 8192) (hr : r = row t a) (hj : j.val = e.val) :
    (X0_1 m c t : FVec Ideal S512x3072 .bf16) (ix2 a e) = B m c (ix2 r j) := by
  unfold B
  rw [← Gen.V_main_arg1 m c]
  unfold X0_1 Pipeline.Window.fill
  rw [dif_pos (moved0_1 t _)]
  subst hr
  refine congrArg (Gen.V m c main_arg1) (ext2 (p := row t a) (q := j) ?_ ?_) <;>
    · blk_simp [idx t]; try simp [row, hj]; try omega

theorem y0_at (a k : Fin 512) : (iblk m c 2 t : FVec Ideal S512x512 .bf16) (ix2 a k) = Y0 m c (ix2 (row t a) k) := by
  unfold Y0
  rw [← Gen.V_main_arg2 m c]
  refine congrArg (Gen.V m c main_arg2) (ext2 (p := row t a) (q := k) ?_ ?_) <;>
    · blk_simp [idx t]; try simp [row]; try omega

theorem y1_at (a k : Fin 512) : (iblk m c 3 t : FVec Ideal S512x512 .bf16) (ix2 a k) = Y1 m c (ix2 (row t a) k) := by
  unfold Y1
  rw [← Gen.V_main_arg3 m c]
  refine congrArg (Gen.V m c main_arg3) (ext2 (p := row t a) (q := k) ?_ ?_) <;>
    · blk_simp [idx t]; try simp [row]; try omega

theorem y2_at (a k : Fin 512) : (iblk m c 4 t : FVec Ideal S512x512 .bf16) (ix2 a k) = Y2 m c (ix2 (row t a) k) := by
  unfold Y2
  rw [← Gen.V_main_arg4 m c]
  refine congrArg (Gen.V m c main_arg4) (ext2 (p := row t a) (q := k) ?_ ?_) <;>
    · blk_simp [idx t]; try simp [row]; try omega

theorem w_at (p : Fin 3) (k : Fin 512) (d : Fin 1024) : (iblk m c 5 t : FVec Ideal S3x512x1024 .bf16) (ix3 p k d) = W m c (ix3 p k d) := by
  unfold W
  rw [← Gen.V_main_arg5 m c]
  refine congrArg (Gen.V m c main_arg5) (ext3 (p := p) (q := k) (r := d) ?_ ?_ ?_) <;>
    · blk_simp [idx t]; try simp; try omega

theorem o_at (k d : Fin 1024) : (iblk m c 6 t : FVec Ideal S1024x1024 .bf16) (ix2 k d) = O m c (ix2 k d) := by
  unfold O
  rw [← Gen.V_main_arg6 m c]
  refine congrArg (Gen.V m c main_arg6) (ext2 (p := k) (q := d) ?_ ?_) <;>
    · blk_simp [idx t]; try simp; try omega

/-- Branch 0's gate, as the body reads it. -/
abbrev g0 : FVec Ideal S512x1024 .bf16 := View.ld (X0_1 m c t) (Rect.unit ![0, 0] ![512, 1024] inb_S512x3072_S512x1024_0_0)
/-- Branch 0's projection matrix, as the body reads it. -/
abbrev w0 : FVec Ideal S1x512x1024 .bf16 := View.ld (iblk m c 5 t) (Rect.unit ![0, 0, 0] ![1, 512, 1024] inb_S3x512x1024_S1x512x1024_0_0_0)

theorem g0_at (a : Fin 512) (d : Fin 1024) : g0 m c t (ix2 a d) = B m c (ix2 (row t a) (col 0 d)) := by
  refine Eq.trans (View.ld_unit_apply_of _ _ _ _ _ (ix2 a (⟨0 + d.val, by omega⟩ : Fin 3072)) fun j => ?_) (b_at m c t a _ _ _ rfl rfl)
  match j with
  | ⟨0, _⟩ => exact (Nat.zero_add _).symm
  | ⟨1, _⟩ => rfl

theorem w0_at (z : Fin 1) (k : Fin 512) (d : Fin 1024) : w0 m c t (ix3 z k d) = W m c (ix3 0 k d) := by
  refine Eq.trans (View.ld_unit_apply_of _ _ _ _ _ (ix3 (0 : Fin 3) k d) fun j => ?_) (w_at m c t 0 k d)
  match j with
  | ⟨0, _⟩ => show 0 = 0 + z.val; omega
  | ⟨1, _⟩ => exact (Nat.zero_add _).symm
  | ⟨2, _⟩ => exact (Nat.zero_add _).symm

theorem proj0_block (a : Fin 512) (d : Fin 1024) : k0_pay4 (F := Ideal) (iblk m c 2 t) (w0 m c t) (ix2 a d)
    = proj (W m c) (Y0 m c) 0 (row t a) d := by
  rw [proj4_at]
  exact Finset.sum_congr rfl fun k _ => congrArg₂ (fun u v : EReal => u * v) (y0_at m c t a k) (w0_at m c t 0 k d)

/-- Branch 1's gate, as the body reads it. -/
abbrev g1 : FVec Ideal S512x1024 .bf16 := View.ld (X0_1 m c t) (Rect.unit ![0, 1024] ![512, 1024] inb_S512x3072_S512x1024_0_1024)
/-- Branch 1's projection matrix, as the body reads it. -/
abbrev w1 : FVec Ideal S1x512x1024 .bf16 := View.ld (iblk m c 5 t) (Rect.unit ![1, 0, 0] ![1, 512, 1024] inb_S3x512x1024_S1x512x1024_1_0_0)

theorem g1_at (a : Fin 512) (d : Fin 1024) : g1 m c t (ix2 a d) = B m c (ix2 (row t a) (col 1 d)) := by
  refine Eq.trans (View.ld_unit_apply_of _ _ _ _ _ (ix2 a (⟨1024 + d.val, by omega⟩ : Fin 3072)) fun j => ?_) (b_at m c t a _ _ _ rfl rfl)
  match j with
  | ⟨0, _⟩ => exact (Nat.zero_add _).symm
  | ⟨1, _⟩ => rfl

theorem w1_at (z : Fin 1) (k : Fin 512) (d : Fin 1024) : w1 m c t (ix3 z k d) = W m c (ix3 1 k d) := by
  refine Eq.trans (View.ld_unit_apply_of _ _ _ _ _ (ix3 (1 : Fin 3) k d) fun j => ?_) (w_at m c t 1 k d)
  match j with
  | ⟨0, _⟩ => show 1 = 1 + z.val; omega
  | ⟨1, _⟩ => exact (Nat.zero_add _).symm
  | ⟨2, _⟩ => exact (Nat.zero_add _).symm

theorem proj1_block (a : Fin 512) (d : Fin 1024) : k0_pay6 (F := Ideal) (iblk m c 3 t) (w1 m c t) (ix2 a d)
    = proj (W m c) (Y1 m c) 1 (row t a) d := by
  rw [proj6_at]
  exact Finset.sum_congr rfl fun k _ => congrArg₂ (fun u v : EReal => u * v) (y1_at m c t a k) (w1_at m c t 0 k d)

/-- Branch 2's gate, as the body reads it. -/
abbrev g2 : FVec Ideal S512x1024 .bf16 := View.ld (X0_1 m c t) (Rect.unit ![0, 2048] ![512, 1024] inb_S512x3072_S512x1024_0_2048)
/-- Branch 2's projection matrix, as the body reads it. -/
abbrev w2 : FVec Ideal S1x512x1024 .bf16 := View.ld (iblk m c 5 t) (Rect.unit ![2, 0, 0] ![1, 512, 1024] inb_S3x512x1024_S1x512x1024_2_0_0)

theorem g2_at (a : Fin 512) (d : Fin 1024) : g2 m c t (ix2 a d) = B m c (ix2 (row t a) (col 2 d)) := by
  refine Eq.trans (View.ld_unit_apply_of _ _ _ _ _ (ix2 a (⟨2048 + d.val, by omega⟩ : Fin 3072)) fun j => ?_) (b_at m c t a _ _ _ rfl rfl)
  match j with
  | ⟨0, _⟩ => exact (Nat.zero_add _).symm
  | ⟨1, _⟩ => rfl

theorem w2_at (z : Fin 1) (k : Fin 512) (d : Fin 1024) : w2 m c t (ix3 z k d) = W m c (ix3 2 k d) := by
  refine Eq.trans (View.ld_unit_apply_of _ _ _ _ _ (ix3 (2 : Fin 3) k d) fun j => ?_) (w_at m c t 2 k d)
  match j with
  | ⟨0, _⟩ => show 2 = 2 + z.val; omega
  | ⟨1, _⟩ => exact (Nat.zero_add _).symm
  | ⟨2, _⟩ => exact (Nat.zero_add _).symm

theorem proj2_block (a : Fin 512) (d : Fin 1024) : k0_pay1 (F := Ideal) (iblk m c 4 t) (w2 m c t) (ix2 a d)
    = proj (W m c) (Y2 m c) 2 (row t a) d := by
  rw [proj1_at]
  exact Finset.sum_congr rfl fun k _ => congrArg₂ (fun u v : EReal => u * v) (y2_at m c t a k) (w2_at m c t 0 k d)

/-- The merged block of a point. -/
abbrev mblock : FVec Ideal S512x1024 .bf16 := k0_pay2 (F := Ideal) (k0_pay5 (F := Ideal) (iblk m c 2 t) (w0 m c t) (g0 m c t)) (k0_pay6 (F := Ideal) (iblk m c 3 t) (w1 m c t))
  (k0_pay7 (F := Ideal) (g1 m c t)) (k0_pay8 (F := Ideal)) (iblk m c 4 t) (w2 m c t) (g2 m c t)

theorem merged_block (a : Fin 512) (d : Fin 1024) : mblock m c t (ix2 a d) = merged (B m c) (Y0 m c) (Y1 m c) (Y2 m c) (W m c) (row t a) d := by
  unfold mblock
  rw [merged_at, first_at, second_at, proj0_block, proj1_block, proj2_block, g0_at, g1_at, g2_at]
  rfl

theorem out_merged (a : Fin 512) (d : Fin 1024) : (outsAt0 m c t).2.2 (ix2 a d) = merged (B m c) (Y0 m c) (Y1 m c) (Y2 m c) (W m c) (row t a) d := by
  rw [← merged_block]
  refine congrFun ?_ _
  unfold outsAt0
  frame_out
  rfl

theorem out_added (a : Fin 512) (d : Fin 1024) : (outsAt0 m c t).1 (ix2 a d) = added (X m c) (B m c) (Y0 m c) (Y1 m c) (Y2 m c) (W m c) (O m c) (row t a) d := by
  have h : (outsAt0 m c t).1 = k0_pay3 (F := Ideal) (k0_pay5 (F := Ideal) (iblk m c 2 t) (w0 m c t) (g0 m c t)) (k0_pay6 (F := Ideal) (iblk m c 3 t) (w1 m c t))
      (k0_pay7 (F := Ideal) (g1 m c t)) (k0_pay8 (F := Ideal)) (iblk m c 4 t) (w2 m c t) (g2 m c t) (iblk m c 0 t) (iblk m c 6 t) := by
    unfold outsAt0
    frame_out
    rfl
  rw [h, added_at]
  exact congrArg₂ (fun u v : EReal => u + v) (x_at m c t a d)
    (Finset.sum_congr rfl fun k _ => congrArg₂ (fun u v : EReal => u * v) (merged_block m c t a k) (o_at m c t k d))

/-- The projections side by side. -/
def sides (r : Fin 8192) (p : Fin 3) (d : Fin 1024) : EReal := match p with
  | 0 => proj (W m c) (Y0 m c) 0 r d
  | 1 => proj (W m c) (Y1 m c) 1 r d
  | 2 => proj (W m c) (Y2 m c) 2 r d

theorem out_sides (y : S512x3072.Idx) (a : Fin 512) (p : Fin 3) (d : Fin 1024) (ea : (y 0).val = a.val) (ed : (y 1).val = 1024 * p.val + d.val) :
    (outsAt0 m c t).2.1 y = sides m c (row t a) p d := by
  unfold outsAt0
  frame_out
  canon_tiles x h
  all_goals
    have hd := d.isLt
    have hx : (x 1).val < 1024 := (x 1).isLt
    obtain rfl : x = ix2 a d := ext2 (by omega) (by omega)
    replace h1 := h1.symm.trans ed
  · obtain rfl : p = 2 := Fin.ext (by show p.val = 2; replace h1 : 2048 + d.val = 1024 * p.val + d.val := h1; omega)
    exact proj2_block m c t a d
  · obtain rfl : p = 1 := Fin.ext (by show p.val = 1; replace h1 : 1024 + d.val = 1024 * p.val + d.val := h1; omega)
    exact proj1_block m c t a d
  · obtain rfl : p = 0 := Fin.ext (by show p.val = 0; replace h1 : d.val = 1024 * p.val + d.val := h1; omega)
    exact proj0_block m c t a d

/-! ## The reference at an index -/

section
open Cert.Reference10Ideal.Read

variable (X : FVec Ideal S8192x1024 .f32) (B : FVec Ideal S8192x8192 .bf16) (Y0 Y1 Y2 : FVec Ideal S8192x512 .bf16)
variable (W : FVec Ideal S3x512x1024 .bf16) (O : FVec Ideal S1024x1024 .bf16)

theorem ref_proj0 (Y : FVec Ideal S8192x512 .bf16) (r : Fin 8192) (d : Fin 1024) : val_main_v4 (F := Ideal) Y W (ix2 r d) = proj W Y 0 r d := by
  rw [val_main_v4_apply]
  refine Finset.sum_congr rfl fun k _ => ?_
  rw [val_main_v0_apply, val_main_v3_apply, val_main_v2_apply, val_main_v1_apply]
  refine congrArg₂ (fun u v : EReal => u * v) (congrArg Y (ext2 rfl rfl)) (congrArg W (ext3 ?_ ?_ ?_)) <;>
    · have := k.isLt; have := d.isLt; simp [c2_0, c2_1]; try omega

theorem ref_gate0 (r : Fin 8192) (d : Fin 1024) : val_main_v22 (F := Ideal) B (ix2 r d) = gate (B (ix2 r (col 0 d))) := by
  have e : idx_main_v15 (ix2 r d) = ix2 r (col 0 d) := ext2 (by simp [c2_0, c2_1]) (by simp [c2_0, c2_1, col])
  rw [val_main_v22_apply, val_main_v21_apply, val_main_cst_0_apply, val_main_v20_apply, val_main_v19_apply, val_main_cst_apply, val_main_v18_apply,
    val_main_v17_apply, val_main_v16_apply, val_main_v15_apply, e]
  rfl

theorem ref_proj1 (Y : FVec Ideal S8192x512 .bf16) (r : Fin 8192) (d : Fin 1024) : val_main_v9 (F := Ideal) Y W (ix2 r d) = proj W Y 1 r d := by
  rw [val_main_v9_apply]
  refine Finset.sum_congr rfl fun k _ => ?_
  rw [val_main_v5_apply, val_main_v8_apply, val_main_v7_apply, val_main_v6_apply]
  refine congrArg₂ (fun u v : EReal => u * v) (congrArg Y (ext2 rfl rfl)) (congrArg W (ext3 ?_ ?_ ?_)) <;>
    · have := k.isLt; have := d.isLt; simp [c2_0, c2_1]; try omega

theorem ref_gate1 (r : Fin 8192) (d : Fin 1024) : val_main_v30 (F := Ideal) B (ix2 r d) = gate (B (ix2 r (col 1 d))) := by
  have e : idx_main_v23 (ix2 r d) = ix2 r (col 1 d) := ext2 (by simp [c2_0, c2_1]) (by simp [c2_0, c2_1, col]; try omega)
  rw [val_main_v30_apply, val_main_v29_apply, val_main_cst_2_apply, val_main_v28_apply, val_main_v27_apply, val_main_cst_1_apply, val_main_v26_apply,
    val_main_v25_apply, val_main_v24_apply, val_main_v23_apply, e]
  rfl

theorem ref_proj2 (Y : FVec Ideal S8192x512 .bf16) (r : Fin 8192) (d : Fin 1024) : val_main_v14 (F := Ideal) Y W (ix2 r d) = proj W Y 2 r d := by
  rw [val_main_v14_apply]
  refine Finset.sum_congr rfl fun k _ => ?_
  rw [val_main_v10_apply, val_main_v13_apply, val_main_v12_apply, val_main_v11_apply]
  refine congrArg₂ (fun u v : EReal => u * v) (congrArg Y (ext2 rfl rfl)) (congrArg W (ext3 ?_ ?_ ?_)) <;>
    · have := k.isLt; have := d.isLt; simp [c2_0, c2_1]; try omega

theorem ref_gate2 (r : Fin 8192) (d : Fin 1024) : val_main_v38 (F := Ideal) B (ix2 r d) = gate (B (ix2 r (col 2 d))) := by
  have e : idx_main_v31 (ix2 r d) = ix2 r (col 2 d) := ext2 (by simp [c2_0, c2_1]) (by simp [c2_0, c2_1, col]; try omega)
  rw [val_main_v38_apply, val_main_v37_apply, val_main_cst_4_apply, val_main_v36_apply, val_main_v35_apply, val_main_cst_3_apply, val_main_v34_apply,
    val_main_v33_apply, val_main_v32_apply, val_main_v31_apply, e]
  rfl

theorem ref_merged (r : Fin 8192) (d : Fin 1024) : val_main_v45 (F := Ideal) B Y0 Y1 Y2 W (ix2 r d) = merged B Y0 Y1 Y2 W r d := by
  rw [val_main_v45_apply, val_main_v44_apply, val_main_v43_apply, val_main_v42_apply, val_main_v41_apply, val_main_v40_apply, val_main_v39_apply,
    ref_gate0, ref_gate1, ref_gate2, ref_proj0, ref_proj1, ref_proj2]
  show Ideal.ofBits .f32 0#32 + _ + _ + _ = _
  rw [Ideal.ofBits_zero_f32, zero_add]
  rfl

theorem ref_added (r : Fin 8192) (d : Fin 1024) : val_main_v48 (F := Ideal) X B Y0 Y1 Y2 W O (ix2 r d) = added X B Y0 Y1 Y2 W O r d := by
  rw [val_main_v48_apply, val_main_v47_apply]
  refine congrArg (fun v : EReal => X (ix2 r d) + v) (Finset.sum_congr rfl fun k _ => ?_)
  rw [show lidx_main_v47 (ix2 r d) k = ix2 r k from ext2 rfl rfl, ref_merged, val_main_v46_apply, show ridx_main_v47 (ix2 r d) k = ix2 k d from ext2 rfl rfl]
  rfl

end

theorem side0 (u0 u1 u2 : FVec Ideal Cert.Reference10Ideal.S8192x1024 .f32)
    (h : Shape.Concatenates (([⟨Cert.Reference10Ideal.S8192x1024, u0⟩, ⟨Cert.Reference10Ideal.S8192x1024, u1⟩, ⟨Cert.Reference10Ideal.S8192x1024, u2⟩] : List ((s : Shape) × (s.Idx → EReal))).map (·.1)) Cert.Reference10Ideal.S8192x3072 1)
    (y : Cert.Reference10Ideal.S8192x3072.Idx) (r : Fin 8192) (d : Fin 1024) (er : (y 0).val = r.val) (ed : (y 1).val = 0 + d.val) :
    concatenate Cert.Reference10Ideal.S8192x3072 1 [⟨Cert.Reference10Ideal.S8192x1024, u0⟩, ⟨Cert.Reference10Ideal.S8192x1024, u1⟩, ⟨Cert.Reference10Ideal.S8192x1024, u2⟩] h y = u0 (ix2 r d) := by
  refine concatenate_apply_piece (s₁ := Cert.Reference10Ideal.S8192x1024) 1 [⟨Cert.Reference10Ideal.S8192x1024, u0⟩, ⟨Cert.Reference10Ideal.S8192x1024, u1⟩, ⟨Cert.Reference10Ideal.S8192x1024, u2⟩] h y 0 (show 0 < 3 by omega) u0 rfl rfl 0 rfl (ix2 r d) (fun b hb => ?_) ed.symm
  match b with
  | ⟨0, _⟩ => exact er.symm
  | ⟨1, _⟩ => exact absurd rfl hb

theorem side1 (u0 u1 u2 : FVec Ideal Cert.Reference10Ideal.S8192x1024 .f32)
    (h : Shape.Concatenates (([⟨Cert.Reference10Ideal.S8192x1024, u0⟩, ⟨Cert.Reference10Ideal.S8192x1024, u1⟩, ⟨Cert.Reference10Ideal.S8192x1024, u2⟩] : List ((s : Shape) × (s.Idx → EReal))).map (·.1)) Cert.Reference10Ideal.S8192x3072 1)
    (y : Cert.Reference10Ideal.S8192x3072.Idx) (r : Fin 8192) (d : Fin 1024) (er : (y 0).val = r.val) (ed : (y 1).val = 1024 + d.val) :
    concatenate Cert.Reference10Ideal.S8192x3072 1 [⟨Cert.Reference10Ideal.S8192x1024, u0⟩, ⟨Cert.Reference10Ideal.S8192x1024, u1⟩, ⟨Cert.Reference10Ideal.S8192x1024, u2⟩] h y = u1 (ix2 r d) := by
  refine concatenate_apply_piece (s₁ := Cert.Reference10Ideal.S8192x1024) 1 [⟨Cert.Reference10Ideal.S8192x1024, u0⟩, ⟨Cert.Reference10Ideal.S8192x1024, u1⟩, ⟨Cert.Reference10Ideal.S8192x1024, u2⟩] h y 1 (show 1 < 3 by omega) u1 rfl rfl 1024 rfl (ix2 r d) (fun b hb => ?_) ed.symm
  match b with
  | ⟨0, _⟩ => exact er.symm
  | ⟨1, _⟩ => exact absurd rfl hb

theorem side2 (u0 u1 u2 : FVec Ideal Cert.Reference10Ideal.S8192x1024 .f32)
    (h : Shape.Concatenates (([⟨Cert.Reference10Ideal.S8192x1024, u0⟩, ⟨Cert.Reference10Ideal.S8192x1024, u1⟩, ⟨Cert.Reference10Ideal.S8192x1024, u2⟩] : List ((s : Shape) × (s.Idx → EReal))).map (·.1)) Cert.Reference10Ideal.S8192x3072 1)
    (y : Cert.Reference10Ideal.S8192x3072.Idx) (r : Fin 8192) (d : Fin 1024) (er : (y 0).val = r.val) (ed : (y 1).val = 2048 + d.val) :
    concatenate Cert.Reference10Ideal.S8192x3072 1 [⟨Cert.Reference10Ideal.S8192x1024, u0⟩, ⟨Cert.Reference10Ideal.S8192x1024, u1⟩, ⟨Cert.Reference10Ideal.S8192x1024, u2⟩] h y = u2 (ix2 r d) := by
  refine concatenate_apply_piece (s₁ := Cert.Reference10Ideal.S8192x1024) 1 [⟨Cert.Reference10Ideal.S8192x1024, u0⟩, ⟨Cert.Reference10Ideal.S8192x1024, u1⟩, ⟨Cert.Reference10Ideal.S8192x1024, u2⟩] h y 2 (show 2 < 3 by omega) u2 rfl rfl 2048 rfl (ix2 r d) (fun b hb => ?_) ed.symm
  match b with
  | ⟨0, _⟩ => exact er.symm
  | ⟨1, _⟩ => exact absurd rfl hb

open Cert.Reference10Ideal.Read in
theorem ref_sides (y : S8192x3072.Idx) (r : Fin 8192) (p : Fin 3) (d : Fin 1024) (er : (y 0).val = r.val) (ed : (y 1).val = 1024 * p.val + d.val) :
    val_main_v50 (F := Ideal) (Y0 m c) (Y1 m c) (Y2 m c) (W m c) y = sides m c r p d := by
  rw [val_main_v50_apply]
  show val_main_v49 (F := Ideal) _ _ _ _ y = _
  unfold val_main_v49
  match p with
  | 0 => exact (side0 _ _ _ _ y r d er (ed.trans rfl)).trans (ref_proj0 _ _ r d)
  | 1 => exact (side1 _ _ _ _ y r d er (ed.trans rfl)).trans (ref_proj1 _ _ r d)
  | 2 => exact (side2 _ _ _ _ y r d er (ed.trans rfl)).trans (ref_proj2 _ _ r d)

/-! ## The result arrays -/

theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v0_0).slice (win0_7.rect t)).set ↔ _
  rw [View.set_slice_whole, Rect.mem_set_unit]
  exact Iff.rfl

theorem cover7 (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  obtain ⟨t, ht⟩ : ∃ t : Fin cfg0.N, t.val = (i 0).val / 512 := ⟨⟨(i 0).val / 512, by show _ < 16; omega⟩, rfl⟩
  refine ⟨t, flush0_7 t, (mem_blk7 t i).2 fun a => ?_⟩
  have e : win0_7.index t = ![t.val, 0] := by have := idx t; tauto
  rw [e]
  match a with
  | ⟨0, _⟩ => show t.val * 512 ≤ (i 0).val ∧ (i 0).val < t.val * 512 + 512; omega
  | ⟨1, _⟩ => show 0 * 1024 ≤ (i 1).val ∧ (i 1).val < 0 * 1024 + 1024; omega

theorem mem_blk8 (t : Fin cfg0.N) (i : S8192x3072.Idx) :
    i ∈ ((cfg0.win 8).blk t).view.set ↔ ∀ a : Fin 2, win0_8.index t a * S512x3072.size a ≤ (i a).val ∧ (i a).val < win0_8.index t a * S512x3072.size a + S512x3072.size a := by
  show i ∈ ((View.whole main_v0_1).slice (win0_8.rect t)).set ↔ _
  rw [View.set_slice_whole, Rect.mem_set_unit]
  exact Iff.rfl

theorem cover8 (i : S8192x3072.Idx) : ∃ t : Fin cfg0.N, (cfg0.win 8).flush t = true ∧ i ∈ ((cfg0.win 8).blk t).view.set := by
  have h0 : (i 0).val < 8192 := (i 0).isLt
  have h1 : (i 1).val < 3072 := (i 1).isLt
  obtain ⟨t, ht⟩ : ∃ t : Fin cfg0.N, t.val = (i 0).val / 512 := ⟨⟨(i 0).val / 512, by show _ < 16; omega⟩, rfl⟩
  refine ⟨t, flush0_8 t, (mem_blk8 t i).2 fun a => ?_⟩
  have e : win0_8.index t = ![t.val, 0] := by have := idx t; tauto
  rw [e]
  match a with
  | ⟨0, _⟩ => show t.val * 512 ≤ (i 0).val ∧ (i 0).val < t.val * 512 + 512; omega
  | ⟨1, _⟩ => show 0 * 3072 ≤ (i 1).val ∧ (i 1).val < 0 * 3072 + 3072; omega

theorem mem_blk9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v0_2).slice (win0_9.rect t)).set ↔ _
  rw [View.set_slice_whole, Rect.mem_set_unit]
  exact Iff.rfl

theorem cover9 (i : S8192x1024.Idx) : ∃ t : Fin cfg0.N, (cfg0.win 9).flush t = true ∧ i ∈ ((cfg0.win 9).blk t).view.set := by
  have h0 : (i 0).val < 8192 := (i 0).isLt
  have h1 : (i 1).val < 1024 := (i 1).isLt
  obtain ⟨t, ht⟩ : ∃ t : Fin cfg0.N, t.val = (i 0).val / 512 := ⟨⟨(i 0).val / 512, by show _ < 16; omega⟩, rfl⟩
  refine ⟨t, flush0_9 t, (mem_blk9 t i).2 fun a => ?_⟩
  have e : win0_9.index t = ![t.val, 0] := by have := idx t; tauto
  rw [e]
  match a with
  | ⟨0, _⟩ => show t.val * 512 ≤ (i 0).val ∧ (i 0).val < t.val * 512 + 512; omega
  | ⟨1, _⟩ => show 0 * 1024 ≤ (i 1).val ∧ (i 1).val < 0 * 1024 + 1024; omega

open Cert.Reference10Ideal.Read in
theorem final_out : (dats m 0 c).arrAt 7 cfg0.N = (val_main_v48 (F := Ideal) (X m c) (B m c) (Y0 m c) (Y1 m c) (Y2 m c) (W m c) (O m c) : FVec Ideal S8192x1024 .f32) := by
  refine (dats m 0 c).arrAt_eq_of_cover 7 _ (fun t hf => ?_) (cover7)
  funext y
  rw [Value.flushed7]
  have h0 : (y 0).val < 512 := (y 0).isLt
  have h1 : (y 1).val < 1024 := (y 1).isLt
  have ey : (cfg0.win 7).xinj (grid0.coords t) y = ix2 (⟨(y 0).val, h0⟩ : Fin 512) (⟨(y 1).val, h1⟩ : Fin 1024) := ext2 rfl rfl
  show (outsAt0 m c t).1 ((cfg0.win 7).xinj (grid0.coords t) y) = _
  rw [ey, out_added]
  refine (ref_added _ _ _ _ _ _ _ (row t ⟨(y 0).val, h0⟩) ⟨(y 1).val, h1⟩).symm.trans ?_
  refine congrArg (val_main_v48 (F := Ideal) (X m c) (B m c) (Y0 m c) (Y1 m c) (Y2 m c) (W m c) (O m c)) (ext2 ?_ ?_).symm <;>
    · blk_simp [idx t]; try simp [row]; try omega

open Cert.Reference10Ideal.Read in
theorem final_merged : (dats m 0 c).arrAt 9 cfg0.N = (val_main_v51 (F := Ideal) (B m c) (Y0 m c) (Y1 m c) (Y2 m c) (W m c) : FVec Ideal S8192x1024 .bf16) := by
  refine (dats m 0 c).arrAt_eq_of_cover 9 _ (fun t hf => ?_) (cover9)
  funext y
  rw [Value.flushed9]
  have h0 : (y 0).val < 512 := (y 0).isLt
  have h1 : (y 1).val < 1024 := (y 1).isLt
  have ey : (cfg0.win 9).xinj (grid0.coords t) y = ix2 (⟨(y 0).val, h0⟩ : Fin 512) (⟨(y 1).val, h1⟩ : Fin 1024) := ext2 rfl rfl
  show (outsAt0 m c t).2.2 ((cfg0.win 9).xinj (grid0.coords t) y) = _
  rw [ey, out_merged]
  refine (ref_merged _ _ _ _ _ (row t ⟨(y 0).val, h0⟩) ⟨(y 1).val, h1⟩).symm.trans ?_
  refine congrArg (val_main_v51 (F := Ideal) (B m c) (Y0 m c) (Y1 m c) (Y2 m c) (W m c)) (ext2 ?_ ?_).symm <;>
    · blk_simp [idx t]; try simp [row]; try omega

open Cert.Reference10Ideal.Read in
theorem final_sides : (dats m 0 c).arrAt 8 cfg0.N = (val_main_v50 (F := Ideal) (Y0 m c) (Y1 m c) (Y2 m c) (W m c) : FVec Ideal S8192x3072 .bf16) := by
  refine (dats m 0 c).arrAt_eq_of_cover 8 _ (fun t hf => ?_) (cover8)
  funext y
  rw [Value.flushed8]
  have h0 : (y 0).val < 512 := (y 0).isLt
  have h1 : (y 1).val < 3072 := (y 1).isLt
  show (outsAt0 m c t).2.1 ((cfg0.win 8).xinj (grid0.coords t) y) = _
  rw [out_sides m c t _ ⟨(y 0).val, h0⟩ ⟨(y 1).val / 1024, by omega⟩ ⟨(y 1).val % 1024, by omega⟩ rfl (by show (y 1).val = 1024 * ((y 1).val / 1024) + (y 1).val % 1024; omega)]
  refine (ref_sides m c _ _ _ _ ?_ ?_).symm
  · blk_simp [idx t]; try simp [row]; try omega
  · blk_simp [idx t]; try simp; try omega

end Step.Merge
-- ==== Proof.Step.Claim10.lean ====
/-
  The merge of the branches: the claims of the pair of programs.
-/
module

public import proofs.«01_k».proof.Defs
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Step.Merge
public import Idealize.ShloMosaic.Lib.Claim
public import Idealize.ShloMosaic.Adequacy
public import Idealize.ShloMosaic.Init

@[expose] public section

set_option maxRecDepth 16384

noncomputable section

namespace Step.Claim10

open Idealize.ShloMosaic Idealize.SL.Sem

/-- The reference ends with its arguments unchanged and every counter at zero. -/
theorem quiescent_reference10 (m : (ℓ : Loc Cert.Reference10Ideal.nD Cert.Reference10Ideal.τ Cert.Reference10Ideal.sig) → Buf (Elt Ideal) ℓ)
    (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0) :=
  (θ_run _ _ _).mono (fun r h => ⟨fun c => (h c).2.2.2, sem_eq_zero_of_no_sems (by decide) r.2⟩) (Cert.Reference10Ideal.Value.run m g)

/-- Kernel and reference leave the same arrays. -/
theorem algebraic10 : Cert.algebraic_Kernel10Ideal_Reference10Ideal (hKernel10Ideal := Cert.Kernel10Ideal.Gen.facts) (hReference10Ideal := Cert.Reference10Ideal.Gen.facts) := by
  intro m g m' g' _ hagree
  refine ⟨fun c => Cert.Reference10Ideal.Read.val_main_v48 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)),
    fun c => Cert.Reference10Ideal.Read.val_main_v50 (F := Ideal) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)),
    fun c => Cert.Reference10Ideal.Read.val_main_v51 (F := Ideal) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)), ?_, ?_⟩
  · exact (θ_run _ _ _).mono (fun r h c => ⟨(h c).1.trans (Step.Merge.final_out m c), (h c).2.1.trans (Step.Merge.final_sides m c), (h c).2.2.1.trans (Step.Merge.final_merged m c), (h c).2.2.2⟩) (Cert.Kernel10Ideal.Value.run_blocks m g)
  · refine (θ_run _ _ _).mono (fun r h c => ⟨(h c).1.trans ((Cert.Reference10Ideal.Read.val_main_v48_eq ..).trans ?_), (h c).2.1.trans ((Cert.Reference10Ideal.Read.val_main_v50_eq ..).trans ?_), (h c).2.2.1.trans ((Cert.Reference10Ideal.Read.val_main_v51_eq ..).trans ?_), (h c).2.2.2⟩) (Cert.Reference10Ideal.Value.run m' g')
    · show Cert.Reference10Ideal.Read.val_main_v48 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg5)) (m' ((c.tc : Thread Cert.Reference10Ideal.nD Cert.Reference10Ideal.τ).loc Cert.Reference10Ideal.main_arg6)) = _
      rw [(hagree c).1, (hagree c).2.1, (hagree c).2.2.1, (hagree c).2.2.2.1, (hagree c).2.2.2.2.1, (hagree c).2.2.2.2.2.1, (hagree c).2.2.2.2.2.2]
    · show Cert.Reference10Ideal.Read.val_main_v50 (F := Ideal) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg5)) = _
      rw [(hagree c).2.2.1, (hagree c).2.2.2.1, (hagree c).2.2.2.2.1, (hagree c).2.2.2.2.2.1]
    · show Cert.Reference10Ideal.Read.val_main_v51 (F := Ideal) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg5)) = _
      rw [(hagree c).2.1, (hagree c).2.2.1, (hagree c).2.2.2.1, (hagree c).2.2.2.2.1, (hagree c).2.2.2.2.2.1]

end Step.Claim10

end
-- ==== Proof.Step.BranchWeight.lean ====
/-
  The gradient of the three branch projections: the kernel sums a product over four blocks of 2048 rows for each branch.
-/
module

public import proofs.«01_k».proof.Proof.Gen.Kernel11Ideal.Value
public import proofs.«01_k».proof.Proof.Gen.Reference11Ideal.Read
public import proofs.«01_k».proof.Proof.Step.Sums
public import Idealize.ShloMosaic.Lib.Pointwise
public import Idealize.ShloMosaic.Lib.Pointwise.IndexBridge
public import Idealize.ShloMosaic.Lib.Pipeline.ValueKit
public import Idealize.ShloMosaic.Lib.Pipeline.ReadBack

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Step.BranchWeight

open Cert.Kernel11Ideal Cert.Kernel11Ideal.Gen

theorem add0 (v : FVec Ideal S512x1024 .f32) (x : FVec Ideal S2048x512 .bf16) (y : FVec Ideal S2048x1024 .bf16) (a : Fin 512) (b : Fin 1024) :
    k0_pay2 (F := Ideal) v x y (ix2 a b) = v (ix2 a b) + ∑ k : Fin 2048, x (ix2 k a) * y (ix2 k b) := by
  unfold k0_pay2
  simp only [← ix2_eq_valueIdx, ← ix3_eq_valueIdx]; pointwise

theorem add1 (v : FVec Ideal S512x1024 .f32) (x : FVec Ideal S2048x512 .bf16) (y : FVec Ideal S2048x1024 .bf16) (a : Fin 512) (b : Fin 1024) :
    k0_pay3 (F := Ideal) v x y (ix2 a b) = v (ix2 a b) + ∑ k : Fin 2048, x (ix2 k a) * y (ix2 k b) := by
  unfold k0_pay3
  simp only [← ix2_eq_valueIdx, ← ix3_eq_valueIdx]; pointwise

theorem add2 (v : FVec Ideal S512x1024 .f32) (x : FVec Ideal S2048x512 .bf16) (y : FVec Ideal S2048x1024 .bf16) (a : Fin 512) (b : Fin 1024) :
    k0_pay4 (F := Ideal) v x y (ix2 a b) = v (ix2 a b) + ∑ k : Fin 2048, x (ix2 k a) * y (ix2 k b) := by
  unfold k0_pay4
  simp only [← ix2_eq_valueIdx, ← ix3_eq_valueIdx]; pointwise

theorem zero_at (i : S512x1024.Idx) : k0_pay1 (F := Ideal) i = 0 := by
  unfold k0_pay1
  rw [shapeCast_self]
  exact Ideal.ofBits_zero_f32

theorem points (t : Fin cfg0.N) : t.val < 12 := t.isLt

/-- Where each window of a grid point stands. -/
theorem idx : ∀ t : Fin cfg0.N, win0_0.index t = ![t.val % 4, 0] ∧ win0_1.index t = ![t.val % 4, 0] ∧ win0_2.index t = ![t.val % 4, 0]
    ∧ win0_3.index t = ![t.val % 4, t.val / 4] ∧ win0_4.index t = ![0, t.val / 4, 0, 0] :=
  (by decide +kernel : ∀ t : Fin grid0.N, win0_0.index t = ![t.val % 4, 0] ∧ win0_1.index t = ![t.val % 4, 0] ∧ win0_2.index t = ![t.val % 4, 0]
    ∧ win0_3.index t = ![t.val % 4, t.val / 4] ∧ win0_4.index t = ![0, t.val / 4, 0, 0])

/-- The branch a point works on. -/
def grp (t : Fin cfg0.N) : Fin 3 := ⟨t.val / 4, by have := points t; omega⟩
/-- The row a point reads. -/
def row (t : Fin cfg0.N) (k : Fin 2048) : Fin 8192 := ⟨2048 * (t.val % 4) + k.val, by omega⟩
/-- A column of a branch, in the wide array. -/
def col (p : Fin 3) (b : Fin 1024) : Fin 3072 := ⟨1024 * p.val + b.val, by omega⟩

variable (m : (ℓ : Loc nD τ sig) → Buf (Elt Ideal) ℓ) (c : Dev nD) (t : Fin cfg0.N)

abbrev Y0 : FVec Ideal S8192x512 .bf16 := m ((c : Thread nD τ).loc main_arg0)
abbrev Y1 : FVec Ideal S8192x512 .bf16 := m ((c : Thread nD τ).loc main_arg1)
abbrev Y2 : FVec Ideal S8192x512 .bf16 := m ((c : Thread nD τ).loc main_arg2)
abbrev B : FVec Ideal S8192x3072 .bf16 := m ((c : Thread nD τ).loc main_arg3)

/-- The branches' outputs. -/
def Y (p : Fin 3) : FVec Ideal S8192x512 .bf16 := match p with
  | 0 => Y0 m c
  | 1 => Y1 m c
  | 2 => Y2 m c

theorem y0_at (k : Fin 2048) (a : Fin 512) : (iblk m c 0 t : FVec Ideal S2048x512 .bf16) (ix2 k a)
    = Y0 m c (ix2 (row t k) a) := by
  unfold Y0
  rw [← Gen.V_main_arg0 m c]
  refine congrArg (Gen.V m c main_arg0) (ext2 (p := row t k) (q := a) ?_ ?_) <;>
    · blk_simp [idx t]; try simp [row]; try omega

theorem y1_at (k : Fin 2048) (a : Fin 512) : (iblk m c 1 t : FVec Ideal S2048x512 .bf16) (ix2 k a)
    = Y1 m c (ix2 (row t k) a) := by
  unfold Y1
  rw [← Gen.V_main_arg1 m c]
  refine congrArg (Gen.V m c main_arg1) (ext2 (p := row t k) (q := a) ?_ ?_) <;>
    · blk_simp [idx t]; try simp [row]; try omega

theorem y2_at (k : Fin 2048) (a : Fin 512) : (iblk m c 2 t : FVec Ideal S2048x512 .bf16) (ix2 k a)
    = Y2 m c (ix2 (row t k) a) := by
  unfold Y2
  rw [← Gen.V_main_arg2 m c]
  refine congrArg (Gen.V m c main_arg2) (ext2 (p := row t k) (q := a) ?_ ?_) <;>
    · blk_simp [idx t]; try simp [row]; try omega

theorem b_at (k : Fin 2048) (b : Fin 1024) : (iblk m c 3 t : FVec Ideal S2048x1024 .bf16) (ix2 k b)
    = B m c (ix2 (row t k) (col (grp t) b)) := by
  unfold B
  rw [← Gen.V_main_arg3 m c]
  refine congrArg (Gen.V m c main_arg3) (ext2 (p := row t k) (q := col (grp t) b) ?_ ?_) <;>
    · blk_simp [idx t]; try simp [row, col, grp]; try omega

/-- The terms of one entry of the gradient. -/
def term (p : Fin 3) (a : Fin 512) (b : Fin 1024) (k : Fin 8192) : EReal := Y m c p (ix2 k a) * B m c (ix2 k (col p b))

theorem prod_block0 (h : t.val / 4 = 0) (a : Fin 512) (b : Fin 1024) (k : Fin 2048) :
    HMul.hMul (α := EReal) (β := EReal) (γ := EReal) ((iblk m c 0 t : FVec Ideal S2048x512 .bf16) (ix2 k a))
        ((iblk m c 3 t : FVec Ideal S2048x1024 .bf16) (ix2 k b))
      = term m c (grp t) a b (row t k) := by
  rw [y0_at, b_at, show grp t = 0 from Fin.ext h]; rfl

/-- Adding a block's product to the sum over the blocks before it. -/
theorem add_block0 (h : t.val / 4 = 0) (v : FVec Ideal S512x1024 .f32) (a : Fin 512) (b : Fin 1024)
    (hv : v (ix2 a b) = upto (term m c (grp t) a b) (2048 * (t.val % 4))) :
    k0_pay2 (F := Ideal) v (iblk m c 0 t) (iblk m c 3 t) (ix2 a b) = upto (term m c (grp t) a b) (2048 * (t.val % 4 + 1)) := by
  rw [add0, upto_add (term m c (grp t) a b) (2048 * (t.val % 4)) 2048 _ (2048 * (t.val % 4 + 1)) (by omega) fun k => ⟨by omega, prod_block0 m c t h a b k⟩]
  exact congrArg (· + _) hv

/-- The first point of a branch leaves the sum over its block. -/
theorem first0 (h : t.val / 4 = 0) (e : t.val % 4 = 0) (a : Fin 512) (b : Fin 1024) :
    (outsAt0 m c t.val t.isLt).2 (ix2 a b) = upto (term m c (grp t) a b) (2048 * (t.val % 4 + 1)) := by
  have hN := points t
  rw [outsAt0_A m c t e (by omega) (by omega) (by omega) (by omega)]
  frame_out
  refine add_block0 m c t h _ a b ?_
  rw [zero_at, e, upto_zero]

/-- A point inside a branch adds its block. -/
theorem next0 (h : t.val / 4 = 0) (h0 : ¬ t.val % 4 = 0) (e : ¬ t.val % 4 = 3) (a : Fin 512) (b : Fin 1024)
    (hv : (outsAt0 m c (t.val - 1) (Nat.lt_of_le_of_lt (Nat.sub_le _ _) t.isLt)).2 (ix2 a b) = upto (term m c (grp t) a b) (2048 * (t.val % 4))) :
    (outsAt0 m c t.val t.isLt).2 (ix2 a b) = upto (term m c (grp t) a b) (2048 * (t.val % 4 + 1)) := by
  have hN := points t
  rw [outsAt0_B m c t h0 (by omega) (by omega) (by omega) e]
  frame_out
  simp only [read_unread_whole]
  exact add_block0 m c t h _ a b hv

theorem prod_block1 (h : t.val / 4 = 1) (a : Fin 512) (b : Fin 1024) (k : Fin 2048) :
    HMul.hMul (α := EReal) (β := EReal) (γ := EReal) ((iblk m c 1 t : FVec Ideal S2048x512 .bf16) (ix2 k a))
        ((iblk m c 3 t : FVec Ideal S2048x1024 .bf16) (ix2 k b))
      = term m c (grp t) a b (row t k) := by
  rw [y1_at, b_at, show grp t = 1 from Fin.ext h]; rfl

/-- Adding a block's product to the sum over the blocks before it. -/
theorem add_block1 (h : t.val / 4 = 1) (v : FVec Ideal S512x1024 .f32) (a : Fin 512) (b : Fin 1024)
    (hv : v (ix2 a b) = upto (term m c (grp t) a b) (2048 * (t.val % 4))) :
    k0_pay3 (F := Ideal) v (iblk m c 1 t) (iblk m c 3 t) (ix2 a b) = upto (term m c (grp t) a b) (2048 * (t.val % 4 + 1)) := by
  rw [add1, upto_add (term m c (grp t) a b) (2048 * (t.val % 4)) 2048 _ (2048 * (t.val % 4 + 1)) (by omega) fun k => ⟨by omega, prod_block1 m c t h a b k⟩]
  exact congrArg (· + _) hv

/-- The first point of a branch leaves the sum over its block. -/
theorem first1 (h : t.val / 4 = 1) (e : t.val % 4 = 0) (a : Fin 512) (b : Fin 1024) :
    (outsAt0 m c t.val t.isLt).2 (ix2 a b) = upto (term m c (grp t) a b) (2048 * (t.val % 4 + 1)) := by
  have hN := points t
  rw [outsAt0_D m c t e (by omega) (by omega) (by omega) (by omega)]
  frame_out
  refine add_block1 m c t h _ a b ?_
  rw [zero_at, e, upto_zero]

/-- A point inside a branch adds its block. -/
theorem next1 (h : t.val / 4 = 1) (h0 : ¬ t.val % 4 = 0) (e : ¬ t.val % 4 = 3) (a : Fin 512) (b : Fin 1024)
    (hv : (outsAt0 m c (t.val - 1) (Nat.lt_of_le_of_lt (Nat.sub_le _ _) t.isLt)).2 (ix2 a b) = upto (term m c (grp t) a b) (2048 * (t.val % 4))) :
    (outsAt0 m c t.val t.isLt).2 (ix2 a b) = upto (term m c (grp t) a b) (2048 * (t.val % 4 + 1)) := by
  have hN := points t
  rw [outsAt0_E m c t h0 (by omega) (by omega) (by omega) e]
  frame_out
  simp only [read_unread_whole]
  exact add_block1 m c t h _ a b hv

theorem prod_block2 (h : t.val / 4 = 2) (a : Fin 512) (b : Fin 1024) (k : Fin 2048) :
    HMul.hMul (α := EReal) (β := EReal) (γ := EReal) ((iblk m c 2 t : FVec Ideal S2048x512 .bf16) (ix2 k a))
        ((iblk m c 3 t : FVec Ideal S2048x1024 .bf16) (ix2 k b))
      = term m c (grp t) a b (row t k) := by
  rw [y2_at, b_at, show grp t = 2 from Fin.ext h]; rfl

/-- Adding a block's product to the sum over the blocks before it. -/
theorem add_block2 (h : t.val / 4 = 2) (v : FVec Ideal S512x1024 .f32) (a : Fin 512) (b : Fin 1024)
    (hv : v (ix2 a b) = upto (term m c (grp t) a b) (2048 * (t.val % 4))) :
    k0_pay4 (F := Ideal) v (iblk m c 2 t) (iblk m c 3 t) (ix2 a b) = upto (term m c (grp t) a b) (2048 * (t.val % 4 + 1)) := by
  rw [add2, upto_add (term m c (grp t) a b) (2048 * (t.val % 4)) 2048 _ (2048 * (t.val % 4 + 1)) (by omega) fun k => ⟨by omega, prod_block2 m c t h a b k⟩]
  exact congrArg (· + _) hv

/-- The first point of a branch leaves the sum over its block. -/
theorem first2 (h : t.val / 4 = 2) (e : t.val % 4 = 0) (a : Fin 512) (b : Fin 1024) :
    (outsAt0 m c t.val t.isLt).2 (ix2 a b) = upto (term m c (grp t) a b) (2048 * (t.val % 4 + 1)) := by
  have hN := points t
  rw [outsAt0_G m c t e (by omega) (by omega) (by omega) (by omega)]
  frame_out
  refine add_block2 m c t h _ a b ?_
  rw [zero_at, e, upto_zero]

/-- A point inside a branch adds its block. -/
theorem next2 (h : t.val / 4 = 2) (h0 : ¬ t.val % 4 = 0) (e : ¬ t.val % 4 = 3) (a : Fin 512) (b : Fin 1024)
    (hv : (outsAt0 m c (t.val - 1) (Nat.lt_of_le_of_lt (Nat.sub_le _ _) t.isLt)).2 (ix2 a b) = upto (term m c (grp t) a b) (2048 * (t.val % 4))) :
    (outsAt0 m c t.val t.isLt).2 (ix2 a b) = upto (term m c (grp t) a b) (2048 * (t.val % 4 + 1)) := by
  have hN := points t
  rw [outsAt0_H m c t h0 (by omega) (by omega) (by omega) e]
  frame_out
  simp only [read_unread_whole]
  exact add_block2 m c t h _ a b hv

/-- A point before the last of its branch leaves the sum over the blocks read so far. -/
theorem carried : ∀ (n : ℕ) (l : n < cfg0.N), ¬ n % 4 = 3 → ∀ a b,
    (outsAt0 m c n l).2 (ix2 a b) = upto (term m c (grp ⟨n, l⟩) a b) (2048 * (n % 4 + 1)) := by
  intro n
  induction n with
  | zero =>
    intro l _ a b
    exact first0 m c ⟨0, l⟩ (Nat.zero_div 4) (Nat.zero_mod 4) a b
  | succ n ih =>
    intro l e a b
    have hN := points ⟨n + 1, l⟩
    by_cases h : (n + 1) % 4 = 0
    · obtain hg | hg : (n + 1) / 4 = 1 ∨ (n + 1) / 4 = 2 := by simp only at hN; omega
      · exact first1 m c ⟨n + 1, l⟩ hg h a b
      · exact first2 m c ⟨n + 1, l⟩ hg h a b
    · have := ih (by omega) (by omega) a b
      have hg : grp ⟨n, by omega⟩ = grp ⟨n + 1, l⟩ := Fin.ext (by show n / 4 = (n + 1) / 4; omega)
      rw [hg, show n % 4 + 1 = (n + 1) % 4 by omega] at this
      obtain hg | hg | hg : (n + 1) / 4 = 0 ∨ (n + 1) / 4 = 1 ∨ (n + 1) / 4 = 2 := by simp only at hN; omega
      · exact next0 m c ⟨n + 1, l⟩ hg h e a b this
      · exact next1 m c ⟨n + 1, l⟩ hg h e a b this
      · exact next2 m c ⟨n + 1, l⟩ hg h e a b this

/-- What the last point of a branch finds. -/
theorem before (e : t.val % 4 = 3) (a : Fin 512) (b : Fin 1024) :
    (outsAt0 m c (t.val - 1) (Nat.lt_of_le_of_lt (Nat.sub_le _ _) t.isLt)).2 (ix2 a b) = upto (term m c (grp t) a b) (2048 * (t.val % 4)) := by
  have := carried m c (t.val - 1) (Nat.lt_of_le_of_lt (Nat.sub_le _ _) t.isLt) (by omega) a b
  have hg : grp ⟨t.val - 1, Nat.lt_of_le_of_lt (Nat.sub_le _ _) t.isLt⟩ = grp t := Fin.ext (by show (t.val - 1) / 4 = t.val / 4; omega)
  rwa [hg, show (t.val - 1) % 4 + 1 = t.val % 4 by omega] at this

/-- Column `b` of part `s` of the weight. -/
def at256 (s : Fin 4) (b : Fin 256) : Fin 1024 := ⟨256 * s.val + b.val, by omega⟩

theorem out5 (w : FVec Ideal S512x256 .f32) (a : Fin 512) (b : Fin 256) : k0_pay5 (F := Ideal) w (ix4 0 0 a b) = w (ix2 a b) := by
  unfold k0_pay5
  simp only [← ix2_eq_valueIdx, ← ix4_eq_valueIdx]; pointwise

theorem out6 (w : FVec Ideal S512x256 .f32) (a : Fin 512) (b : Fin 256) : k0_pay6 (F := Ideal) w (ix4 0 0 a b) = w (ix2 a b) := by
  unfold k0_pay6
  simp only [← ix2_eq_valueIdx, ← ix4_eq_valueIdx]; pointwise

theorem out7 (w : FVec Ideal S512x256 .f32) (a : Fin 512) (b : Fin 256) : k0_pay7 (F := Ideal) w (ix4 0 0 a b) = w (ix2 a b) := by
  unfold k0_pay7
  simp only [← ix2_eq_valueIdx, ← ix4_eq_valueIdx]; pointwise

theorem out8 (w : FVec Ideal S512x256 .f32) (a : Fin 512) (b : Fin 256) : k0_pay8 (F := Ideal) w (ix4 0 0 a b) = w (ix2 a b) := by
  unfold k0_pay8
  simp only [← ix2_eq_valueIdx, ← ix4_eq_valueIdx]; pointwise

/-- The block the last point of a branch writes. -/
theorem written0 (h : t.val / 4 = 0) (e : t.val % 4 = 3) (y : S4x1x512x256.Idx) (s : Fin 4) (a : Fin 512) (b : Fin 256) (es : (y 0).val = s.val)
    (ea : (y 2).val = a.val) (eb : (y 3).val = b.val) :
    (outsAt0 m c t.val t.isLt).1 y = ∑ k, term m c (grp t) a (at256 s b) k := by
  have hN := points t
  have hsum := add_block0 m c t h _ a (at256 s b) (before m c t e a (at256 s b))
  rw [show 2048 * (t.val % 4 + 1) = 8192 by omega, upto_all (term m c (grp t) a (at256 s b))] at hsum
  rw [← hsum]
  rw [outsAt0_C m c t (by omega) (by omega) (by omega) (by omega) e]
  frame_out
  simp only [read_unread_whole]
  generalize k0_pay2 (F := Ideal) (outsAt0 m c (t.val - 1) (Nat.lt_of_le_of_lt (Nat.sub_le _ _) t.isLt)).2 (iblk m c 0 t) (iblk m c 3 t) = v
  canon_tiles x h
  all_goals
    have hs := s.isLt
    obtain rfl : x = ix4 (0 : Fin 1) (0 : Fin 1) a b := ext4 (p := 0) (q := 0) (by show (x 0).val = 0; omega) (by show (x 1).val = 0; omega) (by omega) (by omega)
    rw [View.readCov_fill _ _ _ _ _ (by intro a; fin_cases a <;> rfl)]
    first
      | refine (out8 _ _ _).trans (View.ld_unit_apply_of _ _ _ _ _ _ fun j => ?_)
      | refine (out7 _ _ _).trans (View.ld_unit_apply_of _ _ _ _ _ _ fun j => ?_)
      | refine (out6 _ _ _).trans (View.ld_unit_apply_of _ _ _ _ _ _ fun j => ?_)
      | refine (out5 _ _ _).trans (View.ld_unit_apply_of _ _ _ _ _ _ fun j => ?_)
    match j with
    | ⟨0, _⟩ => exact (Nat.zero_add _).symm
    | ⟨1, _⟩ =>
      first
        | show 256 * s.val + b.val = 768 + b.val; omega
        | show 256 * s.val + b.val = 512 + b.val; omega
        | show 256 * s.val + b.val = 256 + b.val; omega
        | show 256 * s.val + b.val = 0 + b.val; omega

/-- The block the last point of a branch writes. -/
theorem written1 (h : t.val / 4 = 1) (e : t.val % 4 = 3) (y : S4x1x512x256.Idx) (s : Fin 4) (a : Fin 512) (b : Fin 256) (es : (y 0).val = s.val)
    (ea : (y 2).val = a.val) (eb : (y 3).val = b.val) :
    (outsAt0 m c t.val t.isLt).1 y = ∑ k, term m c (grp t) a (at256 s b) k := by
  have hN := points t
  have hsum := add_block1 m c t h _ a (at256 s b) (before m c t e a (at256 s b))
  rw [show 2048 * (t.val % 4 + 1) = 8192 by omega, upto_all (term m c (grp t) a (at256 s b))] at hsum
  rw [← hsum]
  rw [outsAt0_F m c t (by omega) (by omega) (by omega) (by omega) e]
  frame_out
  simp only [read_unread_whole]
  generalize k0_pay3 (F := Ideal) (outsAt0 m c (t.val - 1) (Nat.lt_of_le_of_lt (Nat.sub_le _ _) t.isLt)).2 (iblk m c 1 t) (iblk m c 3 t) = v
  canon_tiles x h
  all_goals
    have hs := s.isLt
    obtain rfl : x = ix4 (0 : Fin 1) (0 : Fin 1) a b := ext4 (p := 0) (q := 0) (by show (x 0).val = 0; omega) (by show (x 1).val = 0; omega) (by omega) (by omega)
    rw [View.readCov_fill _ _ _ _ _ (by intro a; fin_cases a <;> rfl)]
    first
      | refine (out8 _ _ _).trans (View.ld_unit_apply_of _ _ _ _ _ _ fun j => ?_)
      | refine (out7 _ _ _).trans (View.ld_unit_apply_of _ _ _ _ _ _ fun j => ?_)
      | refine (out6 _ _ _).trans (View.ld_unit_apply_of _ _ _ _ _ _ fun j => ?_)
      | refine (out5 _ _ _).trans (View.ld_unit_apply_of _ _ _ _ _ _ fun j => ?_)
    match j with
    | ⟨0, _⟩ => exact (Nat.zero_add _).symm
    | ⟨1, _⟩ =>
      first
        | show 256 * s.val + b.val = 768 + b.val; omega
        | show 256 * s.val + b.val = 512 + b.val; omega
        | show 256 * s.val + b.val = 256 + b.val; omega
        | show 256 * s.val + b.val = 0 + b.val; omega

/-- The block the last point of a branch writes. -/
theorem written2 (h : t.val / 4 = 2) (e : t.val % 4 = 3) (y : S4x1x512x256.Idx) (s : Fin 4) (a : Fin 512) (b : Fin 256) (es : (y 0).val = s.val)
    (ea : (y 2).val = a.val) (eb : (y 3).val = b.val) :
    (outsAt0 m c t.val t.isLt).1 y = ∑ k, term m c (grp t) a (at256 s b) k := by
  have hN := points t
  have hsum := add_block2 m c t h _ a (at256 s b) (before m c t e a (at256 s b))
  rw [show 2048 * (t.val % 4 + 1) = 8192 by omega, upto_all (term m c (grp t) a (at256 s b))] at hsum
  rw [← hsum]
  rw [outsAt0_I m c t (by omega) (by omega) (by omega) (by omega) e]
  frame_out
  simp only [read_unread_whole]
  generalize k0_pay4 (F := Ideal) (outsAt0 m c (t.val - 1) (Nat.lt_of_le_of_lt (Nat.sub_le _ _) t.isLt)).2 (iblk m c 2 t) (iblk m c 3 t) = v
  canon_tiles x h
  all_goals
    have hs := s.isLt
    obtain rfl : x = ix4 (0 : Fin 1) (0 : Fin 1) a b := ext4 (p := 0) (q := 0) (by show (x 0).val = 0; omega) (by show (x 1).val = 0; omega) (by omega) (by omega)
    rw [View.readCov_fill _ _ _ _ _ (by intro a; fin_cases a <;> rfl)]
    first
      | refine (out8 _ _ _).trans (View.ld_unit_apply_of _ _ _ _ _ _ fun j => ?_)
      | refine (out7 _ _ _).trans (View.ld_unit_apply_of _ _ _ _ _ _ fun j => ?_)
      | refine (out6 _ _ _).trans (View.ld_unit_apply_of _ _ _ _ _ _ fun j => ?_)
      | refine (out5 _ _ _).trans (View.ld_unit_apply_of _ _ _ _ _ _ fun j => ?_)
    match j with
    | ⟨0, _⟩ => exact (Nat.zero_add _).symm
    | ⟨1, _⟩ =>
      first
        | show 256 * s.val + b.val = 768 + b.val; omega
        | show 256 * s.val + b.val = 512 + b.val; omega
        | show 256 * s.val + b.val = 256 + b.val; omega
        | show 256 * s.val + b.val = 0 + b.val; omega

theorem written (e : t.val % 4 = 3) (y : S4x1x512x256.Idx) (s : Fin 4) (a : Fin 512) (b : Fin 256) (es : (y 0).val = s.val)
    (ea : (y 2).val = a.val) (eb : (y 3).val = b.val) :
    (outsAt0 m c t.val t.isLt).1 y = ∑ k, term m c (grp t) a (at256 s b) k := by
  have hN := points t
  obtain hg | hg | hg : t.val / 4 = 0 ∨ t.val / 4 = 1 ∨ t.val / 4 = 2 := by omega
  · exact written0 m c t hg e y s a b es ea eb
  · exact written1 m c t hg e y s a b es ea eb
  · exact written2 m c t hg e y s a b es ea eb

open Cert.Reference11Ideal.Read in
theorem ref0 (s : Fin 4) (a : Fin 512) (b : Fin 256) :
    val_main_v27 (F := Ideal) (Y0 m c) (B m c) (ix4 s 0 a b) = ∑ k, term m c 0 a (at256 s b) k := by
  rw [val_main_v27_apply, val_main_v8_apply, val_main_v7_apply, val_main_v6_apply, val_main_v5_apply]
  refine Finset.sum_congr rfl fun k _ => ?_
  rw [val_main_v4_apply, val_main_v3_apply, val_main_v1_apply]
  show B m c _ * Y0 m c _ = Y0 m c _ * B m c _
  rw [mul_comm]
  refine congrArg₂ (fun u v : EReal => u * v) (congrArg (Y0 m c) (ext2 ?_ ?_)) (congrArg (B m c) (ext2 ?_ ?_))
  all_goals have := a.isLt; have := b.isLt; have := k.isLt; have := s.isLt; simp [c4_0, c4_1, c4_2, c4_3, col, at256]; try omega

open Cert.Reference11Ideal.Read in
theorem ref1 (s : Fin 4) (a : Fin 512) (b : Fin 256) :
    val_main_v28 (F := Ideal) (Y1 m c) (B m c) (ix4 s 0 a b) = ∑ k, term m c 1 a (at256 s b) k := by
  rw [val_main_v28_apply, val_main_v17_apply, val_main_v16_apply, val_main_v15_apply, val_main_v14_apply]
  refine Finset.sum_congr rfl fun k _ => ?_
  rw [val_main_v13_apply, val_main_v12_apply, val_main_v10_apply]
  show B m c _ * Y1 m c _ = Y1 m c _ * B m c _
  rw [mul_comm]
  refine congrArg₂ (fun u v : EReal => u * v) (congrArg (Y1 m c) (ext2 ?_ ?_)) (congrArg (B m c) (ext2 ?_ ?_))
  all_goals have := a.isLt; have := b.isLt; have := k.isLt; have := s.isLt; simp [c4_0, c4_1, c4_2, c4_3, col, at256]; try omega

open Cert.Reference11Ideal.Read in
theorem ref2 (s : Fin 4) (a : Fin 512) (b : Fin 256) :
    val_main_v29 (F := Ideal) (Y2 m c) (B m c) (ix4 s 0 a b) = ∑ k, term m c 2 a (at256 s b) k := by
  rw [val_main_v29_apply, val_main_v26_apply, val_main_v25_apply, val_main_v24_apply, val_main_v23_apply]
  refine Finset.sum_congr rfl fun k _ => ?_
  rw [val_main_v22_apply, val_main_v21_apply, val_main_v19_apply]
  show B m c _ * Y2 m c _ = Y2 m c _ * B m c _
  rw [mul_comm]
  refine congrArg₂ (fun u v : EReal => u * v) (congrArg (Y2 m c) (ext2 ?_ ?_)) (congrArg (B m c) (ext2 ?_ ?_))
  all_goals have := a.isLt; have := b.isLt; have := k.isLt; have := s.isLt; simp [c4_0, c4_1, c4_2, c4_3, col, at256]; try omega

open Cert.Reference11Ideal.Read in
/-- The reference's entry. -/
theorem ref_at (s : Fin 4) (p : Fin 3) (a : Fin 512) (b : Fin 256) :
    val_main_v31 (F := Ideal) (Y0 m c) (Y1 m c) (Y2 m c) (B m c) (ix4 s p a b) = ∑ k, term m c p a (at256 s b) k := by
  rw [val_main_v31_apply]
  show val_main_v30 (F := Ideal) _ _ _ _ _ = _
  unfold val_main_v30
  concat_tiles i h
  all_goals
    obtain rfl : i = ix4 s (0 : Fin 1) a b := ext4 (q := 0) (by assumption) (by show (i 1).val = 0; have : (i 1).val < 1 := (i 1).isLt; omega) (by assumption) (by assumption)
  · obtain rfl : p = 0 := Fin.ext h
    exact ref0 m c s a b
  · obtain rfl : p = 1 := Fin.ext h
    exact ref1 m c s a b
  · obtain rfl : p = 2 := Fin.ext h
    exact ref2 m c s a b

/-- The result array after the run. -/
theorem final : (dats m 0 c).arrAt 4 cfg0.N = (Cert.Reference11Ideal.Read.val_main_v31 (F := Ideal) (Y0 m c) (Y1 m c) (Y2 m c) (B m c) : FVec Ideal S4x3x512x256 .bf16) := by
  refine (dats m 0 c).arrAt_eq_of_cover 4 _ (fun t hf => ?_) (fun i => (Value.covered_iff4 i).2 (by
    have h0 : (i 0).val < 4 := (i 0).isLt; have h1 : (i 1).val < 3 := (i 1).isLt; have h2 : (i 2).val < 512 := (i 2).isLt
    have h3 : (i 3).val < 256 := (i 3).isLt; omega))
  have e : t.val % 4 = 3 := (flush0_4 t).mp hf
  funext y
  rw [Value.flushed4]
  have h0 : (y 0).val < 4 := (y 0).isLt
  have h1 : (y 1).val < 1 := (y 1).isLt
  have h2 : (y 2).val < 512 := (y 2).isLt
  have h3 : (y 3).val < 256 := (y 3).isLt
  refine (written m c t e ((cfg0.win 4).xinj (grid0.coords t) y) ⟨(y 0).val, h0⟩ ⟨(y 2).val, h2⟩ ⟨(y 3).val, h3⟩ rfl rfl rfl).trans ?_
  rw [← ref_at m c ⟨(y 0).val, h0⟩ (grp t) ⟨(y 2).val, h2⟩ ⟨(y 3).val, h3⟩]
  refine congrArg (Cert.Reference11Ideal.Read.val_main_v31 (F := Ideal) (Y0 m c) (Y1 m c) (Y2 m c) (B m c)) (ext4 ?_ ?_ ?_ ?_).symm <;>
    · blk_simp [idx t]; try simp [grp]; try omega

end Step.BranchWeight
-- ==== Proof.Step.Claim11.lean ====
/-
  The weight gradient of the branch projections: the claims of the pair of programs.
-/
module

public import proofs.«01_k».proof.Defs
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Step.BranchWeight
public import Idealize.ShloMosaic.Lib.Claim
public import Idealize.ShloMosaic.Adequacy
public import Idealize.ShloMosaic.Init

@[expose] public section

set_option maxRecDepth 16384

noncomputable section

namespace Step.Claim11

open Idealize.ShloMosaic Idealize.SL.Sem

/-- The reference ends with its arguments unchanged and every counter at zero. -/
theorem quiescent_reference11 (m : (ℓ : Loc Cert.Reference11Ideal.nD Cert.Reference11Ideal.τ Cert.Reference11Ideal.sig) → Buf (Elt Ideal) ℓ)
    (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0) :=
  (θ_run _ _ _).mono (fun r h => ⟨fun c => (h c).2, sem_eq_zero_of_no_sems (by decide) r.2⟩) (Cert.Reference11Ideal.Value.run m g)

/-- Kernel and reference leave the same arrays. -/
theorem algebraic11 : Cert.algebraic_Kernel11Ideal_Reference11Ideal (hKernel11Ideal := Cert.Kernel11Ideal.Gen.facts) (hReference11Ideal := Cert.Reference11Ideal.Gen.facts) := by
  intro m g m' g' _ hagree
  refine ⟨fun c => Cert.Reference11Ideal.Read.val_main_v31 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)), ?_, ?_⟩
  · exact (θ_run _ _ _).mono (fun r h c => ⟨(h c).1.trans (Step.BranchWeight.final m c), (h c).2⟩) (Cert.Kernel11Ideal.Value.run_blocks m g)
  · refine (θ_run _ _ _).mono (fun r h c => ⟨(h c).1.trans ((Cert.Reference11Ideal.Read.val_main_v31_eq ..).trans ?_), (h c).2⟩) (Cert.Reference11Ideal.Value.run m' g')
    show Cert.Reference11Ideal.Read.val_main_v31 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) = _
    rw [(hagree c).1, (hagree c).2.1, (hagree c).2.2.1, (hagree c).2.2.2]

end Step.Claim11

end
-- ==== Proof.Step.MergeBack.lean ====
/-
  The gradient of the merge: the kernel takes the gradient at the output back through the output projection once, and
  gives for each branch the gradient at its projection, at its gate and at the branch itself.
-/
module

public import proofs.«01_k».proof.Proof.Gen.Kernel12Ideal.Frame
public import proofs.«01_k».proof.Proof.Gen.Reference12Ideal.Read
public import proofs.«01_k».proof.Proof.Step.Merge
public import Idealize.ShloMosaic.Lib.Claim

@[expose] public section

set_option maxRecDepth 16384

noncomputable section

open scoped BigOperators
open Idealize.ShloMosaic hiding ix0 ix1 ix2 ix3 ix4
open Idealize.ShloMosaic.ValueIdx (ix1 ix2 ix3 ix4)
open Idealize.ShloMosaic.TcCoe Idealize.SL.Sem

namespace Step.MergeBack

open Cert.Kernel12Ideal Cert.Kernel12Ideal.Gen
open Step.Merge (gate col side0 side1 side2)

/-! ## The gradient as functions of its arrays -/

/-- The column that holds an entry of a branch, of three branches side by side. -/
def side (p : Fin 3) (d : Fin 1024) : Fin 3072 := ⟨1024 * p.val + d.val, by omega⟩

section Maths
variable (X : FVec Ideal S8192x1024 .f32) (B : FVec Ideal S8192x8192 .bf16) (P : FVec Ideal S8192x3072 .bf16)
variable (W : FVec Ideal S3x512x1024 .bf16) (O : FVec Ideal S1024x1024 .bf16)

/-- The gradient at the gated sum. -/
def dsum (r : Fin 8192) (k : Fin 1024) : EReal := ∑ d : Fin 1024, X (ix2 r d) * O (ix2 k d)
/-- The gradient at a branch's projection. -/
def dproj (r : Fin 8192) (p : Fin 3) (d : Fin 1024) : EReal := dsum X O r d * gate (B (ix2 r (col p d)))
/-- The gradient at a branch's gate, before the logistic function. -/
def dgate (r : Fin 8192) (p : Fin 3) (d : Fin 1024) : EReal :=
  dsum X O r d * P (ix2 r (side p d)) * gate (B (ix2 r (col p d))) * (Ideal.ofBits .f32 0x3F800000#32 - gate (B (ix2 r (col p d))))
/-- The gradient at a branch. -/
def dbranch (r : Fin 8192) (p : Fin 3) (k : Fin 512) : EReal := ∑ d : Fin 1024, dproj X B O r p d * W (ix3 p k d)

end Maths

/-! ## The kernel's stores at an index -/

theorem dsum_at (x : FVec Ideal S512x1024 .f32) (o : FVec Ideal S1024x1024 .bf16) (a : Fin 512) (k : Fin 1024) :
    k0_pay6 (F := Ideal) x o (ix2 a k) = ∑ d : Fin 1024, x (ix2 a d) * o (ix2 k d) := by
  unfold k0_pay6 k0_pay5
  simp only [← ix2_eq_valueIdx, ← ix3_eq_valueIdx]; pointwise

theorem gate7_at (g : FVec Ideal S512x1024 .bf16) (a : Fin 512) (d : Fin 1024) : k0_pay7 (F := Ideal) g (ix2 a d) = gate (g (ix2 a d)) := by
  unfold gate
  rw [← sigmoid_eq]
  unfold k0_pay7
  simp only [← ix2_eq_valueIdx, ← ix3_eq_valueIdx]; pointwise

theorem gate11_at (g : FVec Ideal S512x1024 .bf16) (a : Fin 512) (d : Fin 1024) : k0_pay11 (F := Ideal) g (ix2 a d) = gate (g (ix2 a d)) := by
  unfold gate
  rw [← sigmoid_eq]
  unfold k0_pay11
  simp only [← ix2_eq_valueIdx, ← ix3_eq_valueIdx]; pointwise

theorem gate1_at (g : FVec Ideal S512x1024 .bf16) (a : Fin 512) (d : Fin 1024) :
    k0_pay1 (F := Ideal) (k0_pay15 (F := Ideal) g) (Scalar.ofBits .f32 0x3F000000#32) (ix2 a d) = gate (g (ix2 a d)) := by
  unfold gate
  rw [← sigmoid_eq]
  unfold k0_pay1 k0_pay15
  simp only [← ix2_eq_valueIdx, ← ix3_eq_valueIdx]; pointwise

theorem branch10_at (x : FVec Ideal S512x1024 .f32) (o : FVec Ideal S1024x1024 .bf16) (g : FVec Ideal S512x1024 .bf16) (w : FVec Ideal S1x512x1024 .bf16)
    (a k : Fin 512) : k0_pay10 (F := Ideal) x o g w (ix2 a k) = ∑ d : Fin 1024, k0_pay8 (F := Ideal) x o g (ix2 a d) * w (ix3 0 k d) := by
  unfold k0_pay10
  generalize k0_pay8 (F := Ideal) x o g = q
  simp only [← ix2_eq_valueIdx, ← ix3_eq_valueIdx]; pointwise

theorem branch14_at (v : FVec Ideal S512x1024 .f32) (g : FVec Ideal S512x1024 .bf16) (w : FVec Ideal S1x512x1024 .bf16)
    (a k : Fin 512) : k0_pay14 (F := Ideal) v g w (ix2 a k) = ∑ d : Fin 1024, k0_pay12 (F := Ideal) v g (ix2 a d) * w (ix3 0 k d) := by
  unfold k0_pay14
  generalize k0_pay12 (F := Ideal) v g = q
  simp only [← ix2_eq_valueIdx, ← ix3_eq_valueIdx]; pointwise

theorem branch4_at (v u : FVec Ideal S512x1024 .f32) (z : Ideal .f32) (w : FVec Ideal S1x512x1024 .bf16)
    (a k : Fin 512) : k0_pay4 (F := Ideal) v u z w (ix2 a k) = ∑ d : Fin 1024, k0_pay2 (F := Ideal) v u z (ix2 a d) * w (ix3 0 k d) := by
  unfold k0_pay4
  generalize k0_pay2 (F := Ideal) v u z = q
  simp only [← ix2_eq_valueIdx, ← ix3_eq_valueIdx]; pointwise

/-! ## The blocks of a grid point -/

theorem points (t : Fin cfg0.N) : t.val < 16 := t.isLt

theorem idx : ∀ t : Fin cfg0.N, win0_0.index t = ![t.val, 0] ∧ win0_1.index t = ![t.val, 0] ∧ win0_2.index t = ![t.val, 0] ∧ win0_3.index t = ![0, 0, 0]
    ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, win0_0.index t = ![t.val, 0] ∧ win0_1.index t = ![t.val, 0] ∧ win0_2.index t = ![t.val, 0] ∧ win0_3.index t = ![0, 0, 0]
    ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0])

/-- The row a point works on. -/
def row (t : Fin cfg0.N) (a : Fin 512) : Fin 8192 := ⟨512 * t.val + a.val, by have := points t; omega⟩

variable (m : (ℓ : Loc nD τ sig) → Buf (Elt Ideal) ℓ) (c : Dev nD) (t : Fin cfg0.N)

abbrev X : FVec Ideal S8192x1024 .f32 := m ((c : Thread nD τ).loc main_arg0)
abbrev B : FVec Ideal S8192x8192 .bf16 := m ((c : Thread nD τ).loc main_arg1)
abbrev P : FVec Ideal S8192x3072 .bf16 := m ((c : Thread nD τ).loc main_arg2)
abbrev W : FVec Ideal S3x512x1024 .bf16 := m ((c : Thread nD τ).loc main_arg3)
abbrev O : FVec Ideal S1024x1024 .bf16 := m ((c : Thread nD τ).loc main_arg4)

theorem x_at (a : Fin 512) (d : Fin 1024) : (iblk m c 0 t : FVec Ideal S512x1024 .f32) (ix2 a d) = X m c (ix2 (row t a) d) := by
  unfold X
  rw [← Gen.V_main_arg0 m c]
  refine congrArg (Gen.V m c main_arg0) (ext2 (p := row t a) (q := d) ?_ ?_) <;>
    · blk_simp [idx t]; try simp [row]; try omega

theorem b_at (a : Fin 512) (e : Fin 3072) (j : Fin 8192) (hj : j.val = e.val) :
    (X0_1 m c t : FVec Ideal S512x3072 .bf16) (ix2 a e) = B m c (ix2 (row t a) j) := by
  unfold B
  rw [← Gen.V_main_arg1 m c]
  unfold X0_1 Pipeline.Window.fill
  rw [dif_pos (moved0_1 t _)]
  refine congrArg (Gen.V m c main_arg1) (ext2 (p := row t a) (q := j) ?_ ?_) <;>
    · blk_simp [idx t]; try simp [row, hj]; try omega

theorem p_at (a : Fin 512) (e : Fin 3072) : (iblk m c 2 t : FVec Ideal S512x3072 .bf16) (ix2 a e) = P m c (ix2 (row t a) e) := by
  unfold P
  rw [← Gen.V_main_arg2 m c]
  refine congrArg (Gen.V m c main_arg2) (ext2 (p := row t a) (q := e) ?_ ?_) <;>
    · blk_simp [idx t]; try simp [row]; try omega

theorem w_at (p : Fin 3) (k : Fin 512) (d : Fin 1024) : (iblk m c 3 t : FVec Ideal S3x512x1024 .bf16) (ix3 p k d) = W m c (ix3 p k d) := by
  unfold W
  rw [← Gen.V_main_arg3 m c]
  refine congrArg (Gen.V m c main_arg3) (ext3 (p := p) (q := k) (r := d) ?_ ?_ ?_) <;>
    · blk_simp [idx t]; try simp; try omega

theorem o_at (k d : Fin 1024) : (iblk m c 4 t : FVec Ideal S1024x1024 .bf16) (ix2 k d) = O m c (ix2 k d) := by
  unfold O
  rw [← Gen.V_main_arg4 m c]
  refine congrArg (Gen.V m c main_arg4) (ext2 (p := k) (q := d) ?_ ?_) <;>
    · blk_simp [idx t]; try simp; try omega

/-- A branch's columns, read out of a block of three branches. -/
theorem cols_at (x : Vec Ideal S512x3072 .bf16) (p : Fin 3) (o : ℕ) (ho : o = 1024 * p.val)
    (h : ∀ a, (![0, o] : Fin 2 → Nat) a + S512x1024.size a ≤ S512x3072.size a) (a : Fin 512) (d : Fin 1024) :
    (View.ld (Val := Elt Ideal) (e' := .bf16) x (Rect.unit (s := S512x3072) ![0, o] S512x1024.size h) : FVec Ideal S512x1024 .bf16) (ix2 a d) = x (ix2 a (side p d)) := by
  refine View.ld_unit_apply_of _ _ _ _ _ _ fun j => ?_
  match j with
  | ⟨0, _⟩ => exact (Nat.zero_add _).symm
  | ⟨1, _⟩ => show 1024 * p.val + d.val = o + d.val; rw [ho]

/-- A branch's matrix, read out of the block of the three matrices. -/
theorem mat_at (x : Vec Ideal S3x512x1024 .bf16) (p : Fin 3) (o : ℕ) (ho : o = p.val)
    (h : ∀ a, (![o, 0, 0] : Fin 3 → Nat) a + S1x512x1024.size a ≤ S3x512x1024.size a) (k : Fin 512) (d : Fin 1024) :
    (View.ld (Val := Elt Ideal) (e' := .bf16) x (Rect.unit (s := S3x512x1024) ![o, 0, 0] S1x512x1024.size h) : FVec Ideal S1x512x1024 .bf16) (ix3 0 k d) = x (ix3 p k d) := by
  refine View.ld_unit_apply_of _ _ _ _ _ _ fun j => ?_
  match j with
  | ⟨0, _⟩ => exact ho.symm
  | ⟨1, _⟩ => exact (Nat.zero_add _).symm
  | ⟨2, _⟩ => exact (Nat.zero_add _).symm

/-- Branch 0's gates, as the body reads them. -/
abbrev g0 : FVec Ideal S512x1024 .bf16 := View.ld (X0_1 m c t) (Rect.unit (s := S512x3072) ![0, 0] S512x1024.size inb_S512x3072_S512x1024_0_0)
/-- Branch 1's gates, as the body reads them. -/
abbrev g1 : FVec Ideal S512x1024 .bf16 := View.ld (X0_1 m c t) (Rect.unit (s := S512x3072) ![0, 1024] S512x1024.size inb_S512x3072_S512x1024_0_1024)
/-- Branch 2's gates, as the body reads them. -/
abbrev g2 : FVec Ideal S512x1024 .bf16 := View.ld (X0_1 m c t) (Rect.unit (s := S512x3072) ![0, 2048] S512x1024.size inb_S512x3072_S512x1024_0_2048)
/-- Branch 0's projection, as the body reads it. -/
abbrev p0 : FVec Ideal S512x1024 .bf16 := View.ld (iblk m c 2 t) (Rect.unit (s := S512x3072) ![0, 0] S512x1024.size inb_S512x3072_S512x1024_0_0)
/-- Branch 1's projection, as the body reads it. -/
abbrev p1 : FVec Ideal S512x1024 .bf16 := View.ld (iblk m c 2 t) (Rect.unit (s := S512x3072) ![0, 1024] S512x1024.size inb_S512x3072_S512x1024_0_1024)
/-- Branch 2's projection, as the body reads it. -/
abbrev p2 : FVec Ideal S512x1024 .bf16 := View.ld (iblk m c 2 t) (Rect.unit (s := S512x3072) ![0, 2048] S512x1024.size inb_S512x3072_S512x1024_0_2048)
/-- Branch 0's matrix, as the body reads it. -/
abbrev w0 : FVec Ideal S1x512x1024 .bf16 := View.ld (iblk m c 3 t) (Rect.unit (s := S3x512x1024) ![0, 0, 0] S1x512x1024.size inb_S3x512x1024_S1x512x1024_0_0_0)
/-- Branch 1's matrix, as the body reads it. -/
abbrev w1 : FVec Ideal S1x512x1024 .bf16 := View.ld (iblk m c 3 t) (Rect.unit (s := S3x512x1024) ![1, 0, 0] S1x512x1024.size inb_S3x512x1024_S1x512x1024_1_0_0)
/-- Branch 2's matrix, as the body reads it. -/
abbrev w2 : FVec Ideal S1x512x1024 .bf16 := View.ld (iblk m c 3 t) (Rect.unit (s := S3x512x1024) ![2, 0, 0] S1x512x1024.size inb_S3x512x1024_S1x512x1024_2_0_0)

theorem g0_at (a : Fin 512) (d : Fin 1024) : g0 m c t (ix2 a d) = B m c (ix2 (row t a) (col 0 d)) :=
  (cols_at _ 0 0 rfl _ a d).trans (b_at m c t a (side 0 d) (col 0 d) rfl)
theorem g1_at (a : Fin 512) (d : Fin 1024) : g1 m c t (ix2 a d) = B m c (ix2 (row t a) (col 1 d)) :=
  (cols_at _ 1 1024 rfl _ a d).trans (b_at m c t a (side 1 d) (col 1 d) rfl)
theorem g2_at (a : Fin 512) (d : Fin 1024) : g2 m c t (ix2 a d) = B m c (ix2 (row t a) (col 2 d)) :=
  (cols_at _ 2 2048 rfl _ a d).trans (b_at m c t a (side 2 d) (col 2 d) rfl)
theorem p0_at (a : Fin 512) (d : Fin 1024) : p0 m c t (ix2 a d) = P m c (ix2 (row t a) (side 0 d)) :=
  (cols_at _ 0 0 rfl _ a d).trans (p_at m c t a _)
theorem p1_at (a : Fin 512) (d : Fin 1024) : p1 m c t (ix2 a d) = P m c (ix2 (row t a) (side 1 d)) :=
  (cols_at _ 1 1024 rfl _ a d).trans (p_at m c t a _)
theorem p2_at (a : Fin 512) (d : Fin 1024) : p2 m c t (ix2 a d) = P m c (ix2 (row t a) (side 2 d)) :=
  (cols_at _ 2 2048 rfl _ a d).trans (p_at m c t a _)
theorem w0_at (k : Fin 512) (d : Fin 1024) : w0 m c t (ix3 0 k d) = W m c (ix3 0 k d) :=
  (mat_at _ 0 0 rfl _ k d).trans (w_at m c t 0 k d)
theorem w1_at (k : Fin 512) (d : Fin 1024) : w1 m c t (ix3 0 k d) = W m c (ix3 1 k d) :=
  (mat_at _ 1 1 rfl _ k d).trans (w_at m c t 1 k d)
theorem w2_at (k : Fin 512) (d : Fin 1024) : w2 m c t (ix3 0 k d) = W m c (ix3 2 k d) :=
  (mat_at _ 2 2 rfl _ k d).trans (w_at m c t 2 k d)

/-- The gradient at the gated sum, as the body forms it. -/
abbrev dsums : FVec Ideal S512x1024 .f32 := k0_pay6 (F := Ideal) (iblk m c 0 t) (iblk m c 4 t)
/-- Half the tangent of half the last branch's gates, and the half the body adds to it. -/
abbrev half2 : FVec Ideal S512x1024 .f32 := k0_pay15 (F := Ideal) (g2 m c t)
abbrev half : Ideal .f32 := Scalar.ofBits .f32 0x3F000000#32

theorem dsum_block (a : Fin 512) (d : Fin 1024) : dsums m c t (ix2 a d) = dsum (X m c) (O m c) (row t a) d := by
  refine (dsum_at _ _ a d).trans ?_
  exact Finset.sum_congr rfl fun k _ => congrArg₂ (fun u v : EReal => u * v) (x_at m c t a k) (o_at m c t d k)

theorem gate0_block (a : Fin 512) (d : Fin 1024) : k0_pay7 (F := Ideal) (g0 m c t) (ix2 a d) = gate (B m c (ix2 (row t a) (col 0 d))) :=
  (gate7_at _ a d).trans (congrArg gate (g0_at m c t a d))
theorem gate1_block (a : Fin 512) (d : Fin 1024) : k0_pay11 (F := Ideal) (g1 m c t) (ix2 a d) = gate (B m c (ix2 (row t a) (col 1 d))) :=
  (gate11_at _ a d).trans (congrArg gate (g1_at m c t a d))
theorem gate2_block (a : Fin 512) (d : Fin 1024) : k0_pay1 (F := Ideal) (half2 m c t) half (ix2 a d) = gate (B m c (ix2 (row t a) (col 2 d))) :=
  (gate1_at _ a d).trans (congrArg gate (g2_at m c t a d))

theorem dproj0_block (a : Fin 512) (d : Fin 1024) : k0_pay8 (F := Ideal) (iblk m c 0 t) (iblk m c 4 t) (g0 m c t) (ix2 a d)
    = dproj (X m c) (B m c) (O m c) (row t a) 0 d :=
  congrArg₂ (fun u v : EReal => u * v) (dsum_block m c t a d) (gate0_block m c t a d)
theorem dproj1_block (a : Fin 512) (d : Fin 1024) : k0_pay12 (F := Ideal) (dsums m c t) (g1 m c t) (ix2 a d)
    = dproj (X m c) (B m c) (O m c) (row t a) 1 d :=
  congrArg₂ (fun u v : EReal => u * v) (dsum_block m c t a d) (gate1_block m c t a d)
theorem dproj2_block (a : Fin 512) (d : Fin 1024) : k0_pay2 (F := Ideal) (dsums m c t) (half2 m c t) half (ix2 a d)
    = dproj (X m c) (B m c) (O m c) (row t a) 2 d :=
  congrArg₂ (fun u v : EReal => u * v) (dsum_block m c t a d) (gate2_block m c t a d)

theorem dgate_of {s p g s' p' g' : EReal} (hs : s = s') (hp : p = p') (hg : g = g') :
    s * p * g * (Ideal.ofBits .f32 0x3F800000#32 - g) = s' * p' * g' * (Ideal.ofBits .f32 0x3F800000#32 - g') := by
  rw [hs, hp, hg]

theorem dgate0_block (a : Fin 512) (d : Fin 1024) : k0_pay9 (F := Ideal) (iblk m c 0 t) (iblk m c 4 t) (g0 m c t) (p0 m c t) (ix2 a d)
    = dgate (X m c) (B m c) (P m c) (O m c) (row t a) 0 d :=
  dgate_of (dsum_block m c t a d) (p0_at m c t a d) (gate0_block m c t a d)
theorem dgate1_block (a : Fin 512) (d : Fin 1024) : k0_pay13 (F := Ideal) (dsums m c t) (g1 m c t) (p1 m c t) (ix2 a d)
    = dgate (X m c) (B m c) (P m c) (O m c) (row t a) 1 d :=
  dgate_of (dsum_block m c t a d) (p1_at m c t a d) (gate1_block m c t a d)
theorem dgate2_block (a : Fin 512) (d : Fin 1024) : k0_pay3 (F := Ideal) (dsums m c t) (half2 m c t) half (p2 m c t) (ix2 a d)
    = dgate (X m c) (B m c) (P m c) (O m c) (row t a) 2 d :=
  dgate_of (dsum_block m c t a d) (p2_at m c t a d) (gate2_block m c t a d)

theorem out_x (a : Fin 512) (d : Fin 1024) : (outsAt0 m c t).2.2.2.2.2 (ix2 a d) = X m c (ix2 (row t a) d) := by
  rw [← x_at]
  show _ = k0_pay5 (F := Ideal) (iblk m c 0 t) (ix2 a d)
  refine congrFun ?_ _
  unfold outsAt0
  frame_out
  try rfl

theorem out_branch0 (a k : Fin 512) : (outsAt0 m c t).2.2.1 (ix2 a k) = dbranch (X m c) (B m c) (W m c) (O m c) (row t a) 0 k := by
  have h : (outsAt0 m c t).2.2.1 = k0_pay10 (F := Ideal) (iblk m c 0 t) (iblk m c 4 t) (g0 m c t) (w0 m c t) := by
    unfold outsAt0
    frame_out
    try rfl
  rw [h, branch10_at]
  exact Finset.sum_congr rfl fun d _ => congrArg₂ (fun u v : EReal => u * v) (dproj0_block m c t a d) (w0_at m c t k d)

theorem out_branch1 (a k : Fin 512) : (outsAt0 m c t).2.2.2.1 (ix2 a k) = dbranch (X m c) (B m c) (W m c) (O m c) (row t a) 1 k := by
  have h : (outsAt0 m c t).2.2.2.1 = k0_pay14 (F := Ideal) (dsums m c t) (g1 m c t) (w1 m c t) := by
    unfold outsAt0
    frame_out
    try rfl
  rw [h, branch14_at]
  exact Finset.sum_congr rfl fun d _ => congrArg₂ (fun u v : EReal => u * v) (dproj1_block m c t a d) (w1_at m c t k d)

theorem out_branch2 (a k : Fin 512) : (outsAt0 m c t).2.2.2.2.1 (ix2 a k) = dbranch (X m c) (B m c) (W m c) (O m c) (row t a) 2 k := by
  have h : (outsAt0 m c t).2.2.2.2.1 = k0_pay4 (F := Ideal) (dsums m c t) (half2 m c t) half (w2 m c t) := by
    unfold outsAt0
    frame_out
    try rfl
  rw [h, branch4_at]
  exact Finset.sum_congr rfl fun d _ => congrArg₂ (fun u v : EReal => u * v) (dproj2_block m c t a d) (w2_at m c t k d)

theorem out_proj (y : S512x3072.Idx) (a : Fin 512) (p : Fin 3) (d : Fin 1024) (ea : (y 0).val = a.val) (ed : (y 1).val = 1024 * p.val + d.val) :
    (outsAt0 m c t).1 y = dproj (X m c) (B m c) (O m c) (row t a) p d := by
  unfold outsAt0
  frame_out
  canon_tiles x h
  all_goals
    have hd := d.isLt
    have hx : (x 1).val < 1024 := (x 1).isLt
    obtain rfl : x = ix2 a d := ext2 (by omega) (by omega)
    replace h1 := h1.symm.trans ed
  · obtain rfl : p = 2 := Fin.ext (by show p.val = 2; replace h1 : 2048 + d.val = 1024 * p.val + d.val := h1; omega)
    exact dproj2_block m c t a d
  · obtain rfl : p = 1 := Fin.ext (by show p.val = 1; replace h1 : 1024 + d.val = 1024 * p.val + d.val := h1; omega)
    exact dproj1_block m c t a d
  · obtain rfl : p = 0 := Fin.ext (by show p.val = 0; replace h1 : d.val = 1024 * p.val + d.val := h1; omega)
    exact dproj0_block m c t a d

theorem out_gate (y : S512x3072.Idx) (a : Fin 512) (p : Fin 3) (d : Fin 1024) (ea : (y 0).val = a.val) (ed : (y 1).val = 1024 * p.val + d.val) :
    (outsAt0 m c t).2.1 y = dgate (X m c) (B m c) (P m c) (O m c) (row t a) p d := by
  unfold outsAt0
  frame_out
  canon_tiles x h
  all_goals
    have hd := d.isLt
    have hx : (x 1).val < 1024 := (x 1).isLt
    obtain rfl : x = ix2 a d := ext2 (by omega) (by omega)
    replace h1 := h1.symm.trans ed
  · obtain rfl : p = 2 := Fin.ext (by show p.val = 2; replace h1 : 2048 + d.val = 1024 * p.val + d.val := h1; omega)
    exact dgate2_block m c t a d
  · obtain rfl : p = 1 := Fin.ext (by show p.val = 1; replace h1 : 1024 + d.val = 1024 * p.val + d.val := h1; omega)
    exact dgate1_block m c t a d
  · obtain rfl : p = 0 := Fin.ext (by show p.val = 0; replace h1 : d.val = 1024 * p.val + d.val := h1; omega)
    exact dgate0_block m c t a d

/-! ## The reference at an index -/

section
open Cert.Reference12Ideal.Read

variable (X : FVec Ideal S8192x1024 .f32) (B : FVec Ideal S8192x8192 .bf16) (P : FVec Ideal S8192x3072 .bf16)
variable (W : FVec Ideal S3x512x1024 .bf16) (O : FVec Ideal S1024x1024 .bf16)

theorem ref_gate0 (r : Fin 8192) (d : Fin 1024) : val_main_v17 (F := Ideal) B (ix2 r d) = gate (B (ix2 r (col 0 d))) := by
  have e : idx_main_v0 (ix2 r d) = ix2 r (col 0 d) := ext2 (by simp [c2_0, c2_1]) (by simp [c2_0, c2_1, col])
  rw [val_main_v17_apply, val_main_v16_apply, val_main_cst_0_apply, val_main_v15_apply, val_main_v14_apply, val_main_cst_apply, val_main_v13_apply,
    val_main_v12_apply, val_main_v1_apply, val_main_v0_apply, e]
  rfl

theorem ref_gate1 (r : Fin 8192) (d : Fin 1024) : val_main_v29 (F := Ideal) B (ix2 r d) = gate (B (ix2 r (col 1 d))) := by
  have e : idx_main_v2 (ix2 r d) = ix2 r (col 1 d) := ext2 (by simp [c2_0, c2_1]) (by simp [c2_0, c2_1, col]; try omega)
  rw [val_main_v29_apply, val_main_v28_apply, val_main_cst_4_apply, val_main_v27_apply, val_main_v26_apply, val_main_cst_3_apply, val_main_v25_apply,
    val_main_v24_apply, val_main_v3_apply, val_main_v2_apply, e]
  rfl

theorem ref_gate2 (r : Fin 8192) (d : Fin 1024) : val_main_v40 (F := Ideal) B (ix2 r d) = gate (B (ix2 r (col 2 d))) := by
  have e : idx_main_v4 (ix2 r d) = ix2 r (col 2 d) := ext2 (by simp [c2_0, c2_1]) (by simp [c2_0, c2_1, col]; try omega)
  rw [val_main_v40_apply, val_main_v39_apply, val_main_cst_7_apply, val_main_v38_apply, val_main_v37_apply, val_main_cst_6_apply, val_main_v36_apply,
    val_main_v35_apply, val_main_v5_apply, val_main_v4_apply, e]
  rfl

theorem ref_dsum (r : Fin 8192) (k : Fin 1024) : val_main_v48 (F := Ideal) X O (ix2 r k) = dsum X O r k := by
  rw [val_main_v48_apply]
  refine Finset.sum_congr rfl fun d _ => ?_
  rw [val_main_v46_apply]
  exact congrArg₂ (fun u v : EReal => u * v) (congrArg X (ext2 rfl rfl)) (congrArg O (ext2 rfl rfl))

theorem ref_dproj0 (r : Fin 8192) (d : Fin 1024) : val_main_v55 (F := Ideal) X B O (ix2 r d) = dproj X B O r 0 d := by
  rw [val_main_v55_apply, ref_dsum, ref_gate0]
  exact mul_comm (G := EReal) _ _
theorem ref_dproj1 (r : Fin 8192) (d : Fin 1024) : val_main_v52 (F := Ideal) X B O (ix2 r d) = dproj X B O r 1 d := by
  rw [val_main_v52_apply, ref_dsum, ref_gate1]
  exact mul_comm (G := EReal) _ _
theorem ref_dproj2 (r : Fin 8192) (d : Fin 1024) : val_main_v49 (F := Ideal) X B O (ix2 r d) = dproj X B O r 2 d := by
  rw [val_main_v49_apply, ref_dsum, ref_gate2]
  exact mul_comm (G := EReal) _ _

theorem ref_dgate0 (r : Fin 8192) (d : Fin 1024) : val_main_v57 (F := Ideal) X B P O (ix2 r d) = dgate X B P O r 0 d := by
  have e : idx_main_v6 (ix2 r d) = ix2 r (side 0 d) := ext2 (by simp [c2_0, c2_1]) (by simp [c2_0, c2_1, side])
  rw [val_main_v57_apply, val_main_v56_apply, ref_dsum, val_main_v7_apply, val_main_v6_apply, e, val_main_v20_apply, val_main_v19_apply,
    val_main_v18_apply, val_main_cst_1_apply, ref_gate0]
  exact (mul_assoc (G := EReal) _ _ _).symm
theorem ref_dgate1 (r : Fin 8192) (d : Fin 1024) : val_main_v54 (F := Ideal) X B P O (ix2 r d) = dgate X B P O r 1 d := by
  have e : idx_main_v8 (ix2 r d) = ix2 r (side 1 d) := ext2 (by simp [c2_0, c2_1]) (by simp [c2_0, c2_1, side]; try omega)
  rw [val_main_v54_apply, val_main_v53_apply, ref_dsum, val_main_v9_apply, val_main_v8_apply, e, val_main_v32_apply, val_main_v31_apply,
    val_main_v30_apply, val_main_cst_5_apply, ref_gate1]
  exact (mul_assoc (G := EReal) _ _ _).symm
theorem ref_dgate2 (r : Fin 8192) (d : Fin 1024) : val_main_v51 (F := Ideal) X B P O (ix2 r d) = dgate X B P O r 2 d := by
  have e : idx_main_v10 (ix2 r d) = ix2 r (side 2 d) := ext2 (by simp [c2_0, c2_1]) (by simp [c2_0, c2_1, side]; try omega)
  rw [val_main_v51_apply, val_main_v50_apply, ref_dsum, val_main_v11_apply, val_main_v10_apply, e, val_main_v43_apply, val_main_v42_apply,
    val_main_v41_apply, val_main_cst_8_apply, ref_gate2]
  exact (mul_assoc (G := EReal) _ _ _).symm

theorem ref_branch0 (r : Fin 8192) (k : Fin 512) : val_main_v63 (F := Ideal) X B W O (ix2 r k) = dbranch X B W O r 0 k := by
  rw [val_main_v63_apply]
  refine Finset.sum_congr rfl fun d _ => ?_
  rw [show lidx_main_v63 (ix2 r k) d = ix2 r d from ext2 rfl rfl, ref_dproj0, val_main_v61_apply, val_main_v60_apply, val_main_v59_apply]
  refine congrArg (fun v : EReal => dproj X B O r 0 d * v) (congrArg W (ext3 ?_ ?_ ?_)) <;>
    · have := k.isLt; have := d.isLt; simp [c2_0, c2_1]; try omega
theorem ref_branch1 (r : Fin 8192) (k : Fin 512) : val_main_v69 (F := Ideal) X B W O (ix2 r k) = dbranch X B W O r 1 k := by
  rw [val_main_v69_apply]
  refine Finset.sum_congr rfl fun d _ => ?_
  rw [show lidx_main_v69 (ix2 r k) d = ix2 r d from ext2 rfl rfl, ref_dproj1, val_main_v67_apply, val_main_v66_apply, val_main_v65_apply]
  refine congrArg (fun v : EReal => dproj X B O r 1 d * v) (congrArg W (ext3 ?_ ?_ ?_)) <;>
    · have := k.isLt; have := d.isLt; simp [c2_0, c2_1]; try omega
theorem ref_branch2 (r : Fin 8192) (k : Fin 512) : val_main_v75 (F := Ideal) X B W O (ix2 r k) = dbranch X B W O r 2 k := by
  rw [val_main_v75_apply]
  refine Finset.sum_congr rfl fun d _ => ?_
  rw [show lidx_main_v75 (ix2 r k) d = ix2 r d from ext2 rfl rfl, ref_dproj2, val_main_v73_apply, val_main_v72_apply, val_main_v71_apply]
  refine congrArg (fun v : EReal => dproj X B O r 2 d * v) (congrArg W (ext3 ?_ ?_ ?_)) <;>
    · have := k.isLt; have := d.isLt; simp [c2_0, c2_1]; try omega

theorem ref_proj (y : S8192x3072.Idx) (r : Fin 8192) (p : Fin 3) (d : Fin 1024) (er : (y 0).val = r.val) (ed : (y 1).val = 1024 * p.val + d.val) :
    val_main_v77 (F := Ideal) X B O y = dproj X B O r p d := by
  rw [val_main_v77_apply]
  show val_main_v76 (F := Ideal) _ _ _ y = _
  unfold val_main_v76
  match p with
  | 0 => exact (side0 _ _ _ _ y r d er (ed.trans rfl)).trans (ref_dproj0 _ _ _ r d)
  | 1 => exact (side1 _ _ _ _ y r d er (ed.trans rfl)).trans (ref_dproj1 _ _ _ r d)
  | 2 => exact (side2 _ _ _ _ y r d er (ed.trans rfl)).trans (ref_dproj2 _ _ _ r d)

theorem ref_gate (y : S8192x3072.Idx) (r : Fin 8192) (p : Fin 3) (d : Fin 1024) (er : (y 0).val = r.val) (ed : (y 1).val = 1024 * p.val + d.val) :
    val_main_v79 (F := Ideal) X B P O y = dgate X B P O r p d := by
  rw [val_main_v79_apply]
  show val_main_v78 (F := Ideal) _ _ _ _ y = _
  unfold val_main_v78
  match p with
  | 0 => exact (side0 _ _ _ _ y r d er (ed.trans rfl)).trans (ref_dgate0 _ _ _ _ r d)
  | 1 => exact (side1 _ _ _ _ y r d er (ed.trans rfl)).trans (ref_dgate1 _ _ _ _ r d)
  | 2 => exact (side2 _ _ _ _ y r d er (ed.trans rfl)).trans (ref_dgate2 _ _ _ _ r d)

end

/-! ## The result arrays -/

open Cert.Reference12Ideal.Read

theorem final_x : (dats m 0 c).arrAt 10 cfg0.N = (val_main_v83 (F := Ideal) (X m c) : FVec Ideal S8192x1024 .bf16) := by
  refine (dats m 0 c).arrAt_eq_of_covers 10 _ (by decide +kernel) fun t _ y => ?_
  have h0 : (y 0).val < 512 := (y 0).isLt
  have h1 : (y 1).val < 1024 := (y 1).isLt
  have ey : (cfg0.win 10).xinj (grid0.coords t) y = ix2 (⟨(y 0).val, h0⟩ : Fin 512) (⟨(y 1).val, h1⟩ : Fin 1024) := ext2 rfl rfl
  show (dats m 0 c).after 10 t ((cfg0.win 10).xinj (grid0.coords t) y) = _
  rw [after0_10, ey, out_x, val_main_v83_apply]
  refine congrArg (X m c) (ext2 ?_ ?_).symm <;>
    · blk_simp [idx t]; try simp [row]; try omega

theorem final_branch0 : (dats m 0 c).arrAt 7 cfg0.N = (val_main_v80 (F := Ideal) (X m c) (B m c) (W m c) (O m c) : FVec Ideal S8192x512 .bf16) := by
  refine (dats m 0 c).arrAt_eq_of_covers 7 _ (by decide +kernel) fun t _ y => ?_
  have h0 : (y 0).val < 512 := (y 0).isLt
  have h1 : (y 1).val < 512 := (y 1).isLt
  have ey : (cfg0.win 7).xinj (grid0.coords t) y = ix2 (⟨(y 0).val, h0⟩ : Fin 512) (⟨(y 1).val, h1⟩ : Fin 512) := ext2 rfl rfl
  show (dats m 0 c).after 7 t ((cfg0.win 7).xinj (grid0.coords t) y) = _
  rw [after0_7, ey, out_branch0]
  refine (ref_branch0 _ _ _ _ (row t ⟨(y 0).val, h0⟩) ⟨(y 1).val, h1⟩).symm.trans ?_
  refine congrArg (val_main_v80 (F := Ideal) (X m c) (B m c) (W m c) (O m c)) (ext2 ?_ ?_).symm <;>
    · blk_simp [idx t]; try simp [row]; try omega

theorem final_branch1 : (dats m 0 c).arrAt 8 cfg0.N = (val_main_v81 (F := Ideal) (X m c) (B m c) (W m c) (O m c) : FVec Ideal S8192x512 .bf16) := by
  refine (dats m 0 c).arrAt_eq_of_covers 8 _ (by decide +kernel) fun t _ y => ?_
  have h0 : (y 0).val < 512 := (y 0).isLt
  have h1 : (y 1).val < 512 := (y 1).isLt
  have ey : (cfg0.win 8).xinj (grid0.coords t) y = ix2 (⟨(y 0).val, h0⟩ : Fin 512) (⟨(y 1).val, h1⟩ : Fin 512) := ext2 rfl rfl
  show (dats m 0 c).after 8 t ((cfg0.win 8).xinj (grid0.coords t) y) = _
  rw [after0_8, ey, out_branch1]
  refine (ref_branch1 _ _ _ _ (row t ⟨(y 0).val, h0⟩) ⟨(y 1).val, h1⟩).symm.trans ?_
  refine congrArg (val_main_v81 (F := Ideal) (X m c) (B m c) (W m c) (O m c)) (ext2 ?_ ?_).symm <;>
    · blk_simp [idx t]; try simp [row]; try omega

theorem final_branch2 : (dats m 0 c).arrAt 9 cfg0.N = (val_main_v82 (F := Ideal) (X m c) (B m c) (W m c) (O m c) : FVec Ideal S8192x512 .bf16) := by
  refine (dats m 0 c).arrAt_eq_of_covers 9 _ (by decide +kernel) fun t _ y => ?_
  have h0 : (y 0).val < 512 := (y 0).isLt
  have h1 : (y 1).val < 512 := (y 1).isLt
  have ey : (cfg0.win 9).xinj (grid0.coords t) y = ix2 (⟨(y 0).val, h0⟩ : Fin 512) (⟨(y 1).val, h1⟩ : Fin 512) := ext2 rfl rfl
  show (dats m 0 c).after 9 t ((cfg0.win 9).xinj (grid0.coords t) y) = _
  rw [after0_9, ey, out_branch2]
  refine (ref_branch2 _ _ _ _ (row t ⟨(y 0).val, h0⟩) ⟨(y 1).val, h1⟩).symm.trans ?_
  refine congrArg (val_main_v82 (F := Ideal) (X m c) (B m c) (W m c) (O m c)) (ext2 ?_ ?_).symm <;>
    · blk_simp [idx t]; try simp [row]; try omega

theorem final_proj : (dats m 0 c).arrAt 5 cfg0.N = (val_main_v77 (F := Ideal) (X m c) (B m c) (O m c) : FVec Ideal S8192x3072 .bf16) := by
  refine (dats m 0 c).arrAt_eq_of_covers 5 _ (by decide +kernel) fun t _ y => ?_
  have h0 : (y 0).val < 512 := (y 0).isLt
  have h1 : (y 1).val < 3072 := (y 1).isLt
  show (dats m 0 c).after 5 t ((cfg0.win 5).xinj (grid0.coords t) y) = _
  rw [after0_5, out_proj m c t _ ⟨(y 0).val, h0⟩ ⟨(y 1).val / 1024, by omega⟩ ⟨(y 1).val % 1024, by omega⟩ rfl (by show (y 1).val = 1024 * ((y 1).val / 1024) + (y 1).val % 1024; omega)]
  refine (ref_proj _ _ _ _ _ _ _ ?_ ?_).symm
  · blk_simp [idx t]; try simp [row]; try omega
  · blk_simp [idx t]; try simp; try omega

/-- The wide array the call leaves: in the columns it writes, the reference's gradient at the gates. -/
def wide : FVec Ideal S8192x8192 .bf16 := fun i =>
  val_main_v79 (F := Ideal) (X m c) (B m c) (P m c) (O m c) (ix2 (⟨(i 0).val, (i 0).isLt⟩ : Fin 8192) (⟨(i 1).val % 3072, Nat.mod_lt _ (by decide)⟩ : Fin 3072))

theorem moved : ∀ t : Fin cfg0.N, ∀ a : Fin 2, ((cfg0.win 6).xblock (grid0.coords t)).size a = ![512, 3072] a :=
  (by decide +kernel : ∀ t : Fin grid0.N, ∀ a : Fin 2, (win0_6.xblock (grid0.coords t)).size a = ![512, 3072] a)

theorem final_wide : (dats m 0 c).arrAt 6 cfg0.N = (fun i : S8192x8192.Idx => if (i 1).val / 3072 = 0 then wide m c i else (dats m 0 c).A 6 i) := by
  refine (dats m 0 c).arrAt_eq_of_coversWhere 6 _ (fun β => β (1 : Fin 2) = 0) (by decide +kernel) (fun t _ y => ?_) (fun j => Iff.rfl)
  have h0 : (y 0).val < 512 := lt_of_lt_of_eq (y 0).isLt (moved t 0)
  have h1 : (y 1).val < 3072 := lt_of_lt_of_eq (y 1).isLt (moved t 1)
  have e : win0_6.index t = ![t.val, 0] := (idx t).2.2.2.2.2.2.1
  show (dats m 0 c).after 6 t ((cfg0.win 6).xinj (grid0.coords t) y) = _
  rw [after0_6, out_gate m c t _ ⟨(y 0).val, h0⟩ ⟨(y 1).val / 1024, by omega⟩ ⟨(y 1).val % 1024, by omega⟩ rfl (by show (y 1).val = 1024 * ((y 1).val / 1024) + (y 1).val % 1024; omega)]
  refine (ref_gate _ _ _ _ _ _ _ _ ?_ ?_).symm
  · have e0 : (((cfg0.win 6).blk t).view.emb y 0 : ℕ) = win0_6.index t 0 * 512 + (y 0).val := win0_6.rect_emb_val t y 0 rfl
    have e2 : win0_6.index t 0 = t.val := congrFun e 0
    show (((cfg0.win 6).blk t).view.emb y 0 : ℕ) = 512 * t.val + (y 0).val
    rw [e0, e2, Nat.mul_comm]
  · have e0 : (((cfg0.win 6).blk t).view.emb y 1 : ℕ) = win0_6.index t 1 * 3072 + (y 1).val := win0_6.rect_emb_val t y 1 rfl
    have e2 : win0_6.index t 1 = 0 := congrFun e 1
    show (((cfg0.win 6).blk t).view.emb y 1 : ℕ) % 3072 = 1024 * ((y 1).val / 1024) + (y 1).val % 1024
    rw [e0, e2, Nat.zero_mul, Nat.zero_add, Nat.mod_eq_of_lt h1, Nat.div_add_mod]

theorem final_gates : (extractStridedSlice S8192x3072 ![0, 0] ((dats m 0 c).arrAt 6 cfg0.N : FVec Ideal S8192x8192 .bf16) slices_S8192x8192_S8192x3072_0_0 : FVec Ideal S8192x3072 .bf16)
    = (val_main_v79 (F := Ideal) (X m c) (B m c) (P m c) (O m c) : FVec Ideal S8192x3072 .bf16) := by
  funext i
  have h0 : (i 0).val < 8192 := (i 0).isLt
  have h1 : (i 1).val < 3072 := (i 1).isLt
  rw [extractStridedSlice_apply ![0, 0] _ slices_S8192x8192_S8192x3072_0_0 i (ix2 (⟨(i 0).val, h0⟩ : Fin 8192) (⟨(i 1).val, by omega⟩ : Fin 8192)) (fun a => match a with
    | ⟨0, _⟩ => (Nat.zero_add _).symm
    | ⟨1, _⟩ => (Nat.zero_add _).symm), final_wide]
  refine (if_pos (Nat.div_eq_of_lt h1)).trans ?_
  exact congrArg (val_main_v79 (F := Ideal) (X m c) (B m c) (P m c) (O m c)) (ext2 rfl (Nat.mod_eq_of_lt h1).symm).symm

/-! ## The run -/

theorem arrays_apart : Function.Injective (Pipeline.arrRef spec0) := by decide +kernel

/-- What the line after the call leaves in the cut array: the cut of the wide array. -/
theorem tail_cut : Pipeline.afterTail₀ cfgs (dats m) 0 (V0 m) [hostOps1] c main_v1
    = (extractStridedSlice S8192x3072 ![0, 0] ((dats m 0 c).arrAt 6 cfg0.N : FVec Ideal S8192x8192 .bf16) slices_S8192x8192_S8192x3072_0_0 : FVec Ideal S8192x3072 .bf16) := by
  unfold Pipeline.afterTail₀
  simp only [List.flatten_cons, List.flatten_nil, List.append_nil, StableHlo.after_cons, StableHlo.after_nil]
  refine (StableHlo.unary_result main_v0_1 main_v1 _ _ _ _).trans ?_
  exact congrArg (fun u : FVec Ideal S8192x8192 .bf16 => extractStridedSlice S8192x3072 ![0, 0] u slices_S8192x8192_S8192x3072_0_0)
    (Pipeline.withArrays_arr spec0 arrays_apart c (V0 m c) (fun w => (dats m 0 c).arrAt w cfg0.N) 6)

/-- The run with every result array named and the arguments as they were. -/
theorem run_arrays (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 5 cfg0.N
      ∧ r.2.mem ((c : Thread nD τ).loc main_v1) = (extractStridedSlice S8192x3072 ![0, 0] ((dats m 0 c).arrAt 6 cfg0.N : FVec Ideal S8192x8192 .bf16) slices_S8192x8192_S8192x3072_0_0 : FVec Ideal S8192x3072 .bf16)
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_v0_4) = (dats m 0 c).arrAt 9 cfg0.N
      ∧ r.2.mem ((c : Thread nD τ).loc main_v0_5) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5,
      ((h c).2 main_v1 (Pipeline.mem_restRefs_of main_v1 rfl (by decide +kernel))).trans (tail_cut m c),
      (h c).1 7, (h c).1 8, (h c).1 9, (h c).1 10,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Step.MergeBack
-- ==== Proof.Step.Claim12.lean ====
/-
  The gradient of the merge: the claims of the pair of programs.
-/
module

public import proofs.«01_k».proof.Defs
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Step.MergeBack
public import Idealize.ShloMosaic.Lib.Claim
public import Idealize.ShloMosaic.Adequacy
public import Idealize.ShloMosaic.Init

@[expose] public section

set_option maxRecDepth 16384

noncomputable section

namespace Step.Claim12

open Idealize.ShloMosaic Idealize.SL.Sem

/-- The reference ends with its arguments unchanged and every counter at zero. -/
theorem quiescent_reference12 (m : (ℓ : Loc Cert.Reference12Ideal.nD Cert.Reference12Ideal.τ Cert.Reference12Ideal.sig) → Buf (Elt Ideal) ℓ)
    (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0) :=
  (θ_run _ _ _).mono (fun r h => ⟨fun c => (h c).2.2.2.2.2.2, sem_eq_zero_of_no_sems (by decide) r.2⟩) (Cert.Reference12Ideal.Value.run m g)

/-- Kernel and reference leave the same arrays. -/
theorem algebraic12 : Cert.algebraic_Kernel12Ideal_Reference12Ideal (hKernel12Ideal := Cert.Kernel12Ideal.Gen.facts) (hReference12Ideal := Cert.Reference12Ideal.Gen.facts) := by
  intro m g m' g' _ hagree
  refine ⟨fun c => Cert.Reference12Ideal.Read.val_main_v77 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg4)),
    fun c => Cert.Reference12Ideal.Read.val_main_v79 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg4)),
    fun c => Cert.Reference12Ideal.Read.val_main_v80 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)),
    fun c => Cert.Reference12Ideal.Read.val_main_v81 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)),
    fun c => Cert.Reference12Ideal.Read.val_main_v82 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)),
    fun c => Cert.Reference12Ideal.Read.val_main_v83 (F := Ideal) (m ((c.tc : Thread Cert.Kernel12Ideal.nD Cert.Kernel12Ideal.τ).loc Cert.Kernel12Ideal.main_arg0)), ?_, ?_⟩
  · exact (θ_run _ _ _).mono (fun r h c => ⟨(h c).1.trans (Step.MergeBack.final_proj m c), (h c).2.1.trans (Step.MergeBack.final_gates m c), (h c).2.2.1.trans (Step.MergeBack.final_branch0 m c), (h c).2.2.2.1.trans (Step.MergeBack.final_branch1 m c), (h c).2.2.2.2.1.trans (Step.MergeBack.final_branch2 m c), (h c).2.2.2.2.2.1.trans (Step.MergeBack.final_x m c), (h c).2.2.2.2.2.2⟩) (Step.MergeBack.run_arrays m g)
  · refine (θ_run _ _ _).mono (fun r h c => ⟨(h c).1.trans ((Cert.Reference12Ideal.Read.val_main_v77_eq ..).trans ?_), (h c).2.1.trans ((Cert.Reference12Ideal.Read.val_main_v79_eq ..).trans ?_), (h c).2.2.1.trans ((Cert.Reference12Ideal.Read.val_main_v80_eq ..).trans ?_), (h c).2.2.2.1.trans ((Cert.Reference12Ideal.Read.val_main_v81_eq ..).trans ?_), (h c).2.2.2.2.1.trans ((Cert.Reference12Ideal.Read.val_main_v82_eq ..).trans ?_), (h c).2.2.2.2.2.1.trans ((Cert.Reference12Ideal.Read.val_main_v83_eq ..).trans ?_), (h c).2.2.2.2.2.2⟩) (Cert.Reference12Ideal.Value.run m' g')
    · show Cert.Reference12Ideal.Read.val_main_v77 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg4)) = _
      rw [(hagree c).1, (hagree c).2.1, (hagree c).2.2.2.2]
    · show Cert.Reference12Ideal.Read.val_main_v79 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg4)) = _
      rw [(hagree c).1, (hagree c).2.1, (hagree c).2.2.1, (hagree c).2.2.2.2]
    · show Cert.Reference12Ideal.Read.val_main_v80 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) = _
      rw [(hagree c).1, (hagree c).2.1, (hagree c).2.2.2.1, (hagree c).2.2.2.2]
    · show Cert.Reference12Ideal.Read.val_main_v81 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) = _
      rw [(hagree c).1, (hagree c).2.1, (hagree c).2.2.2.1, (hagree c).2.2.2.2]
    · show Cert.Reference12Ideal.Read.val_main_v82 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) = _
      rw [(hagree c).1, (hagree c).2.1, (hagree c).2.2.2.1, (hagree c).2.2.2.2]
    · show Cert.Reference12Ideal.Read.val_main_v83 (F := Ideal) (m' ((c.tc : Thread Cert.Reference12Ideal.nD Cert.Reference12Ideal.τ).loc Cert.Reference12Ideal.main_arg0)) = _
      rw [(hagree c).1]

end Step.Claim12

end
-- ==== Proof.lean ====
/-
  Calls of version v20 against the reference's own lines: each pair of programs leaves the same arrays, as extended
  reals. The retention's gradient asks for finite inputs, the gradient of the hidden columns for three finite arrays; the other
  calls ask for nothing.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Ret.Grid
public import proofs.«01_k».proof.Proof.Step.Claim2
public import proofs.«01_k».proof.Proof.Step.Claim3
public import proofs.«01_k».proof.Proof.Step.Claim4
public import proofs.«01_k».proof.Proof.Step.Claim5
public import proofs.«01_k».proof.Proof.Step.Claim6
public import proofs.«01_k».proof.Proof.Step.Claim7
public import proofs.«01_k».proof.Proof.Step.Claim8
public import proofs.«01_k».proof.Proof.Step.Claim9
public import proofs.«01_k».proof.Proof.Step.Claim10
public import proofs.«01_k».proof.Proof.Step.Claim11
public import proofs.«01_k».proof.Proof.Step.Claim12
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The reference ends with its arguments unchanged and every counter at zero. -/
theorem quiescent_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run m g)

/-- Kernel and reference of the retention leave the same array on finite inputs. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hagree
  refine ⟨fun c => Cert.ReferenceIdeal.Read.val_main_v176 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run _ _ _).mono (fun r h c => ⟨(h c).1.trans (Ret.Grid.final ?_ ?_), (h c).2⟩) (Cert.KernelIdeal.Value.run_blocks m g)
    · intro j
      exact Step.re_of_lt _ (congrFun (hpre c).1 j)
    · intro j
      exact Step.re_of_lt _ (congrFun (hpre c).2 j)
  · refine (θ_run _ _ _).mono (fun r h c => ⟨(h c).1.trans ((Cert.ReferenceIdeal.Read.val_main_v176_eq _).trans ?_), (h c).2⟩)
      (Cert.ReferenceIdeal.Value.run m' g')
    show Cert.ReferenceIdeal.Read.val_main_v176 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
    rw [(hagree c).1, (hagree c).2.1, (hagree c).2.2]

/-- The claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_finite.Gen.facts, Cert.Pre_finite5.Gen.facts,
    fun m g _ => Cert.Kernel.Gen.frame m g,
    fun m g _ => Cert.KernelIdeal.Gen.frame m g,
    fun m g _ => Cert.KernelIdeal.Gen.frame m g,
    fun m g _ => quiescent_reference m g,
    fun m g _ => quiescent_reference m g,
    fun m g _ => Cert.Kernel2.Gen.frame m g,
    fun m g _ => Cert.Kernel2Ideal.Gen.frame m g,
    fun m g _ => Step.Claim2.quiescent_reference2 m g,
    fun m g _ => Cert.Kernel3.Gen.frame m g,
    fun m g _ => Cert.Kernel3Ideal.Gen.frame m g,
    fun m g _ => Step.Claim3.quiescent_reference3 m g,
    fun m g _ => Cert.Kernel4.Gen.frame m g,
    fun m g _ => Cert.Kernel4Ideal.Gen.frame m g,
    fun m g _ => Step.Claim4.quiescent_reference4 m g,
    fun m g _ => Step.HiddenBackRunBits.frame m g,
    fun m g _ => Step.HiddenBackRun.frame m g,
    fun m g _ => Step.HiddenBackRun.frame m g,
    fun m g _ => Step.Claim5.quiescent_reference5 m g,
    fun m g _ => Step.Claim5.quiescent_reference5 m g,
    fun m g _ => Step.InForwardRunBits.frame m g,
    fun m g _ => Step.InForwardRun.frame m g,
    fun m g _ => Step.Claim6.quiescent_reference6 m g,
    fun m g _ => Cert.Kernel7.Gen.frame m g,
    fun m g _ => Cert.Kernel7Ideal.Gen.frame m g,
    fun m g _ => Step.Claim7.quiescent_reference7 m g,
    fun m g _ => Cert.Kernel8.Gen.frame m g,
    fun m g _ => Cert.Kernel8Ideal.Gen.frame m g,
    fun m g _ => Step.Claim8.quiescent_reference8 m g,
    fun m g _ => Cert.Kernel9.Gen.frame m g,
    fun m g _ => Cert.Kernel9Ideal.Gen.frame m g,
    fun m g _ => Step.Claim9.quiescent_reference9 m g,
    fun m g _ => Cert.Kernel10.Gen.frame m g,
    fun m g _ => Cert.Kernel10Ideal.Gen.frame m g,
    fun m g _ => Step.Claim10.quiescent_reference10 m g,
    fun m g _ => Cert.Kernel11.Gen.frame m g,
    fun m g _ => Cert.Kernel11Ideal.Gen.frame m g,
    fun m g _ => Step.Claim11.quiescent_reference11 m g,
    fun m g _ => Cert.Kernel12.Gen.frame m g,
    fun m g _ => Cert.Kernel12Ideal.Gen.frame m g,
    fun m g _ => Step.Claim12.quiescent_reference12 m g,
    trivial, algebraic, trivial, Step.Claim2.algebraic2, trivial, Step.Claim3.algebraic3, trivial, Step.Claim4.algebraic4, trivial, Step.Claim5.algebraic5, trivial, Step.Claim6.algebraic6, trivial, Step.Claim7.algebraic7, trivial, Step.Claim8.algebraic8, trivial, Step.Claim9.algebraic9, trivial, Step.Claim10.algebraic10, trivial, Step.Claim11.algebraic11, trivial, Step.Claim12.algebraic12⟩

end Cert.Proof

end
